-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_weights [hPre_finite_weights : Cert.Pre_finite_weights.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_weights [hPre_finite_weights : Cert.Pre_finite_weights.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_factors [hPre_finite_factors : Cert.Pre_finite_factors.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_factors.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_factors.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_factors [hPre_finite_factors : Cert.Pre_finite_factors.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_factors.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_factors.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_weights [hKernel5Ideal : Cert.Kernel5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_weights m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_weights [hReference5Ideal : Cert.Reference5Ideal.Facts] [hPre_finite_weights : Cert.Pre_finite_weights.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_weights m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_factors [hKernel7Ideal : Cert.Kernel7Ideal.Facts] [hPre_finite_factors : Cert.Pre_finite_factors.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_factors m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_factors [hReference7Ideal : Cert.Reference7Ideal.Facts] [hPre_finite_factors : Cert.Pre_finite_factors.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_factors m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v148) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_weights [hKernel5Ideal : Cert.Kernel5Ideal.Facts] [hReference5Ideal : Cert.Reference5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_weights m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v101_0)) (v1 : (c : Dev Cert.Kernel5Ideal.nD) → Buf (Elt Ideal) ((c.tc : Thread Cert.Kernel5Ideal.nD Cert.Kernel5Ideal.τ).loc Cert.Kernel5Ideal.main_v101_1)) (v2 : (c : Dev Cert.Kernel5Ideal.nD) → Buf (Elt Ideal) ((c.tc : Thread Cert.Kernel5Ideal.nD Cert.Kernel5Ideal.τ).loc Cert.Kernel5Ideal.main_v101_2)) (v3 : (c : Dev Cert.Kernel5Ideal.nD) → Buf (Elt Ideal) ((c.tc : Thread Cert.Kernel5Ideal.nD Cert.Kernel5Ideal.τ).loc Cert.Kernel5Ideal.main_v101_3)) (v4 : (c : Dev Cert.Kernel5Ideal.nD) → Buf (Elt Ideal) ((c.tc : Thread Cert.Kernel5Ideal.nD Cert.Kernel5Ideal.τ).loc Cert.Kernel5Ideal.main_v101_4)) (v5 : (c : Dev Cert.Kernel5Ideal.nD) → Buf (Elt Ideal) ((c.tc : Thread Cert.Kernel5Ideal.nD Cert.Kernel5Ideal.τ).loc Cert.Kernel5Ideal.main_v101_5)) (v6 : (c : Dev Cert.Kernel5Ideal.nD) → Buf (Elt Ideal) ((c.tc : Thread Cert.Kernel5Ideal.nD Cert.Kernel5Ideal.τ).loc Cert.Kernel5Ideal.main_v101_6)) (v7 : (c : Dev Cert.Kernel5Ideal.nD) → Buf (Elt Ideal) ((c.tc : Thread Cert.Kernel5Ideal.nD Cert.Kernel5Ideal.τ).loc Cert.Kernel5Ideal.main_v101_7)) (v8 : (c : Dev Cert.Kernel5Ideal.nD) → Buf (Elt Ideal) ((c.tc : Thread Cert.Kernel5Ideal.nD Cert.Kernel5Ideal.τ).loc Cert.Kernel5Ideal.main_v101_8)) (v9 : (c : Dev Cert.Kernel5Ideal.nD) → Buf (Elt Ideal) ((c.tc : Thread Cert.Kernel5Ideal.nD Cert.Kernel5Ideal.τ).loc Cert.Kernel5Ideal.main_v101_9)) (v10 : (c : Dev Cert.Kernel5Ideal.nD) → Buf (Elt Ideal) ((c.tc : Thread Cert.Kernel5Ideal.nD Cert.Kernel5Ideal.τ).loc Cert.Kernel5Ideal.main_v101_10)) (v11 : (c : Dev Cert.Kernel5Ideal.nD) → Buf (Elt Ideal) ((c.tc : Thread Cert.Kernel5Ideal.nD Cert.Kernel5Ideal.τ).loc Cert.Kernel5Ideal.main_v101_11)) (v12 : (c : Dev Cert.Kernel5Ideal.nD) → Buf (Elt Ideal) ((c.tc : Thread Cert.Kernel5Ideal.nD Cert.Kernel5Ideal.τ).loc Cert.Kernel5Ideal.main_v101_12)) (v13 : (c : Dev Cert.Kernel5Ideal.nD) → Buf (Elt Ideal) ((c.tc : Thread Cert.Kernel5Ideal.nD Cert.Kernel5Ideal.τ).loc Cert.Kernel5Ideal.main_v101_13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v101_0) = v0 c
          ∧ r.2.mem ((c.tc : Thread Cert.Kernel5Ideal.nD Cert.Kernel5Ideal.τ).loc Cert.Kernel5Ideal.main_v101_1) = v1 c
          ∧ r.2.mem ((c.tc : Thread Cert.Kernel5Ideal.nD Cert.Kernel5Ideal.τ).loc Cert.Kernel5Ideal.main_v101_2) = v2 c
          ∧ r.2.mem ((c.tc : Thread Cert.Kernel5Ideal.nD Cert.Kernel5Ideal.τ).loc Cert.Kernel5Ideal.main_v101_3) = v3 c
          ∧ r.2.mem ((c.tc : Thread Cert.Kernel5Ideal.nD Cert.Kernel5Ideal.τ).loc Cert.Kernel5Ideal.main_v101_4) = v4 c
          ∧ r.2.mem ((c.tc : Thread Cert.Kernel5Ideal.nD Cert.Kernel5Ideal.τ).loc Cert.Kernel5Ideal.main_v101_5) = v5 c
          ∧ r.2.mem ((c.tc : Thread Cert.Kernel5Ideal.nD Cert.Kernel5Ideal.τ).loc Cert.Kernel5Ideal.main_v101_6) = v6 c
          ∧ r.2.mem ((c.tc : Thread Cert.Kernel5Ideal.nD Cert.Kernel5Ideal.τ).loc Cert.Kernel5Ideal.main_v101_7) = v7 c
          ∧ r.2.mem ((c.tc : Thread Cert.Kernel5Ideal.nD Cert.Kernel5Ideal.τ).loc Cert.Kernel5Ideal.main_v101_8) = v8 c
          ∧ r.2.mem ((c.tc : Thread Cert.Kernel5Ideal.nD Cert.Kernel5Ideal.τ).loc Cert.Kernel5Ideal.main_v101_9) = v9 c
          ∧ r.2.mem ((c.tc : Thread Cert.Kernel5Ideal.nD Cert.Kernel5Ideal.τ).loc Cert.Kernel5Ideal.main_v101_10) = v10 c
          ∧ r.2.mem ((c.tc : Thread Cert.Kernel5Ideal.nD Cert.Kernel5Ideal.τ).loc Cert.Kernel5Ideal.main_v101_11) = v11 c
          ∧ r.2.mem ((c.tc : Thread Cert.Kernel5Ideal.nD Cert.Kernel5Ideal.τ).loc Cert.Kernel5Ideal.main_v101_12) = v12 c
          ∧ r.2.mem ((c.tc : Thread Cert.Kernel5Ideal.nD Cert.Kernel5Ideal.τ).loc Cert.Kernel5Ideal.main_v101_13) = v13 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_v90) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_v92) = v5 c
          ∧ r.2.mem ((c.tc : Thread Cert.Reference5Ideal.nD Cert.Reference5Ideal.τ).loc Cert.Reference5Ideal.main_v93) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v75) = v8 c
          ∧ r.2.mem ((c.tc : Thread Cert.Reference5Ideal.nD Cert.Reference5Ideal.τ).loc Cert.Reference5Ideal.main_v18) = v9 c
          ∧ r.2.mem ((c.tc : Thread Cert.Reference5Ideal.nD Cert.Reference5Ideal.τ).loc Cert.Reference5Ideal.main_v19) = v10 c
          ∧ r.2.mem ((c.tc : Thread Cert.Reference5Ideal.nD Cert.Reference5Ideal.τ).loc Cert.Reference5Ideal.main_v21) = v11 c
          ∧ r.2.mem ((c.tc : Thread Cert.Reference5Ideal.nD Cert.Reference5Ideal.τ).loc Cert.Reference5Ideal.main_v77) = v12 c
          ∧ r.2.mem ((c.tc : Thread Cert.Reference5Ideal.nD Cert.Reference5Ideal.τ).loc Cert.Reference5Ideal.main_v25) = v13 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v14_1)) (v1 : (c : Dev Cert.Kernel6Ideal.nD) → Buf (Elt Ideal) ((c.tc : Thread Cert.Kernel6Ideal.nD Cert.Kernel6Ideal.τ).loc Cert.Kernel6Ideal.main_v14_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_1) = v0 c
          ∧ r.2.mem ((c.tc : Thread Cert.Kernel6Ideal.nD Cert.Kernel6Ideal.τ).loc Cert.Kernel6Ideal.main_v14_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v76) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal_pre_finite_factors [hKernel7Ideal : Cert.Kernel7Ideal.Facts] [hReference7Ideal : Cert.Reference7Ideal.Facts] [hPre_finite_factors : Cert.Pre_finite_factors.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_factors m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v32)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v32) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hPre_finite_weights : Cert.Pre_finite_weights.Facts) (hPre_finite_factors : Cert.Pre_finite_factors.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_weights (hKernel5Ideal := hKernel5Ideal) (hPre_finite_weights := hPre_finite_weights)
    ∧ quiescent_Reference5Ideal (hReference5Ideal := hReference5Ideal)
    ∧ quiescent_Reference5Ideal_pre_finite_weights (hReference5Ideal := hReference5Ideal) (hPre_finite_weights := hPre_finite_weights)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_factors (hKernel7Ideal := hKernel7Ideal) (hPre_finite_factors := hPre_finite_factors)
    ∧ quiescent_Reference7Ideal (hReference7Ideal := hReference7Ideal)
    ∧ quiescent_Reference7Ideal_pre_finite_factors (hReference7Ideal := hReference7Ideal) (hPre_finite_factors := hPre_finite_factors)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_weights (hKernel5Ideal := hKernel5Ideal) (hReference5Ideal := hReference5Ideal) (hPre_finite_weights := hPre_finite_weights)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_factors (hKernel7Ideal := hKernel7Ideal) (hReference7Ideal := hReference7Ideal) (hPre_finite_factors := hPre_finite_factors)
-- ==== Pre_finite_factors.lean ====
abbrev S16896x256 : Shape := ⟨2, ![16896, 256]⟩
abbrev S16896 : Shape := ⟨1, ![16896]⟩
abbrev S256x8x128 : Shape := ⟨3, ![256, 8, 128]⟩
abbrev S256x768 : Shape := ⟨2, ![256, 768]⟩
abbrev S_ : Shape := ⟨0, ![]⟩
abbrev S256x8x96 : Shape := ⟨3, ![256, 8, 96]⟩
abbrev S256x8x32 : Shape := ⟨3, ![256, 8, 32]⟩

class Facts : Prop where
  bitsLt_bf16_f32 : FTy.bits .bf16 < FTy.bits .f32
  bcast_S_S16896x256 : S_.BroadcastsInDim S16896x256 (![] : Fin 0 → Fin S16896x256.rank)
  shapeCasts_S256x768_S256x8x96 : S256x768.ShapeCasts S256x8x96
  slices_S256x8x96_S256x8x32_0_0_64 : S256x8x96.Slices ![0, 0, 64] S256x8x32
  bcast_S_S256x8x32 : S_.BroadcastsInDim S256x8x32 (![] : Fin 0 → Fin S256x8x32.rank)

variable [Facts]

def fn {F : FTy → Type} [FloatOps F] (main_arg0 : FVec F S16896x256 .bf16) (main_arg1 : IVec S16896 32) (main_arg2 : FVec F S256x8x128 .f32) (main_arg3 : FVec F S256x768 .f32) : IVec S16896x256 1 × IVec S256x8x32 1 :=
  let main_v0 : FVec F S16896x256 .f32 := (extf .f32 · bitsLt_bf16_f32) main_arg0
  let main_v1 : FVec F S16896x256 .f32 := Host.absf main_v0
  let main_cst : FVec F S_ .f32 := constant S_ .f32 0x7F800000#32
  let main_v2 : FVec F S16896x256 .f32 := broadcastInDim S16896x256 ![] bcast_S_S16896x256 main_cst
  let main_v3 : IVec S16896x256 1 := cmpf .olt main_v1 main_v2
  let main_v4 : FVec F S256x8x96 .f32 := shapeCast S256x8x96 main_arg3 shapeCasts_S256x768_S256x8x96
  let main_v5 : FVec F S256x8x32 .f32 := (extractStridedSlice S256x8x32 ![0, 0, 64] · slices_S256x8x96_S256x8x32_0_0_64) main_v4
  let main_v6 : FVec F S256x8x32 .f32 := Host.absf main_v5
  let main_cst_0 : FVec F S_ .f32 := constant S_ .f32 0x7F800000#32
  let main_v7 : FVec F S256x8x32 .f32 := broadcastInDim S256x8x32 ![] bcast_S_S256x8x32 main_cst_0
  let main_v8 : IVec S256x8x32 1 := cmpf .olt main_v6 main_v7
  (main_v3, main_v8)
-- ==== Pre_finite_inputs.lean ====
abbrev S16896x2048 : Shape := ⟨2, ![16896, 2048]⟩
abbrev S16896x256 : Shape := ⟨2, ![16896, 256]⟩
abbrev S128x1024 : Shape := ⟨2, ![128, 1024]⟩
abbrev S_ : Shape := ⟨0, ![]⟩
abbrev S16896x96 : Shape := ⟨2, ![16896, 96]⟩

class Facts : Prop where
  bitsLt_bf16_f32 : FTy.bits .bf16 < FTy.bits .f32
  bcast_S_S16896x2048 : S_.BroadcastsInDim S16896x2048 (![] : Fin 0 → Fin S16896x2048.rank)
  bcast_S_S16896x256 : S_.BroadcastsInDim S16896x256 (![] : Fin 0 → Fin S16896x256.rank)
  slices_S16896x256_S16896x96_0_160 : S16896x256.Slices ![0, 160] S16896x96
  bcast_S_S16896x96 : S_.BroadcastsInDim S16896x96 (![] : Fin 0 → Fin S16896x96.rank)

variable [Facts]

def fn {F : FTy → Type} [FloatOps F] (main_arg0 : FVec F S16896x2048 .bf16) (main_arg1 : FVec F S16896x256 .bf16) (main_arg2 : FVec F S128x1024 .f32) : IVec S16896x2048 1 × IVec S16896x256 1 × IVec S16896x96 1 :=
  let main_v0 : FVec F S16896x256 .f32 := (extf .f32 · bitsLt_bf16_f32) main_arg1
  let main_v1 : FVec F S16896x2048 .f32 := (extf .f32 · bitsLt_bf16_f32) main_arg0
  let main_v2 : FVec F S16896x2048 .f32 := Host.absf main_v1
  let main_cst : FVec F S_ .f32 := constant S_ .f32 0x7F800000#32
  let main_v3 : FVec F S16896x2048 .f32 := broadcastInDim S16896x2048 ![] bcast_S_S16896x2048 main_cst
  let main_v4 : IVec S16896x2048 1 := cmpf .olt main_v2 main_v3
  let main_v5 : FVec F S16896x256 .f32 := Host.absf main_v0
  let main_cst_0 : FVec F S_ .f32 := constant S_ .f32 0x7F800000#32
  let main_v6 : FVec F S16896x256 .f32 := broadcastInDim S16896x256 ![] bcast_S_S16896x256 main_cst_0
  let main_v7 : IVec S16896x256 1 := cmpf .olt main_v5 main_v6
  let main_v8 : FVec F S16896x96 .f32 := (extractStridedSlice S16896x96 ![0, 160] · slices_S16896x256_S16896x96_0_160) main_v0
  let main_cst_1 : FVec F S_ .f32 := constant S_ .f32 0x00000000#32
  let main_v9 : FVec F S16896x96 .f32 := broadcastInDim S16896x96 ![] bcast_S_S16896x96 main_cst_1
  let main_v10 : IVec S16896x96 1 := cmpf .oeq main_v8 main_v9
  (main_v4, main_v7, main_v10)
-- ==== Pre_finite_weights.lean ====
abbrev S16896x1024 : Shape := ⟨2, ![16896, 1024]⟩
abbrev S16896 : Shape := ⟨1, ![16896]⟩
abbrev S1024 : Shape := ⟨1, ![1024]⟩
abbrev S1024x5868 : Shape := ⟨2, ![1024, 5868]⟩
abbrev S256 : Shape := ⟨1, ![256]⟩
abbrev S128 : Shape := ⟨1, ![128]⟩
abbrev S_ : Shape := ⟨0, ![]⟩
abbrev S1024x32 : Shape := ⟨2, ![1024, 32]⟩

class Facts : Prop where
  bcast_S_S1024 : S_.BroadcastsInDim S1024 (![] : Fin 0 → Fin S1024.rank)
  slices_S1024x5868_S1024x32_0_384 : S1024x5868.Slices ![0, 384] S1024x32
  bcast_S_S1024x32 : S_.BroadcastsInDim S1024x32 (![] : Fin 0 → Fin S1024x32.rank)

variable [Facts]

def fn {F : FTy → Type} [FloatOps F] (main_arg0 : FVec F S16896x1024 .f32) (main_arg1 : IVec S16896 32) (main_arg2 : FVec F S1024 .f32) (main_arg3 : FVec F S1024x5868 .f32) (main_arg4 : FVec F S256 .f32) (main_arg5 : FVec F S128 .f32) : IVec S1024 1 × IVec S1024x32 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x32 .f32 := (extractStridedSlice S1024x32 ![0, 384] · slices_S1024x5868_S1024x32_0_384) main_arg3
  let main_v4 : FVec F S1024x32 .f32 := Host.absf main_v3
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  (main_v2, main_v6)
-- ==== Kernel.lean ====
abbrev S16896x2048 : Shape := ⟨2, ![16896, 2048]⟩
abbrev S16896x256 : Shape := ⟨2, ![16896, 256]⟩
abbrev S128x1024 : Shape := ⟨2, ![128, 1024]⟩
abbrev S128x8x128 : Shape := ⟨3, ![128, 8, 128]⟩
abbrev S128x8x64 : Shape := ⟨3, ![128, 8, 64]⟩
abbrev S8x128x64 : Shape := ⟨3, ![8, 128, 64]⟩
abbrev S8x64x128 : Shape := ⟨3, ![8, 64, 128]⟩
abbrev S16384x512 : Shape := ⟨2, ![16384, 512]⟩
abbrev S128x2048 : Shape := ⟨2, ![128, 2048]⟩
abbrev S4096x256 : Shape := ⟨2, ![4096, 256]⟩
abbrev S128x512 : Shape := ⟨2, ![128, 512]⟩
abbrev S8x128 : Shape := ⟨2, ![8, 128]⟩
abbrev S8x128x128 : Shape := ⟨3, ![8, 128, 128]⟩
abbrev S512x128 : Shape := ⟨2, ![512, 128]⟩
abbrev S128x128 : Shape := ⟨2, ![128, 128]⟩
abbrev S128x256 : Shape := ⟨2, ![128, 256]⟩
abbrev S1x128 : Shape := ⟨2, ![1, 128]⟩
abbrev S128 : Shape := ⟨1, ![128]⟩
abbrev S1x128x128 : Shape := ⟨3, ![1, 128, 128]⟩
abbrev S1x64x128 : Shape := ⟨3, ![1, 64, 128]⟩
abbrev S64x128 : Shape := ⟨2, ![64, 128]⟩

abbrev nBuf : Space → Nat
  | .hbm => 9
  | .vmem => 11
  | .smem => 0
  | _ => 0

abbrev bufTy : (tb : Table) → Fin (tcTables nBuf tb) → BufTy
  | .hbm, ⟨0, _⟩ => ⟨S16896x2048, .bf16⟩
  | .hbm, ⟨1, _⟩ => ⟨S16896x256, .bf16⟩
  | .hbm, ⟨2, _⟩ => ⟨S128x1024, .f32⟩
  | .hbm, ⟨3, _⟩ => ⟨S128x8x128, .f32⟩
  | .hbm, ⟨4, _⟩ => ⟨S128x8x64, .f32⟩
  | .hbm, ⟨5, _⟩ => ⟨S8x128x64, .f32⟩
  | .hbm, ⟨6, _⟩ => ⟨S8x64x128, .f32⟩
  | .hbm, ⟨7, _⟩ => ⟨S8x64x128, .bf16⟩
  | .hbm, ⟨8, _⟩ => ⟨S16384x512, .bf16⟩
  | .local _ .vmem, ⟨0, _⟩ => ⟨S128x2048, .bf16⟩
  | .local _ .vmem, ⟨1, _⟩ => ⟨S128x2048, .bf16⟩
  | .local _ .vmem, ⟨2, _⟩ => ⟨S4096x256, .bf16⟩
  | .local _ .vmem, ⟨3, _⟩ => ⟨S4096x256, .bf16⟩
  | .local _ .vmem, ⟨4, _⟩ => ⟨S8x64x128, .bf16⟩
  | .local _ .vmem, ⟨5, _⟩ => ⟨S128x512, .bf16⟩
  | .local _ .vmem, ⟨6, _⟩ => ⟨S128x512, .bf16⟩
  | .local _ .vmem, ⟨7, _⟩ => ⟨S8x128, .f32⟩
  | .local _ .vmem, ⟨8, _⟩ => ⟨S8x128, .f32⟩
  | .local _ .vmem, ⟨9, _⟩ => ⟨S8x128x128, .f32⟩
  | .local _ .vmem, ⟨10, _⟩ => ⟨S512x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let c1_i32_9 : BitVec 32 := 1#32
  ⟨c0_i32_8, v19, c1_i32_9⟩
def k0_mult1 (i : grid0.Coords) (k0_t1 : Fin (k0_t1_loop i).trips) : BitVec 32 :=
  let c0_i32_8 : BitVec 32 := 0#32
  let c1_i32_9 : BitVec 32 := 1#32
  let arg10 : BitVec 32 := Scf.iv c0_i32_8 c1_i32_9 k0_t1
  let c128_i32_260 : BitVec 32 := 128#32
  let v413 : BitVec 32 := Scalar.muli arg10 c128_i32_260
  v413
def k0_off1 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c128_i32_260 : BitVec 32 := 128#32
  let v413 : BitVec 32 := Scalar.muli arg10 c128_i32_260
  let v414 : BitVec 32 := v413
  let v415 : Index := Scalar.indexCast v414
  let c0_261 : Index := 0#32
  ![v415.toNat, 0]
@[reducible] def k0_t2_loop (i : grid0.Coords) : Scf.Loop 32 :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let v16 : BitVec 32 := Scalar.addi c0_i32_8 v15
  let c1_i32_10 : BitVec 32 := 1#32
  ⟨v19, v16, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let c1_i32_10 : BitVec 32 := 1#32
  let arg10 : BitVec 32 := Scf.iv v19 c1_i32_10 k0_t2
  let c128_i32_260 : BitVec 32 := 128#32
  let v413 : BitVec 32 := Scalar.muli arg10 c128_i32_260
  v413
def k0_off2 (i : grid0.Coords) (k0_t2 : Fin (k0_t2_loop i).trips) : Fin 2 → Nat :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let c1_i32_10 : BitVec 32 := 1#32
  let arg10 : BitVec 32 := Scf.iv v19 c1_i32_10 k0_t2
  let c128_i32_260 : BitVec 32 := 128#32
  let v413 : BitVec 32 := Scalar.muli arg10 c128_i32_260
  let v414 : BitVec 32 := v413
  let v415 : Index := Scalar.indexCast v414
  let c0_261 : Index := 0#32
  ![v415.toNat, 0]
def k0_mult3 (i : grid0.Coords) : BitVec 32 :=
  let arg1 : BitVec 32 := BitVec.ofNat 32 (i 1).val
  let c128_i32 : BitVec 32 := 128#32
  let v20 : BitVec 32 := Scalar.muli arg1 c128_i32
  v20
def k0_off3 (i : grid0.Coords) : Fin 2 → Nat :=
  let arg1 : BitVec 32 := BitVec.ofNat 32 (i 1).val
  let c128_i32 : BitVec 32 := 128#32
  let v20 : BitVec 32 := Scalar.muli arg1 c128_i32
  let v21 : BitVec 32 := v20
  let v22 : Index := Scalar.indexCast v21
  let c0_11 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16896x2048 : Shape := ⟨2, ![16896, 2048]⟩
abbrev S16896x256 : Shape := ⟨2, ![16896, 256]⟩
abbrev S128x1024 : Shape := ⟨2, ![128, 1024]⟩
abbrev S16384x2048 : Shape := ⟨2, ![16384, 2048]⟩
abbrev S4x4096x8x256 : Shape := ⟨4, ![4, 4096, 8, 256]⟩
abbrev S16384x256 : Shape := ⟨2, ![16384, 256]⟩
abbrev S4x4096x256 : Shape := ⟨3, ![4, 4096, 256]⟩
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S4096 : Shape := ⟨1, ![4096]⟩
abbrev S4x4096x4096x8 : Shape := ⟨4, ![4, 4096, 4096, 8]⟩
abbrev S4x8x4096x4096 : Shape := ⟨4, ![4, 8, 4096, 4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x128x8x4096 : Shape := ⟨4, ![4, 128, 8, 4096]⟩
abbrev S128x8x128 : Shape := ⟨3, ![128, 8, 128]⟩
abbrev S128x8x64 : Shape := ⟨3, ![128, 8, 64]⟩
abbrev S8x64x4x4096 : Shape := ⟨4, ![8, 64, 4, 4096]⟩
abbrev S4x4096x8x64 : Shape := ⟨4, ![4, 4096, 8, 64]⟩
abbrev S16384x512 : Shape := ⟨2, ![16384, 512]⟩

abbrev nBuf : Space → Nat
  | .hbm => 54
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x256, .bf16⟩
  | .hbm, ⟨2, _⟩ => ⟨S128x1024, .f32⟩
  | .hbm, ⟨3, _⟩ => ⟨S16896x2048, .f32⟩
  | .hbm, ⟨4, _⟩ => ⟨S16384x2048, .f32⟩
  | .hbm, ⟨5, _⟩ => ⟨S4x4096x8x256, .f32⟩
  | .hbm, ⟨6, _⟩ => ⟨S16896x256, .f32⟩
  | .hbm, ⟨7, _⟩ => ⟨S16384x256, .f32⟩
  | .hbm, ⟨8, _⟩ => ⟨S4x4096x256, .f32⟩
  | .hbm, ⟨9, _⟩ => ⟨S4x4096x8x128, .f32⟩
  | .hbm, ⟨10, _⟩ => ⟨S4x4096x8x32, .f32⟩
  | .hbm, ⟨11, _⟩ => ⟨S4x4096x128, .f32⟩
  | .hbm, ⟨12, _⟩ => ⟨S4x4096x32, .f32⟩
  | .hbm, ⟨13, _⟩ => ⟨S4096, .i32⟩
  | .hbm, ⟨14, _⟩ => ⟨S4x4096x4096x8, .f32⟩
  | .hbm, ⟨15, _⟩ => ⟨S4x8x4096x4096, .f32⟩
  | .hbm, ⟨16, _⟩ => ⟨S4x4096x4096x8, .f32⟩
  | .hbm, ⟨17, _⟩ => ⟨S4x8x4096x4096, .f32⟩
  | .hbm, ⟨18, _⟩ => ⟨S4x8x4096x4096, .f32⟩
  | .hbm, ⟨19, _⟩ => ⟨S_, .f32⟩
  | .hbm, ⟨20, _⟩ => ⟨S4x8x4096x4096, .f32⟩
  | .hbm, ⟨21, _⟩ => ⟨S4x8x4096x4096, .f32⟩
  | .hbm, ⟨22, _⟩ => ⟨S4096x1, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S4x8x4096x4096, .i1⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S_, .f32⟩
  | .hbm, ⟨35, _⟩ => ⟨S4x8x4096, .f32⟩
  | .hbm, ⟨36, _⟩ => ⟨S4x8x4096, .f32⟩
  | .hbm, ⟨37, _⟩ => ⟨S4x8x4096x1, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S_, .f32⟩
  | .hbm, ⟨42, _⟩ => ⟨S4x8x4096, .f32⟩
  | .hbm, ⟨43, _⟩ => ⟨S4x8x4096x1, .f32⟩
  | .hbm, ⟨44, _⟩ => ⟨S4x8x4096x4096, .f32⟩
  | .hbm, ⟨45, _⟩ => ⟨S4x8x4096x4096, .f32⟩
  | .hbm, ⟨46, _⟩ => ⟨S4x128x8x4096, .f32⟩
  | .hbm, ⟨47, _⟩ => ⟨S4x4096x8x128, .f32⟩
  | .hbm, ⟨48, _⟩ => ⟨S128x8x128, .f32⟩
  | .hbm, ⟨49, _⟩ => ⟨S128x8x64, .f32⟩
  | .hbm, ⟨50, _⟩ => ⟨S8x64x4x4096, .f32⟩
  | .hbm, ⟨51, _⟩ => ⟨S4x4096x8x64, .f32⟩
  | .hbm, ⟨52, _⟩ => ⟨S16384x512, .f32⟩
  | .hbm, ⟨53, _⟩ => ⟨S16384x512, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel2.lean ====
abbrev S16896x1024 : Shape := ⟨2, ![16896, 1024]⟩
abbrev S1024 : Shape := ⟨1, ![1024]⟩
abbrev S8x16896 : Shape := ⟨2, ![8, 16896]⟩
abbrev S8x1024x1408 : Shape := ⟨3, ![8, 1024, 1408]⟩
abbrev S8x1408x1024 : Shape := ⟨3, ![8, 1408, 1024]⟩
abbrev S1x1024 : Shape := ⟨2, ![1, 1024]⟩
abbrev S8x16896x1 : Shape := ⟨3, ![8, 16896, 1]⟩
abbrev S512x1024 : Shape := ⟨2, ![512, 1024]⟩
abbrev S1x512x1 : Shape := ⟨3, ![1, 512, 1]⟩
abbrev S1x1024x1408 : Shape := ⟨3, ![1, 1024, 1408]⟩
abbrev S1x1408x1024 : Shape := ⟨3, ![1, 1408, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 14
  | .vmem => 16
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S8x16896, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S1024, .f32⟩
  | .hbm, ⟨7, _⟩ => ⟨S1x1024, .f32⟩
  | .hbm, ⟨8, _⟩ => ⟨S8x16896x1, .f32⟩
  | .hbm, ⟨9, _⟩ => ⟨S8x1024x1408, .bf16⟩
  | .hbm, ⟨10, _⟩ => ⟨S8x1024x1408, .bf16⟩
  | .hbm, ⟨11, _⟩ => ⟨S8x1408x1024, .bf16⟩
  | .hbm, ⟨12, _⟩ => ⟨S1x1024, .f32⟩
  | .hbm, ⟨13, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x512x1, .f32⟩
  | .local _ .vmem, ⟨4, _⟩ => ⟨S1x512x1, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1408x1024, .bf16⟩
  | .local _ .vmem, ⟨10, _⟩ => ⟨S1x1408x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![33, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_23 : BitVec 32 := 0#32
  let v34 : BitVec 1 := Scalar.cmpi .ne v33 c0_i32_23
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16896x1024 : Shape := ⟨2, ![16896, 1024]⟩
abbrev S1024 : Shape := ⟨1, ![1024]⟩
abbrev S8x16896 : Shape := ⟨2, ![8, 16896]⟩
abbrev S8x1024x1408 : Shape := ⟨3, ![8, 1024, 1408]⟩
abbrev S8x1408x1024 : Shape := ⟨3, ![8, 1408, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x8 : Shape := ⟨2, ![16896, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S16896x1408 : Shape := ⟨2, ![16896, 1408]⟩

abbrev nBuf : Space → Nat
  | .hbm => 227
  | .vmem => 0
  | .smem => 0
  | _ => 0

abbrev hbmTy0_0 (i : Nat) : BufTy := match i % 128 with
  | 0 => ⟨S16896x1024, .f32⟩
  | 1 => ⟨S1024, .f32⟩
  | 2 => ⟨S8x16896, .f32⟩
  | 3 => ⟨S8x1024x1408, .f32⟩
  | 4 => ⟨S8x1024x1408, .f32⟩
  | 5 => ⟨S8x1408x1024, .f32⟩
  | 6 => ⟨S1024, .f32⟩
  | 7 => ⟨S16896x1024, .f32⟩
  | 8 => ⟨S_, .f32⟩
  | 9 => ⟨S16896, .f32⟩
  | 10 => ⟨S16896x1, .f32⟩
  | 11 => ⟨S_, .f32⟩
  | 12 => ⟨S16896x1, .f32⟩
  | 13 => ⟨S16896x1, .f32⟩
  | 14 => ⟨S_, .f32⟩
  | 15 => ⟨S16896x1, .f32⟩
  | 16 => ⟨S16896x1, .f32⟩
  | 17 => ⟨S16896x1, .f32⟩
  | 18 => ⟨S16896x1024, .f32⟩
  | 19 => ⟨S16896x1024, .f32⟩
  | 20 => ⟨S1x1024, .f32⟩
  | 21 => ⟨S16896x1024, .f32⟩
  | 22 => ⟨S16896x1024, .f32⟩
  | 23 => ⟨S16896x8, .f32⟩
  | 24 => ⟨S_, .f32⟩
  | 25 => ⟨S16896x1024, .f32⟩
  | 26 => ⟨S16896x1, .f32⟩
  | 27 => ⟨S1x1024x1408, .f32⟩
  | 28 => ⟨S1024x1408, .f32⟩
  | 29 => ⟨S1x1024x1408, .f32⟩
  | 30 => ⟨S1024x1408, .f32⟩
  | 31 => ⟨S1x1408x1024, .f32⟩
  | 32 => ⟨S1408x1024, .f32⟩
  | 33 => ⟨S16896x1408, .f32⟩
  | 34 => ⟨S16896x1408, .f32⟩
  | 35 => ⟨S16896x1408, .f32⟩
  | 36 => ⟨S_, .f32⟩
  | 37 => ⟨S16896x1408, .f32⟩
  | 38 => ⟨S16896x1408, .f32⟩
  | 39 => ⟨S_, .f32⟩
  | 40 => ⟨S16896x1408, .f32⟩
  | 41 => ⟨S16896x1408, .f32⟩
  | 42 => ⟨S16896x1408, .f32⟩
  | 43 => ⟨S16896x1408, .f32⟩
  | 44 => ⟨S16896x1408, .f32⟩
  | 45 => ⟨S16896x1024, .f32⟩
  | 46 => ⟨S16896x1024, .f32⟩
  | 47 => ⟨S16896x1024, .f32⟩
  | 48 => ⟨S16896x1024, .f32⟩
  | 49 => ⟨S16896x1, .f32⟩
  | 50 => ⟨S1x1024x1408, .f32⟩
  | 51 => ⟨S1024x1408, .f32⟩
  | 52 => ⟨S1x1024x1408, .f32⟩
  | 53 => ⟨S1024x1408, .f32⟩
  | 54 => ⟨S1x1408x1024, .f32⟩
  | 55 => ⟨S1408x1024, .f32⟩
  | 56 => ⟨S16896x1408, .f32⟩
  | 57 => ⟨S16896x1408, .f32⟩
  | 58 => ⟨S16896x1408, .f32⟩
  | 59 => ⟨S_, .f32⟩
  | 60 => ⟨S16896x1408, .f32⟩
  | 61 => ⟨S16896x1408, .f32⟩
  | 62 => ⟨S_, .f32⟩
  | 63 => ⟨S16896x1408, .f32⟩
  | 64 => ⟨S16896x1408, .f32⟩
  | 65 => ⟨S16896x1408, .f32⟩
  | 66 => ⟨S16896x1408, .f32⟩
  | 67 => ⟨S16896x1408, .f32⟩
  | 68 => ⟨S16896x1024, .f32⟩
  | 69 => ⟨S16896x1024, .f32⟩
  | 70 => ⟨S16896x1024, .f32⟩
  | 71 => ⟨S16896x1024, .f32⟩
  | 72 => ⟨S16896x1, .f32⟩
  | 73 => ⟨S1x1024x1408, .f32⟩
  | 74 => ⟨S1024x1408, .f32⟩
  | 75 => ⟨S1x1024x1408, .f32⟩
  | 76 => ⟨S1024x1408, .f32⟩
  | 77 => ⟨S1x1408x1024, .f32⟩
  | 78 => ⟨S1408x1024, .f32⟩
  | 79 => ⟨S16896x1408, .f32⟩
  | 80 => ⟨S16896x1408, .f32⟩
  | 81 => ⟨S16896x1408, .f32⟩
  | 82 => ⟨S_, .f32⟩
  | 83 => ⟨S16896x1408, .f32⟩
  | 84 => ⟨S16896x1408, .f32⟩
  | 85 => ⟨S_, .f32⟩
  | 86 => ⟨S16896x1408, .f32⟩
  | 87 => ⟨S16896x1408, .f32⟩
  | 88 => ⟨S16896x1408, .f32⟩
  | 89 => ⟨S16896x1408, .f32⟩
  | 90 => ⟨S16896x1408, .f32⟩
  | 91 => ⟨S16896x1024, .f32⟩
  | 92 => ⟨S16896x1024, .f32⟩
  | 93 => ⟨S16896x1024, .f32⟩
  | 94 => ⟨S16896x1024, .f32⟩
  | 95 => ⟨S16896x1, .f32⟩
  | 96 => ⟨S1x1024x1408, .f32⟩
  | 97 => ⟨S1024x1408, .f32⟩
  | 98 => ⟨S1x1024x1408, .f32⟩
  | 99 => ⟨S1024x1408, .f32⟩
  | 100 => ⟨S1x1408x1024, .f32⟩
  | 101 => ⟨S1408x1024, .f32⟩
  | 102 => ⟨S16896x1408, .f32⟩
  | 103 => ⟨S16896x1408, .f32⟩
  | 104 => ⟨S16896x1408, .f32⟩
  | 105 => ⟨S_, .f32⟩
  | 106 => ⟨S16896x1408, .f32⟩
  | 107 => ⟨S16896x1408, .f32⟩
  | 108 => ⟨S_, .f32⟩
  | 109 => ⟨S16896x1408, .f32⟩
  | 110 => ⟨S16896x1408, .f32⟩
  | 111 => ⟨S16896x1408, .f32⟩
  | 112 => ⟨S16896x1408, .f32⟩
  | 113 => ⟨S16896x1408, .f32⟩
  | 114 => ⟨S16896x1024, .f32⟩
  | 115 => ⟨S16896x1024, .f32⟩
  | 116 => ⟨S16896x1024, .f32⟩
  | 117 => ⟨S16896x1024, .f32⟩
  | 118 => ⟨S16896x1, .f32⟩
  | 119 => ⟨S1x1024x1408, .f32⟩
  | 120 => ⟨S1024x1408, .f32⟩
  | 121 => ⟨S1x1024x1408, .f32⟩
  | 122 => ⟨S1024x1408, .f32⟩
  | 123 => ⟨S1x1408x1024, .f32⟩
  | 124 => ⟨S1408x1024, .f32⟩
  | 125 => ⟨S16896x1408, .f32⟩
  | 126 => ⟨S16896x1408, .f32⟩
  | 127 => ⟨S16896x1408, .f32⟩
  | _ => ⟨S16896x1024, .f32⟩

abbrev hbmTy0_1 (i : Nat) : BufTy := match i % 128 with
  | 0 => ⟨S_, .f32⟩
  | 1 => ⟨S16896x1408, .f32⟩
  | 2 => ⟨S16896x1408, .f32⟩
  | 3 => ⟨S_, .f32⟩
  | 4 => ⟨S16896x1408, .f32⟩
  | 5 => ⟨S16896x1408, .f32⟩
  | 6 => ⟨S16896x1408, .f32⟩
  | 7 => ⟨S16896x1408, .f32⟩
  | 8 => ⟨S16896x1408, .f32⟩
  | 9 => ⟨S16896x1024, .f32⟩
  | 10 => ⟨S16896x1024, .f32⟩
  | 11 => ⟨S16896x1024, .f32⟩
  | 12 => ⟨S16896x1024, .f32⟩
  | 13 => ⟨S16896x1, .f32⟩
  | 14 => ⟨S1x1024x1408, .f32⟩
  | 15 => ⟨S1024x1408, .f32⟩
  | 16 => ⟨S1x1024x1408, .f32⟩
  | 17 => ⟨S1024x1408, .f32⟩
  | 18 => ⟨S1x1408x1024, .f32⟩
  | 19 => ⟨S1408x1024, .f32⟩
  | 20 => ⟨S16896x1408, .f32⟩
  | 21 => ⟨S16896x1408, .f32⟩
  | 22 => ⟨S16896x1408, .f32⟩
  | 23 => ⟨S_, .f32⟩
  | 24 => ⟨S16896x1408, .f32⟩
  | 25 => ⟨S16896x1408, .f32⟩
  | 26 => ⟨S_, .f32⟩
  | 27 => ⟨S16896x1408, .f32⟩
  | 28 => ⟨S16896x1408, .f32⟩
  | 29 => ⟨S16896x1408, .f32⟩
  | 30 => ⟨S16896x1408, .f32⟩
  | 31 => ⟨S16896x1408, .f32⟩
  | 32 => ⟨S16896x1024, .f32⟩
  | 33 => ⟨S16896x1024, .f32⟩
  | 34 => ⟨S16896x1024, .f32⟩
  | 35 => ⟨S16896x1024, .f32⟩
  | 36 => ⟨S16896x1, .f32⟩
  | 37 => ⟨S1x1024x1408, .f32⟩
  | 38 => ⟨S1024x1408, .f32⟩
  | 39 => ⟨S1x1024x1408, .f32⟩
  | 40 => ⟨S1024x1408, .f32⟩
  | 41 => ⟨S1x1408x1024, .f32⟩
  | 42 => ⟨S1408x1024, .f32⟩
  | 43 => ⟨S16896x1408, .f32⟩
  | 44 => ⟨S16896x1408, .f32⟩
  | 45 => ⟨S16896x1408, .f32⟩
  | 46 => ⟨S_, .f32⟩
  | 47 => ⟨S16896x1408, .f32⟩
  | 48 => ⟨S16896x1408, .f32⟩
  | 49 => ⟨S_, .f32⟩
  | 50 => ⟨S16896x1408, .f32⟩
  | 51 => ⟨S16896x1408, .f32⟩
  | 52 => ⟨S16896x1408, .f32⟩
  | 53 => ⟨S16896x1408, .f32⟩
  | 54 => ⟨S16896x1408, .f32⟩
  | 55 => ⟨S16896x1024, .f32⟩
  | 56 => ⟨S16896x1024, .f32⟩
  | 57 => ⟨S16896x1024, .f32⟩
  | 58 => ⟨S16896x1024, .f32⟩
  | 59 => ⟨S16896x1, .f32⟩
  | 60 => ⟨S1x1024x1408, .f32⟩
  | 61 => ⟨S1024x1408, .f32⟩
  | 62 => ⟨S1x1024x1408, .f32⟩
  | 63 => ⟨S1024x1408, .f32⟩
  | 64 => ⟨S1x1408x1024, .f32⟩
  | 65 => ⟨S1408x1024, .f32⟩
  | 66 => ⟨S16896x1408, .f32⟩
  | 67 => ⟨S16896x1408, .f32⟩
  | 68 => ⟨S16896x1408, .f32⟩
  | 69 => ⟨S_, .f32⟩
  | 70 => ⟨S16896x1408, .f32⟩
  | 71 => ⟨S16896x1408, .f32⟩
  | 72 => ⟨S_, .f32⟩
  | 73 => ⟨S16896x1408, .f32⟩
  | 74 => ⟨S16896x1408, .f32⟩
  | 75 => ⟨S16896x1408, .f32⟩
  | 76 => ⟨S16896x1408, .f32⟩
  | 77 => ⟨S16896x1408, .f32⟩
  | 78 => ⟨S16896x1024, .f32⟩
  | 79 => ⟨S16896x1024, .f32⟩
  | 80 => ⟨S16896x1024, .f32⟩
  | 81 => ⟨S16896x1024, .f32⟩
  | 82 => ⟨S16896x1024, .f32⟩
  | 83 => ⟨S16896x1024, .f32⟩
  | 84 => ⟨S_, .f32⟩
  | 85 => ⟨S16896, .f32⟩
  | 86 => ⟨S16896x1, .f32⟩
  | 87 => ⟨S_, .f32⟩
  | 88 => ⟨S16896x1, .f32⟩
  | 89 => ⟨S16896x1, .f32⟩
  | 90 => ⟨S_, .f32⟩
  | 91 => ⟨S16896x1, .f32⟩
  | 92 => ⟨S16896x1, .f32⟩
  | 93 => ⟨S16896x1, .f32⟩
  | 94 => ⟨S16896x1024, .f32⟩
  | 95 => ⟨S16896x1024, .f32⟩
  | 96 => ⟨S1x1024, .f32⟩
  | 97 => ⟨S16896x1024, .f32⟩
  | 98 => ⟨S16896x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_call4_v0 : Ref sig .tc := ⟨.hbm, 126, rfl⟩
abbrev main_call4_v1 : Ref sig .tc := ⟨.hbm, 127, rfl⟩
abbrev main_call4_cst : Ref sig .tc := ⟨.hbm, 128, rfl⟩
abbrev main_call4_v2 : Ref sig .tc := ⟨.hbm, 129, rfl⟩
abbrev main_call4_v3 : Ref sig .tc := ⟨.hbm, 130, rfl⟩
abbrev main_call4_cst_0 : Ref sig .tc := ⟨.hbm, 131, rfl⟩
abbrev main_call4_v4 : Ref sig .tc := ⟨.hbm, 132, rfl⟩
abbrev main_call4_v5 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_call5_v0 : Ref sig .tc := ⟨.hbm, 149, rfl⟩
abbrev main_call5_v1 : Ref sig .tc := ⟨.hbm, 150, rfl⟩
abbrev main_call5_cst : Ref sig .tc := ⟨.hbm, 151, rfl⟩
abbrev main_call5_v2 : Ref sig .tc := ⟨.hbm, 152, rfl⟩
abbrev main_call5_v3 : Ref sig .tc := ⟨.hbm, 153, rfl⟩
abbrev main_call5_cst_0 : Ref sig .tc := ⟨.hbm, 154, rfl⟩
abbrev main_call5_v4 : Ref sig .tc := ⟨.hbm, 155, rfl⟩
abbrev main_call5_v5 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_call6_v0 : Ref sig .tc := ⟨.hbm, 172, rfl⟩
abbrev main_call6_v1 : Ref sig .tc := ⟨.hbm, 173, rfl⟩
abbrev main_call6_cst : Ref sig .tc := ⟨.hbm, 174, rfl⟩
abbrev main_call6_v2 : Ref sig .tc := ⟨.hbm, 175, rfl⟩
abbrev main_call6_v3 : Ref sig .tc := ⟨.hbm, 176, rfl⟩
abbrev main_call6_cst_0 : Ref sig .tc := ⟨.hbm, 177, rfl⟩
abbrev main_call6_v4 : Ref sig .tc := ⟨.hbm, 178, rfl⟩
abbrev main_call6_v5 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_call7_v0 : Ref sig .tc := ⟨.hbm, 195, rfl⟩
abbrev main_call7_v1 : Ref sig .tc := ⟨.hbm, 196, rfl⟩
abbrev main_call7_cst : Ref sig .tc := ⟨.hbm, 197, rfl⟩
abbrev main_call7_v2 : Ref sig .tc := ⟨.hbm, 198, rfl⟩
abbrev main_call7_v3 : Ref sig .tc := ⟨.hbm, 199, rfl⟩
abbrev main_call7_cst_0 : Ref sig .tc := ⟨.hbm, 200, rfl⟩
abbrev main_call7_v4 : Ref sig .tc := ⟨.hbm, 201, rfl⟩
abbrev main_call7_v5 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_cst_3 : Ref sig .tc := ⟨.hbm, 212, rfl⟩
abbrev main_v137 : Ref sig .tc := ⟨.hbm, 213, rfl⟩
abbrev main_v138 : Ref sig .tc := ⟨.hbm, 214, rfl⟩
abbrev main_cst_4 : Ref sig .tc := ⟨.hbm, 215, rfl⟩
abbrev main_v139 : Ref sig .tc := ⟨.hbm, 216, rfl⟩
abbrev main_v140 : Ref sig .tc := ⟨.hbm, 217, rfl⟩
abbrev main_cst_5 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩

abbrev nD : Nat := 1
abbrev τ : Topo := Topo.v7x

variable {F : FTy → Type} [FloatOps F]
-- ==== Kernel3.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x16896x1 : Shape := ⟨3, ![2, 16896, 1]⟩
abbrev S1x1024 : Shape := ⟨2, ![1, 1024]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S512x1024 : Shape := ⟨2, ![512, 1024]⟩
abbrev S1x512x1 : Shape := ⟨3, ![1, 512, 1]⟩
abbrev S1x1024x1408 : Shape := ⟨3, ![1, 1024, 1408]⟩
abbrev S1x1408x1024 : Shape := ⟨3, ![1, 1408, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 19
  | .vmem => 16
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S_, .f32⟩
  | .hbm, ⟨7, _⟩ => ⟨S2x16896x1, .f32⟩
  | .hbm, ⟨8, _⟩ => ⟨S1x1024, .f32⟩
  | .hbm, ⟨9, _⟩ => ⟨S1024x2x1408, .f32⟩
  | .hbm, ⟨10, _⟩ => ⟨S2x1024x1408, .f32⟩
  | .hbm, ⟨11, _⟩ => ⟨S2x1024x1408, .bf16⟩
  | .hbm, ⟨12, _⟩ => ⟨S1024x2x1408, .f32⟩
  | .hbm, ⟨13, _⟩ => ⟨S2x1024x1408, .f32⟩
  | .hbm, ⟨14, _⟩ => ⟨S2x1024x1408, .bf16⟩
  | .hbm, ⟨15, _⟩ => ⟨S2x1408x1024, .f32⟩
  | .hbm, ⟨16, _⟩ => ⟨S2x1408x1024, .bf16⟩
  | .hbm, ⟨17, _⟩ => ⟨S1x1024, .f32⟩
  | .hbm, ⟨18, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x512x1, .f32⟩
  | .local _ .vmem, ⟨4, _⟩ => ⟨S1x512x1, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1408x1024, .bf16⟩
  | .local _ .vmem, ⟨10, _⟩ => ⟨S1x1408x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![33, 2], ![false, false]⟩

def k0_cond2 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_23 : BitVec 32 := 0#32
  let v34 : BitVec 1 := Scalar.cmpi .ne v33 c0_i32_23
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2816 : Shape := ⟨2, ![16896, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S16896x2816, .f32⟩
  | .hbm, ⟨23, _⟩ => ⟨S16896x2816, .f32⟩
  | .hbm, ⟨24, _⟩ => ⟨S16896x2816, .f32⟩
  | .hbm, ⟨25, _⟩ => ⟨S_, .f32⟩
  | .hbm, ⟨26, _⟩ => ⟨S16896x2816, .f32⟩
  | .hbm, ⟨27, _⟩ => ⟨S16896x2816, .f32⟩
  | .hbm, ⟨28, _⟩ => ⟨S_, .f32⟩
  | .hbm, ⟨29, _⟩ => ⟨S16896x2816, .f32⟩
  | .hbm, ⟨30, _⟩ => ⟨S16896x2816, .f32⟩
  | .hbm, ⟨31, _⟩ => ⟨S16896x2816, .f32⟩
  | .hbm, ⟨32, _⟩ => ⟨S16896x2816, .f32⟩
  | .hbm, ⟨33, _⟩ => ⟨S16896x2816, .f32⟩
  | .hbm, ⟨34, _⟩ => ⟨S16896x1024, .f32⟩
  | .hbm, ⟨35, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel4.lean ====
abbrev S16896x1024 : Shape := ⟨2, ![16896, 1024]⟩
abbrev S16896x512 : Shape := ⟨2, ![16896, 512]⟩
abbrev S16896x3072 : Shape := ⟨2, ![16896, 3072]⟩
abbrev S3x1024 : Shape := ⟨2, ![3, 1024]⟩
abbrev S3x512x1024 : Shape := ⟨3, ![3, 512, 1024]⟩
abbrev S1024x1024 : Shape := ⟨2, ![1024, 1024]⟩
abbrev S512x1024 : Shape := ⟨2, ![512, 1024]⟩
abbrev S512x512 : Shape := ⟨2, ![512, 512]⟩
abbrev S512x3072 : Shape := ⟨2, ![512, 3072]⟩
abbrev S1x512x1024 : Shape := ⟨3, ![1, 512, 1024]⟩
abbrev S1x1024 : Shape := ⟨2, ![1, 1024]⟩

abbrev nBuf : Space → Nat
  | .hbm => 11
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S16896x512, .bf16⟩
  | .hbm, ⟨4, _⟩ => ⟨S16896x3072, .f32⟩
  | .hbm, ⟨5, _⟩ => ⟨S3x1024, .f32⟩
  | .hbm, ⟨6, _⟩ => ⟨S3x512x1024, .f32⟩
  | .hbm, ⟨7, _⟩ => ⟨S1024x1024, .f32⟩
  | .hbm, ⟨8, _⟩ => ⟨S3x512x1024, .bf16⟩
  | .hbm, ⟨9, _⟩ => ⟨S1024x1024, .bf16⟩
  | .hbm, ⟨10, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S3x1024, .f32⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16896x1024 : Shape := ⟨2, ![16896, 1024]⟩
abbrev S16896x512 : Shape := ⟨2, ![16896, 512]⟩
abbrev S16896x3072 : Shape := ⟨2, ![16896, 3072]⟩
abbrev S3x1024 : Shape := ⟨2, ![3, 1024]⟩
abbrev S3x512x1024 : Shape := ⟨3, ![3, 512, 1024]⟩
abbrev S1024x1024 : Shape := ⟨2, ![1024, 1024]⟩
abbrev S16896x3x1024 : Shape := ⟨3, ![16896, 3, 1024]⟩
abbrev S1x3x1024 : Shape := ⟨3, ![1, 3, 1024]⟩
abbrev S_ : Shape := ⟨0, ![]⟩
abbrev S16896x1x512 : Shape := ⟨3, ![16896, 1, 512]⟩
abbrev S16896x3x512 : Shape := ⟨3, ![16896, 3, 512]⟩
abbrev S3x1024x16896 : Shape := ⟨3, ![3, 1024, 16896]⟩

abbrev nBuf : Space → Nat
  | .hbm => 32
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S16896x512, .bf16⟩
  | .hbm, ⟨4, _⟩ => ⟨S16896x3072, .f32⟩
  | .hbm, ⟨5, _⟩ => ⟨S3x1024, .f32⟩
  | .hbm, ⟨6, _⟩ => ⟨S3x512x1024, .f32⟩
  | .hbm, ⟨7, _⟩ => ⟨S1024x1024, .f32⟩
  | .hbm, ⟨8, _⟩ => ⟨S16896x3x1024, .f32⟩
  | .hbm, ⟨9, _⟩ => ⟨S1x3x1024, .f32⟩
  | .hbm, ⟨10, _⟩ => ⟨S16896x3x1024, .f32⟩
  | .hbm, ⟨11, _⟩ => ⟨S16896x3x1024, .f32⟩
  | .hbm, ⟨12, _⟩ => ⟨S16896x3x1024, .f32⟩
  | .hbm, ⟨13, _⟩ => ⟨S16896x3x1024, .f32⟩
  | .hbm, ⟨14, _⟩ => ⟨S_, .f32⟩
  | .hbm, ⟨15, _⟩ => ⟨S16896x3x1024, .f32⟩
  | .hbm, ⟨16, _⟩ => ⟨S16896x3x1024, .f32⟩
  | .hbm, ⟨17, _⟩ => ⟨S_, .f32⟩
  | .hbm, ⟨18, _⟩ => ⟨S16896x3x1024, .f32⟩
  | .hbm, ⟨19, _⟩ => ⟨S16896x3x1024, .f32⟩
  | .hbm, ⟨20, _⟩ => ⟨S16896x512, .f32⟩
  | .hbm, ⟨21, _⟩ => ⟨S16896x512, .f32⟩
  | .hbm, ⟨22, _⟩ => ⟨S16896x512, .f32⟩
  | .hbm, ⟨23, _⟩ => ⟨S16896x1x512, .f32⟩
  | .hbm, ⟨24, _⟩ => ⟨S16896x1x512, .f32⟩
  | .hbm, ⟨25, _⟩ => ⟨S16896x1x512, .f32⟩
  | .hbm, ⟨26, _⟩ => ⟨S16896x3x512, .f32⟩
  | .hbm, ⟨27, _⟩ => ⟨S3x1024x16896, .f32⟩
  | .hbm, ⟨28, _⟩ => ⟨S16896x3x1024, .f32⟩
  | .hbm, ⟨29, _⟩ => ⟨S16896x1024, .f32⟩
  | .hbm, ⟨30, _⟩ => ⟨S16896x1024, .f32⟩
  | .hbm, ⟨31, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel5.lean ====
abbrev S16896x1024 : Shape := ⟨2, ![16896, 1024]⟩
abbrev S16896 : Shape := ⟨1, ![16896]⟩
abbrev S1024 : Shape := ⟨1, ![1024]⟩
abbrev S1024x5868 : Shape := ⟨2, ![1024, 5868]⟩
abbrev S256 : Shape := ⟨1, ![256]⟩
abbrev S128 : Shape := ⟨1, ![128]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x64 : Shape := ⟨2, ![1024, 64]⟩
abbrev S1024x4 : Shape := ⟨2, ![1024, 4]⟩
abbrev S1024x768 : Shape := ⟨2, ![1024, 768]⟩
abbrev S1024x8 : Shape := ⟨2, ![1024, 8]⟩
abbrev S1024x3072 : Shape := ⟨2, ![1024, 3072]⟩
abbrev S1024x8x64 : Shape := ⟨3, ![1024, 8, 64]⟩
abbrev S_ : Shape := ⟨0, ![]⟩
abbrev S1024x8x2x64 : Shape := ⟨4, ![1024, 8, 2, 64]⟩
abbrev S1024x1x64 : Shape := ⟨3, ![1024, 1, 64]⟩
abbrev S1 : Shape := ⟨1, ![1]⟩
abbrev S2 : Shape := ⟨1, ![2]⟩
abbrev S1024x4x64 : Shape := ⟨3, ![1024, 4, 64]⟩
abbrev S1024x4x128 : Shape := ⟨3, ![1024, 4, 128]⟩
abbrev S1024x1024 : Shape := ⟨2, ![1024, 1024]⟩
abbrev S1024x16 : Shape := ⟨2, ![1024, 16]⟩
abbrev S1024x7168 : Shape := ⟨2, ![1024, 7168]⟩
abbrev S16 : Shape := ⟨1, ![16]⟩
abbrev S16896x1 : Shape := ⟨2, ![16896, 1]⟩
abbrev S1x16 : Shape := ⟨2, ![1, 16]⟩
abbrev S16896x16 : Shape := ⟨2, ![16896, 16]⟩
abbrev S16896x96 : Shape := ⟨2, ![16896, 96]⟩
abbrev S16896x128 : Shape := ⟨2, ![16896, 128]⟩
abbrev S1x1024 : Shape := ⟨2, ![1, 1024]⟩
abbrev S1x256 : Shape := ⟨2, ![1, 256]⟩
abbrev S1x128 : Shape := ⟨2, ![1, 128]⟩
abbrev S16896x3072 : Shape := ⟨2, ![16896, 3072]⟩
abbrev S16896x512 : Shape := ⟨2, ![16896, 512]⟩
abbrev S16896x768 : Shape := ⟨2, ![16896, 768]⟩
abbrev S16896x256 : Shape := ⟨2, ![16896, 256]⟩
abbrev S16896x32 : Shape := ⟨2, ![16896, 32]⟩
abbrev S16896x64 : Shape := ⟨2, ![16896, 64]⟩
abbrev S16896x4 : Shape := ⟨2, ![16896, 4]⟩
abbrev S16896x8 : Shape := ⟨2, ![16896, 8]⟩
abbrev S256x1024 : Shape := ⟨2, ![256, 1024]⟩
abbrev S256x128 : Shape := ⟨2, ![256, 128]⟩
abbrev S256x3072 : Shape := ⟨2, ![256, 3072]⟩
abbrev S256x512 : Shape := ⟨2, ![256, 512]⟩
abbrev S256x768 : Shape := ⟨2, ![256, 768]⟩
abbrev S256x256 : Shape := ⟨2, ![256, 256]⟩
abbrev S256x32 : Shape := ⟨2, ![256, 32]⟩
abbrev S256x64 : Shape := ⟨2, ![256, 64]⟩
abbrev S256x4 : Shape := ⟨2, ![256, 4]⟩
abbrev S256x8 : Shape := ⟨2, ![256, 8]⟩
abbrev S256x1 : Shape := ⟨2, ![256, 1]⟩

abbrev nBuf : Space → Nat
  | .hbm => 153
  | .vmem => 38
  | .smem => 0
  | _ => 0

abbrev hbmTy0_0 (i : Nat) : BufTy := match i % 128 with
  | 0 => ⟨S16896x1024, .f32⟩
  | 1 => ⟨S16896, .i32⟩
  | 2 => ⟨S1024, .f32⟩
  | 3 => ⟨S1024x5868, .f32⟩
  | 4 => ⟨S256, .f32⟩
  | 5 => ⟨S128, .f32⟩
  | 6 => ⟨S1024x256, .f32⟩
  | 7 => ⟨S1024x128, .f32⟩
  | 8 => ⟨S1024x32, .f32⟩
  | 9 => ⟨S1024x512, .f32⟩
  | 10 => ⟨S1024x128, .f32⟩
  | 11 => ⟨S1024x128, .f32⟩
  | 12 => ⟨S1024x256, .f32⟩
  | 13 => ⟨S1024x64, .f32⟩
  | 14 => ⟨S1024x4, .f32⟩
  | 15 => ⟨S1024x512, .f32⟩
  | 16 => ⟨S1024x768, .f32⟩
  | 17 => ⟨S1024x8, .f32⟩
  | 18 => ⟨S1024x3072, .f32⟩
  | 19 => ⟨S1024x8x64, .f32⟩
  | 20 => ⟨S_, .f32⟩
  | 21 => ⟨S1024x8x2x64, .f32⟩
  | 22 => ⟨S1024x1x64, .f32⟩
  | 23 => ⟨S1024x64, .f32⟩
  | 24 => ⟨S_, .i32⟩
  | 25 => ⟨S1, .i32⟩
  | 26 => ⟨S_, .i32⟩
  | 27 => ⟨S1, .i32⟩
  | 28 => ⟨S2, .i32⟩
  | 29 => ⟨S1024x8x2x64, .f32⟩
  | 30 => ⟨S1024x1x64, .f32⟩
  | 31 => ⟨S1024x64, .f32⟩
  | 32 => ⟨S_, .i32⟩
  | 33 => ⟨S1, .i32⟩
  | 34 => ⟨S_, .i32⟩
  | 35 => ⟨S1, .i32⟩
  | 36 => ⟨S2, .i32⟩
  | 37 => ⟨S1024x8x2x64, .f32⟩
  | 38 => ⟨S1024x1x64, .f32⟩
  | 39 => ⟨S1024x64, .f32⟩
  | 40 => ⟨S_, .i32⟩
  | 41 => ⟨S1, .i32⟩
  | 42 => ⟨S_, .i32⟩
  | 43 => ⟨S1, .i32⟩
  | 44 => ⟨S2, .i32⟩
  | 45 => ⟨S1024x8x2x64, .f32⟩
  | 46 => ⟨S1024x1x64, .f32⟩
  | 47 => ⟨S1024x64, .f32⟩
  | 48 => ⟨S_, .i32⟩
  | 49 => ⟨S1, .i32⟩
  | 50 => ⟨S_, .i32⟩
  | 51 => ⟨S1, .i32⟩
  | 52 => ⟨S2, .i32⟩
  | 53 => ⟨S1024x8x2x64, .f32⟩
  | 54 => ⟨S1024x1x64, .f32⟩
  | 55 => ⟨S1024x64, .f32⟩
  | 56 => ⟨S_, .i32⟩
  | 57 => ⟨S1, .i32⟩
  | 58 => ⟨S_, .i32⟩
  | 59 => ⟨S1, .i32⟩
  | 60 => ⟨S2, .i32⟩
  | 61 => ⟨S1024x8x2x64, .f32⟩
  | 62 => ⟨S1024x1x64, .f32⟩
  | 63 => ⟨S1024x64, .f32⟩
  | 64 => ⟨S_, .i32⟩
  | 65 => ⟨S1, .i32⟩
  | 66 => ⟨S_, .i32⟩
  | 67 => ⟨S1, .i32⟩
  | 68 => ⟨S2, .i32⟩
  | 69 => ⟨S1024x8x2x64, .f32⟩
  | 70 => ⟨S1024x1x64, .f32⟩
  | 71 => ⟨S1024x64, .f32⟩
  | 72 => ⟨S_, .i32⟩
  | 73 => ⟨S1, .i32⟩
  | 74 => ⟨S_, .i32⟩
  | 75 => ⟨S1, .i32⟩
  | 76 => ⟨S2, .i32⟩
  | 77 => ⟨S1024x8x2x64, .f32⟩
  | 78 => ⟨S1024x1x64, .f32⟩
  | 79 => ⟨S1024x64, .f32⟩
  | 80 => ⟨S_, .i32⟩
  | 81 => ⟨S1, .i32⟩
  | 82 => ⟨S_, .i32⟩
  | 83 => ⟨S1, .i32⟩
  | 84 => ⟨S2, .i32⟩
  | 85 => ⟨S1024x8x2x64, .f32⟩
  | 86 => ⟨S1024x4x64, .f32⟩
  | 87 => ⟨S_, .i32⟩
  | 88 => ⟨S_, .f32⟩
  | 89 => ⟨S1024x4x128, .f32⟩
  | 90 => ⟨S1024x1024, .f32⟩
  | 91 => ⟨S1024x512, .f32⟩
  | 92 => ⟨S_, .i32⟩
  | 93 => ⟨S_, .f32⟩
  | 94 => ⟨S1024x128, .f32⟩
  | 95 => ⟨S1024x256, .f32⟩
  | 96 => ⟨S1024x16, .f32⟩
  | 97 => ⟨S1024x16, .f32⟩
  | 98 => ⟨S1024x16, .f32⟩
  | 99 => ⟨S1024x32, .f32⟩
  | 100 => ⟨S_, .i32⟩
  | 101 => ⟨S_, .f32⟩
  | 102 => ⟨S1024x128, .f32⟩
  | 103 => ⟨S_, .i32⟩
  | 104 => ⟨S_, .f32⟩
  | 105 => ⟨S1024x128, .f32⟩
  | 106 => ⟨S_, .i32⟩
  | 107 => ⟨S_, .f32⟩
  | 108 => ⟨S1024x128, .f32⟩
  | 109 => ⟨S_, .i32⟩
  | 110 => ⟨S_, .f32⟩
  | 111 => ⟨S1024x128, .f32⟩
  | 112 => ⟨S1024x7168, .f32⟩
  | 113 => ⟨S1024x7168, .bf16⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S16896, .f32⟩
  | 123 => ⟨S16896x1, .f32⟩
  | 124 => ⟨S1x16, .f32⟩
  | 125 => ⟨S16896x16, .f32⟩
  | 126 => ⟨S16896x16, .f32⟩
  | 127 => ⟨S16896x16, .f32⟩
  | _ => ⟨S16896x1024, .f32⟩

abbrev hbmTy0_1 (i : Nat) : BufTy := match i % 128 with
  | 0 => ⟨S_, .f32⟩
  | 1 => ⟨S16896x96, .f32⟩
  | 2 => ⟨S16896x16, .f32⟩
  | 3 => ⟨S16896x16, .f32⟩
  | 4 => ⟨S16896x128, .f32⟩
  | 5 => ⟨S16896x16, .f32⟩
  | 6 => ⟨S16896x16, .f32⟩
  | 7 => ⟨S16896x128, .f32⟩
  | 8 => ⟨S1x1024, .f32⟩
  | 9 => ⟨S1x256, .f32⟩
  | 10 => ⟨S1x128, .f32⟩
  | 11 => ⟨S16896x3072, .f32⟩
  | 12 => ⟨S16896x512, .f32⟩
  | 13 => ⟨S16896x768, .f32⟩
  | 14 => ⟨S16896x1024, .bf16⟩
  | 15 => ⟨S16896x256, .bf16⟩
  | 16 => ⟨S16896x512, .bf16⟩
  | 17 => ⟨S16896x256, .bf16⟩
  | 18 => ⟨S16896x128, .f32⟩
  | 19 => ⟨S16896x32, .f32⟩
  | 20 => ⟨S16896x128, .f32⟩
  | 21 => ⟨S16896x128, .f32⟩
  | 22 => ⟨S16896x64, .f32⟩
  | 23 => ⟨S16896x4, .f32⟩
  | 24 => ⟨S16896x8, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x256, .f32⟩
  | .local _ .vmem, ⟨9, _⟩ => ⟨S1x128, .f32⟩
  | .local _ .vmem, ⟨10, _⟩ => ⟨S256x3072, .f32⟩
  | .local _ .vmem, ⟨11, _⟩ => ⟨S256x3072, .f32⟩
  | .local _ .vmem, ⟨12, _⟩ => ⟨S256x512, .f32⟩
  | .local _ .vmem, ⟨13, _⟩ => ⟨S256x512, .f32⟩
  | .local _ .vmem, ⟨14, _⟩ => ⟨S256x768, .f32⟩
  | .local _ .vmem, ⟨15, _⟩ => ⟨S256x768, .f32⟩
  | .local _ .vmem, ⟨16, _⟩ => ⟨S256x1024, .bf16⟩
  | .local _ .vmem, ⟨17, _⟩ => ⟨S256x1024, .bf16⟩
  | .local _ .vmem, ⟨18, _⟩ => ⟨S256x256, .bf16⟩
  | .local _ .vmem, ⟨19, _⟩ => ⟨S256x256, .bf16⟩
  | .local _ .vmem, ⟨20, _⟩ => ⟨S256x512, .bf16⟩
  | .local _ .vmem, ⟨21, _⟩ => ⟨S256x512, .bf16⟩
  | .local _ .vmem, ⟨22, _⟩ => ⟨S256x256, .bf16⟩
  | .local _ .vmem, ⟨23, _⟩ => ⟨S256x256, .bf16⟩
  | .local _ .vmem, ⟨24, _⟩ => ⟨S256x128, .f32⟩
  | .local _ .vmem, ⟨25, _⟩ => ⟨S256x128, .f32⟩
  | .local _ .vmem, ⟨26, _⟩ => ⟨S256x32, .f32⟩
  | .local _ .vmem, ⟨27, _⟩ => ⟨S256x32, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x64, .f32⟩
  | .local _ .vmem, ⟨33, _⟩ => ⟨S256x64, .f32⟩
  | .local _ .vmem, ⟨34, _⟩ => ⟨S256x4, .f32⟩
  | .local _ .vmem, ⟨35, _⟩ => ⟨S256x4, .f32⟩
  | .local _ .vmem, ⟨36, _⟩ => ⟨S256x8, .f32⟩
  | .local _ .vmem, ⟨37, _⟩ => ⟨S256x8, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_16 : Ref sig .tc := ⟨.hbm, 92, rfl⟩
abbrev main_call1_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_call2_v0 : Ref sig .tc := ⟨.hbm, 101, rfl⟩
abbrev main_v73 : Ref sig .tc := ⟨.hbm, 102, rfl⟩
abbrev main_c_18 : Ref sig .tc := ⟨.hbm, 103, rfl⟩
abbrev main_call3_v0 : Ref sig .tc := ⟨.hbm, 104, rfl⟩
abbrev main_v74 : Ref sig .tc := ⟨.hbm, 105, rfl⟩
abbrev main_c_19 : Ref sig .tc := ⟨.hbm, 106, rfl⟩
abbrev main_call4_v0 : Ref sig .tc := ⟨.hbm, 107, rfl⟩
abbrev main_v75 : Ref sig .tc := ⟨.hbm, 108, rfl⟩
abbrev main_c_20 : Ref sig .tc := ⟨.hbm, 109, rfl⟩
abbrev main_call5_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_21 : Ref sig .tc := ⟨.hbm, 116, rfl⟩
abbrev main_v81 : Ref sig .tc := ⟨.hbm, 117, rfl⟩
abbrev main_v82 : Ref sig .tc := ⟨.hbm, 118, rfl⟩
abbrev main_cst_22 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_23 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101_0 : Ref sig .tc := ⟨.hbm, 139, rfl⟩
abbrev main_v101_1 : Ref sig .tc := ⟨.hbm, 140, rfl⟩
abbrev main_v101_2 : Ref sig .tc := ⟨.hbm, 141, rfl⟩
abbrev main_v101_3 : Ref sig .tc := ⟨.hbm, 142, rfl⟩
abbrev main_v101_4 : Ref sig .tc := ⟨.hbm, 143, rfl⟩
abbrev main_v101_5 : Ref sig .tc := ⟨.hbm, 144, rfl⟩
abbrev main_v101_6 : Ref sig .tc := ⟨.hbm, 145, rfl⟩
abbrev main_v101_7 : Ref sig .tc := ⟨.hbm, 146, rfl⟩
abbrev main_v101_8 : Ref sig .tc := ⟨.hbm, 147, rfl⟩
abbrev main_v101_9 : Ref sig .tc := ⟨.hbm, 148, rfl⟩
abbrev main_v101_10 : Ref sig .tc := ⟨.hbm, 149, rfl⟩
abbrev main_v101_11 : Ref sig .tc := ⟨.hbm, 150, rfl⟩
abbrev main_v101_12 : Ref sig .tc := ⟨.hbm, 151, rfl⟩
abbrev main_v101_13 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x4 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x8 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference5Ideal.lean ====
abbrev S16896x1024 : Shape := ⟨2, ![16896, 1024]⟩
abbrev S16896 : Shape := ⟨1, ![16896]⟩
abbrev S1024 : Shape := ⟨1, ![1024]⟩
abbrev S1024x5868 : Shape := ⟨2, ![1024, 5868]⟩
abbrev S256 : Shape := ⟨1, ![256]⟩
abbrev S128 : Shape := ⟨1, ![128]⟩
abbrev S_ : Shape := ⟨0, ![]⟩
abbrev S16896x1 : Shape := ⟨2, ![16896, 1]⟩
abbrev S1x1024 : Shape := ⟨2, ![1, 1024]⟩
abbrev S16896x5868 : Shape := ⟨2, ![16896, 5868]⟩
abbrev S16896x256 : Shape := ⟨2, ![16896, 256]⟩
abbrev S16896x128 : Shape := ⟨2, ![16896, 128]⟩
abbrev S16896x32 : Shape := ⟨2, ![16896, 32]⟩
abbrev S16896x512 : Shape := ⟨2, ![16896, 512]⟩
abbrev S16896x64 : Shape := ⟨2, ![16896, 64]⟩
abbrev S16896x4 : Shape := ⟨2, ![16896, 4]⟩
abbrev S16896x768 : Shape := ⟨2, ![16896, 768]⟩
abbrev S16896x8 : Shape := ⟨2, ![16896, 8]⟩
abbrev S16896x3072 : Shape := ⟨2, ![16896, 3072]⟩
abbrev S1x256 : Shape := ⟨2, ![1, 256]⟩
abbrev S1x128 : Shape := ⟨2, ![1, 128]⟩
abbrev S16 : Shape := ⟨1, ![16]⟩
abbrev S1x16 : Shape := ⟨2, ![1, 16]⟩
abbrev S16896x16 : Shape := ⟨2, ![16896, 16]⟩
abbrev S16896x8x1x64 : Shape := ⟨4, ![16896, 8, 1, 64]⟩
abbrev S16896x4x1x64 : Shape := ⟨4, ![16896, 4, 1, 64]⟩
abbrev S16896x4x2x64 : Shape := ⟨4, ![16896, 4, 2, 64]⟩
abbrev S16896x8x2x64 : Shape := ⟨4, ![16896, 8, 2, 64]⟩
abbrev S16896x4x64 : Shape := ⟨3, ![16896, 4, 64]⟩
abbrev S16896x4x128 : Shape := ⟨3, ![16896, 4, 128]⟩
abbrev S16896x160 : Shape := ⟨2, ![16896, 160]⟩

abbrev nBuf : Space → Nat
  | .hbm => 120
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896, .i32⟩
  | .hbm, ⟨2, _⟩ => ⟨S1024, .f32⟩
  | .hbm, ⟨3, _⟩ => ⟨S1024x5868, .f32⟩
  | .hbm, ⟨4, _⟩ => ⟨S256, .f32⟩
  | .hbm, ⟨5, _⟩ => ⟨S128, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S16896x5868, .f32⟩
  | .hbm, ⟨23, _⟩ => ⟨S16896x256, .f32⟩
  | .hbm, ⟨24, _⟩ => ⟨S16896x128, .f32⟩
  | .hbm, ⟨25, _⟩ => ⟨S16896x32, .f32⟩
  | .hbm, ⟨26, _⟩ => ⟨S16896x512, .f32⟩
  | .hbm, ⟨27, _⟩ => ⟨S16896x128, .f32⟩
  | .hbm, ⟨28, _⟩ => ⟨S16896x128, .f32⟩
  | .hbm, ⟨29, _⟩ => ⟨S16896x256, .f32⟩
  | .hbm, ⟨30, _⟩ => ⟨S16896x64, .f32⟩
  | .hbm, ⟨31, _⟩ => ⟨S16896x4, .f32⟩
  | .hbm, ⟨32, _⟩ => ⟨S16896x512, .f32⟩
  | .hbm, ⟨33, _⟩ => ⟨S16896x768, .f32⟩
  | .hbm, ⟨34, _⟩ => ⟨S16896x8, .f32⟩
  | .hbm, ⟨35, _⟩ => ⟨S16896x3072, .f32⟩
  | .hbm, ⟨36, _⟩ => ⟨S16896x256, .f32⟩
  | .hbm, ⟨37, _⟩ => ⟨S_, .f32⟩
  | .hbm, ⟨38, _⟩ => ⟨S16896, .f32⟩
  | .hbm, ⟨39, _⟩ => ⟨S16896x1, .f32⟩
  | .hbm, ⟨40, _⟩ => ⟨S_, .f32⟩
  | .hbm, ⟨41, _⟩ => ⟨S16896x1, .f32⟩
  | .hbm, ⟨42, _⟩ => ⟨S16896x1, .f32⟩
  | .hbm, ⟨43, _⟩ => ⟨S_, .f32⟩
  | .hbm, ⟨44, _⟩ => ⟨S16896x1, .f32⟩
  | .hbm, ⟨45, _⟩ => ⟨S16896x1, .f32⟩
  | .hbm, ⟨46, _⟩ => ⟨S16896x1, .f32⟩
  | .hbm, ⟨47, _⟩ => ⟨S16896x256, .f32⟩
  | .hbm, ⟨48, _⟩ => ⟨S16896x256, .f32⟩
  | .hbm, ⟨49, _⟩ => ⟨S1x256, .f32⟩
  | .hbm, ⟨50, _⟩ => ⟨S16896x256, .f32⟩
  | .hbm, ⟨51, _⟩ => ⟨S16896x256, .f32⟩
  | .hbm, ⟨52, _⟩ => ⟨S16896x128, .f32⟩
  | .hbm, ⟨53, _⟩ => ⟨S_, .f32⟩
  | .hbm, ⟨54, _⟩ => ⟨S16896, .f32⟩
  | .hbm, ⟨55, _⟩ => ⟨S16896x1, .f32⟩
  | .hbm, ⟨56, _⟩ => ⟨S_, .f32⟩
  | .hbm, ⟨57, _⟩ => ⟨S16896x1, .f32⟩
  | .hbm, ⟨58, _⟩ => ⟨S16896x1, .f32⟩
  | .hbm, ⟨59, _⟩ => ⟨S_, .f32⟩
  | .hbm, ⟨60, _⟩ => ⟨S16896x1, .f32⟩
  | .hbm, ⟨61, _⟩ => ⟨S16896x1, .f32⟩
  | .hbm, ⟨62, _⟩ => ⟨S16896x1, .f32⟩
  | .hbm, ⟨63, _⟩ => ⟨S16896x128, .f32⟩
  | .hbm, ⟨64, _⟩ => ⟨S16896x128, .f32⟩
  | .hbm, ⟨65, _⟩ => ⟨S1x128, .f32⟩
  | .hbm, ⟨66, _⟩ => ⟨S16896x128, .f32⟩
  | .hbm, ⟨67, _⟩ => ⟨S16896x128, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16896, .f32⟩
  | .hbm, ⟨77, _⟩ => ⟨S16896x1, .f32⟩
  | .hbm, ⟨78, _⟩ => ⟨S1x16, .f32⟩
  | .hbm, ⟨79, _⟩ => ⟨S16896x16, .f32⟩
  | .hbm, ⟨80, _⟩ => ⟨S16896x16, .f32⟩
  | .hbm, ⟨81, _⟩ => ⟨S16896x16, .f32⟩
  | .hbm, ⟨82, _⟩ => ⟨S16896x16, .f32⟩
  | .hbm, ⟨83, _⟩ => ⟨S16896x16, .f32⟩
  | .hbm, ⟨84, _⟩ => ⟨S16896x16, .f32⟩
  | .hbm, ⟨85, _⟩ => ⟨S16896x16, .f32⟩
  | .hbm, ⟨86, _⟩ => ⟨S16896x16, .f32⟩
  | .hbm, ⟨87, _⟩ => ⟨S16896x16, .f32⟩
  | .hbm, ⟨88, _⟩ => ⟨S16896x16, .f32⟩
  | .hbm, ⟨89, _⟩ => ⟨S16896x16, .f32⟩
  | .hbm, ⟨90, _⟩ => ⟨S16896x16, .f32⟩
  | .hbm, ⟨91, _⟩ => ⟨S16896x16, .f32⟩
  | .hbm, ⟨92, _⟩ => ⟨S16896x32, .f32⟩
  | .hbm, ⟨93, _⟩ => ⟨S_, .f32⟩
  | .hbm, ⟨94, _⟩ => ⟨S16896x4, .f32⟩
  | .hbm, ⟨95, _⟩ => ⟨S16896x4, .f32⟩
  | .hbm, ⟨96, _⟩ => ⟨S16896x8x1x64, .f32⟩
  | .hbm, ⟨97, _⟩ => ⟨S16896x4x1x64, .f32⟩
  | .hbm, ⟨98, _⟩ => ⟨S_, .i32⟩
  | .hbm, ⟨99, _⟩ => ⟨S_, .f32⟩
  | .hbm, ⟨100, _⟩ => ⟨S16896x4x2x64, .f32⟩
  | .hbm, ⟨101, _⟩ => ⟨S16896x4x1x64, .f32⟩
  | .hbm, ⟨102, _⟩ => ⟨S_, .i32⟩
  | .hbm, ⟨103, _⟩ => ⟨S_, .f32⟩
  | .hbm, ⟨104, _⟩ => ⟨S16896x4x2x64, .f32⟩
  | .hbm, ⟨105, _⟩ => ⟨S16896x8x2x64, .f32⟩
  | .hbm, ⟨106, _⟩ => ⟨S16896x1024, .f32⟩
  | .hbm, ⟨107, _⟩ => ⟨S16896x4x64, .f32⟩
  | .hbm, ⟨108, _⟩ => ⟨S_, .i32⟩
  | .hbm, ⟨109, _⟩ => ⟨S_, .f32⟩
  | .hbm, ⟨110, _⟩ => ⟨S16896x4x128, .f32⟩
  | .hbm, ⟨111, _⟩ => ⟨S16896x512, .f32⟩
  | .hbm, ⟨112, _⟩ => ⟨S16896x160, .f32⟩
  | .hbm, ⟨113, _⟩ => ⟨S_, .i32⟩
  | .hbm, ⟨114, _⟩ => ⟨S_, .f32⟩
  | .hbm, ⟨115, _⟩ => ⟨S16896x256, .f32⟩
  | .hbm, ⟨116, _⟩ => ⟨S16896x1024, .bf16⟩
  | .hbm, ⟨117, _⟩ => ⟨S16896x256, .bf16⟩
  | .hbm, ⟨118, _⟩ => ⟨S16896x512, .bf16⟩
  | .hbm, ⟨119, _⟩ => ⟨S16896x256, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c : Ref sig .tc := ⟨.hbm, 98, rfl⟩
abbrev main_call0_v0 : Ref sig .tc := ⟨.hbm, 99, rfl⟩
abbrev main_v80 : Ref sig .tc := ⟨.hbm, 100, rfl⟩
abbrev main_v81 : Ref sig .tc := ⟨.hbm, 101, rfl⟩
abbrev main_c_11 : Ref sig .tc := ⟨.hbm, 102, rfl⟩
abbrev main_call1_v0 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_12 : Ref sig .tc := ⟨.hbm, 108, rfl⟩
abbrev main_call2_v0 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_13 : Ref sig .tc := ⟨.hbm, 113, rfl⟩
abbrev main_call3_v0 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩

abbrev nD : Nat := 1
abbrev τ : Topo := Topo.v7x

variable {F : FTy → Type} [FloatOps F]
-- ==== Kernel6.lean ====
abbrev S512x512 : Shape := ⟨2, ![512, 512]⟩
abbrev S512x768 : Shape := ⟨2, ![512, 768]⟩
abbrev S512x8 : Shape := ⟨2, ![512, 8]⟩
abbrev S128x3x768 : Shape := ⟨3, ![128, 3, 768]⟩
abbrev S128x8x64x64 : Shape := ⟨4, ![128, 8, 64, 64]⟩
abbrev S4x768 : Shape := ⟨2, ![4, 768]⟩
abbrev S768 : Shape := ⟨1, ![768]⟩
abbrev S8 : Shape := ⟨1, ![8]⟩
abbrev S512 : Shape := ⟨1, ![512]⟩
abbrev S128x4x512 : Shape := ⟨3, ![128, 4, 512]⟩
abbrev S_ : Shape := ⟨0, ![]⟩
abbrev S128x8x512 : Shape := ⟨3, ![128, 8, 512]⟩
abbrev S1024x512 : Shape := ⟨2, ![1024, 512]⟩
abbrev S128x4x768 : Shape := ⟨3, ![128, 4, 768]⟩
abbrev S128x8x768 : Shape := ⟨3, ![128, 8, 768]⟩
abbrev S1024x768 : Shape := ⟨2, ![1024, 768]⟩
abbrev S128x4x8 : Shape := ⟨3, ![128, 4, 8]⟩
abbrev S128x8x8 : Shape := ⟨3, ![128, 8, 8]⟩
abbrev S1024x8 : Shape := ⟨2, ![1024, 8]⟩
abbrev S1x768 : Shape := ⟨2, ![1, 768]⟩
abbrev S1x8 : Shape := ⟨2, ![1, 8]⟩
abbrev S1x512 : Shape := ⟨2, ![1, 512]⟩
abbrev S8x512 : Shape := ⟨2, ![8, 512]⟩
abbrev S8x768 : Shape := ⟨2, ![8, 768]⟩
abbrev S8x8 : Shape := ⟨2, ![8, 8]⟩
abbrev S1x3x768 : Shape := ⟨3, ![1, 3, 768]⟩
abbrev S1x8x64x64 : Shape := ⟨4, ![1, 8, 64, 64]⟩
abbrev S16x768 : Shape := ⟨2, ![16, 768]⟩
abbrev S8x64x64 : Shape := ⟨3, ![8, 64, 64]⟩
abbrev S3x768 : Shape := ⟨2, ![3, 768]⟩
abbrev S8x128 : Shape := ⟨2, ![8, 128]⟩
abbrev S8x64 : Shape := ⟨2, ![8, 64]⟩
abbrev S8x1 : Shape := ⟨2, ![8, 1]⟩
abbrev S1x64x64 : Shape := ⟨3, ![1, 64, 64]⟩
abbrev S64x64 : Shape := ⟨2, ![64, 64]⟩
abbrev S1x1 : Shape := ⟨2, ![1, 1]⟩

abbrev nBuf : Space → Nat
  | .hbm => 34
  | .vmem => 25
  | .smem => 0
  | _ => 0

abbrev bufTy : (tb : Table) → Fin (tcTables nBuf tb) → BufTy
  | .hbm, ⟨0, _⟩ => ⟨S512x512, .f32⟩
  | .hbm, ⟨1, _⟩ => ⟨S512x768, .f32⟩
  | .hbm, ⟨2, _⟩ => ⟨S512x8, .f32⟩
  | .hbm, ⟨3, _⟩ => ⟨S128x3x768, .f32⟩
  | .hbm, ⟨4, _⟩ => ⟨S128x8x64x64, .f32⟩
  | .hbm, ⟨5, _⟩ => ⟨S4x768, .f32⟩
  | .hbm, ⟨6, _⟩ => ⟨S768, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S512, .f32⟩
  | .hbm, ⟨11, _⟩ => ⟨S128x4x512, .f32⟩
  | .hbm, ⟨12, _⟩ => ⟨S_, .i32⟩
  | .hbm, ⟨13, _⟩ => ⟨S_, .f32⟩
  | .hbm, ⟨14, _⟩ => ⟨S128x8x512, .f32⟩
  | .hbm, ⟨15, _⟩ => ⟨S1024x512, .f32⟩
  | .hbm, ⟨16, _⟩ => ⟨S128x4x768, .f32⟩
  | .hbm, ⟨17, _⟩ => ⟨S_, .i32⟩
  | .hbm, ⟨18, _⟩ => ⟨S_, .f32⟩
  | .hbm, ⟨19, _⟩ => ⟨S128x8x768, .f32⟩
  | .hbm, ⟨20, _⟩ => ⟨S1024x768, .f32⟩
  | .hbm, ⟨21, _⟩ => ⟨S128x4x8, .f32⟩
  | .hbm, ⟨22, _⟩ => ⟨S_, .i32⟩
  | .hbm, ⟨23, _⟩ => ⟨S_, .f32⟩
  | .hbm, ⟨24, _⟩ => ⟨S128x8x8, .f32⟩
  | .hbm, ⟨25, _⟩ => ⟨S1024x8, .f32⟩
  | .hbm, ⟨26, _⟩ => ⟨S1x768, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S1x512, .f32⟩
  | .hbm, ⟨31, _⟩ => ⟨S1024x512, .bf16⟩
  | .hbm, ⟨32, _⟩ => ⟨S128x3x768, .f32⟩
  | .hbm, ⟨33, _⟩ => ⟨S128x8x64x64, .f32⟩
  | .local _ .vmem, ⟨0, _⟩ => ⟨S8x512, .f32⟩
  | .local _ .vmem, ⟨1, _⟩ => ⟨S8x512, .f32⟩
  | .local _ .vmem, ⟨2, _⟩ => ⟨S8x768, .f32⟩
  | .local _ .vmem, ⟨3, _⟩ => ⟨S8x768, .f32⟩
  | .local _ .vmem, ⟨4, _⟩ => ⟨S8x8, .f32⟩
  | .local _ .vmem, ⟨5, _⟩ => ⟨S8x8, .f32⟩
  | .local _ .vmem, ⟨6, _⟩ => ⟨S1x3x768, .f32⟩
  | .local _ .vmem, ⟨7, _⟩ => ⟨S1x3x768, .f32⟩
  | .local _ .vmem, ⟨8, _⟩ => ⟨S1x8x64x64, .f32⟩
  | .local _ .vmem, ⟨9, _⟩ => ⟨S1x8x64x64, .f32⟩
  | .local _ .vmem, ⟨10, _⟩ => ⟨S4x768, .f32⟩
  | .local _ .vmem, ⟨11, _⟩ => ⟨S1x768, .f32⟩
  | .local _ .vmem, ⟨12, _⟩ => ⟨S1x8, .f32⟩
  | .local _ .vmem, ⟨13, _⟩ => ⟨S1x8, .f32⟩
  | .local _ .vmem, ⟨14, _⟩ => ⟨S1x8, .f32⟩
  | .local _ .vmem, ⟨15, _⟩ => ⟨S1x512, .f32⟩
  | .local _ .vmem, ⟨16, _⟩ => ⟨S8x512, .bf16⟩
  | .local _ .vmem, ⟨17, _⟩ => ⟨S8x512, .bf16⟩
  | .local _ .vmem, ⟨18, _⟩ => ⟨S1x3x768, .f32⟩
  | .local _ .vmem, ⟨19, _⟩ => ⟨S1x3x768, .f32⟩
  | .local _ .vmem, ⟨20, _⟩ => ⟨S1x8x64x64, .f32⟩
  | .local _ .vmem, ⟨21, _⟩ => ⟨S1x8x64x64, .f32⟩
  | .local _ .vmem, ⟨22, _⟩ => ⟨S16x768, .f32⟩
  | .local _ .vmem, ⟨23, _⟩ => ⟨S8x64x64, .f32⟩
  | .local _ .vmem, ⟨24, _⟩ => ⟨S8x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference6Ideal.lean ====
abbrev S512x512 : Shape := ⟨2, ![512, 512]⟩
abbrev S512x768 : Shape := ⟨2, ![512, 768]⟩
abbrev S512x8 : Shape := ⟨2, ![512, 8]⟩
abbrev S128x3x768 : Shape := ⟨3, ![128, 3, 768]⟩
abbrev S128x8x64x64 : Shape := ⟨4, ![128, 8, 64, 64]⟩
abbrev S4x768 : Shape := ⟨2, ![4, 768]⟩
abbrev S768 : Shape := ⟨1, ![768]⟩
abbrev S8 : Shape := ⟨1, ![8]⟩
abbrev S512 : Shape := ⟨1, ![512]⟩
abbrev S128x4x768 : Shape := ⟨3, ![128, 4, 768]⟩
abbrev S128x7x768 : Shape := ⟨3, ![128, 7, 768]⟩
abbrev S1x768 : Shape := ⟨2, ![1, 768]⟩
abbrev S1x1x768 : Shape := ⟨3, ![1, 1, 768]⟩
abbrev S_ : Shape := ⟨0, ![]⟩
abbrev S128x4x512 : Shape := ⟨3, ![128, 4, 512]⟩
abbrev S128x4x8x64 : Shape := ⟨4, ![128, 4, 8, 64]⟩
abbrev S128x4x64 : Shape := ⟨3, ![128, 4, 64]⟩
abbrev S128x4x1x64 : Shape := ⟨4, ![128, 4, 1, 64]⟩
abbrev S128x4x4x64 : Shape := ⟨4, ![128, 4, 4, 64]⟩
abbrev S128x4x8 : Shape := ⟨3, ![128, 4, 8]⟩
abbrev S1x1x8 : Shape := ⟨3, ![1, 1, 8]⟩
abbrev S4x4 : Shape := ⟨2, ![4, 4]⟩
abbrev S1x4x4x1 : Shape := ⟨4, ![1, 4, 4, 1]⟩
abbrev S128x1x4x8 : Shape := ⟨4, ![128, 1, 4, 8]⟩
abbrev S128x4x4x8 : Shape := ⟨4, ![128, 4, 4, 8]⟩
abbrev S128x1x8 : Shape := ⟨3, ![128, 1, 8]⟩
abbrev S128x8 : Shape := ⟨2, ![128, 8]⟩
abbrev S128x4x8x1 : Shape := ⟨4, ![128, 4, 8, 1]⟩
abbrev S128x8x1x1 : Shape := ⟨4, ![128, 8, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x768, .f32⟩
  | .hbm, ⟨2, _⟩ => ⟨S512x8, .f32⟩
  | .hbm, ⟨3, _⟩ => ⟨S128x3x768, .f32⟩
  | .hbm, ⟨4, _⟩ => ⟨S128x8x64x64, .f32⟩
  | .hbm, ⟨5, _⟩ => ⟨S4x768, .f32⟩
  | .hbm, ⟨6, _⟩ => ⟨S768, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S512, .f32⟩
  | .hbm, ⟨11, _⟩ => ⟨S128x4x768, .f32⟩
  | .hbm, ⟨12, _⟩ => ⟨S128x7x768, .f32⟩
  | .hbm, ⟨13, _⟩ => ⟨S128x4x768, .f32⟩
  | .hbm, ⟨14, _⟩ => ⟨S1x768, .f32⟩
  | .hbm, ⟨15, _⟩ => ⟨S768, .f32⟩
  | .hbm, ⟨16, _⟩ => ⟨S1x1x768, .f32⟩
  | .hbm, ⟨17, _⟩ => ⟨S128x4x768, .f32⟩
  | .hbm, ⟨18, _⟩ => ⟨S128x4x768, .f32⟩
  | .hbm, ⟨19, _⟩ => ⟨S1x1x768, .f32⟩
  | .hbm, ⟨20, _⟩ => ⟨S128x4x768, .f32⟩
  | .hbm, ⟨21, _⟩ => ⟨S128x4x768, .f32⟩
  | .hbm, ⟨22, _⟩ => ⟨S128x4x768, .f32⟩
  | .hbm, ⟨23, _⟩ => ⟨S1x768, .f32⟩
  | .hbm, ⟨24, _⟩ => ⟨S768, .f32⟩
  | .hbm, ⟨25, _⟩ => ⟨S1x1x768, .f32⟩
  | .hbm, ⟨26, _⟩ => ⟨S128x4x768, .f32⟩
  | .hbm, ⟨27, _⟩ => ⟨S128x4x768, .f32⟩
  | .hbm, ⟨28, _⟩ => ⟨S128x4x768, .f32⟩
  | .hbm, ⟨29, _⟩ => ⟨S128x4x768, .f32⟩
  | .hbm, ⟨30, _⟩ => ⟨S1x768, .f32⟩
  | .hbm, ⟨31, _⟩ => ⟨S768, .f32⟩
  | .hbm, ⟨32, _⟩ => ⟨S1x1x768, .f32⟩
  | .hbm, ⟨33, _⟩ => ⟨S128x4x768, .f32⟩
  | .hbm, ⟨34, _⟩ => ⟨S128x4x768, .f32⟩
  | .hbm, ⟨35, _⟩ => ⟨S128x4x768, .f32⟩
  | .hbm, ⟨36, _⟩ => ⟨S128x4x768, .f32⟩
  | .hbm, ⟨37, _⟩ => ⟨S1x768, .f32⟩
  | .hbm, ⟨38, _⟩ => ⟨S768, .f32⟩
  | .hbm, ⟨39, _⟩ => ⟨S1x1x768, .f32⟩
  | .hbm, ⟨40, _⟩ => ⟨S128x4x768, .f32⟩
  | .hbm, ⟨41, _⟩ => ⟨S128x4x768, .f32⟩
  | .hbm, ⟨42, _⟩ => ⟨S128x4x768, .f32⟩
  | .hbm, ⟨43, _⟩ => ⟨S128x4x768, .f32⟩
  | .hbm, ⟨44, _⟩ => ⟨S128x4x768, .f32⟩
  | .hbm, ⟨45, _⟩ => ⟨S_, .f32⟩
  | .hbm, ⟨46, _⟩ => ⟨S128x4x768, .f32⟩
  | .hbm, ⟨47, _⟩ => ⟨S128x4x768, .f32⟩
  | .hbm, ⟨48, _⟩ => ⟨S_, .f32⟩
  | .hbm, ⟨49, _⟩ => ⟨S128x4x768, .f32⟩
  | .hbm, ⟨50, _⟩ => ⟨S128x4x768, .f32⟩
  | .hbm, ⟨51, _⟩ => ⟨S128x4x768, .f32⟩
  | .hbm, ⟨52, _⟩ => ⟨S128x4x512, .f32⟩
  | .hbm, ⟨53, _⟩ => ⟨S128x4x8x64, .f32⟩
  | .hbm, ⟨54, _⟩ => ⟨S128x4x64, .f32⟩
  | .hbm, ⟨55, _⟩ => ⟨S128x4x1x64, .f32⟩
  | .hbm, ⟨56, _⟩ => ⟨S128x4x4x64, .f32⟩
  | .hbm, ⟨57, _⟩ => ⟨S128x4x64, .f32⟩
  | .hbm, ⟨58, _⟩ => ⟨S128x4x1x64, .f32⟩
  | .hbm, ⟨59, _⟩ => ⟨S128x4x4x64, .f32⟩
  | .hbm, ⟨60, _⟩ => ⟨S128x4x8x64, .f32⟩
  | .hbm, ⟨61, _⟩ => ⟨S128x4x8, .f32⟩
  | .hbm, ⟨62, _⟩ => ⟨S1x1x8, .f32⟩
  | .hbm, ⟨63, _⟩ => ⟨S128x4x8, .f32⟩
  | .hbm, ⟨64, _⟩ => ⟨S128x4x8, .f32⟩
  | .hbm, ⟨65, _⟩ => ⟨S_, .f32⟩
  | .hbm, ⟨66, _⟩ => ⟨S128x4x8, .f32⟩
  | .hbm, ⟨67, _⟩ => ⟨S128x4x8, .f32⟩
  | .hbm, ⟨68, _⟩ => ⟨S128x4x8, .f32⟩
  | .hbm, ⟨69, _⟩ => ⟨S128x4x8, .f32⟩
  | .hbm, ⟨70, _⟩ => ⟨S128x4x8, .i1⟩
  | .hbm, ⟨71, _⟩ => ⟨S128x4x8, .f32⟩
  | .hbm, ⟨72, _⟩ => ⟨S128x4x8, .f32⟩
  | .hbm, ⟨73, _⟩ => ⟨S128x4x8, .f32⟩
  | .hbm, ⟨74, _⟩ => ⟨S128x4x8, .f32⟩
  | .hbm, ⟨75, _⟩ => ⟨S128x4x8, .f32⟩
  | .hbm, ⟨76, _⟩ => ⟨S128x4x8, .f32⟩
  | .hbm, ⟨77, _⟩ => ⟨S128x4x8, .f32⟩
  | .hbm, ⟨78, _⟩ => ⟨S128x4x8, .f32⟩
  | .hbm, ⟨79, _⟩ => ⟨S8, .f32⟩
  | .hbm, ⟨80, _⟩ => ⟨S8, .f32⟩
  | .hbm, ⟨81, _⟩ => ⟨S1x1x8, .f32⟩
  | .hbm, ⟨82, _⟩ => ⟨S128x4x8, .f32⟩
  | .hbm, ⟨83, _⟩ => ⟨S128x4x8, .f32⟩
  | .hbm, ⟨84, _⟩ => ⟨S_, .i1⟩
  | .hbm, ⟨85, _⟩ => ⟨S4x4, .i1⟩
  | .hbm, ⟨86, _⟩ => ⟨S4x4, .i32⟩
  | .hbm, ⟨87, _⟩ => ⟨S_, .i32⟩
  | .hbm, ⟨88, _⟩ => ⟨S4x4, .i32⟩
  | .hbm, ⟨89, _⟩ => ⟨S4x4, .i32⟩
  | .hbm, ⟨90, _⟩ => ⟨S4x4, .i32⟩
  | .hbm, ⟨91, _⟩ => ⟨S4x4, .i1⟩
  | .hbm, ⟨92, _⟩ => ⟨S_, .i1⟩
  | .hbm, ⟨93, _⟩ => ⟨S4x4, .i1⟩
  | .hbm, ⟨94, _⟩ => ⟨S4x4, .i1⟩
  | .hbm, ⟨95, _⟩ => ⟨S1x4x4x1, .i1⟩
  | .hbm, ⟨96, _⟩ => ⟨S128x1x4x8, .f32⟩
  | .hbm, ⟨97, _⟩ => ⟨S_, .f32⟩
  | .hbm, ⟨98, _⟩ => ⟨S_, .f32⟩
  | .hbm, ⟨99, _⟩ => ⟨S128x4x4x8, .i1⟩
  | .hbm, ⟨100, _⟩ => ⟨S128x4x4x8, .f32⟩
  | .hbm, ⟨101, _⟩ => ⟨S128x4x4x8, .f32⟩
  | .hbm, ⟨102, _⟩ => ⟨S128x4x4x8, .f32⟩
  | .hbm, ⟨103, _⟩ => ⟨S_, .f32⟩
  | .hbm, ⟨104, _⟩ => ⟨S128x4x8, .f32⟩
  | .hbm, ⟨105, _⟩ => ⟨S128x1x8, .f32⟩
  | .hbm, ⟨106, _⟩ => ⟨S128x8, .f32⟩
  | .hbm, ⟨107, _⟩ => ⟨S128x1x8, .f32⟩
  | .hbm, ⟨108, _⟩ => ⟨S128x4x8, .f32⟩
  | .hbm, ⟨109, _⟩ => ⟨S128x4x8, .f32⟩
  | .hbm, ⟨110, _⟩ => ⟨S128x4x8, .f32⟩
  | .hbm, ⟨111, _⟩ => ⟨S128x4x8x1, .f32⟩
  | .hbm, ⟨112, _⟩ => ⟨S128x4x8x64, .f32⟩
  | .hbm, ⟨113, _⟩ => ⟨S128x4x8x64, .f32⟩
  | .hbm, ⟨114, _⟩ => ⟨S128x4x8x1, .f32⟩
  | .hbm, ⟨115, _⟩ => ⟨S128x4x8x64, .f32⟩
  | .hbm, ⟨116, _⟩ => ⟨S128x4x8x64, .f32⟩
  | .hbm, ⟨117, _⟩ => ⟨S128x8x64x64, .f32⟩
  | .hbm, ⟨118, _⟩ => ⟨S128x3x768, .f32⟩
  | .hbm, ⟨119, _⟩ => ⟨S128x8, .f32⟩
  | .hbm, ⟨120, _⟩ => ⟨S128x8x1x1, .f32⟩
  | .hbm, ⟨121, _⟩ => ⟨S128x8x64x64, .f32⟩
  | .hbm, ⟨122, _⟩ => ⟨S128x8x64x64, .f32⟩
  | .hbm, ⟨123, _⟩ => ⟨S128x8x64x64, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c : Ref sig .tc := ⟨.hbm, 84, rfl⟩
abbrev main_v52 : Ref sig .tc := ⟨.hbm, 85, rfl⟩
abbrev main_call2_v0 : Ref sig .tc := ⟨.hbm, 86, rfl⟩
abbrev main_call2_c : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_0 : Ref sig .tc := ⟨.hbm, 92, rfl⟩
abbrev main_call2_v5 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_v56 : Ref sig .tc := ⟨.hbm, 102, rfl⟩
abbrev main_cst_0 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩

abbrev nD : Nat := 1
abbrev τ : Topo := Topo.v7x

variable {F : FTy → Type} [FloatOps F]
-- ==== Kernel7.lean ====
abbrev S16896x256 : Shape := ⟨2, ![16896, 256]⟩
abbrev S16896 : Shape := ⟨1, ![16896]⟩
abbrev S256x8x128 : Shape := ⟨3, ![256, 8, 128]⟩
abbrev S256x768 : Shape := ⟨2, ![256, 768]⟩
abbrev S256x8x96 : Shape := ⟨3, ![256, 8, 96]⟩
abbrev S256x8x32 : Shape := ⟨3, ![256, 8, 32]⟩
abbrev S_ : Shape := ⟨0, ![]⟩
abbrev S256x8x256 : Shape := ⟨3, ![256, 8, 256]⟩
abbrev S256x2048 : Shape := ⟨2, ![256, 2048]⟩
abbrev S256x8x16 : Shape := ⟨3, ![256, 8, 16]⟩
abbrev S256x1024 : Shape := ⟨2, ![256, 1024]⟩
abbrev S16 : Shape := ⟨1, ![16]⟩
abbrev S16896x1 : Shape := ⟨2, ![16896, 1]⟩
abbrev S1x16 : Shape := ⟨2, ![1, 16]⟩
abbrev S16896x16 : Shape := ⟨2, ![16896, 16]⟩
abbrev S16896x96 : Shape := ⟨2, ![16896, 96]⟩
abbrev S16896x128 : Shape := ⟨2, ![16896, 128]⟩
abbrev S16896x2048 : Shape := ⟨2, ![16896, 2048]⟩
abbrev S512x256 : Shape := ⟨2, ![512, 256]⟩
abbrev S512x128 : Shape := ⟨2, ![512, 128]⟩
abbrev S512x2048 : Shape := ⟨2, ![512, 2048]⟩
abbrev S512x1024 : Shape := ⟨2, ![512, 1024]⟩

abbrev nBuf : Space → Nat
  | .hbm => 43
  | .vmem => 10
  | .smem => 0
  | _ => 0

abbrev bufTy : (tb : Table) → Fin (tcTables nBuf tb) → BufTy
  | .hbm, ⟨0, _⟩ => ⟨S16896x256, .bf16⟩
  | .hbm, ⟨1, _⟩ => ⟨S16896, .i32⟩
  | .hbm, ⟨2, _⟩ => ⟨S256x8x128, .f32⟩
  | .hbm, ⟨3, _⟩ => ⟨S256x768, .f32⟩
  | .hbm, ⟨4, _⟩ => ⟨S256x8x96, .f32⟩
  | .hbm, ⟨5, _⟩ => ⟨S256x8x32, .f32⟩
  | .hbm, ⟨6, _⟩ => ⟨S_, .f32⟩
  | .hbm, ⟨7, _⟩ => ⟨S256x8x96, .f32⟩
  | .hbm, ⟨8, _⟩ => ⟨S256x8x256, .f32⟩
  | .hbm, ⟨9, _⟩ => ⟨S256x2048, .f32⟩
  | .hbm, ⟨10, _⟩ => ⟨S256x8x16, .f32⟩
  | .hbm, ⟨11, _⟩ => ⟨S256x8x16, .f32⟩
  | .hbm, ⟨12, _⟩ => ⟨S256x8x16, .f32⟩
  | .hbm, ⟨13, _⟩ => ⟨S256x8x32, .f32⟩
  | .hbm, ⟨14, _⟩ => ⟨S_, .i32⟩
  | .hbm, ⟨15, _⟩ => ⟨S_, .f32⟩
  | .hbm, ⟨16, _⟩ => ⟨S256x8x128, .f32⟩
  | .hbm, ⟨17, _⟩ => ⟨S256x1024, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16896, .f32⟩
  | .hbm, ⟨27, _⟩ => ⟨S16896x1, .f32⟩
  | .hbm, ⟨28, _⟩ => ⟨S1x16, .f32⟩
  | .hbm, ⟨29, _⟩ => ⟨S16896x16, .f32⟩
  | .hbm, ⟨30, _⟩ => ⟨S16896x16, .f32⟩
  | .hbm, ⟨31, _⟩ => ⟨S16896x16, .f32⟩
  | .hbm, ⟨32, _⟩ => ⟨S_, .f32⟩
  | .hbm, ⟨33, _⟩ => ⟨S16896x96, .f32⟩
  | .hbm, ⟨34, _⟩ => ⟨S16896x16, .f32⟩
  | .hbm, ⟨35, _⟩ => ⟨S16896x16, .f32⟩
  | .hbm, ⟨36, _⟩ => ⟨S16896x128, .f32⟩
  | .hbm, ⟨37, _⟩ => ⟨S16896x16, .f32⟩
  | .hbm, ⟨38, _⟩ => ⟨S16896x16, .f32⟩
  | .hbm, ⟨39, _⟩ => ⟨S16896x128, .f32⟩
  | .hbm, ⟨40, _⟩ => ⟨S256x2048, .bf16⟩
  | .hbm, ⟨41, _⟩ => ⟨S256x1024, .bf16⟩
  | .hbm, ⟨42, _⟩ => ⟨S16896x2048, .bf16⟩
  | .local _ .vmem, ⟨0, _⟩ => ⟨S512x256, .bf16⟩
  | .local _ .vmem, ⟨1, _⟩ => ⟨S512x256, .bf16⟩
  | .local _ .vmem, ⟨2, _⟩ => ⟨S256x2048, .bf16⟩
  | .local _ .vmem, ⟨3, _⟩ => ⟨S256x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | _, _ => ⟨S16896x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16896x256 : Shape := ⟨2, ![16896, 256]⟩
abbrev S16896 : Shape := ⟨1, ![16896]⟩
abbrev S256x8x128 : Shape := ⟨3, ![256, 8, 128]⟩
abbrev S256x768 : Shape := ⟨2, ![256, 768]⟩
abbrev S16896x8x128 : Shape := ⟨3, ![16896, 8, 128]⟩
abbrev S16896x768 : Shape := ⟨2, ![16896, 768]⟩
abbrev S16896x8x96 : Shape := ⟨3, ![16896, 8, 96]⟩
abbrev S16896x8x32 : Shape := ⟨3, ![16896, 8, 32]⟩
abbrev S16 : Shape := ⟨1, ![16]⟩
abbrev S_ : Shape := ⟨0, ![]⟩
abbrev S16896x1 : Shape := ⟨2, ![16896, 1]⟩
abbrev S1x16 : Shape := ⟨2, ![1, 16]⟩
abbrev S16896x16 : Shape := ⟨2, ![16896, 16]⟩
abbrev S16896x1x16 : Shape := ⟨3, ![16896, 1, 16]⟩
abbrev S16896x8x16 : Shape := ⟨3, ![16896, 8, 16]⟩
abbrev S16896x8x160 : Shape := ⟨3, ![16896, 8, 160]⟩
abbrev S16896x8x256 : Shape := ⟨3, ![16896, 8, 256]⟩
abbrev S16896x2048 : Shape := ⟨2, ![16896, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16896x256, .bf16⟩
  | .hbm, ⟨1, _⟩ => ⟨S16896, .i32⟩
  | .hbm, ⟨2, _⟩ => ⟨S256x8x128, .f32⟩
  | .hbm, ⟨3, _⟩ => ⟨S256x768, .f32⟩
  | .hbm, ⟨4, _⟩ => ⟨S16896x256, .f32⟩
  | .hbm, ⟨5, _⟩ => ⟨S16896x8x128, .f32⟩
  | .hbm, ⟨6, _⟩ => ⟨S16896x768, .f32⟩
  | .hbm, ⟨7, _⟩ => ⟨S16896x8x96, .f32⟩
  | .hbm, ⟨8, _⟩ => ⟨S16896x8x32, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16896, .f32⟩
  | .hbm, ⟨18, _⟩ => ⟨S16896x1, .f32⟩
  | .hbm, ⟨19, _⟩ => ⟨S1x16, .f32⟩
  | .hbm, ⟨20, _⟩ => ⟨S16896x16, .f32⟩
  | .hbm, ⟨21, _⟩ => ⟨S16896x16, .f32⟩
  | .hbm, ⟨22, _⟩ => ⟨S16896x16, .f32⟩
  | .hbm, ⟨23, _⟩ => ⟨S16896x16, .f32⟩
  | .hbm, ⟨24, _⟩ => ⟨S16896x1x16, .f32⟩
  | .hbm, ⟨25, _⟩ => ⟨S16896x16, .f32⟩
  | .hbm, ⟨26, _⟩ => ⟨S16896x1x16, .f32⟩
  | .hbm, ⟨27, _⟩ => ⟨S16896x8x16, .f32⟩
  | .hbm, ⟨28, _⟩ => ⟨S16896x8x16, .f32⟩
  | .hbm, ⟨29, _⟩ => ⟨S16896x8x16, .f32⟩
  | .hbm, ⟨30, _⟩ => ⟨S16896x8x16, .f32⟩
  | .hbm, ⟨31, _⟩ => ⟨S16896x8x16, .f32⟩
  | .hbm, ⟨32, _⟩ => ⟨S16896x8x16, .f32⟩
  | .hbm, ⟨33, _⟩ => ⟨S16896x8x16, .f32⟩
  | .hbm, ⟨34, _⟩ => ⟨S16896x8x16, .f32⟩
  | .hbm, ⟨35, _⟩ => ⟨S16896x8x16, .f32⟩
  | .hbm, ⟨36, _⟩ => ⟨S16896x8x16, .f32⟩
  | .hbm, ⟨37, _⟩ => ⟨S16896x8x16, .f32⟩
  | .hbm, ⟨38, _⟩ => ⟨S16896x8x16, .f32⟩
  | .hbm, ⟨39, _⟩ => ⟨S16896x8x32, .f32⟩
  | .hbm, ⟨40, _⟩ => ⟨S16896x8x160, .f32⟩
  | .hbm, ⟨41, _⟩ => ⟨S_, .i32⟩
  | .hbm, ⟨42, _⟩ => ⟨S_, .f32⟩
  | .hbm, ⟨43, _⟩ => ⟨S16896x8x256, .f32⟩
  | .hbm, ⟨44, _⟩ => ⟨S16896x2048, .f32⟩
  | .hbm, ⟨45, _⟩ => ⟨S16896x2048, .bf16⟩
  | _, _ => ⟨S16896x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c : Ref sig .tc := ⟨.hbm, 41, rfl⟩
abbrev main_call0_v0 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Proof.Frames.lean ====
/- The frames of the attention's programs, and the one named constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Mla

/-- The kernel as the machine runs it. -/
theorem frame_p : Cert.quiescent_Kernel := fun m ρ _ => Cert.Kernel.Gen.frame m ρ

/-- The kernel over the extended reals. -/
theorem frame_pi : Cert.quiescent_KernelIdeal := fun m ρ _ => Cert.KernelIdeal.Gen.frame m ρ

/-- The reference runs and leaves its arguments. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's literal is named −∞. -/
theorem preserves : Cert.preserves_Kernel_KernelIdeal :=
  IdealRules.named_const.statement Cert.KernelIdeal.κ "mask" .f32 0xF149F2CA#32 ⊥ rfl

end Cert.Proof.Mla

end
-- ==== Proof.Softmax.lean ====
/- The running softmax over the extended reals: the greatest score, the sum of the exponentials and the weighted sum
   of the values over the keys below `n`, and how a block of 128 more keys carries them on. -/
module

public import Idealize.ShloMosaic.PureOps.Ideal

@[expose] public section

noncomputable section

open Idealize.ShloMosaic

namespace Cert.Proof.Softmax

/-- The greatest score of the keys below `n`. -/
def top (s : ℕ → EReal) (n : ℕ) : EReal := (Finset.range n).sup s

/-- The sum of the exponentials of the keys below `n`, from their greatest score. -/
def mass (s : ℕ → EReal) (n : ℕ) : EReal := ∑ k ∈ Finset.range n, Ideal.exp (s k - top s n)

/-- The sum of the values of the keys below `n`, each with its exponential. -/
def wsum (s v : ℕ → EReal) (n : ℕ) : EReal := ∑ k ∈ Finset.range n, Ideal.exp (s k - top s n) * v k

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem bot_sub (x : EReal) : (⊥ : EReal) - x = ⊥ := by rw [sub_eq_add_neg, EReal.bot_add]

/-- A difference of two scores that are not +∞, the first the smaller, is not +∞ under the exponential. -/
theorem exp_sub_ne_top {x m : EReal} (hx : x ≤ m) (hm : m ≠ ⊤) : Ideal.exp (x - m) ≠ ⊤ := by
  apply exp_ne_top
  induction m with
  | bot => rw [le_bot_iff.1 hx, bot_sub]; exact bot_ne_top
  | top => exact absurd rfl hm
  | coe r =>
    induction x with
    | bot => rw [bot_sub]; exact bot_ne_top
    | top => exact absurd hx (by simp)
    | coe y => rw [← EReal.coe_sub]; exact EReal.coe_ne_top _

/-- Moving an exponential from one greatest score to a greater one. -/
theorem exp_shift {x m m' : EReal} (hx : x ≤ m) (hm : m ≤ m') (hm' : m' ≠ ⊤) :
    Ideal.exp (m - m') * Ideal.exp (x - m) = Ideal.exp (x - m') := by
  induction m with
  | bot => rw [le_bot_iff.1 hx, bot_sub, bot_sub, Ideal.exp_bot, mul_zero]
  | top => exact absurd (top_le_iff.1 hm) hm'
  | coe r =>
    induction x with
    | top => exact absurd hx (by simp)
    | bot => rw [bot_sub, bot_sub, Ideal.exp_bot, mul_zero]
    | coe y =>
      induction m' with
      | bot => exact absurd hm (by simp)
      | top => exact absurd rfl hm'
      | coe z =>
        rw [← EReal.coe_sub, ← EReal.coe_sub, ← EReal.coe_sub, Ideal.exp_coe, Ideal.exp_coe, Ideal.exp_coe,
          ← EReal.coe_mul, ← Real.exp_add]
        congr 2; ring

/-- A nonnegative finite factor goes into a sum. -/
theorem mul_sum {ι : Type} (a : EReal) (h0 : 0 ≤ a) (ht : a ≠ ⊤) (S : Finset ι) (f : ι → EReal) :
    a * ∑ k ∈ S, f k = ∑ k ∈ S, a * f k := by
  classical
  induction S using Finset.induction_on with
  | empty => simp
  | insert k S hk ih =>
    rw [Finset.sum_insert hk, Finset.sum_insert hk, EReal.left_distrib_of_nonneg_of_ne_top h0 ht, ih]

theorem le_top (s : ℕ → EReal) {n k : ℕ} (h : k < n) : s k ≤ top s n := Finset.le_sup (Finset.mem_range.2 h)

theorem top_mono (s : ℕ → EReal) {n n' : ℕ} (h : n ≤ n') : top s n ≤ top s n' :=
  Finset.sup_mono (Finset.range_mono h)

theorem top_ne_top {s : ℕ → EReal} (hs : ∀ k, s k ≠ ⊤) (n : ℕ) : top s n ≠ ⊤ := by
  have h : top s n < ⊤ := (Finset.sup_lt_iff (by simp)).2 fun k _ => lt_top_iff_ne_top.2 (hs k)
  exact h.ne

theorem top_zero (s : ℕ → EReal) : top s 0 = ⊥ := by simp [top]
theorem mass_zero (s : ℕ → EReal) : mass s 0 = 0 := by simp [mass]
theorem wsum_zero (s v : ℕ → EReal) : wsum s v 0 = 0 := by simp [wsum]

theorem sup_fin (s : ℕ → EReal) (n b : ℕ) :
    (Finset.range (n + b)).sup s = max (top s n) (Finset.univ.sup fun j : Fin b => s (n + j)) := by
  apply le_antisymm
  · refine Finset.sup_le fun k hk => ?_
    rcases Nat.lt_or_ge k n with h | h
    · exact le_max_of_le_left (le_top s h)
    · refine le_max_of_le_right ?_
      have hk' := Finset.mem_range.1 hk
      have := Finset.le_sup (f := fun j : Fin b => s (n + j)) (Finset.mem_univ (⟨k - n, by omega⟩ : Fin b))
      simpa [Nat.add_sub_cancel' h] using this
  · refine max_le (top_mono s (Nat.le_add_right n b)) (Finset.sup_le fun j _ => le_top s (by omega))

theorem top_step (s : ℕ → EReal) (n b : ℕ) :
    top s (n + b) = max (top s n) (Finset.univ.sup fun j : Fin b => s (n + j)) := sup_fin s n b

theorem sum_step (f : ℕ → EReal) (n b : ℕ) :
    ∑ k ∈ Finset.range (n + b), f k = ∑ k ∈ Finset.range n, f k + ∑ j : Fin b, f (n + j) := by
  rw [Finset.sum_range_add, Finset.sum_range (fun j => f (n + j))]

theorem mass_step {s : ℕ → EReal} (hs : ∀ k, s k ≠ ⊤) (n b : ℕ) :
    mass s (n + b) = Ideal.exp (top s n - top s (n + b)) * mass s n
      + ∑ j : Fin b, Ideal.exp (s (n + j) - top s (n + b)) := by
  have hle := top_mono s (Nat.le_add_right n b)
  rw [mass, sum_step, mass, mul_sum _ (exp_nonneg _) (exp_sub_ne_top hle (top_ne_top hs _))]
  congr 1
  exact Finset.sum_congr rfl fun k hk =>
    (exp_shift (le_top s (Finset.mem_range.1 hk)) hle (top_ne_top hs _)).symm

theorem wsum_step {s : ℕ → EReal} (hs : ∀ k, s k ≠ ⊤) (v : ℕ → EReal) (n b : ℕ) :
    wsum s v (n + b) = Ideal.exp (top s n - top s (n + b)) * wsum s v n
      + ∑ j : Fin b, Ideal.exp (s (n + j) - top s (n + b)) * v (n + j) := by
  have hle := top_mono s (Nat.le_add_right n b)
  rw [wsum, sum_step (fun k => Ideal.exp (s k - top s (n + b)) * v k), wsum,
    mul_sum _ (exp_nonneg _) (exp_sub_ne_top hle (top_ne_top hs _))]
  congr 1
  refine Finset.sum_congr rfl fun k hk => ?_
  rw [← mul_assoc, exp_shift (le_top s (Finset.mem_range.1 hk)) hle (top_ne_top hs _)]

/-- Scores agreeing below `n` have the same sums. -/
theorem top_congr {s s' : ℕ → EReal} {n : ℕ} (h : ∀ k, k < n → s k = s' k) : top s n = top s' n :=
  Finset.sup_congr rfl fun k hk => h k (Finset.mem_range.1 hk)

/-- Keys masked to −∞ add nothing: the sums to `N` are those to `n`. -/
theorem top_tail {s : ℕ → EReal} {n N : ℕ} (hN : n ≤ N) (h : ∀ k, n ≤ k → k < N → s k = ⊥) : top s N = top s n := by
  apply le_antisymm
  · refine Finset.sup_le fun k hk => ?_
    rcases Nat.lt_or_ge k n with h' | h'
    · exact le_top s h'
    · rw [h k h' (Finset.mem_range.1 hk)]; exact bot_le
  · exact top_mono s hN

theorem mass_tail {s : ℕ → EReal} {n N : ℕ} (hN : n ≤ N) (h : ∀ k, n ≤ k → k < N → s k = ⊥) : mass s N = mass s n := by
  obtain ⟨b, rfl⟩ := Nat.exists_eq_add_of_le hN
  rw [mass, sum_step, top_tail hN h, mass, Finset.sum_eq_zero (s := Finset.univ), add_zero]
  intro j _
  rw [h (n + j) (by omega) (by omega), bot_sub, Ideal.exp_bot]

theorem wsum_tail {s : ℕ → EReal} (v : ℕ → EReal) {n N : ℕ} (hN : n ≤ N) (h : ∀ k, n ≤ k → k < N → s k = ⊥) :
    wsum s v N = wsum s v n := by
  obtain ⟨b, rfl⟩ := Nat.exists_eq_add_of_le hN
  rw [wsum, sum_step (fun k => Ideal.exp (s k - top s (n + b)) * v k), top_tail hN h, wsum,
    Finset.sum_eq_zero (s := Finset.univ), add_zero]
  intro j _
  rw [h (n + j) (by omega) (by omega), bot_sub, Ideal.exp_bot, zero_mul]

theorem coe_sum {ι : Type} (S : Finset ι) (f : ι → ℝ) : ((∑ k ∈ S, f k : ℝ) : EReal) = ∑ k ∈ S, (f k : EReal) := by
  classical
  induction S using Finset.induction_on with
  | empty => simp
  | insert k S hk ih => rw [Finset.sum_insert hk, Finset.sum_insert hk, EReal.coe_add, ih]

/-- Where some score is a real number, the sum of the exponentials is a positive real. -/
theorem mass_pos {s : ℕ → EReal} (hs : ∀ k, s k ≠ ⊤) {n k : ℕ} (hk : k < n) (hb : s k ≠ ⊥) :
    ∃ r : ℝ, 0 < r ∧ mass s n = (r : EReal) := by
  have ht : top s n ≠ ⊤ := top_ne_top hs n
  have hbt : top s n ≠ ⊥ := fun h => hb (le_bot_iff.1 (h ▸ le_top s hk))
  lift top s n to ℝ using ⟨ht, hbt⟩ with m hm
  have hfin : ∀ j ∈ Finset.range n, ∃ r : ℝ, 0 ≤ r ∧ Ideal.exp (s j - (m : EReal)) = (r : EReal) := by
    intro j hj
    rcases eq_or_ne (s j) ⊥ with h | h
    · exact ⟨0, le_rfl, by rw [h, bot_sub, Ideal.exp_bot]; rfl⟩
    · lift s j to ℝ using ⟨hs j, h⟩ with y
      exact ⟨Real.exp (y - m), (Real.exp_pos _).le, by rw [← EReal.coe_sub, Ideal.exp_coe]⟩
  choose! g hg using hfin
  have hsum : mass s n = ((∑ j ∈ Finset.range n, g j : ℝ) : EReal) := by
    rw [mass, ← hm, coe_sum]
    exact Finset.sum_congr rfl fun j hj => (hg j hj).2
  refine ⟨_, ?_, hsum⟩
  refine Finset.sum_pos' (fun j hj => (hg j hj).1) ⟨k, Finset.mem_range.2 hk, ?_⟩
  have h1 := (hg k (Finset.mem_range.2 hk)).2
  lift s k to ℝ using ⟨hs k, hb⟩ with y
  rw [← EReal.coe_sub, Ideal.exp_coe] at h1
  rw [← EReal.coe_injective h1]; exact Real.exp_pos _

/-- Dividing the weighted sum by the sum of the exponentials divides each weight. -/
theorem wsum_div {s : ℕ → EReal} (hs : ∀ k, s k ≠ ⊤) (v : ℕ → EReal) {n k : ℕ} (hk : k < n) (hb : s k ≠ ⊥) :
    Ideal.div (wsum s v n) (mass s n)
      = ∑ j ∈ Finset.range n, v j * Ideal.div (Ideal.exp (s j - top s n)) (mass s n) := by
  obtain ⟨r, hr, h⟩ := mass_pos hs hk hb
  have hr0 : (0 : EReal) ≤ ((1 / r : ℝ) : EReal) := by exact_mod_cast (by positivity : 0 ≤ 1 / r)
  rw [h, Ideal.div_coe hr.ne', wsum, mul_comm, mul_sum _ hr0 (EReal.coe_ne_top _)]
  refine Finset.sum_congr rfl fun j _ => ?_
  rw [Ideal.div_coe hr.ne', ← mul_assoc, mul_comm (v j), mul_comm ((1 / r : ℝ) : EReal)]

end Cert.Proof.Softmax

end
-- ==== Proof.Scores.lean ====
/- The masked scores of one query as a sequence over the keys, on plain arrays, and what the reference reads. -/
module

public import proofs.«01_k».proof.Proof.Gen.ReferenceIdeal.Run
public import proofs.«01_k».proof.Proof.Softmax
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.ReferenceIdeal Cert.ReferenceIdeal.Gen

namespace Cert.Proof.Mla

section Plain
variable (q : S16896x2048.Idx → EReal) (kv : S16896x256.Idx → EReal)

/-- The scaled score of query row `r` (a row of sequence `r / 4096`), head `h`, and key `s` of the same sequence. -/
def rawScore (r : Fin 16384) (h : Fin 8) (s : Fin 4096) : EReal :=
  ((∑ c : Fin 128, kv (ix2 ⟨r.val / 4096 * 4096 + s.val, by omega⟩ ⟨c.val, by omega⟩) * q (ix2 ⟨r.val, by omega⟩ ⟨h.val * 256 + c.val, by omega⟩))
    + ∑ c : Fin 32, kv (ix2 ⟨r.val / 4096 * 4096 + s.val, by omega⟩ ⟨128 + c.val, by omega⟩) * q (ix2 ⟨r.val, by omega⟩ ⟨h.val * 256 + (128 + c.val), by omega⟩))
    * Ideal.ofBits .f32 0x3DD105EC#32

/-- The score of a key not later than the query; −∞ otherwise. -/
def seqScore (r : Fin 16384) (h : Fin 8) (k : ℕ) : EReal :=
  if hk : k < 4096 then (if k ≤ r.val % 4096 then rawScore q kv r h ⟨k, hk⟩ else ⊥) else ⊥

/-- Latent channel `c` of key `k` of row `r`'s sequence. -/
def seqValue (r : Fin 16384) (c : Fin 128) (k : ℕ) : EReal :=
  if hk : k < 4096 then kv (ix2 ⟨r.val / 4096 * 4096 + k, by omega⟩ ⟨c.val, by omega⟩) else 0

/-- The attention of row `r`, head `h`, column `x`: the weights of the column over the latent channels, each the
    softmax-weighted sum of the keys' channel. -/
def attend (w : S128x1024.Idx → EReal) (r : Fin 16384) (h : Fin 8) (x : Fin 64) : EReal :=
  ∑ c : Fin 128, w (ix2 c ⟨h.val * 128 + (64 + x.val), by omega⟩)
    * ∑ k ∈ Finset.range 4096, seqValue kv r c k
        * Ideal.div (Ideal.exp (seqScore q kv r h k - Softmax.top (seqScore q kv r h) 4096)) (Softmax.mass (seqScore q kv r h) 4096)

/-- The same with the keys of the sequence as indices. -/
def attendFin (w : S128x1024.Idx → EReal) (r : Fin 16384) (h : Fin 8) (x : Fin 64) : EReal :=
  ∑ c : Fin 128, w (ix2 c ⟨h.val * 128 + (64 + x.val), by omega⟩)
    * ∑ k : Fin 4096, kv (ix2 ⟨r.val / 4096 * 4096 + k.val, by omega⟩ ⟨c.val, by omega⟩)
        * Ideal.div (Ideal.exp ((if k.val ≤ r.val % 4096 then rawScore q kv r h k else ⊥)
              - Finset.univ.fold max ⊥ fun s : Fin 4096 => if s.val ≤ r.val % 4096 then rawScore q kv r h s else ⊥))
            (∑ j : Fin 4096, Ideal.exp ((if j.val ≤ r.val % 4096 then rawScore q kv r h j else ⊥)
              - Finset.univ.fold max ⊥ fun s : Fin 4096 => if s.val ≤ r.val % 4096 then rawScore q kv r h s else ⊥))

theorem seqScore_fin (r : Fin 16384) (h : Fin 8) (k : Fin 4096) :
    seqScore q kv r h k.val = if k.val ≤ r.val % 4096 then rawScore q kv r h k else ⊥ := dif_pos k.isLt

end Plain

theorem sup_range {n : ℕ} (f : ℕ → EReal) : (Finset.range n).sup f = Finset.univ.sup fun k : Fin n => f k.val := by
  apply le_antisymm
  · exact Finset.sup_le fun k hk => Finset.le_sup (f := fun k : Fin n => f k.val) (b := ⟨k, Finset.mem_range.mp hk⟩) (Finset.mem_univ _)
  · exact Finset.sup_le fun k _ => Finset.le_sup (f := f) (Finset.mem_range.mpr k.isLt)

theorem attendFin_eq (q : S16896x2048.Idx → EReal) (kv : S16896x256.Idx → EReal) (w : S128x1024.Idx → EReal) (r : Fin 16384) (h : Fin 8)
    (x : Fin 64) : attendFin q kv w r h x = attend q kv w r h x := by
  have ht : (Finset.univ.fold max ⊥ fun s : Fin 4096 => if s.val ≤ r.val % 4096 then rawScore q kv r h s else ⊥)
      = Softmax.top (seqScore q kv r h) 4096 := by
    refine Eq.trans ?_ (sup_range _).symm
    exact congrArg (Finset.univ.fold max ⊥) (funext fun s => (seqScore_fin q kv r h s).symm)
  have hm : (∑ j : Fin 4096, Ideal.exp ((if j.val ≤ r.val % 4096 then rawScore q kv r h j else ⊥) - Softmax.top (seqScore q kv r h) 4096))
      = Softmax.mass (seqScore q kv r h) 4096 := by
    refine Eq.trans ?_ (Finset.sum_range _).symm
    exact Finset.sum_congr rfl fun j _ => by rw [seqScore_fin]
  unfold attendFin attend
  rw [ht, hm]
  refine Finset.sum_congr rfl fun c _ => congrArg _ ?_
  rw [Finset.sum_range]
  refine Finset.sum_congr rfl fun k _ => ?_
  rw [seqScore_fin, seqValue, dif_pos k.isLt]

theorem bits_neg_inf : Ideal.ofBits .f32 0xFF800000#32 = ⊥ := by simp [Ideal.ofBits, Ideal.ieee]

/-- The reference's masked scores. -/
def maskedS (q : FVec Ideal S16896x2048 .bf16) (kv : FVec Ideal S16896x256 .bf16) : FVec Ideal S4x8x4096x4096 .f32 :=
  (select (broadcastInDim S4x8x4096x4096 ![2, 3] bcast_S4096x4096_S4x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (mulf (addf (transpose S4x8x4096x4096 [0, 3, 2, 1] (Host.dotGeneral dot_S4x4096x128_S4x4096x8x128_S4x4096x4096x8_2_3_1_12_0_0 none (extractStridedSlice S4x4096x128 ![0, 0, 0] (shapeCast _ (extractStridedSlice S16384x256 ![0, 0] (extf .f32 kv bitsLt_bf16_f32) slices_S16896x256_S16384x256_0_0) shapeCasts_S16384x256_S4x4096x256) slices_S4x4096x256_S4x4096x128_0_0_0) (extractStridedSlice S4x4096x8x128 ![0, 0, 0, 0] (shapeCast _ (extractStridedSlice S16384x2048 ![0, 0] (extf .f32 q bitsLt_bf16_f32) slices_S16896x2048_S16384x2048_0_0) shapeCasts_S16384x2048_S4x4096x8x256) slices_S4x4096x8x256_S4x4096x8x128_0_0_0_0)) transposes_S4x4096x4096x8_S4x8x4096x4096_0_3_2_1) (transpose S4x8x4096x4096 [0, 3, 2, 1] (Host.dotGeneral dot_S4x4096x32_S4x4096x8x32_S4x4096x4096x8_2_3_1_12_0_0 none (extractStridedSlice S4x4096x32 ![0, 0, 128] (shapeCast _ (extractStridedSlice S16384x256 ![0, 0] (extf .f32 kv bitsLt_bf16_f32) slices_S16896x256_S16384x256_0_0) shapeCasts_S16384x256_S4x4096x256) slices_S4x4096x256_S4x4096x32_0_0_128) (extractStridedSlice S4x4096x8x32 ![0, 0, 0, 128] (shapeCast _ (extractStridedSlice S16384x2048 ![0, 0] (extf .f32 q bitsLt_bf16_f32) slices_S16896x2048_S16384x2048_0_0) shapeCasts_S16384x2048_S4x4096x8x256) slices_S4x4096x8x256_S4x4096x8x32_0_0_0_128)) transposes_S4x4096x4096x8_S4x8x4096x4096_0_3_2_1)) (broadcastInDim S4x8x4096x4096 ![] bcast_S_S4x8x4096x4096 (constant S_ .f32 0x3DD105EC#32))) (broadcastInDim S4x8x4096x4096 ![] bcast_S_S4x8x4096x4096 (id (constant S_ .f32 0xFF800000#32))))

/-- The greatest score of each query and head. -/
def greatestS (S : FVec Ideal S4x8x4096x4096 .f32) : FVec Ideal S4x8x4096 .f32 :=
  Host.reduce FloatOps.maximumf S (constant S_ .f32 0xFF800000#32) reducesTo_S4x8x4096x4096_S4x8x4096_d3 h_S_

/-- The exponentials of the scores from the greatest. -/
def expS (S : FVec Ideal S4x8x4096x4096 .f32) (M : FVec Ideal S4x8x4096 .f32) : FVec Ideal S4x8x4096x4096 .f32 :=
  Host.exp (subf S (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) M))))

/-- The sum of each query's and head's exponentials. -/
def sumS (E : FVec Ideal S4x8x4096x4096 .f32) : FVec Ideal S4x8x4096 .f32 :=
  Host.reduceAdd E (constant S_ .f32 0x00000000#32) reducesTo_S4x8x4096x4096_S4x8x4096_d3 h_S_

/-- The exponentials over their sums. -/
def shareS (E : FVec Ideal S4x8x4096x4096 .f32) (D : FVec Ideal S4x8x4096 .f32) : FVec Ideal S4x8x4096x4096 .f32 :=
  Host.divf E (broadcastInDim S4x8x4096x4096 ![0, 1, 2, 3] bcast_S4x8x4096x1_S4x8x4096x4096_0_1_2_3 (broadcastInDim S4x8x4096x1 ![0, 1, 2] bcast_S4x8x4096_S4x8x4096x1_0_1_2 D))

/-- The reference's softmax of an array of scores. -/
def softmaxS (S : FVec Ideal S4x8x4096x4096 .f32) : FVec Ideal S4x8x4096x4096 .f32 :=
  shareS (expS S (greatestS S)) (sumS (expS S (greatestS S)))

/-- The reference's result from the attention weights. -/
def resultS (P : FVec Ideal S4x8x4096x4096 .f32) (kv : FVec Ideal S16896x256 .bf16) (w : FVec Ideal S128x1024 .f32) : FVec Ideal S16384x512 .bf16 :=
  truncf .bf16 (shapeCast _ (transpose S4x4096x8x64 [2, 3, 0, 1] (Host.dotGeneral dot_S128x8x64_S4x4096x8x128_S8x64x4x4096_0_3_2_01_1_2 none (extractStridedSlice S128x8x64 ![0, 0, 64] (shapeCast _ w shapeCasts_S128x1024_S128x8x128) slices_S128x8x128_S128x8x64_0_0_64) (transpose S4x4096x8x128 [0, 3, 2, 1] (Host.dotGeneral dot_S4x4096x128_S4x8x4096x4096_S4x128x8x4096_1_3_2_12_0_0 none (extractStridedSlice S4x4096x128 ![0, 0, 0] (shapeCast _ (extractStridedSlice S16384x256 ![0, 0] (extf .f32 kv bitsLt_bf16_f32) slices_S16896x256_S16384x256_0_0) shapeCasts_S16384x256_S4x4096x256) slices_S4x4096x256_S4x4096x128_0_0_0) P) transposes_S4x128x8x4096_S4x4096x8x128_0_3_2_1)) transposes_S8x64x4x4096_S4x4096x8x64_2_3_0_1) shapeCasts_S4x4096x8x64_S16384x512) bitsLt_bf16_f32

theorem maskedS_apply (q : FVec Ideal S16896x2048 .bf16) (kv : FVec Ideal S16896x256 .bf16) (b : Fin 4) (h : Fin 8) (t s : Fin 4096) :
    maskedS q kv (ix4 b h t s) = if s.val ≤ t.val then
      ((∑ c : Fin 128, (kv (ix2 ⟨b.val * 4096 + s.val, by omega⟩ ⟨c.val, by omega⟩) : EReal) * q (ix2 ⟨b.val * 4096 + t.val, by omega⟩ ⟨h.val * 256 + c.val, by omega⟩))
        + ∑ c : Fin 32, kv (ix2 ⟨b.val * 4096 + s.val, by omega⟩ ⟨128 + c.val, by omega⟩) * q (ix2 ⟨b.val * 4096 + t.val, by omega⟩ ⟨h.val * 256 + (128 + c.val), by omega⟩))
        * Ideal.ofBits .f32 0x3DD105EC#32 else ⊥ := by
  pointwise [maskedS]
  have hm : IntOp.cmpi .sge (BitVec.ofNat 32 t.val) (BitVec.ofNat 32 s.val) = BitVec.ofBool (decide (s.val ≤ t.val)) := by
    have := s.isLt
    have := t.isLt
    exact WordCmp.cmpi_sge_ofNat (by omega) (by omega)
  have hn : (id (constant (F := Ideal) S_ .f32 0xFF800000#32) ix0 : EReal) = ⊥ := bits_neg_inf
  rw [hm, WordCmp.select_ofBool, hn]
  simp only [decide_eq_true_eq]

section Rows
variable {n0 n1 n2 n3 : ℕ} {u : Shape}

/-- A host maximum over the last of four axes. -/
theorem reduce_max_last (S : FVec Ideal ⟨4, ![n0, n1, n2, n3]⟩ .f32) (init : u.Idx → Ideal .f32)
    (hr : (⟨4, ![n0, n1, n2, n3]⟩ : Shape).ReducesTo [3] ⟨3, ![n0, n1, n2]⟩) (hu : 0 < u.numel) (b : Fin n0) (h : Fin n1) (t : Fin n2) :
    Host.reduce FloatOps.maximumf S init hr hu (ix3 b h t)
      = Finset.univ.fold max (init (Shape.Idx.first hu) : EReal) fun j : Fin n3 => (S (ix4 b h t j) : EReal) :=
  (Host.reduce_eq_fold _ _ _ _ _ _).trans (hr.fold_fiber_r4_a3 _ _ _ _)

/-- A host sum over the last of four axes. -/
theorem reduce_add_last (S : FVec Ideal ⟨4, ![n0, n1, n2, n3]⟩ .f32) (init : u.Idx → Ideal .f32)
    (hr : (⟨4, ![n0, n1, n2, n3]⟩ : Shape).ReducesTo [3] ⟨3, ![n0, n1, n2]⟩) (hu : 0 < u.numel) (b : Fin n0) (h : Fin n1) (t : Fin n2) :
    Host.reduceAdd S init hr hu (ix3 b h t)
      = (init (Shape.Idx.first hu) : EReal) + ∑ j : Fin n3, (S (ix4 b h t j) : EReal) :=
  Ideal.hostReduceAdd_r4_a3 hr S _ _

end Rows

theorem greatestS_apply (S : FVec Ideal S4x8x4096x4096 .f32) (b : Fin 4) (h : Fin 8) (t : Fin 4096) :
    greatestS S (ix3 b h t) = Finset.univ.fold max ⊥ fun j : Fin 4096 => (S (ix4 b h t j) : EReal) := by
  unfold greatestS
  refine (reduce_max_last S _ _ _ b h t).trans ?_
  exact congrArg (fun z => Finset.univ.fold max z fun j : Fin 4096 => (S (ix4 b h t j) : EReal)) bits_neg_inf

theorem sumS_apply (E : FVec Ideal S4x8x4096x4096 .f32) (b : Fin 4) (h : Fin 8) (t : Fin 4096) :
    sumS E (ix3 b h t) = ∑ j : Fin 4096, (E (ix4 b h t j) : EReal) := by
  unfold sumS
  refine (reduce_add_last E _ _ _ b h t).trans ?_
  have z : (constant (F := Ideal) S_ .f32 0x00000000#32 (Shape.Idx.first h_S_) : EReal) = 0 := by simp [constant, Ideal.ofBits, Ideal.ieee]
  rw [z, zero_add]

theorem expS_apply (S : FVec Ideal S4x8x4096x4096 .f32) (M : FVec Ideal S4x8x4096 .f32) (b : Fin 4) (h : Fin 8) (t s : Fin 4096) :
    expS S M (ix4 b h t s) = Ideal.exp (S (ix4 b h t s) - M (ix3 b h t)) := by
  pointwise [expS]
  simp only [bits_neg_inf, bot_le, max_eq_right]

theorem shareS_apply (E : FVec Ideal S4x8x4096x4096 .f32) (D : FVec Ideal S4x8x4096 .f32) (b : Fin 4) (h : Fin 8) (t s : Fin 4096) :
    shareS E D (ix4 b h t s) = Ideal.div (E (ix4 b h t s)) (D (ix3 b h t)) := by
  pointwise [shareS]

theorem softmaxS_apply (S : FVec Ideal S4x8x4096x4096 .f32) (b : Fin 4) (h : Fin 8) (t s : Fin 4096) :
    softmaxS S (ix4 b h t s) = Ideal.div (Ideal.exp (S (ix4 b h t s) - Finset.univ.fold max ⊥ fun j : Fin 4096 => (S (ix4 b h t j) : EReal)))
      (∑ i : Fin 4096, Ideal.exp (S (ix4 b h t i) - Finset.univ.fold max ⊥ fun j : Fin 4096 => (S (ix4 b h t j) : EReal))) := by
  unfold softmaxS
  rw [shareS_apply, sumS_apply, expS_apply, greatestS_apply]
  simp only [expS_apply, greatestS_apply]

theorem resultS_apply (P : FVec Ideal S4x8x4096x4096 .f32) (kv : FVec Ideal S16896x256 .bf16) (w : FVec Ideal S128x1024 .f32)
    (r : Fin 16384) (k : Fin 512) :
    resultS P kv w (ix2 r k) = ∑ c : Fin 128, (w (ix2 c ⟨k.val / 64 * 128 + (64 + k.val % 64), by omega⟩) : EReal)
      * ∑ s : Fin 4096, kv (ix2 ⟨r.val / 4096 * 4096 + s.val, by omega⟩ ⟨c.val, by omega⟩)
          * P (ix4 ⟨r.val / 4096, by omega⟩ ⟨k.val / 64, by omega⟩ ⟨r.val % 4096, by omega⟩ s) := by
  pointwise [resultS]

theorem ref_apply (m : (ℓ : Loc nD τ sig) → Buf (Elt Ideal) ℓ) (c : Dev nD) (r : Fin 16384) (k : Fin 512) :
    Cert.ReferenceIdeal.Value.res_main_v42 (F := Ideal) m c (ix2 r k)
      = attend (m (c.tc.loc main_arg0)) (m (c.tc.loc main_arg1)) (m (c.tc.loc main_arg2)) r ⟨k.val / 64, by omega⟩ ⟨k.val % 64, by omega⟩ := by
  have e : Cert.ReferenceIdeal.Value.res_main_v42 (F := Ideal) m c
      = resultS (softmaxS (maskedS (m (c.tc.loc main_arg0)) (m (c.tc.loc main_arg1)))) (m (c.tc.loc main_arg1)) (m (c.tc.loc main_arg2)) := by
    unfold Cert.ReferenceIdeal.Value.res_main_v42 resultS softmaxS shareS sumS expS greatestS maskedS
    rfl
  rw [e, resultS_apply, ← attendFin_eq]
  have hr : r.val / 4096 * 4096 + r.val % 4096 = r.val := by omega
  have hs : ∀ s : Fin 4096, maskedS (m (c.tc.loc main_arg0)) (m (c.tc.loc main_arg1))
      (ix4 ⟨r.val / 4096, by omega⟩ ⟨k.val / 64, by omega⟩ ⟨r.val % 4096, by omega⟩ s)
      = if s.val ≤ r.val % 4096 then rawScore (m (c.tc.loc main_arg0)) (m (c.tc.loc main_arg1)) r ⟨k.val / 64, by omega⟩ s else ⊥ := fun s => by
    rw [maskedS_apply]
    simp only [hr]
    rfl
  unfold attendFin
  simp only [softmaxS_apply, hs]

end Cert.Proof.Mla
end
-- ==== Proof.Steps.lean ====
/- One head's update of the running softmax by a block of 128 keys: the vectors of the kernel, and their values at an
   index. -/
module

public import proofs.«01_k».proof.Proof.Gen.KernelIdeal.Value
public import Idealize.ShloMosaic.Lib.Pipeline.ValueKit
public import Idealize.ShloMosaic.Lib.Pointwise
public import Idealize.ShloMosaic.Lib.WordCmp
public import proofs.«01_k».proof.Proof.Softmax

@[expose] public section

set_option maxRecDepth 16384

noncomputable section

open Idealize.ShloMosaic Idealize.ShloMosaic.TcCoe Idealize.SL.Sem
open Cert.KernelIdeal Cert.KernelIdeal.Gen

namespace Cert.Proof.Mla

section Defs
variable {F : FTy → Type} [FloatOps F] [Named F]

/-- The scores of a block of keys (rows) against a head's queries (columns). -/
def scoreV (kv q : Vec F S128x256 .bf16) : FVec F S128x128 .f32 :=
  mulf (matmul dot_S128x256_S128x256_S128x128_1_1_0_0_n_n none kv q (constant S128x128 .f32 0x00000000#32))
    (broadcast S128x128 (FloatOps.ofBits .f32 0x3DD105EC#32))

/-- The scores of the diagonal block, the later keys masked. -/
def maskV (S : FVec F S128x128 .f32) : FVec F S128x128 .f32 :=
  select k0_pay108 S (broadcast S128x128 (Named.named κ "mask" 0xF149F2CA#32))

def newMax (S : FVec F S128x128 .f32) (m : Vec F S1x128 .f32) : FVec F S1x128 .f32 :=
  maximumf m (shapeCast S1x128
    (multiReduction .maximumf [0] S128 S 0xFF800000#32 reduces_S128x128_S128 (.inl rfl) rfl) shapeCasts_S128_S1x128)

def decayV (S : FVec F S128x128 .f32) (m : Vec F S1x128 .f32) : FVec F S1x128 .f32 := exp (subf m (newMax S m))

def probV (S : FVec F S128x128 .f32) (m : Vec F S1x128 .f32) : FVec F S128x128 .f32 :=
  exp (subf S (broadcastTo S128x128 (newMax S m) broadcasts_S1x128_S128x128))

def newSum (S : FVec F S128x128 .f32) (m l : Vec F S1x128 .f32) : FVec F S1x128 .f32 :=
  addf (mulf (decayV S m) l) (shapeCast S1x128
    (multiReduction .add [0] S128 (probV S m) 0x00000000#32 reduces_S128x128_S128 (.inl rfl) rfl) shapeCasts_S128_S1x128)

/-- The value columns of a block of keys. -/
def valV (kv : Vec F S128x256 .bf16) : FVec F S128x128 .bf16 := k0_pay123 kv

def newAcc (S : FVec F S128x128 .f32) (v : FVec F S128x128 .bf16) (m : Vec F S1x128 .f32) (a : Vec F S1x128x128 .f32) :
    FVec F S1x128x128 .f32 :=
  shapeCast S1x128x128 (addf
    (mulf (broadcastTo S128x128 (decayV S m) broadcasts_S1x128_S128x128)
      (shapeCast S128x128 a shapeCasts_S1x128x128_S128x128))
    (matmul dot_S128x128_S128x128_S128x128_0_0_1_1_n_n none v (truncf .bf16 (probV S m) bitsLt_bf16_f32)
      (constant S128x128 .f32 0x00000000#32))) shapeCasts_S128x128_S1x128x128

end Defs

theorem scoreV_apply (kv q : Vec Ideal S128x256 .bf16) (k l : Fin 128) :
    scoreV (F := Ideal) kv q (ix2 k l)
      = (∑ c : Fin 256, kv (ix2 k c) * q (ix2 l c)) * FloatOps.ofBits (F := Ideal) .f32 0x3DD105EC#32 := by
  pointwise [scoreV]

theorem ofBits_neg_inf : Ideal.ofBits .f32 0xFF800000#32 = ⊥ := by simp [Ideal.ofBits, Ideal.ieee]

theorem newMax_apply (S : FVec Ideal S128x128 .f32) (m : Vec Ideal S1x128 .f32) (z : Fin 1) (l : Fin 128) :
    newMax (F := Ideal) S m (ix2 z l) = max (m (ix2 0 l)) (Finset.univ.sup fun k : Fin 128 => S (ix2 k l)) := by
  obtain rfl := Subsingleton.elim z 0
  pointwise [newMax]
  rw [ofBits_neg_inf]; rfl

theorem decayV_apply (S : FVec Ideal S128x128 .f32) (m : Vec Ideal S1x128 .f32) (z : Fin 1) (l : Fin 128) :
    decayV (F := Ideal) S m (ix2 z l) = Ideal.exp (m (ix2 0 l) - newMax (F := Ideal) S m (ix2 0 l)) := by
  obtain rfl := Subsingleton.elim z 0
  rfl

theorem probV_apply (S : FVec Ideal S128x128 .f32) (m : Vec Ideal S1x128 .f32) (k l : Fin 128) :
    probV (F := Ideal) S m (ix2 k l) = Ideal.exp (S (ix2 k l) - newMax (F := Ideal) S m (ix2 0 l)) := by
  pointwise [probV]

theorem newSum_apply (S : FVec Ideal S128x128 .f32) (m l : Vec Ideal S1x128 .f32) (z : Fin 1) (q : Fin 128) :
    newSum (F := Ideal) S m l (ix2 z q) = decayV (F := Ideal) S m (ix2 0 q) * l (ix2 0 q)
      + ∑ k : Fin 128, probV (F := Ideal) S m (ix2 k q) := by
  obtain rfl := Subsingleton.elim z 0
  pointwise [newSum]

theorem newAcc_apply (S : FVec Ideal S128x128 .f32) (v : FVec Ideal S128x128 .bf16) (m : Vec Ideal S1x128 .f32)
    (a : Vec Ideal S1x128x128 .f32) (z : Fin 1) (x q : Fin 128) :
    newAcc (F := Ideal) S v m a (ix3 z x q) = decayV (F := Ideal) S m (ix2 0 q) * a (ix3 0 x q)
      + ∑ k : Fin 128, v (ix2 k x) * probV (F := Ideal) S m (ix2 k q) := by
  pointwise [newAcc]

theorem valV_apply (kv : Vec Ideal S128x256 .bf16) (k x : Fin 128) :
    valV (F := Ideal) kv (ix2 k x) = kv (ix2 k ⟨x.val, by omega⟩) := by
  pointwise [valV, k0_pay123]

theorem maskV_apply (S : FVec Ideal S128x128 .f32) (k q : Fin 128) :
    maskV (F := Ideal) S (ix2 k q) = if k.val ≤ q.val then S (ix2 k q) else ⊥ := by
  pointwise [maskV, k0_pay108]
  rw [WordCmp.cmpi_sle_ofNat (by omega) (by omega), WordCmp.select_ofBool]
  by_cases h : k.val ≤ q.val
  · simp [h]
  · simp only [h, decide_false, if_false]; rfl

/-- A block of 128 keys carries the running softmax on. -/
theorem block_step {s : ℕ → EReal} (hs : ∀ k, s k ≠ ⊤) (n : ℕ) (q : Fin 128)
    (S : FVec Ideal S128x128 .f32) (hS : ∀ a : Fin 128, S (ix2 a q) = s (n + a))
    (m : Vec Ideal S1x128 .f32) (hm : m (ix2 0 q) = Softmax.top s n) :
    newMax (F := Ideal) S m (ix2 0 q) = Softmax.top s (n + 128)
    ∧ (∀ l : Vec Ideal S1x128 .f32, l (ix2 0 q) = Softmax.mass s n →
        newSum (F := Ideal) S m l (ix2 0 q) = Softmax.mass s (n + 128))
    ∧ ∀ (x : Fin 128) (w : ℕ → EReal) (v : FVec Ideal S128x128 .bf16) (a : Vec Ideal S1x128x128 .f32),
        (∀ k : Fin 128, v (ix2 k x) = w (n + k)) → a (ix3 0 x q) = Softmax.wsum s w n →
        newAcc (F := Ideal) S v m a (ix3 0 x q) = Softmax.wsum s w (n + 128) := by
  have h1 : newMax (F := Ideal) S m (ix2 0 q) = Softmax.top s (n + 128) := by
    rw [newMax_apply, hm, Softmax.top_step]
    simp only [hS]
  refine ⟨h1, fun l hl => ?_, fun x w v a hv ha => ?_⟩
  · rw [newSum_apply, decayV_apply, h1, hm, hl, Softmax.mass_step hs]
    simp only [probV_apply, h1, hS]
  · rw [newAcc_apply, decayV_apply, h1, hm, ha, Softmax.wsum_step hs]
    simp only [probV_apply, h1, hS, hv, mul_comm]

end Cert.Proof.Mla

end
-- ==== Proof.Trip.lean ====
/- What one trip of the key loop writes: per head one row of each running buffer, the update of Steps.lean. -/
module

public import proofs.«01_k».proof.Proof.Steps
public import Idealize.ShloMosaic.Lib.WritesUnit

@[expose] public section

set_option maxRecDepth 16384

noncomputable section

open Idealize.ShloMosaic Idealize.ShloMosaic.TcCoe Idealize.SL.Sem
open Cert.KernelIdeal Cert.KernelIdeal.Gen

namespace Cert.Proof.Mla

theorem rowInb (h : Fin 8) : ∀ a, (![h.val, 0] : Fin 2 → ℕ) a + S1x128.size a ≤ S8x128.size a := by
  revert h; decide
theorem slabInb (h : Fin 8) : ∀ a, (![h.val, 0, 0] : Fin 3 → ℕ) a + S1x128x128.size a ≤ S8x128x128.size a := by
  revert h; decide
theorem headInb (h : Fin 8) : ∀ a, (![0, 256 * h.val] : Fin 2 → ℕ) a + S128x256.size a ≤ S128x2048.size a := by
  revert h; decide

/-- Row `h` of a buffer with one row per head. -/
abbrev rowR (h : Fin 8) : Rect S8x128 := Rect.unit ![h.val, 0] S1x128.size (rowInb h)
/-- Head `h`'s square of the accumulator. -/
abbrev slabR (h : Fin 8) : Rect S8x128x128 := Rect.unit ![h.val, 0, 0] S1x128x128.size (slabInb h)
/-- Head `h`'s columns of the queries. -/
abbrev headR (h : Fin 8) : Rect S128x2048 := Rect.unit ![0, 256 * h.val] S128x256.size (headInb h)

section Lists
variable {Val : EltTy → Type} {e : EltTy} {κ' : Kind} {sp : Space} {sg : RefSig}

/-- One written row per head, head 7 last. -/
abbrev rows8 (W : Fin 8 → S1x128.Idx → Val e) (L : List (View.Piece Val S8x128 e)) : List (View.Piece Val S8x128 e) :=
  ⟨rowR 7, W 7⟩ :: ⟨rowR 6, W 6⟩ :: ⟨rowR 5, W 5⟩ :: ⟨rowR 4, W 4⟩ :: ⟨rowR 3, W 3⟩ :: ⟨rowR 2, W 2⟩ ::
    ⟨rowR 1, W 1⟩ :: ⟨rowR 0, W 0⟩ :: L

abbrev slabs8 (W : Fin 8 → S1x128x128.Idx → Val e) (L : List (View.Piece Val S8x128x128 e)) :
    List (View.Piece Val S8x128x128 e) :=
  ⟨slabR 7, W 7⟩ :: ⟨slabR 6, W 6⟩ :: ⟨slabR 5, W 5⟩ :: ⟨slabR 4, W 4⟩ :: ⟨slabR 3, W 3⟩ :: ⟨slabR 2, W 2⟩ ::
    ⟨slabR 1, W 1⟩ :: ⟨slabR 0, W 0⟩ :: L

variable (v : View sg κ' sp S8x128 e) (f : v.ty.Contents Val)

theorem read_row_same (h : Fin 8) (w : S1x128.Idx → Val e) (L : List (View.Piece Val S8x128 e)) (l : Fin 128) :
    v.read Val (v.writes Val f (⟨rowR h, w⟩ :: L)) (ix2 h l) = w (ix2 0 l) :=
  View.read_writes_cons_unit_of_mem v f (rowInb h) w L (ix2 h l) (ix2 0 l) rfl
    (by intro a; fin_cases a <;> simp [ix2])

theorem read_row_other {h h' : Fin 8} (hne : h ≠ h') (w : S1x128.Idx → Val e) (L : List (View.Piece Val S8x128 e))
    (l : Fin 128) :
    v.read Val (v.writes Val f (⟨rowR h', w⟩ :: L)) (ix2 h l) = v.read Val (v.writes Val f L) (ix2 h l) :=
  View.read_writes_cons_unit_of_not_mem v f (rowInb h') w L (ix2 h l) rfl 0
    (by
      have := Fin.val_ne_of_ne hne
      show h.val < h'.val ∨ h'.val + 1 ≤ h.val
      omega)

theorem read_row_cons (h h' : Fin 8) (w : S1x128.Idx → Val e) (L : List (View.Piece Val S8x128 e)) (l : Fin 128) :
    v.read Val (v.writes Val f (⟨rowR h', w⟩ :: L)) (ix2 h l)
      = if h = h' then w (ix2 0 l) else v.read Val (v.writes Val f L) (ix2 h l) := by
  split_ifs with hh
  · subst hh; exact read_row_same v f h w L l
  · exact read_row_other v f hh w L l

theorem read_rows8 (W : Fin 8 → S1x128.Idx → Val e) (L : List (View.Piece Val S8x128 e)) (h : Fin 8) (l : Fin 128) :
    v.read Val (v.writes Val f (rows8 W L)) (ix2 h l) = W h (ix2 0 l) := by
  simp only [rows8, read_row_cons]
  fin_cases h <;> rfl

variable (u : View sg κ' sp S8x128x128 e) (g : u.ty.Contents Val)

theorem read_slab_same (h : Fin 8) (w : S1x128x128.Idx → Val e) (L : List (View.Piece Val S8x128x128 e))
    (x l : Fin 128) : u.read Val (u.writes Val g (⟨slabR h, w⟩ :: L)) (ix3 h x l) = w (ix3 0 x l) :=
  View.read_writes_cons_unit_of_mem u g (slabInb h) w L (ix3 h x l) (ix3 0 x l) rfl
    (by intro a; fin_cases a <;> simp [ix3])

theorem read_slab_other {h h' : Fin 8} (hne : h ≠ h') (w : S1x128x128.Idx → Val e)
    (L : List (View.Piece Val S8x128x128 e)) (x l : Fin 128) :
    u.read Val (u.writes Val g (⟨slabR h', w⟩ :: L)) (ix3 h x l) = u.read Val (u.writes Val g L) (ix3 h x l) :=
  View.read_writes_cons_unit_of_not_mem u g (slabInb h') w L (ix3 h x l) rfl 0
    (by
      have := Fin.val_ne_of_ne hne
      show h.val < h'.val ∨ h'.val + 1 ≤ h.val
      omega)

theorem read_slab_cons (h h' : Fin 8) (w : S1x128x128.Idx → Val e) (L : List (View.Piece Val S8x128x128 e))
    (x l : Fin 128) :
    u.read Val (u.writes Val g (⟨slabR h', w⟩ :: L)) (ix3 h x l)
      = if h = h' then w (ix3 0 x l) else u.read Val (u.writes Val g L) (ix3 h x l) := by
  split_ifs with hh
  · subst hh; exact read_slab_same u g h w L x l
  · exact read_slab_other u g hh w L x l

theorem read_slabs8 (W : Fin 8 → S1x128x128.Idx → Val e) (L : List (View.Piece Val S8x128x128 e)) (h : Fin 8)
    (x l : Fin 128) : u.read Val (u.writes Val g (slabs8 W L)) (ix3 h x l) = W h (ix3 0 x l) := by
  simp only [slabs8, read_slab_cons]
  fin_cases h <;> rfl

end Lists

variable {F : FTy → Type} [FloatOps F] [Named F]

variable (c : Dev nD) (i : grid0.Coords) (arg2 : Memref sig .tc .vmem S128x2048 .bf16) (harg2 : arg2.IsWhole) (arg3 : Memref sig .tc .vmem S4096x256 .bf16) (harg3 : arg3.IsWhole) (arg4 : Memref sig .tc .vmem S8x64x128 .bf16) (harg4 : arg4.IsWhole) (arg5 : Memref sig .tc .vmem S128x512 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x128 .f32) (harg8 : arg8.IsWhole) (arg9 : Memref sig .tc .vmem S512x128 .f32) (harg9 : arg9.IsWhole)

/-- Head `h`'s row of a running buffer, and its square of the accumulator. -/
abbrev rowOf {arg : Memref sig .tc .vmem S8x128 .f32} (f : BufTy.Contents (Elt F) arg.view.ty) (h : Fin 8) :
    Vec F S1x128 .f32 := View.readAt (Elt F) arg.view (rowR h).toLoadRect f
abbrev slabOf {arg : Memref sig .tc .vmem S8x128x128 .f32} (f : BufTy.Contents (Elt F) arg.view.ty) (h : Fin 8) :
    Vec F S1x128x128 .f32 := View.readAt (Elt F) arg.view (slabR h).toLoadRect f
/-- Head `h`'s queries. -/
abbrev headOf {arg : Memref sig .tc .vmem S128x2048 .bf16} (X : BufTy.Contents (Elt F) arg.view.ty) (h : Fin 8) :
    Vec F S128x256 .bf16 := View.readAt (Elt F) arg.view (headR h).toLoadRect X

variable (X2 : BufTy.Contents (Elt F) arg2.view.ty) (X3 : BufTy.Contents (Elt F) arg3.view.ty)

/-- The keys of trip `k`. -/
abbrev keysOf (k : Fin (k0_t1_loop i).trips) : Vec F S128x256 .bf16 :=
  View.readAt (Elt F) arg3.view (Rect.unit (s := S4096x256) (k0_off1 i k) S128x256.size (k0_off1_inb i k)).toLoadRect X3

/-- The scores of trip `k` for head `h`. -/
abbrev tripS (k : Fin (k0_t1_loop i).trips) (h : Fin 8) : FVec F S128x128 .f32 :=
  scoreV (keysOf i arg3 X3 k) (headOf X2 h)

variable (k : Fin (k0_t1_loop i).trips) (f6 : BufTy.Contents (Elt F) arg6.view.ty)
  (f7 : BufTy.Contents (Elt F) arg7.view.ty) (f8 : BufTy.Contents (Elt F) arg8.view.ty)

theorem trip_max : (trip_k0_t1 (F := F) Variants.none c none i arg2 harg2 arg3 harg3 arg4 harg4 arg5 harg5 arg6 harg6 arg7 harg7 arg8 harg8 arg9 harg9 X2 X3 k).1 f6 f7 f8
    = rows8 (fun h => shapeCast S1x128 (newMax (tripS i arg2 arg3 X2 X3 k h) (rowOf f6 h)) shapeCasts_S1x128_S1x128) [] := by
  unfold trip_k0_t1
  rfl

theorem trip_sum : (trip_k0_t1 (F := F) Variants.none c none i arg2 harg2 arg3 harg3 arg4 harg4 arg5 harg5 arg6 harg6 arg7 harg7 arg8 harg8 arg9 harg9 X2 X3 k).2.1 f6 f7 f8
    = rows8 (fun h => shapeCast S1x128 (newSum (tripS i arg2 arg3 X2 X3 k h) (rowOf f6 h) (rowOf f7 h))
        shapeCasts_S1x128_S1x128) [] := by
  unfold trip_k0_t1
  rfl

theorem trip_acc : (trip_k0_t1 (F := F) Variants.none c none i arg2 harg2 arg3 harg3 arg4 harg4 arg5 harg5 arg6 harg6 arg7 harg7 arg8 harg8 arg9 harg9 X2 X3 k).2.2.1 f6 f7 f8
    = slabs8 (fun h => newAcc (tripS i arg2 arg3 X2 X3 k h) (valV (keysOf i arg3 X3 k)) (rowOf f6 h) (slabOf f8 h)) [] := by
  unfold trip_k0_t1
  rfl

end Cert.Proof.Mla

end
-- ==== Proof.Loop.lean ====
/- The key loop: after `n` trips the three running buffers hold the softmax of the first `128 n` keys. -/
module

public import proofs.«01_k».proof.Proof.Trip

@[expose] public section

set_option maxRecDepth 16384

noncomputable section

open Idealize.ShloMosaic Idealize.ShloMosaic.TcCoe Idealize.SL.Sem
open Cert.KernelIdeal Cert.KernelIdeal.Gen

namespace Cert.Proof.Mla

theorem trips_word : ∀ w : Fin 32, Scf.trips 0#32 (Scalar.addi 0#32 (Scalar.muli (Scalar.divsi
    (Scalar.subi (BitVec.ofNat 32 w.val) 0#32) 1#32) 1#32)) 1#32 = w.val := by decide +kernel

/-- The key loop of a block of queries makes one trip per earlier block. -/
theorem trips_eq (i : grid0.Coords) : (k0_t1_loop i).trips = (i 1).val := trips_word (i 1)

theorem trips2_word : ∀ w : Fin 32, Scf.trips (Scalar.addi 0#32 (Scalar.muli (Scalar.divsi
    (Scalar.subi (BitVec.ofNat 32 w.val) 0#32) 1#32) 1#32))
    (Scalar.addi 0#32 (Scalar.subi (BitVec.ofNat 32 w.val) 0#32)) 1#32 = 0 := by decide +kernel

/-- The remainder loop makes none. -/
theorem trips2_eq (i : grid0.Coords) : (k0_t2_loop i).trips = 0 := trips2_word (i 1)

theorem off1_word : ∀ w : Fin 32, (Scalar.indexCast (Scalar.muli (Scf.iv 0#32 1#32 w.val) 128#32)).toNat = 128 * w.val := by
  decide +kernel

theorem off3_word : ∀ w : Fin 32, (Scalar.indexCast (Scalar.muli (BitVec.ofNat 32 w.val) 128#32)).toNat = 128 * w.val := by
  decide +kernel

theorem off1_eq (i : grid0.Coords) (k : Fin (k0_t1_loop i).trips) : k0_off1 i k = ![128 * k.val, 0] := by
  have h : k.val < 32 := lt_of_lt_of_le k.isLt ((trips_eq i).le.trans (i 1).isLt.le)
  have := off1_word ⟨k.val, h⟩
  unfold k0_off1
  exact congrArg (fun n : ℕ => (![n, 0] : Fin 2 → ℕ)) this

theorem off3_eq (i : grid0.Coords) : k0_off3 i = ![128 * (i 1).val, 0] := by
  have := off3_word (i 1)
  unfold k0_off3
  exact congrArg (fun n : ℕ => (![n, 0] : Fin 2 → ℕ)) this

variable (c : Dev nD) (i : grid0.Coords) (arg2 : Memref sig .tc .vmem S128x2048 .bf16) (harg2 : arg2.IsWhole) (arg3 : Memref sig .tc .vmem S4096x256 .bf16) (harg3 : arg3.IsWhole) (arg4 : Memref sig .tc .vmem S8x64x128 .bf16) (harg4 : arg4.IsWhole) (arg5 : Memref sig .tc .vmem S128x512 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x128 .f32) (harg8 : arg8.IsWhole) (arg9 : Memref sig .tc .vmem S512x128 .f32) (harg9 : arg9.IsWhole)
variable (X2 : BufTy.Contents (Elt Ideal) arg2.view.ty) (X3 : BufTy.Contents (Elt Ideal) arg3.view.ty)
  (G6 : BufTy.Contents (Elt Ideal) arg6.view.ty) (G7 : BufTy.Contents (Elt Ideal) arg7.view.ty)
  (G8 : BufTy.Contents (Elt Ideal) arg8.view.ty)

/-- The contents of the three running buffers are the softmax of the first `n` keys. -/
structure Holds (s : Fin 8 → Fin 128 → ℕ → EReal) (v : Fin 128 → ℕ → EReal) (n : ℕ)
    (f6 : BufTy.Contents (Elt Ideal) arg6.view.ty) (f7 : BufTy.Contents (Elt Ideal) arg7.view.ty)
    (f8 : BufTy.Contents (Elt Ideal) arg8.view.ty) : Prop where
  max : ∀ h l, arg6.view.read (Elt Ideal) f6 (ix2 h l) = Softmax.top (s h l) n
  sum : ∀ h l, arg7.view.read (Elt Ideal) f7 (ix2 h l) = Softmax.mass (s h l) n
  acc : ∀ h x l, arg8.view.read (Elt Ideal) f8 (ix3 h x l) = Softmax.wsum (s h l) (v x) n

variable {arg6 arg7 arg8} in
theorem Holds.row {s v n f6 f7 f8} (H : Holds arg6 arg7 arg8 s v n f6 f7 f8) (h : Fin 8) (l : Fin 128) :
    rowOf f6 h (ix2 0 l) = Softmax.top (s h l) n := by
  rw [← H.max h l]
  refine congrArg (arg6.view.read (Elt Ideal) f6) (funext fun a => Fin.ext ?_)
  fin_cases a <;> simp [ix2]

variable {arg6 arg7 arg8} in
theorem Holds.row' {s v n f6 f7 f8} (H : Holds arg6 arg7 arg8 s v n f6 f7 f8) (h : Fin 8) (l : Fin 128) :
    rowOf f7 h (ix2 0 l) = Softmax.mass (s h l) n := by
  rw [← H.sum h l]
  refine congrArg (arg7.view.read (Elt Ideal) f7) (funext fun a => Fin.ext ?_)
  fin_cases a <;> simp [ix2]

variable {arg6 arg7 arg8} in
theorem Holds.slab {s v n f6 f7 f8} (H : Holds arg6 arg7 arg8 s v n f6 f7 f8) (h : Fin 8) (x l : Fin 128) :
    slabOf f8 h (ix3 0 x l) = Softmax.wsum (s h l) (v x) n := by
  rw [← H.acc h x l]
  refine congrArg (arg8.view.read (Elt Ideal) f8) (funext fun a => Fin.ext ?_)
  fin_cases a <;> simp [ix3]

theorem shapeCast_row (w : FVec Ideal S1x128 .f32) (l : Fin 128) :
    shapeCast S1x128 w shapeCasts_S1x128_S1x128 (ix2 0 l) = w (ix2 0 l) := by pointwise

variable (s : Fin 8 → Fin 128 → ℕ → EReal) (v : Fin 128 → ℕ → EReal) (hs : ∀ h l k, s h l k ≠ ⊤)
  (hS : ∀ (k : Fin (k0_t1_loop i).trips) h (a l : Fin 128),
    tripS i arg2 arg3 X2 X3 k h (ix2 a l) = s h l (128 * k.val + a))
  (hv : ∀ (k : Fin (k0_t1_loop i).trips) (a x : Fin 128),
    valV (F := Ideal) (keysOf i arg3 X3 k) (ix2 a x) = v x (128 * k.val + a))

include hs hS hv in
theorem trip_holds (k : Fin (k0_t1_loop i).trips) {f6 f7 f8} (H : Holds arg6 arg7 arg8 s v (128 * k.val) f6 f7 f8) :
    Holds arg6 arg7 arg8 s v (128 * (k.val + 1))
      (arg6.view.writes (Elt Ideal) f6 ((trip_k0_t1 (F := Ideal) Variants.none c none i arg2 harg2 arg3 harg3 arg4 harg4 arg5 harg5 arg6 harg6 arg7 harg7 arg8 harg8 arg9 harg9 X2 X3 k).1 f6 f7 f8))
      (arg7.view.writes (Elt Ideal) f7 ((trip_k0_t1 (F := Ideal) Variants.none c none i arg2 harg2 arg3 harg3 arg4 harg4 arg5 harg5 arg6 harg6 arg7 harg7 arg8 harg8 arg9 harg9 X2 X3 k).2.1 f6 f7 f8))
      (arg8.view.writes (Elt Ideal) f8 ((trip_k0_t1 (F := Ideal) Variants.none c none i arg2 harg2 arg3 harg3 arg4 harg4 arg5 harg5 arg6 harg6 arg7 harg7 arg8 harg8 arg9 harg9 X2 X3 k).2.2.1 f6 f7 f8)) where
  max h l := by
    rw [trip_max, read_rows8, shapeCast_row]
    exact (block_step (hs h l) _ l _ (hS k h · l) _ (H.row h l)).1
  sum h l := by
    rw [trip_sum, read_rows8, shapeCast_row]
    exact (block_step (hs h l) _ l _ (hS k h · l) _ (H.row h l)).2.1 _ (H.row' h l)
  acc h x l := by
    rw [trip_acc, read_slabs8]
    exact (block_step (hs h l) _ l _ (hS k h · l) _ (H.row h l)).2.2 x _ _ _ (hv k · x) (H.slab h x l)

include hs hS hv in
theorem loop_holds (H : Holds arg6 arg7 arg8 s v 0 G6 G7 G8) : ∀ n, n ≤ (k0_t1_loop i).trips →
    Holds arg6 arg7 arg8 s v (128 * n)
      (arg6.view.writes (Elt Ideal) G6 (pb_k0_t1 (F := Ideal) Variants.none c none i arg2 harg2 arg3 harg3 arg4 harg4 arg5 harg5 arg6 harg6 arg7 harg7 arg8 harg8 arg9 harg9 X2 X3 G6 G7 G8 n).1)
      (arg7.view.writes (Elt Ideal) G7 (pb_k0_t1 (F := Ideal) Variants.none c none i arg2 harg2 arg3 harg3 arg4 harg4 arg5 harg5 arg6 harg6 arg7 harg7 arg8 harg8 arg9 harg9 X2 X3 G6 G7 G8 n).2.1)
      (arg8.view.writes (Elt Ideal) G8 (pb_k0_t1 (F := Ideal) Variants.none c none i arg2 harg2 arg3 harg3 arg4 harg4 arg5 harg5 arg6 harg6 arg7 harg7 arg8 harg8 arg9 harg9 X2 X3 G6 G7 G8 n).2.2)
  | 0, _ => H
  | n + 1, hn => by
    have ih := loop_holds H n (Nat.le_of_succ_le hn)
    have e := pb_k0_t1_succ (F := Ideal) Variants.none c none i arg2 harg2 arg3 harg3 arg4 harg4 arg5 harg5 arg6 harg6 arg7 harg7 arg8 harg8 arg9 harg9 X2 X3 G6 G7 G8 ⟨n, hn⟩
    have e' : pb_k0_t1 (F := Ideal) Variants.none c none i arg2 harg2 arg3 harg3 arg4 harg4 arg5 harg5 arg6 harg6 arg7 harg7 arg8 harg8 arg9 harg9 X2 X3 G6 G7 G8 (n + 1) = _ := e
    rw [e']
    simp only [View.writes_append]
    exact trip_holds c i arg2 harg2 arg3 harg3 arg4 harg4 arg5 harg5 arg6 harg6 arg7 harg7 arg8 harg8 arg9 harg9 X2 X3 s v hs hS hv ⟨n, hn⟩ ih

end Cert.Proof.Mla

end
-- ==== Proof.Tail.lean ====
/- The diagonal block of keys and the rows of the result: what a grid point writes. -/
module

public import proofs.«01_k».proof.Proof.Loop
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace Cert.Proof.Mla

section Generic
variable {F : FTy → Type} [FloatOps F] [Named F]

variable (c : Dev nD) (i : grid0.Coords) (arg2 : Memref sig .tc .vmem S128x2048 .bf16) (harg2 : arg2.IsWhole) (arg3 : Memref sig .tc .vmem S4096x256 .bf16) (harg3 : arg3.IsWhole) (arg4 : Memref sig .tc .vmem S8x64x128 .bf16) (harg4 : arg4.IsWhole) (arg5 : Memref sig .tc .vmem S128x512 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x128 .f32) (harg8 : arg8.IsWhole) (arg9 : Memref sig .tc .vmem S512x128 .f32) (harg9 : arg9.IsWhole)
variable (x0 : Vec F S128x2048 .bf16) (x1 : Vec F S4096x256 .bf16) (x2 : Vec F S8x64x128 .bf16)

/-- What the key loop has written to the running buffers. -/
def loop6 : List (View.Piece (Elt F) S8x128 .f32) := (kernelRun0_A.sl.HS0_1_1 (F := F) c i arg2 harg2 arg3 harg3 arg4 harg4 arg5 harg5 arg6 harg6 arg7 harg7 arg8 harg8 arg9 harg9 x0 x1).tail
def loop7 : List (View.Piece (Elt F) S8x128 .f32) := (kernelRun0_A.sl.HS1_1_1 (F := F) c i arg2 harg2 arg3 harg3 arg4 harg4 arg5 harg5 arg6 harg6 arg7 harg7 arg8 harg8 arg9 harg9 x0 x1).tail
def loop8 : List (View.Piece (Elt F) S8x128x128 .f32) := (kernelRun0_A.sl.HS2_1_1 (F := F) c i arg2 harg2 arg3 harg3 arg4 harg4 arg5 harg5 arg6 harg6 arg7 harg7 arg8 harg8 arg9 harg9 x0 x1).tail

/-- The contents of the running buffers after the key loop. -/
abbrev after6 : BufTy.Contents (Elt F) arg6.view.ty := arg6.view.writes (Elt F) arg6.view.junk (loop6 c i arg2 harg2 arg3 harg3 arg4 harg4 arg5 harg5 arg6 harg6 arg7 harg7 arg8 harg8 arg9 harg9 x0 x1)
abbrev after7 : BufTy.Contents (Elt F) arg7.view.ty := arg7.view.writes (Elt F) arg7.view.junk (loop7 c i arg2 harg2 arg3 harg3 arg4 harg4 arg5 harg5 arg6 harg6 arg7 harg7 arg8 harg8 arg9 harg9 x0 x1)
abbrev after8 : BufTy.Contents (Elt F) arg8.view.ty := arg8.view.writes (Elt F) arg8.view.junk (loop8 c i arg2 harg2 arg3 harg3 arg4 harg4 arg5 harg5 arg6 harg6 arg7 harg7 arg8 harg8 arg9 harg9 x0 x1)

theorem first_max : kernelRun0_A.sl.HS0_1_1 (F := F) c i arg2 harg2 arg3 harg3 arg4 harg4 arg5 harg5 arg6 harg6 arg7 harg7 arg8 harg8 arg9 harg9 x0 x1
    = ⟨rowR 0, k0_pay130 (kernelRun0_A.sl.r_2 i arg2 harg2 arg3 harg3 x0 x1) (kernelRun0_A.sl.v31 c i arg2 harg2 arg3 harg3 arg4 harg4 arg5 harg5 arg6 harg6 arg7 harg7 arg8 harg8 arg9 harg9 x0 x1)⟩ ::
      loop6 c i arg2 harg2 arg3 harg3 arg4 harg4 arg5 harg5 arg6 harg6 arg7 harg7 arg8 harg8 arg9 harg9 x0 x1 := rfl
theorem first_sum : kernelRun0_A.sl.HS1_1_1 (F := F) c i arg2 harg2 arg3 harg3 arg4 harg4 arg5 harg5 arg6 harg6 arg7 harg7 arg8 harg8 arg9 harg9 x0 x1
    = ⟨rowR 0, k0_pay128 (kernelRun0_A.sl.r_2 i arg2 harg2 arg3 harg3 x0 x1) (kernelRun0_A.sl.v31 c i arg2 harg2 arg3 harg3 arg4 harg4 arg5 harg5 arg6 harg6 arg7 harg7 arg8 harg8 arg9 harg9 x0 x1)
        (kernelRun0_A.sl.v40 c i arg2 harg2 arg3 harg3 arg4 harg4 arg5 harg5 arg6 harg6 arg7 harg7 arg8 harg8 arg9 harg9 x0 x1)⟩ :: loop7 c i arg2 harg2 arg3 harg3 arg4 harg4 arg5 harg5 arg6 harg6 arg7 harg7 arg8 harg8 arg9 harg9 x0 x1 := rfl
theorem first_acc : kernelRun0_A.sl.HS2_1_1 (F := F) c i arg2 harg2 arg3 harg3 arg4 harg4 arg5 harg5 arg6 harg6 arg7 harg7 arg8 harg8 arg9 harg9 x0 x1
    = ⟨slabR 0, k0_pay129 (kernelRun0_A.sl.r_1 i arg3 harg3 x1) (kernelRun0_A.sl.r_2 i arg2 harg2 arg3 harg3 x0 x1)
        (kernelRun0_A.sl.v31 c i arg2 harg2 arg3 harg3 arg4 harg4 arg5 harg5 arg6 harg6 arg7 harg7 arg8 harg8 arg9 harg9 x0 x1) (kernelRun0_A.sl.v50 c i arg2 harg2 arg3 harg3 arg4 harg4 arg5 harg5 arg6 harg6 arg7 harg7 arg8 harg8 arg9 harg9 x0 x1)⟩ :: loop8 c i arg2 harg2 arg3 harg3 arg4 harg4 arg5 harg5 arg6 harg6 arg7 harg7 arg8 harg8 arg9 harg9 x0 x1 := rfl

theorem reads_max : kernelRun0_A.sl.v31 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 0
    ∧ kernelRun0_A.sl.v67 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 1
    ∧ kernelRun0_A.sl.v103 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 2
    ∧ kernelRun0_A.sl.v139 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 3
    ∧ kernelRun0_A.sl.v175 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 4
    ∧ kernelRun0_A.sl.v211 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 5
    ∧ kernelRun0_A.sl.v247 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 6
    ∧ kernelRun0_A.sl.v283 (F := F) c i arg2 harg2 arg3 harg3 arg4 harg4 arg5 harg5 arg6 harg6 arg7 harg7 arg8 harg8 arg9 harg9 x0 x1 = rowOf (after6 c i arg2 harg2 arg3 harg3 arg4 harg4 arg5 harg5 arg6 harg6 arg7 harg7 arg8 harg8 arg9 harg9 x0 x1) 7 := by
  refine ⟨rfl, ?_, ?_, ?_, ?_, ?_, ?_, ?_⟩ <;>
    simp (disch := decide) only [kernelRun0_A.sl.v67, kernelRun0_A.sl.v103, kernelRun0_A.sl.v139, kernelRun0_A.sl.v175, kernelRun0_A.sl.v211, kernelRun0_A.sl.v247, kernelRun0_A.sl.v283, kernelRun0_A.sl.HS0_2, kernelRun0_A.sl.HS0_3, kernelRun0_A.sl.HS0_4, kernelRun0_A.sl.HS0_5, kernelRun0_A.sl.HS0_6, kernelRun0_A.sl.HS0_7, ↓View.readCov_skip, first_max, first_sum, first_acc] <;> rfl

theorem reads_sum : kernelRun0_A.sl.v40 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 0
    ∧ kernelRun0_A.sl.v76 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 1
    ∧ kernelRun0_A.sl.v112 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 2
    ∧ kernelRun0_A.sl.v148 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 3
    ∧ kernelRun0_A.sl.v184 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 4
    ∧ kernelRun0_A.sl.v220 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 5
    ∧ kernelRun0_A.sl.v256 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 6
    ∧ kernelRun0_A.sl.v292 (F := F) c i arg2 harg2 arg3 harg3 arg4 harg4 arg5 harg5 arg6 harg6 arg7 harg7 arg8 harg8 arg9 harg9 x0 x1 = rowOf (after7 c i arg2 harg2 arg3 harg3 arg4 harg4 arg5 harg5 arg6 harg6 arg7 harg7 arg8 harg8 arg9 harg9 x0 x1) 7 := by
  refine ⟨rfl, ?_, ?_, ?_, ?_, ?_, ?_, ?_⟩ <;>
    simp (disch := decide) only [kernelRun0_A.sl.v76, kernelRun0_A.sl.v112, kernelRun0_A.sl.v148, kernelRun0_A.sl.v184, kernelRun0_A.sl.v220, kernelRun0_A.sl.v256, kernelRun0_A.sl.v292, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, ↓View.readCov_skip, first_max, first_sum, first_acc] <;> rfl

theorem reads_acc : kernelRun0_A.sl.v50 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 0
    ∧ kernelRun0_A.sl.v86 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 1
    ∧ kernelRun0_A.sl.v122 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 2
    ∧ kernelRun0_A.sl.v158 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 3
    ∧ kernelRun0_A.sl.v194 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 4
    ∧ kernelRun0_A.sl.v230 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 5
    ∧ kernelRun0_A.sl.v266 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 6
    ∧ kernelRun0_A.sl.v302 (F := F) c i arg2 harg2 arg3 harg3 arg4 harg4 arg5 harg5 arg6 harg6 arg7 harg7 arg8 harg8 arg9 harg9 x0 x1 = slabOf (after8 c i arg2 harg2 arg3 harg3 arg4 harg4 arg5 harg5 arg6 harg6 arg7 harg7 arg8 harg8 arg9 harg9 x0 x1) 7 := by
  refine ⟨rfl, ?_, ?_, ?_, ?_, ?_, ?_, ?_⟩ <;>
    simp (disch := decide) only [kernelRun0_A.sl.v86, kernelRun0_A.sl.v122, kernelRun0_A.sl.v158, kernelRun0_A.sl.v194, kernelRun0_A.sl.v230, kernelRun0_A.sl.v266, kernelRun0_A.sl.v302, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, ↓View.readCov_skip, first_max, first_sum, first_acc] <;> rfl

/-- The keys of the diagonal block. -/
abbrev diagKeys : Vec F S128x256 .bf16 :=
  View.readAt (Elt F) arg3.view (Rect.unit (s := S4096x256) (k0_off3 i) S128x256.size (k0_off3_inb i)).toLoadRect
    (harg3.unread x1)

/-- The masked scores of the diagonal block for head `h`. -/
abbrev diagS (h : Fin 8) : FVec F S128x128 .f32 := maskV (scoreV (diagKeys i arg3 harg3 x1) (headOf (harg2.unread x0) h))

theorem diag_sum : kernelRun0_A.sl.HS1_8 (F := F) c i arg2 harg2 arg3 harg3 arg4 harg4 arg5 harg5 arg6 harg6 arg7 harg7 arg8 harg8 arg9 harg9 x0 x1
    = rows8 (fun h => shapeCast S1x128 (newSum (diagS i arg2 harg2 arg3 harg3 x0 x1 h)
        (rowOf (after6 c i arg2 harg2 arg3 harg3 arg4 harg4 arg5 harg5 arg6 harg6 arg7 harg7 arg8 harg8 arg9 harg9 x0 x1) h) (rowOf (after7 c i arg2 harg2 arg3 harg3 arg4 harg4 arg5 harg5 arg6 harg6 arg7 harg7 arg8 harg8 arg9 harg9 x0 x1) h)) shapeCasts_S1x128_S1x128) (loop7 c i arg2 harg2 arg3 harg3 arg4 harg4 arg5 harg5 arg6 harg6 arg7 harg7 arg8 harg8 arg9 harg9 x0 x1) := by
  obtain ⟨a0, a1, a2, a3, a4, a5, a6, a7⟩ := reads_max c i arg2 harg2 arg3 harg3 arg4 harg4 arg5 harg5 arg6 harg6 arg7 harg7 arg8 harg8 arg9 harg9 x0 x1
  obtain ⟨b0, b1, b2, b3, b4, b5, b6, b7⟩ := reads_sum c i arg2 harg2 arg3 harg3 arg4 harg4 arg5 harg5 arg6 harg6 arg7 harg7 arg8 harg8 arg9 harg9 x0 x1
  simp only [kernelRun0_A.sl.HS1_8, kernelRun0_A.sl.HS1_7, kernelRun0_A.sl.HS1_6, kernelRun0_A.sl.HS1_5,
    kernelRun0_A.sl.HS1_4, kernelRun0_A.sl.HS1_3, kernelRun0_A.sl.HS1_2, a0, a1, a2, a3, a4, a5, a6, a7,
    first_sum, first_acc, b0, b1, b2, b3, b4, b5, b6, b7]
  rfl

theorem diag_acc : kernelRun0_A.sl.HS2_8 (F := F) c i arg2 harg2 arg3 harg3 arg4 harg4 arg5 harg5 arg6 harg6 arg7 harg7 arg8 harg8 arg9 harg9 x0 x1
    = slabs8 (fun h => newAcc (diagS i arg2 harg2 arg3 harg3 x0 x1 h) (valV (diagKeys i arg3 harg3 x1))
        (rowOf (after6 c i arg2 harg2 arg3 harg3 arg4 harg4 arg5 harg5 arg6 harg6 arg7 harg7 arg8 harg8 arg9 harg9 x0 x1) h) (slabOf (after8 c i arg2 harg2 arg3 harg3 arg4 harg4 arg5 harg5 arg6 harg6 arg7 harg7 arg8 harg8 arg9 harg9 x0 x1) h)) (loop8 c i arg2 harg2 arg3 harg3 arg4 harg4 arg5 harg5 arg6 harg6 arg7 harg7 arg8 harg8 arg9 harg9 x0 x1) := by
  obtain ⟨a0, a1, a2, a3, a4, a5, a6, a7⟩ := reads_max c i arg2 harg2 arg3 harg3 arg4 harg4 arg5 harg5 arg6 harg6 arg7 harg7 arg8 harg8 arg9 harg9 x0 x1
  obtain ⟨b0, b1, b2, b3, b4, b5, b6, b7⟩ := reads_acc c i arg2 harg2 arg3 harg3 arg4 harg4 arg5 harg5 arg6 harg6 arg7 harg7 arg8 harg8 arg9 harg9 x0 x1
  simp only [kernelRun0_A.sl.HS2_8, kernelRun0_A.sl.HS2_7, kernelRun0_A.sl.HS2_6, kernelRun0_A.sl.HS2_5,
    kernelRun0_A.sl.HS2_4, kernelRun0_A.sl.HS2_3, kernelRun0_A.sl.HS2_2, a0, a1, a2, a3, a4, a5, a6, a7,
    first_sum, first_acc, b0, b1, b2, b3, b4, b5, b6, b7]
  rfl

end Generic

end Cert.Proof.Mla

end
-- ==== Proof.Out.lean ====
/- What a grid point writes: the attention of its 128 queries over the keys up to theirs. -/
module

public import proofs.«01_k».proof.Proof.Tail
public import Idealize.ShloMosaic.Lib.VecWindow

@[expose] public section

set_option maxRecDepth 16384

noncomputable section

open Idealize.ShloMosaic Idealize.ShloMosaic.TcCoe Idealize.SL.Sem
open Cert.KernelIdeal Cert.KernelIdeal.Gen

namespace Cert.Proof.Mla

theorem outInb (h : Fin 8) : ∀ a, (![64 * h.val, 0] : Fin 2 → ℕ) a + S64x128.size a ≤ S512x128.size a := by
  revert h; decide
theorem weightInb (h : Fin 8) : ∀ a, (![h.val, 0, 0] : Fin 3 → ℕ) a + S1x64x128.size a ≤ S8x64x128.size a := by
  revert h; decide

/-- Head `h`'s rows of the transposed result, and its weights. -/
abbrev outR (h : Fin 8) : Rect S512x128 := Rect.unit ![64 * h.val, 0] S64x128.size (outInb h)
abbrev weightR (h : Fin 8) : Rect S8x64x128 := Rect.unit ![h.val, 0, 0] S1x64x128.size (weightInb h)

section Lists
variable {Val : EltTy → Type} {e : EltTy} {κ' : Kind} {sp : Space} {sg : RefSig}

abbrev outs8 (W : Fin 8 → S64x128.Idx → Val e) : List (View.Piece Val S512x128 e) :=
  [⟨outR 7, W 7⟩, ⟨outR 6, W 6⟩, ⟨outR 5, W 5⟩, ⟨outR 4, W 4⟩, ⟨outR 3, W 3⟩, ⟨outR 2, W 2⟩, ⟨outR 1, W 1⟩, ⟨outR 0, W 0⟩]

/-- Column `x` of head `h` in the result. -/
def col (h : Fin 8) (x : Fin 64) : Fin 512 := ⟨64 * h.val + x.val, by omega⟩

variable (v : View sg κ' sp S512x128 e) (f : v.ty.Contents Val)

theorem read_out_cons (h h' : Fin 8) (w : S64x128.Idx → Val e) (L : List (View.Piece Val S512x128 e)) (x : Fin 64)
    (l : Fin 128) :
    v.read Val (v.writes Val f (⟨outR h', w⟩ :: L)) (ix2 (col h x) l)
      = if h = h' then w (ix2 x l) else v.read Val (v.writes Val f L) (ix2 (col h x) l) := by
  split_ifs with hh
  · subst hh
    exact View.read_writes_cons_unit_of_mem v f (outInb h) w L (ix2 (col h x) l) (ix2 x l) rfl
      (by intro a; fin_cases a <;> simp [ix2, col])
  · exact View.read_writes_cons_unit_of_not_mem v f (outInb h') w L (ix2 (col h x) l) rfl 0
      (by
        have := Fin.val_ne_of_ne hh
        show 64 * h.val + x.val < 64 * h'.val ∨ 64 * h'.val + 64 ≤ 64 * h.val + x.val
        omega)

theorem read_outs8 (W : Fin 8 → S64x128.Idx → Val e) (h : Fin 8) (x : Fin 64) (l : Fin 128) :
    v.read Val (v.writes Val f (outs8 W)) (ix2 (col h x) l) = W h (ix2 x l) := by
  simp only [outs8, read_out_cons]
  fin_cases h <;> rfl

end Lists

section Generic
variable {F : FTy → Type} [FloatOps F] [Named F]

/-- A head's rows of the transposed result, from its accumulator, its sum and its weights. -/
def headOut (a : Vec F S1x128x128 .f32) (l : Vec F S1x128 .f32) (w : Vec F S1x64x128 .bf16) : FVec F S64x128 .f32 :=
  shapeCast S64x128 (matmul dot_S64x128_S128x128_S64x128_1_0_0_1_n_n none
    (shapeCast S64x128 w shapeCasts_S1x64x128_S64x128)
    (truncf .bf16 (divf (shapeCast S128x128 a shapeCasts_S1x128x128_S128x128)
      (broadcastTo S128x128 l broadcasts_S1x128_S128x128)) bitsLt_bf16_f32)
    (constant S64x128 .f32 0x00000000#32)) shapeCasts_S64x128_S64x128

variable (c : Dev nD) (i : grid0.Coords) (arg2 : Memref sig .tc .vmem S128x2048 .bf16) (harg2 : arg2.IsWhole) (arg3 : Memref sig .tc .vmem S4096x256 .bf16) (harg3 : arg3.IsWhole) (arg4 : Memref sig .tc .vmem S8x64x128 .bf16) (harg4 : arg4.IsWhole) (arg5 : Memref sig .tc .vmem S128x512 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x128 .f32) (harg8 : arg8.IsWhole) (arg9 : Memref sig .tc .vmem S512x128 .f32) (harg9 : arg9.IsWhole)
variable (x0 : Vec F S128x2048 .bf16) (x1 : Vec F S4096x256 .bf16) (x2 : Vec F S8x64x128 .bf16)

theorem rows_out : kernelRun0_A.sl.HS3_8 (F := F) c i arg2 harg2 arg3 harg3 arg4 harg4 arg5 harg5 arg6 harg6 arg7 harg7 arg8 harg8 arg9 harg9 x0 x1 x2
    = outs8 fun h => headOut
        (View.readCov arg8.view (kernelRun0_A.sl.HS2_8 (F := F) c i arg2 harg2 arg3 harg3 arg4 harg4 arg5 harg5 arg6 harg6 arg7 harg7 arg8 harg8 arg9 harg9 x0 x1) (slabR h).toLoadRect)
        (View.readCov arg7.view (kernelRun0_A.sl.HS1_8 (F := F) c i arg2 harg2 arg3 harg3 arg4 harg4 arg5 harg5 arg6 harg6 arg7 harg7 arg8 harg8 arg9 harg9 x0 x1) (rowR h).toLoadRect)
        (View.readAt (Elt F) arg4.view (weightR h).toLoadRect (harg4.unread x2)) := rfl

theorem out_eq : out0_A_3 (F := F) c i arg2 harg2 arg3 harg3 arg4 harg4 arg5 harg5 arg6 harg6 arg7 harg7 arg8 harg8 arg9 harg9 x0 x1 x2 = k0_pay2 (kernelRun0_A.sl.v409 (F := F) c i arg2 harg2 arg3 harg3 arg4 harg4 arg5 harg5 arg6 harg6 arg7 harg7 arg8 harg8 arg9 harg9 x0 x1 x2) := by
  unfold out0_A_3 kernelRun0_A
  dsimp only
  exact View.read_writes_full _ _ _ _ _

end Generic

theorem headOut_apply (a : Vec Ideal S1x128x128 .f32) (l : Vec Ideal S1x128 .f32) (w : Vec Ideal S1x64x128 .bf16)
    (x : Fin 64) (q : Fin 128) : headOut (F := Ideal) a l w (ix2 x q)
      = ∑ c : Fin 128, w (ix3 0 x c) * Ideal.div (a (ix3 0 c q)) (l (ix2 0 q)) := by
  pointwise [headOut]

variable (c : Dev nD) (i : grid0.Coords) (arg2 : Memref sig .tc .vmem S128x2048 .bf16) (harg2 : arg2.IsWhole) (arg3 : Memref sig .tc .vmem S4096x256 .bf16) (harg3 : arg3.IsWhole) (arg4 : Memref sig .tc .vmem S8x64x128 .bf16) (harg4 : arg4.IsWhole) (arg5 : Memref sig .tc .vmem S128x512 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x128 .f32) (harg8 : arg8.IsWhole) (arg9 : Memref sig .tc .vmem S512x128 .f32) (harg9 : arg9.IsWhole)
variable (x0 : Vec Ideal S128x2048 .bf16) (x1 : Vec Ideal S4096x256 .bf16) (x2 : Vec Ideal S8x64x128 .bf16)

/-- The score of key `k` against query `l` of head `h`. -/
def score (h : Fin 8) (l : Fin 128) (k : ℕ) : EReal :=
  if hk : k < 4096 then (∑ c : Fin 256, x1 (ix2 ⟨k, hk⟩ c) * x0 (ix2 l ⟨256 * h.val + c.val, by omega⟩))
    * Ideal.ofBits .f32 0x3DD105EC#32 else ⊥

/-- The score, −∞ for the keys after the query. -/
def causal (qb : ℕ) (h : Fin 8) (l : Fin 128) (k : ℕ) : EReal := if k ≤ 128 * qb + l.val then score x0 x1 h l k else ⊥

/-- Column `x` of key `k`'s value. -/
def value (x : Fin 128) (k : ℕ) : EReal := if hk : k < 4096 then x1 (ix2 ⟨k, hk⟩ ⟨x.val, by omega⟩) else 0

theorem head_read (h : Fin 8) (l : Fin 128) (c' : Fin 256) :
    headOf (harg2.unread x0) h (ix2 l c') = x0 (ix2 l ⟨256 * h.val + c'.val, by omega⟩) := by
  refine Eq.trans ?_ (congrFun (harg2.read_unread x0) _)
  refine congrArg (arg2.view.read (Elt Ideal) (harg2.unread x0)) (funext fun a => Fin.ext ?_)
  fin_cases a <;> simp [ix2]

theorem keys_read {off : Fin 2 → ℕ} (inb : ∀ a, off a + S128x256.size a ≤ S4096x256.size a) (b : ℕ)
    (e : off = ![128 * b, 0]) (hb : 128 * b + 128 ≤ 4096) (a : Fin 128) (c' : Fin 256) :
    View.readAt (Elt Ideal) arg3.view (Rect.unit (s := S4096x256) off S128x256.size inb).toLoadRect (harg3.unread x1)
      (ix2 a c') = x1 (ix2 ⟨128 * b + a.val, by omega⟩ c') := by
  subst e
  refine Eq.trans ?_ (congrFun (harg3.read_unread x1) _)
  refine congrArg (arg3.view.read (Elt Ideal) (harg3.unread x1)) (funext fun a => Fin.ext ?_)
  fin_cases a <;> simp [ix2]

theorem weight_read (h : Fin 8) (x : Fin 64) (c' : Fin 128) :
    View.readAt (Elt Ideal) arg4.view (weightR h).toLoadRect (harg4.unread x2) (ix3 0 x c') = x2 (ix3 h x c') := by
  refine Eq.trans ?_ (congrFun (harg4.read_unread x2) _)
  refine congrArg (arg4.view.read (Elt Ideal) (harg4.unread x2)) (funext fun a => Fin.ext ?_)
  fin_cases a <;> simp [ix3]

theorem trip_lt (k : Fin (k0_t1_loop i).trips) : k.val < (i 1).val := lt_of_lt_of_le k.isLt (trips_eq i).le

theorem trip_score (k : Fin (k0_t1_loop i).trips) (h : Fin 8) (a l : Fin 128) :
    tripS i arg2 arg3 (harg2.unread x0) (harg3.unread x1) k h (ix2 a l)
      = causal x0 x1 (i 1).val h l (128 * k.val + a.val) := by
  have hk := trip_lt i k
  have h1 : (i 1).val < 32 := (i 1).isLt
  rw [causal, if_pos (by omega), score, dif_pos (by omega), tripS, scoreV_apply]
  congr 1
  refine Finset.sum_congr rfl fun c' _ => ?_
  rw [head_read, keysOf, keys_read arg3 harg3 x1 _ k.val (off1_eq i k) (by omega)]

theorem trip_value (k : Fin (k0_t1_loop i).trips) (a x : Fin 128) :
    valV (F := Ideal) (keysOf i arg3 (harg3.unread x1) k) (ix2 a x) = value x1 x (128 * k.val + a.val) := by
  have hk := trip_lt i k
  have h1 : (i 1).val < 32 := (i 1).isLt
  rw [value, dif_pos (by omega), valV_apply, keysOf, keys_read arg3 harg3 x1 _ k.val (off1_eq i k) (by omega)]

theorem diag_score (h : Fin 8) (a l : Fin 128) :
    diagS i arg2 harg2 arg3 harg3 x0 x1 h (ix2 a l) = causal x0 x1 (i 1).val h l (128 * (i 1).val + a.val) := by
  have h1 : (i 1).val < 32 := (i 1).isLt
  rw [diagS, maskV_apply, causal]
  by_cases hc : a.val ≤ l.val
  · rw [if_pos hc, if_pos (by omega), score, dif_pos (by omega), scoreV_apply]
    congr 1
    refine Finset.sum_congr rfl fun c' _ => ?_
    rw [head_read, diagKeys, keys_read arg3 harg3 x1 _ (i 1).val (off3_eq i) (by omega)]
  · rw [if_neg hc, if_neg (by omega)]

theorem diag_value (a x : Fin 128) :
    valV (F := Ideal) (diagKeys i arg3 harg3 x1) (ix2 a x) = value x1 x (128 * (i 1).val + a.val) := by
  have h1 : (i 1).val < 32 := (i 1).isLt
  rw [value, dif_pos (by omega), valV_apply, diagKeys, keys_read arg3 harg3 x1 _ (i 1).val (off3_eq i) (by omega)]

/-- The buffers as the kernel first sets them: no key counted. -/
theorem start_holds (s : Fin 8 → Fin 128 → ℕ → EReal) (v : Fin 128 → ℕ → EReal) : Holds arg6 arg7 arg8 s v 0
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1) where
  max h l := by
    rw [Softmax.top_zero]
    exact (congrFun (View.read_writes_full _ _ _ _ _) (ix2 h l)).trans (by pointwise [k0_pay105]; rfl)
  sum h l := by
    rw [Softmax.mass_zero]
    exact (congrFun (View.read_writes_full _ _ _ _ _) (ix2 h l)).trans (by pointwise [k0_pay106])
  acc h x l := by
    rw [Softmax.wsum_zero]
    exact (congrFun (View.read_writes_full _ _ _ _ _) (ix3 h x l)).trans (by pointwise [k0_pay107])

theorem rest_none (w : BitVec 32) (X2 : BufTy.Contents (Elt Ideal) arg2.view.ty)
    (X3 : BufTy.Contents (Elt Ideal) arg3.view.ty) (G6 : BufTy.Contents (Elt Ideal) arg6.view.ty)
    (G7 : BufTy.Contents (Elt Ideal) arg7.view.ty) (G8 : BufTy.Contents (Elt Ideal) arg8.view.ty) :
    pb_k0_t2 (F := Ideal) Variants.none c none i arg2 harg2 arg3 harg3 arg4 harg4 arg5 harg5 arg6 harg6 arg7 harg7 arg8 harg8 arg9 harg9 w X2 X3 G6 G7 G8 (k0_t2_loop i).trips = ([], [], []) := by
  rw [trips2_eq]; rfl

theorem loop6_eq : loop6 (F := Ideal) c i arg2 harg2 arg3 harg3 arg4 harg4 arg5 harg5 arg6 harg6 arg7 harg7 arg8 harg8 arg9 harg9 x0 x1 = (pb_k0_t1 (F := Ideal) Variants.none c none i arg2 harg2 arg3 harg3 arg4 harg4 arg5 harg5 arg6 harg6 arg7 harg7 arg8 harg8 arg9 harg9 (harg2.unread x0) (harg3.unread x1)
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1) (k0_t1_loop i).trips).1 ++ kernelRun0_A.sl.HS0_1 :=
  congrArg (fun p => p.1 ++ ((pb_k0_t1 (F := Ideal) Variants.none c none i arg2 harg2 arg3 harg3 arg4 harg4 arg5 harg5 arg6 harg6 arg7 harg7 arg8 harg8 arg9 harg9 (harg2.unread x0) (harg3.unread x1)
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1) (k0_t1_loop i).trips).1 ++ kernelRun0_A.sl.HS0_1)) (rest_none c i arg2 harg2 arg3 harg3 arg4 harg4 arg5 harg5 arg6 harg6 arg7 harg7 arg8 harg8 arg9 harg9 (kernelRun0_A.sl.v19 i) (harg2.unread x0) (harg3.unread x1) _ _ _)

theorem loop7_eq : loop7 (F := Ideal) c i arg2 harg2 arg3 harg3 arg4 harg4 arg5 harg5 arg6 harg6 arg7 harg7 arg8 harg8 arg9 harg9 x0 x1 = (pb_k0_t1 (F := Ideal) Variants.none c none i arg2 harg2 arg3 harg3 arg4 harg4 arg5 harg5 arg6 harg6 arg7 harg7 arg8 harg8 arg9 harg9 (harg2.unread x0) (harg3.unread x1)
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1) (k0_t1_loop i).trips).2.1 ++ kernelRun0_A.sl.HS1_1 :=
  congrArg (fun p => p.2.1 ++ ((pb_k0_t1 (F := Ideal) Variants.none c none i arg2 harg2 arg3 harg3 arg4 harg4 arg5 harg5 arg6 harg6 arg7 harg7 arg8 harg8 arg9 harg9 (harg2.unread x0) (harg3.unread x1)
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1) (k0_t1_loop i).trips).2.1 ++ kernelRun0_A.sl.HS1_1)) (rest_none c i arg2 harg2 arg3 harg3 arg4 harg4 arg5 harg5 arg6 harg6 arg7 harg7 arg8 harg8 arg9 harg9 (kernelRun0_A.sl.v19 i) (harg2.unread x0) (harg3.unread x1) _ _ _)

theorem loop8_eq : loop8 (F := Ideal) c i arg2 harg2 arg3 harg3 arg4 harg4 arg5 harg5 arg6 harg6 arg7 harg7 arg8 harg8 arg9 harg9 x0 x1 = (pb_k0_t1 (F := Ideal) Variants.none c none i arg2 harg2 arg3 harg3 arg4 harg4 arg5 harg5 arg6 harg6 arg7 harg7 arg8 harg8 arg9 harg9 (harg2.unread x0) (harg3.unread x1)
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1) (k0_t1_loop i).trips).2.2 ++ kernelRun0_A.sl.HS2_1 :=
  congrArg (fun p => p.2.2 ++ ((pb_k0_t1 (F := Ideal) Variants.none c none i arg2 harg2 arg3 harg3 arg4 harg4 arg5 harg5 arg6 harg6 arg7 harg7 arg8 harg8 arg9 harg9 (harg2.unread x0) (harg3.unread x1)
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1) (k0_t1_loop i).trips).2.2 ++ kernelRun0_A.sl.HS2_1)) (rest_none c i arg2 harg2 arg3 harg3 arg4 harg4 arg5 harg5 arg6 harg6 arg7 harg7 arg8 harg8 arg9 harg9 (kernelRun0_A.sl.v19 i) (harg2.unread x0) (harg3.unread x1) _ _ _)

variable (hs : ∀ h l k, causal x0 x1 (i 1).val h l k ≠ ⊤)

include hs in
/-- After the key loop the running buffers count the keys of the earlier blocks. -/
theorem after_holds : Holds arg6 arg7 arg8 (causal x0 x1 (i 1).val) (value x1) (128 * (i 1).val)
    (after6 c i arg2 harg2 arg3 harg3 arg4 harg4 arg5 harg5 arg6 harg6 arg7 harg7 arg8 harg8 arg9 harg9 x0 x1) (after7 c i arg2 harg2 arg3 harg3 arg4 harg4 arg5 harg5 arg6 harg6 arg7 harg7 arg8 harg8 arg9 harg9 x0 x1) (after8 c i arg2 harg2 arg3 harg3 arg4 harg4 arg5 harg5 arg6 harg6 arg7 harg7 arg8 harg8 arg9 harg9 x0 x1) := by
  have H := loop_holds c i arg2 harg2 arg3 harg3 arg4 harg4 arg5 harg5 arg6 harg6 arg7 harg7 arg8 harg8 arg9 harg9 (harg2.unread x0) (harg3.unread x1) _ _ _ (causal x0 x1 (i 1).val) (value x1) hs
    (trip_score i arg2 harg2 arg3 harg3 x0 x1) (trip_value i arg3 harg3 x1)
    (start_holds arg6 arg7 arg8 _ _) _ le_rfl
  rw [after6, after7, after8, loop6_eq, loop7_eq, loop8_eq, View.writes_append, View.writes_append, View.writes_append]
  rw [trips_eq] at H
  convert H using 3 <;> rw [trips_eq]

include hs in
theorem sum_read (h : Fin 8) (l : Fin 128) :
    View.readCov arg7.view (kernelRun0_A.sl.HS1_8 (F := Ideal) c i arg2 harg2 arg3 harg3 arg4 harg4 arg5 harg5 arg6 harg6 arg7 harg7 arg8 harg8 arg9 harg9 x0 x1) (rowR h).toLoadRect (ix2 0 l)
      = Softmax.mass (causal x0 x1 (i 1).val h l) (128 * (i 1).val + 128) := by
  have H := after_holds c i arg2 harg2 arg3 harg3 arg4 harg4 arg5 harg5 arg6 harg6 arg7 harg7 arg8 harg8 arg9 harg9 x0 x1 hs
  have e := (block_step (hs h l) _ l _ (diag_score i arg2 harg2 arg3 harg3 x0 x1 h · l) _ (H.row h l)).2.1 _ (H.row' h l)
  have R := read_rows8 arg7.view arg7.view.junk (fun h => shapeCast S1x128 (newSum (diagS i arg2 harg2 arg3 harg3 x0 x1 h)
        (rowOf (after6 c i arg2 harg2 arg3 harg3 arg4 harg4 arg5 harg5 arg6 harg6 arg7 harg7 arg8 harg8 arg9 harg9 x0 x1) h) (rowOf (after7 c i arg2 harg2 arg3 harg3 arg4 harg4 arg5 harg5 arg6 harg6 arg7 harg7 arg8 harg8 arg9 harg9 x0 x1) h)) shapeCasts_S1x128_S1x128) (loop7 c i arg2 harg2 arg3 harg3 arg4 harg4 arg5 harg5 arg6 harg6 arg7 harg7 arg8 harg8 arg9 harg9 x0 x1) h l
  rw [← diag_sum, shapeCast_row] at R
  refine Eq.trans ?_ (R.trans e)
  refine congrArg (arg7.view.read (Elt Ideal) _) (funext fun a => Fin.ext ?_)
  fin_cases a <;> simp [ix2]

include hs in
theorem acc_read (h : Fin 8) (x l : Fin 128) :
    View.readCov arg8.view (kernelRun0_A.sl.HS2_8 (F := Ideal) c i arg2 harg2 arg3 harg3 arg4 harg4 arg5 harg5 arg6 harg6 arg7 harg7 arg8 harg8 arg9 harg9 x0 x1) (slabR h).toLoadRect (ix3 0 x l)
      = Softmax.wsum (causal x0 x1 (i 1).val h l) (value x1 x) (128 * (i 1).val + 128) := by
  have H := after_holds c i arg2 harg2 arg3 harg3 arg4 harg4 arg5 harg5 arg6 harg6 arg7 harg7 arg8 harg8 arg9 harg9 x0 x1 hs
  have e := (block_step (hs h l) _ l _ (diag_score i arg2 harg2 arg3 harg3 x0 x1 h · l) _ (H.row h l)).2.2 x _ _ _
    (diag_value i arg3 harg3 x1 · x) (H.slab h x l)
  have R := read_slabs8 arg8.view arg8.view.junk (fun h => newAcc (diagS i arg2 harg2 arg3 harg3 x0 x1 h)
        (valV (diagKeys i arg3 harg3 x1)) (rowOf (after6 c i arg2 harg2 arg3 harg3 arg4 harg4 arg5 harg5 arg6 harg6 arg7 harg7 arg8 harg8 arg9 harg9 x0 x1) h) (slabOf (after8 c i arg2 harg2 arg3 harg3 arg4 harg4 arg5 harg5 arg6 harg6 arg7 harg7 arg8 harg8 arg9 harg9 x0 x1) h))
      (loop8 c i arg2 harg2 arg3 harg3 arg4 harg4 arg5 harg5 arg6 harg6 arg7 harg7 arg8 harg8 arg9 harg9 x0 x1) h x l
  rw [← diag_acc] at R
  refine Eq.trans ?_ (R.trans e)
  refine congrArg (arg8.view.read (Elt Ideal) _) (funext fun a => Fin.ext ?_)
  fin_cases a <;> simp [ix3]

theorem pay2_apply (v : Vec Ideal S512x128 .f32) (l : Fin 128) (k : Fin 512) :
    k0_pay2 (F := Ideal) v (ix2 l k) = v (ix2 k l) := by pointwise [k0_pay2]

include hs in
/-- What a grid point writes, at query `l`, head `h` and output column `x`. -/
theorem out_apply (l : Fin 128) (h : Fin 8) (x : Fin 64) :
    out0_A_3 (F := Ideal) c i arg2 harg2 arg3 harg3 arg4 harg4 arg5 harg5 arg6 harg6 arg7 harg7 arg8 harg8 arg9 harg9 x0 x1 x2 (ix2 l (col h x))
      = ∑ c' : Fin 128, x2 (ix3 h x c')
          * Ideal.div (Softmax.wsum (causal x0 x1 (i 1).val h l) (value x1 c') (128 * (i 1).val + 128))
              (Softmax.mass (causal x0 x1 (i 1).val h l) (128 * (i 1).val + 128)) := by
  rw [out_eq, pay2_apply]
  have R := read_outs8 (Val := Elt Ideal) arg9.view arg9.view.junk (fun h => headOut (F := Ideal)
        (View.readCov arg8.view (kernelRun0_A.sl.HS2_8 (F := Ideal) c i arg2 harg2 arg3 harg3 arg4 harg4 arg5 harg5 arg6 harg6 arg7 harg7 arg8 harg8 arg9 harg9 x0 x1) (slabR h).toLoadRect)
        (View.readCov arg7.view (kernelRun0_A.sl.HS1_8 (F := Ideal) c i arg2 harg2 arg3 harg3 arg4 harg4 arg5 harg5 arg6 harg6 arg7 harg7 arg8 harg8 arg9 harg9 x0 x1) (rowR h).toLoadRect)
        (View.readAt (Elt Ideal) arg4.view (weightR h).toLoadRect (harg4.unread x2))) h x l
  rw [← rows_out, headOut_apply] at R
  refine Eq.trans ?_ (R.trans ?_)
  · refine congrArg (arg9.view.read (Elt Ideal) _) (funext fun a => Fin.ext ?_)
    fin_cases a <;> simp [ix2]
  · refine Finset.sum_congr rfl fun c' _ => ?_
    rw [weight_read, sum_read c i arg2 harg2 arg3 harg3 arg4 harg4 arg5 harg5 arg6 harg6 arg7 harg7 arg8 harg8 arg9 harg9 x0 x1 hs, acc_read c i arg2 harg2 arg3 harg3 arg4 harg4 arg5 harg5 arg6 harg6 arg7 harg7 arg8 harg8 arg9 harg9 x0 x1 hs]

end Cert.Proof.Mla

end
-- ==== Proof.Match.lean ====
/- A grid point's scores are the reference's, and its running softmax is the plain one. -/
module

public import proofs.«01_k».proof.Proof.Scores
public import proofs.«01_k».proof.Proof.Out

@[expose] public section

set_option maxRecDepth 16384

noncomputable section

open Idealize.ShloMosaic Idealize.ShloMosaic.TcCoe Idealize.SL.Sem
open Cert.KernelIdeal Cert.KernelIdeal.Gen

namespace Cert.Proof.Mla

/-- A number that is neither infinity. -/
def Real (x : EReal) : Prop := x ≠ ⊤ ∧ x ≠ ⊥

theorem Real.coe {x : EReal} (h : Real x) : ∃ y : ℝ, x = (y : EReal) := ⟨x.toReal, (EReal.coe_toReal h.1 h.2).symm⟩
theorem real_coe (y : ℝ) : Real (y : EReal) := ⟨EReal.coe_ne_top y, EReal.coe_ne_bot y⟩
theorem Real.add {x y : EReal} (hx : Real x) (hy : Real y) : Real (x + y) := by
  obtain ⟨a, rfl⟩ := hx.coe; obtain ⟨b, rfl⟩ := hy.coe; rw [← EReal.coe_add]; exact real_coe _
theorem Real.mul {x y : EReal} (hx : Real x) (hy : Real y) : Real (x * y) := by
  obtain ⟨a, rfl⟩ := hx.coe; obtain ⟨b, rfl⟩ := hy.coe; rw [← EReal.coe_mul]; exact real_coe _
theorem real_sum {ι : Type*} (s : Finset ι) {f : ι → EReal} (h : ∀ i, Real (f i)) : Real (∑ i ∈ s, f i) := by
  classical
  induction s using Finset.induction_on with
  | empty => rw [Finset.sum_empty]; exact real_coe 0
  | insert a s ha ih => rw [Finset.sum_insert ha]; exact (h a).add ih

theorem real_scale : Real (Ideal.ofBits .f32 0x3DD105EC#32) := by
  simp only [Ideal.ofBits, Ideal.ieee]
  norm_num
  exact real_coe _

/-- A sum of 256 terms whose last 96 are zero. -/
theorem sum_padded (f : ℕ → EReal) (h : ∀ c, 160 ≤ c → c < 256 → f c = 0) :
    ∑ c : Fin 256, f c.val = (∑ c : Fin 128, f c.val) + ∑ c : Fin 32, f (128 + c.val) := by
  rw [← Finset.sum_range, ← Finset.sum_range, ← Finset.sum_range fun c => f (128 + c), ← Finset.sum_range_add_sum_Ico f (by omega : 160 ≤ 256),
    Finset.sum_eq_zero (s := Finset.Ico 160 256) fun c hc => h c (Finset.mem_Ico.mp hc).1 (Finset.mem_Ico.mp hc).2, add_zero]
  exact Finset.sum_range_add f 128 32

theorem rowAt_lt (b : Fin 4) {qb : ℕ} (hqb : qb < 32) (l : Fin 128) : 128 * (32 * b.val + qb) + l.val < 16384 := by omega
theorem queryRow_lt (b : Fin 4) {qb : ℕ} (hqb : qb < 32) (l : Fin 128) : 128 * (32 * b.val + qb) + l.val < 16896 := by omega
theorem keyRow_lt (b : Fin 4) (k : Fin 4096) : 4096 * b.val + k.val < 16896 := by omega

section Point
variable {q : S16896x2048.Idx → EReal} {kv : S16896x256.Idx → EReal}
  (b : Fin 4) (qb : ℕ) (hqb : qb < 32) {x0 : S128x2048.Idx → EReal} {x1 : S4096x256.Idx → EReal}
  (hx0 : ∀ (l : Fin 128) (c : Fin 2048), x0 (ix2 l c) = q (ix2 ⟨128 * (32 * b.val + qb) + l.val, queryRow_lt b hqb l⟩ c))
  (hx1 : ∀ (k : Fin 4096) (c : Fin 256), x1 (ix2 k c) = kv (ix2 ⟨4096 * b.val + k.val, keyRow_lt b k⟩ c))
  (hz : ∀ (r : Fin 16896) (c : Fin 256), 160 ≤ c.val → kv (ix2 r c) = 0)

/-- The array row of the block's query `l`. -/
def rowAt (l : Fin 128) : Fin 16384 := ⟨128 * (32 * b.val + qb) + l.val, rowAt_lt b hqb l⟩

include hx0 hx1 hz

theorem causal_eq (h : Fin 8) (l : Fin 128) : causal x0 x1 qb h l = seqScore q kv (rowAt b qb hqb l) h := by
  funext k
  have hl := l.isLt
  have e1 : (rowAt b qb hqb l).val % 4096 = 128 * qb + l.val := by unfold rowAt; dsimp only; omega
  have e2 : (rowAt b qb hqb l).val / 4096 * 4096 = 4096 * b.val := by unfold rowAt; dsimp only; omega
  unfold causal seqScore
  rw [e1]
  by_cases hk : k ≤ 128 * qb + l.val
  · have hk' : k < 4096 := by omega
    rw [if_pos hk, dif_pos hk', if_pos hk]
    unfold score rawScore
    rw [dif_pos hk']
    simp only [e2]
    congr 1
    let g : ℕ → EReal := fun c => if hc : c < 256 then x1 (ix2 ⟨k, hk'⟩ ⟨c, hc⟩) * x0 (ix2 l ⟨256 * h.val + c, by omega⟩) else 0
    have G : ∀ c : Fin 256, x1 (ix2 ⟨k, hk'⟩ c) * x0 (ix2 l ⟨256 * h.val + c.val, by omega⟩) = g c.val := fun c => by
      simp only [g, c.isLt, dif_pos]
    rw [Finset.sum_congr rfl fun c _ => G c, sum_padded g]
    · congr 1
      · refine Finset.sum_congr rfl fun c _ => ?_
        have := c.isLt
        simp only [g, show c.val < 256 by omega, dif_pos, hx0, hx1, mul_comm 256 h.val]
        rfl
      · refine Finset.sum_congr rfl fun c _ => ?_
        have := c.isLt
        simp only [g, show 128 + c.val < 256 by omega, dif_pos, hx0, hx1, mul_comm 256 h.val]
        rfl
    · intro c h1 h2
      simp only [g, h2, dif_pos, hx1]
      rw [hz _ _ h1, zero_mul]
  · simp only [if_neg hk, dite_eq_ite, ite_self]

omit hx0 hz in
theorem value_eq (l : Fin 128) (c : Fin 128) : value x1 c = seqValue kv (rowAt b qb hqb l) c := by
  funext k
  have hl := l.isLt
  have e2 : (rowAt b qb hqb l).val / 4096 * 4096 = 4096 * b.val := by unfold rowAt; dsimp only; omega
  unfold value seqValue
  by_cases hk : k < 4096
  · rw [dif_pos hk, dif_pos hk, hx1]
    simp only [e2]
  · rw [dif_neg hk, dif_neg hk]

end Point

section Finite
variable {q : S16896x2048.Idx → EReal} {kv : S16896x256.Idx → EReal} (hq : ∀ i, Real (q i)) (hkv : ∀ i, Real (kv i))
include hq hkv

theorem rawScore_real (r : Fin 16384) (h : Fin 8) (s : Fin 4096) : Real (rawScore q kv r h s) :=
  ((real_sum _ fun _ => (hkv _).mul (hq _)).add (real_sum _ fun _ => (hkv _).mul (hq _))).mul real_scale

theorem seqScore_ne_top (r : Fin 16384) (h : Fin 8) (k : ℕ) : seqScore q kv r h k ≠ ⊤ := by
  unfold seqScore
  split
  · split
    · exact (rawScore_real hq hkv _ _ _).1
    · exact bot_ne_top
  · exact bot_ne_top

theorem seqScore_zero (r : Fin 16384) (h : Fin 8) : seqScore q kv r h 0 ≠ ⊥ := by
  unfold seqScore
  rw [dif_pos (by omega), if_pos (Nat.zero_le _)]
  exact (rawScore_real hq hkv _ _ _).2

/-- The running softmax over the keys up to the query's block is the softmax over the whole sequence. -/
theorem softmax_eq (v : ℕ → EReal) (r : Fin 16384) (h : Fin 8) (n : ℕ) (hn : r.val % 4096 < n) (hn' : n ≤ 4096) :
    Ideal.div (Softmax.wsum (seqScore q kv r h) v n) (Softmax.mass (seqScore q kv r h) n)
      = ∑ k ∈ Finset.range 4096, v k * Ideal.div (Ideal.exp (seqScore q kv r h k - Softmax.top (seqScore q kv r h) 4096)) (Softmax.mass (seqScore q kv r h) 4096) := by
  have ht : ∀ k, n ≤ k → k < 4096 → seqScore q kv r h k = ⊥ := fun k h1 h2 => by
    unfold seqScore
    rw [dif_pos h2, if_neg (by omega)]
  rw [← Softmax.wsum_tail v hn' ht, ← Softmax.mass_tail hn' ht]
  exact Softmax.wsum_div (seqScore_ne_top hq hkv r h) v (k := 0) (by omega) (seqScore_zero hq hkv r h)

end Finite

end Cert.Proof.Mla
end
-- ==== Proof.Mla.lean ====
/- The attention call's whole array: each block's inputs in the launch's arguments, the cover, and the value claim. -/
module

public import proofs.«01_k».proof.Proof.Match
public import proofs.«01_k».proof.Proof.Gen.KernelIdeal.Value
public import proofs.«01_k».proof.Proof.Gen.Pre_finite_inputs
public import proofs.«01_k».proof.Defs
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Cert.KernelIdeal Cert.KernelIdeal.Gen

namespace Cert.Proof.Mla

variable (m : (ℓ : Loc nD τ sig) → Buf (Elt Ideal) ℓ)

/-- The sequence and the query block of a grid point. -/
abbrev seqOf (t : Fin cfg0.N) : Fin 4 := grid0.coords t 0
abbrev blkOf (t : Fin cfg0.N) : Fin 32 := grid0.coords t 1

theorem coords0 (t : Fin cfg0.N) : (grid0.coords t 0).val = (seqOf t).val := rfl
theorem coords1 (t : Fin cfg0.N) : (grid0.coords t 1).val = (blkOf t).val := rfl

theorem idx0 : ∀ t : Fin cfg0.N, win0_0.index t = ![32 * (grid0.coords t 0).val + (grid0.coords t 1).val, 0] :=
  (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![32 * (grid0.coords t 0).val + (grid0.coords t 1).val, 0] :=
  (by decide +kernel : ∀ t : Fin grid0.N, _)

theorem block0 (c : Dev nD) (t : Fin cfg0.N) (l : Fin 128) (k : Fin 2048) :
    iblk m c 0 t (ix2 l k) = m (c.tc.loc main_arg0) (ix2 ⟨128 * (32 * (seqOf t).val + (blkOf t).val) + l.val, by
      have := (seqOf t).isLt; have := (blkOf t).isLt; omega⟩ k) := by
  rw [← V_main_arg0 m c]
  blk_simp [iblk]
  refine congrArg _ (funext fun a => Fin.ext ?_)
  match a with
  | ⟨0, _⟩ => blk_simp [idx0]; simp only [coords0, coords1]; simp; omega
  | ⟨1, _⟩ => blk_simp [idx0]

theorem block1 (c : Dev nD) (t : Fin cfg0.N) (l : Fin 4096) (k : Fin 256) :
    X0_1 m c t (ix2 l k) = m (c.tc.loc main_arg1) (ix2 ⟨4096 * (seqOf t).val + l.val, by
      have := (seqOf t).isLt; omega⟩ k) := by
  rw [← V_main_arg1 m c]
  unfold X0_1 Pipeline.Window.fill
  rw [dif_pos (moved0_1 t _)]
  blk_simp [iblk]
  refine congrArg _ (funext fun a => Fin.ext ?_)
  match a with
  | ⟨0, _⟩ => blk_simp [idx1]; simp only [coords0]; simp; omega
  | ⟨1, _⟩ => blk_simp [idx1]

theorem block2 (c : Dev nD) (t : Fin cfg0.N) (h : Fin 8) (x : Fin 64) (k : Fin 128) :
    iblk m c 2 t (ix3 h x k) = m (c.tc.loc main_arg2) (ix2 k ⟨h.val * 128 + (64 + x.val), by omega⟩) := by
  have e : ((cfg0.win 2).blk t).view.emb (ix3 h x k) = (ix3 h x k : S8x64x128.Idx) := by
    refine funext fun a => Fin.ext ?_
    match a with
    | ⟨0, _⟩ => blk_simp [idx2]
    | ⟨1, _⟩ => blk_simp [idx2]
    | ⟨2, _⟩ => blk_simp [idx2]
  have v : V m c main_v4 (ix3 h x k) = m (c.tc.loc main_arg2) (ix2 k ⟨h.val * 128 + (64 + x.val), by omega⟩) := by
    unfold V
    after_reads_at
  refine Eq.trans ?_ v
  blk_simp [iblk]
  rw [e]

/-- The attention of the launch's arguments, as the whole result array. -/
def result (c : Dev nD) : S16384x512.Idx → EReal := fun j =>
  attend (m (c.tc.loc main_arg0)) (m (c.tc.loc main_arg1)) (m (c.tc.loc main_arg2)) (j 0) ⟨(j 1).val / 64, by
    have h : (j 1).val < 512 := (j 1).isLt
    omega⟩
    ⟨(j 1).val % 64, by omega⟩

/-- The arguments are finite and the padding columns are zero. -/
structure Good (c : Dev nD) : Prop where
  q : ∀ i, Real (m (c.tc.loc main_arg0) i)
  kv : ∀ i, Real (m (c.tc.loc main_arg1) i)
  pad : ∀ (r : Fin 16896) (k : Fin 256), 160 ≤ k.val → @Eq EReal (m (c.tc.loc main_arg1) (ix2 r k)) 0

theorem final (c : Dev nD) (hg : Good m c) : (dats m 0 c).arrAt 3 cfg0.N = result m c := by
  refine (dats m 0 c).arrAt_eq_of_covers 3 _ (by decide +kernel) fun t hf y => ?_
  have F : (dats m 0 c).flushed 3 t y = _ := congrFun (Cert.KernelIdeal.Value.flushed3_A m c t) y
  refine Eq.trans F ?_
  obtain ⟨l, j, rfl⟩ : ∃ (l : Fin 128) (j : Fin 512), y = ix2 l j := ⟨y 0, y 1, funext fun a => by match a with | ⟨0, _⟩ => rfl | ⟨1, _⟩ => rfl⟩
  have hb := (blkOf t).isLt
  have hs := (seqOf t).isLt
  have hl := l.isLt
  have e : ((cfg0.win 3).blk t).view.emb (ix2 l j) = (ix2 (rowAt (seqOf t) (blkOf t).val hb l) j : S16384x512.Idx) := by
    refine funext fun a => Fin.ext ?_
    match a with
    | ⟨0, _⟩ => blk_simp [idx3]; simp only [coords0, coords1, rowAt]; simp; omega
    | ⟨1, _⟩ => blk_simp [idx3]
  have hc : ∀ h l, causal (iblk m c 0 t) (X0_1 m c t) (grid0.coords t 1).val h l
      = seqScore (m (c.tc.loc main_arg0)) (m (c.tc.loc main_arg1)) (rowAt (seqOf t) (blkOf t).val hb l) h :=
    fun h l => causal_eq (seqOf t) (blkOf t).val hb (block0 m c t) (block1 m c t) hg.pad h l
  have hj : j = col ⟨j.val / 64, by omega⟩ ⟨j.val % 64, by omega⟩ := Fin.ext (by simp only [col]; omega)
  rw [e]
  have O := out_apply c (grid0.coords t) (ms0_0 t) (hs0_0 t) (ms0_1 t) (hs0_1 t) (ms0_2 t) (hs0_2 t) (ms0_3 t) (hs0_3 t) scM0_0
    (Memref.isWhole_whole _) scM0_1 (Memref.isWhole_whole _) scM0_2 (Memref.isWhole_whole _) scM0_3 (Memref.isWhole_whole _)
    (iblk m c 0 t) (X0_1 m c t) (iblk m c 2 t) (fun h l k => by rw [hc]; exact seqScore_ne_top hg.q hg.kv _ _ _) l ⟨j.val / 64, by omega⟩ ⟨j.val % 64, by omega⟩
  rw [← hj] at O
  refine Eq.trans O ?_
  show _ = attend (m (c.tc.loc main_arg0)) (m (c.tc.loc main_arg1)) (m (c.tc.loc main_arg2)) (rowAt (seqOf t) (blkOf t).val hb l)
    ⟨j.val / 64, by omega⟩ ⟨j.val % 64, by omega⟩
  unfold attend
  refine Finset.sum_congr (M := EReal) rfl fun c' _ => ?_
  rw [block2, hc, value_eq (seqOf t) (blkOf t).val hb (block1 m c t) l c',
    softmax_eq hg.q hg.kv _ _ _ _ (by have := coords1 t; unfold rowAt; dsimp only; omega) (by have := coords1 t; omega)]

/-- A finite magnitude is a number. -/
theorem real_of_abs {x : EReal} (h : max x (-x) < ⊤) : Real x :=
  ⟨fun e => by simp [e] at h, fun e => by simp [e] at h⟩

theorem good_of_pre (hpre : Cert.Pre_KernelIdeal_finite_inputs m) (c : Dev nD) : Good m c := by
  obtain ⟨h1, h2, h3⟩ := hpre c
  have hi : Ideal.ofBits .f32 2139095040#32 = ⊤ := by simp [Ideal.ofBits, Ideal.ieee]
  refine ⟨fun i => ?_, fun i => ?_, fun r k hk => ?_⟩
  · have := congrFun h1 i
    pointwise [Cert.Pre_finite_inputs.fn] at this
    rw [WordCmp.ofBool_decide_eq_one_iff, hi] at this
    exact real_of_abs this
  · have := congrFun h2 i
    pointwise [Cert.Pre_finite_inputs.fn] at this
    rw [WordCmp.ofBool_decide_eq_one_iff, hi] at this
    exact real_of_abs this
  · have := congrFun h3 (ix2 r ⟨k.val - 160, by omega⟩)
    pointwise [Cert.Pre_finite_inputs.fn] at this
    rw [WordCmp.ofBool_decide_eq_one_iff] at this
    simpa only [show 160 + (k.val - 160) = k.val by omega] using this

/-- The call writes the attention of its arguments, and so does the reference. -/
theorem algebraic : Cert.algebraic_KernelIdeal_ReferenceIdeal_pre_finite_inputs := by
  intro m g m' g' hpre hag
  refine ⟨fun c => result m c, (θ_run _ _ _).mono (fun _ h c => ⟨(h c).1.trans (final m c (good_of_pre m hpre c)), (h c).2⟩)
    (Cert.KernelIdeal.Value.run_blocks m g), (θ_run _ _ _).mono (fun _ h c => ⟨(h c).1.trans ?_, (h c).2⟩)
    (Cert.ReferenceIdeal.Value.run m' g')⟩
  funext j
  obtain ⟨r, k, rfl⟩ : ∃ (r : Fin 16384) (k : Fin 512), j = ix2 r k := ⟨j 0, j 1, funext fun a => by match a with | ⟨0, _⟩ => rfl | ⟨1, _⟩ => rfl⟩
  rw [ref_apply, (hag c).1, (hag c).2.1, (hag c).2.2]
  rfl

end Cert.Proof.Mla
end
-- ==== Proof.Ffn.lean ====
/- A feed-forward block of a layer, read row by row: the norm of a row, a gated unit, a row's product with the last matrix. -/
module

public import Idealize.ShloMosaic.Lib.Pointwise
public import Idealize.ShloMosaic.Lib.WordCmp
public import Idealize.ShloMosaic.Lib.IdealHost

@[expose] public section

set_option maxRecDepth 16384

noncomputable section

open Idealize.ShloMosaic

namespace Cert.Proof.Ffn

/-- Entry `j` of the row `x` divided by the root of its mean square, times the weight `w`. -/
def rmsRow (x w : Fin 1024 → EReal) (j : Fin 1024) : EReal :=
  x j * Ideal.rsqrt (Ideal.div (∑ k, x k * x k) (Ideal.ofBits .f32 0x44800000#32) + Ideal.ofBits .f32 0x358637BD#32) * w j

/-- A number times its logistic. -/
def silu (s : EReal) : EReal := s * Ideal.div 1 (1 + Ideal.exp (-s))

/-- Hidden unit `f` of the row `h`. -/
def unit {n : ℕ} (h : Fin 1024 → EReal) (wg wu : Fin 1024 → Fin n → EReal) (f : Fin n) : EReal :=
  silu (∑ k, h k * wg k f) * ∑ k, h k * wu k f

/-- Entry `j` of the block's output at the row `h`. -/
def block {n : ℕ} (h : Fin 1024 → EReal) (wg wu : Fin 1024 → Fin n → EReal) (wd : Fin n → Fin 1024 → EReal)
    (j : Fin 1024) : EReal := ∑ f, unit h wg wu f * wd f j

/-- The first `n` of eight terms, summed from zero in order. -/
def mix (T : Fin 8 → EReal) : ℕ → EReal
  | 0 => 0
  | n + 1 => mix T n + if h : n < 8 then T ⟨n, h⟩ else 0

theorem mix_succ (T : Fin 8 → EReal) (e : Fin 8) (n : ℕ) (h : e.val = n) : mix T (n + 1) = mix T n + T e := by
  subst h
  rw [mix, dif_pos e.isLt]

theorem mix_eight (T : Fin 8 → EReal) : mix T 8 = 0 + T 0 + T 1 + T 2 + T 3 + T 4 + T 5 + T 6 + T 7 := rfl

/-- A host sum over the last of two axes. -/
theorem reduce_add_last2 {n0 n1 : ℕ} {u : Shape} (S : FVec Ideal ⟨2, ![n0, n1]⟩ .f32) (init : u.Idx → Ideal .f32)
    (hr : (⟨2, ![n0, n1]⟩ : Shape).ReducesTo [1] ⟨1, ![n0]⟩) (hu : 0 < u.numel) (r : Fin n0) :
    Host.reduceAdd S init hr hu (ix1 r) = (init (Shape.Idx.first hu) : EReal) + ∑ j : Fin n1, (S (ix2 r j) : EReal) :=
  Ideal.hostReduceAdd_r2_a1 hr S _ _

end Cert.Proof.Ffn
-- ==== Proof.MoePay.lean ====
/- What the stores of the experts' kernel hold, read at an index. -/
module

public import proofs.«01_k».proof.Proof.Ffn
public import proofs.«01_k».proof.Proof.Gen.Kernel2Ideal.Skeleton

@[expose] public section

set_option maxRecDepth 16384

noncomputable section

open Idealize.ShloMosaic Idealize.ShloMosaic.TcCoe
open Cert.Kernel2Ideal Cert.Kernel2Ideal.Gen

namespace Cert.Proof.Moe
open Cert.Proof.Ffn

theorem pay1_apply (a : FVec Ideal S512x1024 .f32) (r : Fin 512) (j : Fin 1024) :
    k0_pay1 (F := Ideal) a (ix2 r j) = a (ix2 r j) := by
  pointwise [k0_pay1]

theorem pay4_apply (r : Fin 512) (j : Fin 1024) : k0_pay4 (F := Ideal) (ix2 r j) = 0 := by
  pointwise [k0_pay4]

theorem pay3_apply (x : Vec Ideal S512x1024 .f32) (w : Vec Ideal S1x1024 .f32) (r : Fin 512) (j : Fin 1024) :
    k0_pay3 (F := Ideal) x w (ix2 r j) = rmsRow (fun k => x (ix2 r k)) (fun k => w (ix2 0 k)) j := by
  unfold rmsRow
  pointwise [k0_pay3]

theorem pay2_apply (x a : Vec Ideal S512x1024 .f32) (w : Vec Ideal S1x1024 .f32) (r : Fin 512) (j : Fin 1024) :
    k0_pay2 (F := Ideal) x a w (ix2 r j)
      = rmsRow (fun k => x (ix2 r k) + a (ix2 r k)) (fun k => w (ix2 0 k)) j := by
  unfold rmsRow
  pointwise [k0_pay2]

theorem pay5_apply (h : Vec Ideal S512x1024 .bf16) (wg wu : Vec Ideal S1x1024x1408 .bf16) (a : Vec Ideal S512x1024 .f32)
    (g : Vec Ideal S1x512x1 .f32) (wd : Vec Ideal S1x1408x1024 .bf16) (r : Fin 512) (j : Fin 1024) :
    k0_pay5 (F := Ideal) h wg wu a g wd (ix2 r j)
      = a (ix2 r j) + g (ix3 0 r 0) * block (fun k => h (ix2 r k)) (fun k f => wg (ix3 0 k f)) (fun k f => wu (ix3 0 k f))
          (fun f k => wd (ix3 0 f k)) j := by
  unfold block Ffn.unit silu
  pointwise [k0_pay5]
  simp only [zero_sub]

end Cert.Proof.Moe
-- ==== Proof.MoeKernel.lean ====
/- What the experts' kernel leaves after each grid point: the row block's norm, and the experts summed so far. -/
module

public import proofs.«01_k».proof.Proof.MoePay
public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Cert.Kernel2Ideal Cert.Kernel2Ideal.Gen

namespace Cert.Proof.Moe
open Cert.Proof.Ffn

variable (m : (ℓ : Loc nD τ sig) → Buf (Elt Ideal) ℓ) (c : Dev nD)

/-- What the point before left. -/
abbrev prev (t : Fin cfg0.N) := outsAt0 m c (t.val - 1) (Nat.lt_of_le_of_lt (Nat.sub_le _ _) t.isLt)

theorem read_h (x : Vec Ideal S512x1024 .bf16) :
    View.read (Elt Ideal) (View.whole cc0_scratch0) ((Memref.isWhole_whole cc0_scratch0).unread x) = x :=
  (Memref.isWhole_whole cc0_scratch0).read_unread x
theorem read_acc (x : Vec Ideal S512x1024 .f32) :
    View.read (Elt Ideal) (View.whole cc0_scratch1) ((Memref.isWhole_whole cc0_scratch1).unread x) = x :=
  (Memref.isWhole_whole cc0_scratch1).read_unread x

theorem h_A (t : Fin cfg0.N) (h0 : t.val % 8 = 0) :
    (outsAt0 m c t.val t.isLt).2.1 = k0_pay3 (iblk m c 0 t) (iblk m c 1 t) := by
  rw [outsAt0_A m c t h0 (by omega)]; frame_out

theorem acc_A (t : Fin cfg0.N) (h0 : t.val % 8 = 0) :
    (outsAt0 m c t.val t.isLt).2.2 = k0_pay1 (k0_pay5 (k0_pay3 (iblk m c 0 t) (iblk m c 1 t)) (iblk m c 3 t) (iblk m c 4 t)
      (k0_pay4 (F := Ideal)) (iblk m c 2 t) (iblk m c 5 t)) := by
  rw [outsAt0_A m c t h0 (by omega)]; frame_out

theorem h_step (t : Fin cfg0.N) (h0 : ¬t.val % 8 = 0) : (outsAt0 m c t.val t.isLt).2.1 = (prev m c t).2.1 := by
  by_cases h1 : t.val % 8 = 7
  · rw [outsAt0_C m c t h0 h1]; rfl
  · rw [outsAt0_B m c t h0 h1]; rfl

theorem acc_step (t : Fin cfg0.N) (h0 : ¬t.val % 8 = 0) :
    (outsAt0 m c t.val t.isLt).2.2 = k0_pay1 (k0_pay5 (prev m c t).2.1 (iblk m c 3 t) (iblk m c 4 t)
      (prev m c t).2.2 (iblk m c 2 t) (iblk m c 5 t)) := by
  by_cases h1 : t.val % 8 = 7
  · rw [outsAt0_C m c t h0 h1]; frame_out; rw [read_h, read_acc]
  · rw [outsAt0_B m c t h0 h1]; frame_out; rw [read_h, read_acc]

theorem out_C (t : Fin cfg0.N) (h1 : t.val % 8 = 7) :
    (outsAt0 m c t.val t.isLt).1 = k0_pay2 (iblk m c 0 t) (outsAt0 m c t.val t.isLt).2.2 (iblk m c 6 t) := by
  rw [acc_step m c t (by omega), outsAt0_C m c t (by omega) h1]; frame_out; rw [read_h, read_acc]

/-- The row block and the expert of a grid point. -/
abbrev rowsOf (t : Fin cfg0.N) : Fin 33 := grid0.coords t 0
abbrev expertOf (t : Fin cfg0.N) : Fin 8 := grid0.coords t 1

theorem coords0 (t : Fin cfg0.N) : (grid0.coords t 0).val = (rowsOf t).val := rfl
theorem coords1 (t : Fin cfg0.N) : (grid0.coords t 1).val = (expertOf t).val := rfl

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 1).val, (grid0.coords t 0).val, 0] :=
  (by decide +kernel : ∀ t : Fin grid0.N, _)
theorem idx3 : ∀ t : Fin cfg0.N, win0_3.index t = ![(grid0.coords t 1).val, 0, 0] := (by decide +kernel : ∀ t : Fin grid0.N, _)
theorem idx4 : ∀ t : Fin cfg0.N, win0_4.index t = ![(grid0.coords t 1).val, 0, 0] := (by decide +kernel : ∀ t : Fin grid0.N, _)
theorem idx5 : ∀ t : Fin cfg0.N, win0_5.index t = ![(grid0.coords t 1).val, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![(grid0.coords t 0).val, 0] := (by decide +kernel : ∀ t : Fin grid0.N, _)
theorem place : ∀ t : Fin cfg0.N, (grid0.coords t 0).val = t.val / 8 ∧ (grid0.coords t 1).val = t.val % 8 :=
  (by decide +kernel : ∀ t : Fin grid0.N, _)

theorem row_lt (i : Fin 33) (r : Fin 512) : 512 * i.val + r.val < 16896 := by omega

/-- Row `r` of row block `i`. -/
def rowAt (i : Fin 33) (r : Fin 512) : Fin 16896 := ⟨512 * i.val + r.val, row_lt i r⟩

theorem block0 (t : Fin cfg0.N) (r : Fin 512) (k : Fin 1024) :
    iblk m c 0 t (ix2 r k) = m (c.tc.loc main_arg0) (ix2 (rowAt (rowsOf t) r) k) := by
  rw [← V_main_arg0 m c]
  blk_simp [iblk]
  refine congrArg _ (funext fun a => Fin.ext ?_)
  match a with
  | ⟨0, _⟩ => blk_simp [idx0]; simp only [coords0, rowAt]; simp; omega
  | ⟨1, _⟩ => blk_simp [idx0]

theorem block1 (t : Fin cfg0.N) (k : Fin 1024) : iblk m c 1 t (ix2 0 k) = m (c.tc.loc main_arg1) (ix1 k) := by
  have e : ((cfg0.win 1).blk t).view.emb (ix2 0 k) = (ix2 0 k : S1x1024.Idx) := by
    refine funext fun a => Fin.ext ?_
    match a with
    | ⟨0, _⟩ => blk_simp [idx1]
    | ⟨1, _⟩ => blk_simp [idx1]
  have v : V m c main_v0 (ix2 0 k) = m (c.tc.loc main_arg1) (ix1 k) := by
    unfold V
    after_reads_at
  refine Eq.trans ?_ v
  blk_simp [iblk]
  rw [e]

theorem block2 (t : Fin cfg0.N) (r : Fin 512) :
    iblk m c 2 t (ix3 0 r 0) = m (c.tc.loc main_arg2) (ix2 (expertOf t) (rowAt (rowsOf t) r)) := by
  have e : ((cfg0.win 2).blk t).view.emb (ix3 0 r 0) = (ix3 (expertOf t) (rowAt (rowsOf t) r) 0 : S8x16896x1.Idx) := by
    refine funext fun a => Fin.ext ?_
    match a with
    | ⟨0, _⟩ => blk_simp [idx2]; rfl
    | ⟨1, _⟩ => blk_simp [idx2]; simp only [coords0, rowAt]; simp; omega
    | ⟨2, _⟩ => blk_simp [idx2]
  have v : V m c main_v1 (ix3 (expertOf t) (rowAt (rowsOf t) r) 0)
      = m (c.tc.loc main_arg2) (ix2 (expertOf t) (rowAt (rowsOf t) r)) := by
    unfold V
    after_reads_at
  refine Eq.trans ?_ v
  blk_simp [iblk]
  rw [e]

theorem block3 (t : Fin cfg0.N) (k : Fin 1024) (f : Fin 1408) :
    iblk m c 3 t (ix3 0 k f) = m (c.tc.loc main_arg3) (ix3 (expertOf t) k f) := by
  have e : ((cfg0.win 3).blk t).view.emb (ix3 0 k f) = (ix3 (expertOf t) k f : S8x1024x1408.Idx) := by
    refine funext fun a => Fin.ext ?_
    match a with
    | ⟨0, _⟩ => blk_simp [idx3]; rfl
    | ⟨1, _⟩ => blk_simp [idx3]
    | ⟨2, _⟩ => blk_simp [idx3]
  have v : V m c main_v2 (ix3 (expertOf t) k f) = m (c.tc.loc main_arg3) (ix3 (expertOf t) k f) := by
    unfold V
    after_reads_at
  refine Eq.trans ?_ v
  blk_simp [iblk]
  rw [e]

theorem block4 (t : Fin cfg0.N) (k : Fin 1024) (f : Fin 1408) :
    iblk m c 4 t (ix3 0 k f) = m (c.tc.loc main_arg4) (ix3 (expertOf t) k f) := by
  have e : ((cfg0.win 4).blk t).view.emb (ix3 0 k f) = (ix3 (expertOf t) k f : S8x1024x1408.Idx) := by
    refine funext fun a => Fin.ext ?_
    match a with
    | ⟨0, _⟩ => blk_simp [idx4]; rfl
    | ⟨1, _⟩ => blk_simp [idx4]
    | ⟨2, _⟩ => blk_simp [idx4]
  have v : V m c main_v3 (ix3 (expertOf t) k f) = m (c.tc.loc main_arg4) (ix3 (expertOf t) k f) := by
    unfold V
    after_reads_at
  refine Eq.trans ?_ v
  blk_simp [iblk]
  rw [e]

theorem block5 (t : Fin cfg0.N) (f : Fin 1408) (k : Fin 1024) :
    iblk m c 5 t (ix3 0 f k) = m (c.tc.loc main_arg5) (ix3 (expertOf t) f k) := by
  have e : ((cfg0.win 5).blk t).view.emb (ix3 0 f k) = (ix3 (expertOf t) f k : S8x1408x1024.Idx) := by
    refine funext fun a => Fin.ext ?_
    match a with
    | ⟨0, _⟩ => blk_simp [idx5]; rfl
    | ⟨1, _⟩ => blk_simp [idx5]
    | ⟨2, _⟩ => blk_simp [idx5]
  have v : V m c main_v4 (ix3 (expertOf t) f k) = m (c.tc.loc main_arg5) (ix3 (expertOf t) f k) := by
    unfold V
    after_reads_at
  refine Eq.trans ?_ v
  blk_simp [iblk]
  rw [e]

theorem block6 (t : Fin cfg0.N) (k : Fin 1024) : iblk m c 6 t (ix2 0 k) = m (c.tc.loc main_arg6) (ix1 k) := by
  have e : ((cfg0.win 6).blk t).view.emb (ix2 0 k) = (ix2 0 k : S1x1024.Idx) := by
    refine funext fun a => Fin.ext ?_
    match a with
    | ⟨0, _⟩ => blk_simp [idx6]
    | ⟨1, _⟩ => blk_simp [idx6]
  have v : V m c main_v5 (ix2 0 k) = m (c.tc.loc main_arg6) (ix1 k) := by
    unfold V
    after_reads_at
  refine Eq.trans ?_ v
  blk_simp [iblk]
  rw [e]

/-- Row `r` of the residual stream, and its norm. -/
def xRow (r : Fin 16896) (k : Fin 1024) : EReal := m (c.tc.loc main_arg0) (ix2 r k)
def hRow (r : Fin 16896) : Fin 1024 → EReal := rmsRow (xRow m c r) fun k => m (c.tc.loc main_arg1) (ix1 k)

/-- Row `r`'s weight for expert `e`, and the expert's share of the row's entry `j`. -/
def gateAt (r : Fin 16896) (e : Fin 8) : EReal := m (c.tc.loc main_arg2) (ix2 e r)
def share (r : Fin 16896) (j : Fin 1024) (e : Fin 8) : EReal :=
  gateAt m c r e * block (hRow m c r) (fun k f => m (c.tc.loc main_arg3) (ix3 e k f))
    (fun k f => m (c.tc.loc main_arg4) (ix3 e k f)) (fun f k => m (c.tc.loc main_arg5) (ix3 e f k)) j

theorem norm_at (t : Fin cfg0.N) (r : Fin 512) (k : Fin 1024) :
    k0_pay3 (F := Ideal) (iblk m c 0 t) (iblk m c 1 t) (ix2 r k) = hRow m c (rowAt (rowsOf t) r) k := by
  refine (pay3_apply _ _ r k).trans ?_
  simp only [block0, block1]
  rfl

theorem acc_at (t : Fin cfg0.N) (h : Vec Ideal S512x1024 .bf16) (a : Vec Ideal S512x1024 .f32) (r : Fin 512) (j : Fin 1024)
    (hh : ∀ k, h (ix2 r k) = hRow m c (rowAt (rowsOf t) r) k) :
    k0_pay1 (F := Ideal) (k0_pay5 (F := Ideal) h (iblk m c 3 t) (iblk m c 4 t) a (iblk m c 2 t) (iblk m c 5 t)) (ix2 r j)
      = a (ix2 r j) + share m c (rowAt (rowsOf t) r) j (expertOf t) := by
  rw [pay1_apply]
  refine (pay5_apply h _ _ a _ _ r j).trans ?_
  simp only [block2, block3, block4, block5, hh]
  rfl

theorem rows_prev {n : ℕ} (hn : n + 1 < cfg0.N) (h0 : ¬(n + 1) % 8 = 0) :
    rowsOf ⟨n, Nat.lt_of_succ_lt hn⟩ = rowsOf ⟨n + 1, hn⟩ := Fin.ext (by
  have h1 := (place ⟨n, Nat.lt_of_succ_lt hn⟩).1
  have h2 := (place ⟨n + 1, hn⟩).1
  show (grid0.coords _ 0).val = (grid0.coords _ 0).val
  rw [h1, h2]
  show n / 8 = (n + 1) / 8
  omega)

/-- The carried rows: the norm of the block's rows, and the experts up to the point's summed in order. -/
theorem carried (n : ℕ) (hn : n < cfg0.N) (r : Fin 512) :
    (∀ k, (outsAt0 m c n hn).2.1 (ix2 r k) = hRow m c (rowAt (rowsOf ⟨n, hn⟩) r) k)
    ∧ ∀ j, (outsAt0 m c n hn).2.2 (ix2 r j) = mix (share m c (rowAt (rowsOf ⟨n, hn⟩) r) j) (n % 8 + 1) := by
  induction n with
  | zero =>
    refine ⟨fun k => (congrFun (h_A m c ⟨0, hn⟩ rfl) _).trans (norm_at m c _ r k), fun j => ?_⟩
    refine (congrFun (acc_A m c ⟨0, hn⟩ rfl) _).trans ?_
    rw [acc_at m c _ _ _ r j (norm_at m c _ r), pay4_apply]
    exact (mix_succ _ (expertOf ⟨0, hn⟩) 0 (place ⟨0, hn⟩).2).symm
  | succ n ih =>
    have hp := (place ⟨n + 1, hn⟩).2
    by_cases h0 : (n + 1) % 8 = 0
    · refine ⟨fun k => (congrFun (h_A m c ⟨n + 1, hn⟩ h0) _).trans (norm_at m c _ r k), fun j => ?_⟩
      refine (congrFun (acc_A m c ⟨n + 1, hn⟩ h0) _).trans ?_
      rw [acc_at m c _ _ _ r j (norm_at m c _ r), pay4_apply, h0]
      exact (mix_succ _ (expertOf ⟨n + 1, hn⟩) 0 (hp.trans h0)).symm
    · obtain ⟨i1, i2⟩ := ih (Nat.lt_of_succ_lt hn)
      rw [rows_prev hn h0] at i1 i2
      refine ⟨fun k => (congrFun (h_step m c ⟨n + 1, hn⟩ h0) _).trans (i1 k), fun j => ?_⟩
      refine (congrFun (acc_step m c ⟨n + 1, hn⟩ h0) _).trans ?_
      refine (acc_at m c _ (prev m c ⟨n + 1, hn⟩).2.1 (prev m c ⟨n + 1, hn⟩).2.2 r j i1).trans ?_
      refine (congrArg (· + _) (i2 j)).trans ?_
      rw [show (n + 1) % 8 = n % 8 + 1 by omega]
      exact (mix_succ _ (expertOf ⟨n + 1, hn⟩) (n % 8 + 1) (hp.trans (by dsimp only; omega))).symm

/-- Entry `j` of row `r` of the call's result. -/
def entry (r : Fin 16896) (j : Fin 1024) : EReal :=
  rmsRow (fun k => xRow m c r k + mix (share m c r k) 8) (fun k => m (c.tc.loc main_arg6) (ix1 k)) j

/-- The call's result array. -/
def result : S16896x1024.Idx → EReal := fun i => entry m c (i 0) (i 1)

theorem final : (dats m 0 c).arrAt 7 cfg0.N = result m c := by
  refine (dats m 0 c).arrAt_eq_of_covers 7 _ (by decide +kernel) fun t hf y => ?_
  obtain ⟨l, j, rfl⟩ : ∃ (l : Fin 512) (j : Fin 1024), y = ix2 l j := ⟨y 0, y 1, funext fun a => by match a with | ⟨0, _⟩ => rfl | ⟨1, _⟩ => rfl⟩
  have e : ((cfg0.win 7).blk t).view.emb (ix2 l j) = (ix2 (rowAt (rowsOf t) l) j : S16896x1024.Idx) := by
    refine funext fun a => Fin.ext ?_
    match a with
    | ⟨0, _⟩ => blk_simp [idx7]; simp only [coords0, rowAt]; simp; omega
    | ⟨1, _⟩ => blk_simp [idx7]
  have h7 : t.val % 8 = 7 := (flush0_7 t).mp hf
  rw [e]
  refine Eq.trans (congrFun (out_C m c t h7) (ix2 l j)) ?_
  refine (pay2_apply _ _ _ l j).trans ?_
  simp only [block0, block6, (carried m c t.val t.isLt l).2, h7]
  rfl

end Cert.Proof.Moe
-- ==== Proof.MoeRef.lean ====
/- The experts' reference, read at an index. -/
module

public import proofs.«01_k».proof.Proof.Ffn
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Cert.Reference2Ideal Cert.Reference2Ideal.Gen Cert.Reference2Ideal.Value

namespace Cert.Proof.MoeRef
open Cert.Proof.Ffn

section Stages
variable {F : FTy → Type} [FloatOps F]

/-- The mean square of each row. -/
def sumV (x : FVec F S16896x1024 .f32) : FVec F S16896 .f32 :=
  Host.reduceAdd (mulf x x) (constant S_ .f32 0x00000000#32) reducesTo_S16896x1024_S16896_d1 h_S_

/-- The rows scaled by the root of their mean square and the weight. -/
def scaleV (x : FVec F S16896x1024 .f32) (s : FVec F S16896 .f32) (w : FVec F S1024 .f32) : FVec F S16896x1024 .f32 :=
  mulf (mulf x (broadcastInDim S16896x1024 ![0, 1] bcast_S16896x1_S16896x1024_0_1 (Host.rsqrt (addf (Host.divf (broadcastInDim S16896x1 ![0] bcast_S16896_S16896x1_0 s) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 w))

/-- The hidden products of an expert. -/
def preV (h : FVec F S16896x1024 .f32) (w : FVec F S1024x1408 .f32) : FVec F S16896x1408 .f32 :=
  Host.dotGeneral dot_S16896x1024_S1024x1408_S16896x1408_1_0_0_1_n_n none h w

/-- The gated hidden units, from their two products. -/
def gatedV (a b : FVec F S16896x1408 .f32) : FVec F S16896x1408 .f32 :=
  mulf (mulf a (Host.divf (broadcastInDim S16896x1408 ![] bcast_S_S16896x1408 (constant S_ .f32 0x3F800000#32)) (addf (broadcastInDim S16896x1408 ![] bcast_S_S16896x1408 (constant S_ .f32 0x3F800000#32)) (Host.exp (Host.negf a))))) b

/-- An expert's output, times the rows' weights for it. -/
def shareV (g : FVec F S16896x1 .f32) (u : FVec F S16896x1408 .f32) (w : FVec F S1408x1024 .f32) : FVec F S16896x1024 .f32 :=
  mulf (broadcastInDim S16896x1024 ![0, 1] bcast_S16896x1_S16896x1024_0_1 g)
    (Host.dotGeneral dot_S16896x1408_S1408x1024_S16896x1024_1_0_0_1_n_n none u w)

/-- An expert's first matrices, its last one, and the rows' weights for it. -/
def inV (e : ℕ) (he : S8x1024x1408.Slices ![e, 0, 0] S1x1024x1408) (w : FVec F S8x1024x1408 .f32) : FVec F S1024x1408 .f32 :=
  shapeCast _ (extractStridedSlice S1x1024x1408 ![e, 0, 0] w he) shapeCasts_S1x1024x1408_S1024x1408
def downV (e : ℕ) (he : S8x1408x1024.Slices ![e, 0, 0] S1x1408x1024) (w : FVec F S8x1408x1024 .f32) : FVec F S1408x1024 .f32 :=
  shapeCast _ (extractStridedSlice S1x1408x1024 ![e, 0, 0] w he) shapeCasts_S1x1408x1024_S1408x1024
def gateV (e : ℕ) (he : S16896x8.Slices ![0, e] S16896x1) (g : FVec F S16896x8 .f32) : FVec F S16896x1 .f32 :=
  extractStridedSlice S16896x1 ![0, e] g he
def transV (g : FVec F S8x16896 .f32) : FVec F S16896x8 .f32 := transpose S16896x8 [1, 0] g transposes_S8x16896_S16896x8_1_0

/-- Expert `e`'s share of the rows. -/
def expertV (e : ℕ) (hg : S16896x8.Slices ![0, e] S16896x1) (hi : S8x1024x1408.Slices ![e, 0, 0] S1x1024x1408)
    (hd : S8x1408x1024.Slices ![e, 0, 0] S1x1408x1024) (h : FVec F S16896x1024 .f32) (g : FVec F S8x16896 .f32)
    (wg wu : FVec F S8x1024x1408 .f32) (wd : FVec F S8x1408x1024 .f32) : FVec F S16896x1024 .f32 :=
  shareV (gateV e hg (transV g)) (gatedV (preV h (inV e hi wg)) (preV h (inV e hi wu))) (downV e hd wd)

def zeroV : FVec F S16896x1024 .f32 := broadcastInDim S16896x1024 ![] bcast_S_S16896x1024 (constant S_ .f32 0x00000000#32)

variable (V0 : Valuation τ sig (Elt F))

theorem res_v12 : res_main_v12 V0 = scaleV (V0 (Proc.devRef .tc main_arg0)) (sumV (V0 (Proc.devRef .tc main_arg0)))
    (V0 (Proc.devRef .tc main_arg1)) := rfl

/-- Expert `e`'s share of the rows of the launch's arguments. -/
def shareOf (e : ℕ) (hg : S16896x8.Slices ![0, e] S16896x1) (hi : S8x1024x1408.Slices ![e, 0, 0] S1x1024x1408)
    (hd : S8x1408x1024.Slices ![e, 0, 0] S1x1408x1024) : FVec F S16896x1024 .f32 :=
  expertV e hg hi hd (res_main_v12 V0) (V0 (Proc.devRef .tc main_arg2)) (V0 (Proc.devRef .tc main_arg3))
    (V0 (Proc.devRef .tc main_arg4)) (V0 (Proc.devRef .tc main_arg5))

theorem res_v89 : res_main_v89 V0 = addf (addf (addf (addf (addf zeroV
    (shareOf V0 0 slices_S16896x8_S16896x1_0_0 slices_S8x1024x1408_S1x1024x1408_0_0_0 slices_S8x1408x1024_S1x1408x1024_0_0_0))
    (shareOf V0 1 slices_S16896x8_S16896x1_0_1 slices_S8x1024x1408_S1x1024x1408_1_0_0 slices_S8x1408x1024_S1x1408x1024_1_0_0))
    (shareOf V0 2 slices_S16896x8_S16896x1_0_2 slices_S8x1024x1408_S1x1024x1408_2_0_0 slices_S8x1408x1024_S1x1408x1024_2_0_0))
    (shareOf V0 3 slices_S16896x8_S16896x1_0_3 slices_S8x1024x1408_S1x1024x1408_3_0_0 slices_S8x1408x1024_S1x1408x1024_3_0_0))
    (shareOf V0 4 slices_S16896x8_S16896x1_0_4 slices_S8x1024x1408_S1x1024x1408_4_0_0 slices_S8x1408x1024_S1x1408x1024_4_0_0) := rfl

theorem res_v135 : res_main_v135 V0 = addf (V0 (Proc.devRef .tc main_arg0)) (addf (addf (addf (res_main_v89 V0)
    (shareOf V0 5 slices_S16896x8_S16896x1_0_5 slices_S8x1024x1408_S1x1024x1408_5_0_0 slices_S8x1408x1024_S1x1408x1024_5_0_0))
    (shareOf V0 6 slices_S16896x8_S16896x1_0_6 slices_S8x1024x1408_S1x1024x1408_6_0_0 slices_S8x1408x1024_S1x1408x1024_6_0_0))
    (shareOf V0 7 slices_S16896x8_S16896x1_0_7 slices_S8x1024x1408_S1x1024x1408_7_0_0 slices_S8x1408x1024_S1x1408x1024_7_0_0)) := rfl

end Stages

theorem scaleV_apply (x : FVec Ideal S16896x1024 .f32) (s : FVec Ideal S16896 .f32) (w : FVec Ideal S1024 .f32)
    (r : Fin 16896) (j : Fin 1024) : scaleV (F := Ideal) x s w (ix2 r j)
      = x (ix2 r j) * Ideal.rsqrt (Ideal.div (s (ix1 r)) (Ideal.ofBits .f32 0x44800000#32) + Ideal.ofBits .f32 0x358637BD#32)
        * w (ix1 j) := by
  pointwise [scaleV]

theorem preV_apply (h : FVec Ideal S16896x1024 .f32) (w : FVec Ideal S1024x1408 .f32) (r : Fin 16896) (f : Fin 1408) :
    preV (F := Ideal) h w (ix2 r f) = ∑ k, h (ix2 r k) * w (ix2 k f) := by
  pointwise [preV]

theorem gatedV_apply (a b : FVec Ideal S16896x1408 .f32) (r : Fin 16896) (f : Fin 1408) :
    gatedV (F := Ideal) a b (ix2 r f) = silu (a (ix2 r f)) * b (ix2 r f) := by
  unfold silu
  pointwise [gatedV]

theorem shareV_apply (g : FVec Ideal S16896x1 .f32) (u : FVec Ideal S16896x1408 .f32) (w : FVec Ideal S1408x1024 .f32)
    (r : Fin 16896) (j : Fin 1024) :
    shareV (F := Ideal) g u w (ix2 r j) = g (ix2 r 0) * ∑ f, u (ix2 r f) * w (ix2 f j) := by
  pointwise [shareV]

theorem sumV_apply (x : FVec Ideal S16896x1024 .f32) (r : Fin 16896) :
    sumV (F := Ideal) x (ix1 r) = ∑ k : Fin 1024, (x (ix2 r k) * x (ix2 r k) : EReal) := by
  unfold sumV
  refine (reduce_add_last2 _ _ _ _ r).trans ?_
  have z : (constant (F := Ideal) S_ .f32 0x00000000#32 (Shape.Idx.first h_S_) : EReal) = 0 := by simp [constant, Ideal.ofBits, Ideal.ieee]
  rw [z, zero_add]
  rfl

theorem norm_apply (x : FVec Ideal S16896x1024 .f32) (w : FVec Ideal S1024 .f32) (r : Fin 16896) (j : Fin 1024) :
    scaleV (F := Ideal) x (sumV x) w (ix2 r j) = rmsRow (fun k => x (ix2 r k)) (fun k => w (ix1 k)) j := by
  rw [scaleV_apply, sumV_apply]
  rfl

theorem inV_apply (e : Fin 8) (he) (w : FVec Ideal S8x1024x1408 .f32) (k : Fin 1024) (f : Fin 1408) :
    inV (F := Ideal) e.val he w (ix2 k f) = w (ix3 e k f) := by
  pointwise [inV]

theorem downV_apply (e : Fin 8) (he) (w : FVec Ideal S8x1408x1024 .f32) (f : Fin 1408) (k : Fin 1024) :
    downV (F := Ideal) e.val he w (ix2 f k) = w (ix3 e f k) := by
  pointwise [downV]

theorem gateV_apply (e : Fin 8) (he) (g : FVec Ideal S16896x8 .f32) (r : Fin 16896) :
    gateV (F := Ideal) e.val he g (ix2 r 0) = g (ix2 r e) := by
  pointwise [gateV]

theorem transV_apply (g : FVec Ideal S8x16896 .f32) (r : Fin 16896) (e : Fin 8) :
    transV (F := Ideal) g (ix2 r e) = g (ix2 e r) := by
  pointwise [transV]

theorem expertV_apply (e : Fin 8) (hg hi hd) (h : FVec Ideal S16896x1024 .f32) (g : FVec Ideal S8x16896 .f32)
    (wg wu : FVec Ideal S8x1024x1408 .f32) (wd : FVec Ideal S8x1408x1024 .f32) (r : Fin 16896) (j : Fin 1024) :
    expertV (F := Ideal) e.val hg hi hd h g wg wu wd (ix2 r j)
      = g (ix2 e r) * block (fun k => h (ix2 r k)) (fun k f => wg (ix3 e k f)) (fun k f => wu (ix3 e k f))
          (fun f k => wd (ix3 e f k)) j := by
  unfold expertV
  rw [shareV_apply, gateV_apply, transV_apply]
  simp only [gatedV_apply, preV_apply, inV_apply, downV_apply]
  rfl

end Cert.Proof.MoeRef
-- ==== Proof.Moe.lean ====
/- The experts' call: its claims. -/
module

public import proofs.«01_k».proof.Proof.MoeKernel
public import proofs.«01_k».proof.Proof.MoeRef
public import proofs.«01_k».proof.Proof.Gen.Kernel2.Frame
public import proofs.«01_k».proof.Defs
public import Idealize.ShloMosaic.Lib.Quiescent

@[expose] public section

set_option maxRecDepth 16384

noncomputable section

open Idealize.ShloMosaic Idealize.ShloMosaic.TcCoe Idealize.SL.Sem

namespace Cert.Proof.Moe
open Cert.Proof.Ffn

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem preserves : Cert.preserves_Kernel2_Kernel2Ideal := trivial

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

section Match
open Cert.Reference2Ideal Cert.Reference2Ideal.Gen Cert.Reference2Ideal.Value
open Cert.Proof.MoeRef
open Idealize.ShloMosaic.StableHlo

/-- The reference's arguments are the call's. -/
structure Same : Prop where
  a0 : m' (c.tc.loc main_arg0) = m (c.tc.loc Cert.Kernel2Ideal.main_arg0)
  a1 : m' (c.tc.loc main_arg1) = m (c.tc.loc Cert.Kernel2Ideal.main_arg1)
  a2 : m' (c.tc.loc main_arg2) = m (c.tc.loc Cert.Kernel2Ideal.main_arg2)
  a3 : m' (c.tc.loc main_arg3) = m (c.tc.loc Cert.Kernel2Ideal.main_arg3)
  a4 : m' (c.tc.loc main_arg4) = m (c.tc.loc Cert.Kernel2Ideal.main_arg4)
  a5 : m' (c.tc.loc main_arg5) = m (c.tc.loc Cert.Kernel2Ideal.main_arg5)
  a6 : m' (c.tc.loc main_arg6) = m (c.tc.loc Cert.Kernel2Ideal.main_arg6)

variable {m m' c}

theorem ref_norm (h : Same m m' c) (r : Fin 16896) (k : Fin 1024) :
    res_main_v12 (launchContents m' c) (ix2 r k) = (hRow m c r k : EReal) := by
  rw [res_v12]
  refine (norm_apply _ _ r k).trans ?_
  unfold hRow
  rw [show launchContents m' c (Proc.devRef .tc main_arg0) = _ from h.a0,
    show launchContents m' c (Proc.devRef .tc main_arg1) = _ from h.a1]
  rfl

theorem ref_share (h : Same m m' c) (e : Fin 8) (hg hi hd) (r : Fin 16896) (j : Fin 1024) :
    shareOf (F := Ideal) (launchContents m' c) e.val hg hi hd (ix2 r j) = share m c r j e := by
  unfold shareOf
  refine (expertV_apply e _ _ _ _ _ _ _ _ r j).trans ?_
  rw [show launchContents m' c (Proc.devRef .tc main_arg2) = _ from h.a2,
    show launchContents m' c (Proc.devRef .tc main_arg3) = _ from h.a3,
    show launchContents m' c (Proc.devRef .tc main_arg4) = _ from h.a4,
    show launchContents m' c (Proc.devRef .tc main_arg5) = _ from h.a5]
  simp only [ref_norm h]
  rfl

theorem zeroV_apply (r : Fin 16896) (j : Fin 1024) : zeroV (F := Ideal) (ix2 r j) = 0 := by
  pointwise [zeroV]

theorem ref_sum (h : Same m m' c) (r : Fin 16896) (j : Fin 1024) :
    res_main_v135 (launchContents m' c) (ix2 r j) = (xRow m c r j + mix (share m c r j) 8 : EReal) := by
  have s : ∀ (e : Fin 8) (hg hi hd), shareOf (F := Ideal) (launchContents m' c) e.val hg hi hd (ix2 r j) = share m c r j e :=
    fun e hg hi hd => ref_share h e hg hi hd r j
  rw [res_v135, res_v89, mix_eight]
  exact congrArg₂ (α := EReal) (β := EReal) (· + ·) (congrFun h.a0 _) (congrArg₂ (α := EReal) (β := EReal) (· + ·)
    (congrArg₂ (α := EReal) (β := EReal) (· + ·) (congrArg₂ (α := EReal) (β := EReal) (· + ·)
    (congrArg₂ (α := EReal) (β := EReal) (· + ·) (congrArg₂ (α := EReal) (β := EReal) (· + ·)
    (congrArg₂ (α := EReal) (β := EReal) (· + ·) (congrArg₂ (α := EReal) (β := EReal) (· + ·)
    (congrArg₂ (α := EReal) (β := EReal) (· + ·) (zeroV_apply r j) (s 0 _ _ _)) (s 1 _ _ _)) (s 2 _ _ _)) (s 3 _ _ _))
    (s 4 _ _ _)) (s 5 _ _ _)) (s 6 _ _ _)) (s 7 _ _ _))

theorem ref_entry (h : Same m m' c) (r : Fin 16896) (j : Fin 1024) :
    scaleV (F := Ideal) (res_main_v135 (launchContents m' c)) (sumV (res_main_v135 (launchContents m' c)))
      (m' (c.tc.loc main_arg6)) (ix2 r j) = result m c (ix2 r j) := by
  refine (norm_apply _ _ r j).trans ?_
  simp only [ref_sum h, h.a6]
  rfl

end Match

/-- The call's result is the reference's. -/
theorem algebraic : Cert.algebraic_Kernel2Ideal_Reference2Ideal := by
  intro m g m' g' _ hag
  refine ⟨fun c => result m c, (θ_run _ _ _).mono (fun _ h c => ⟨(h c).1.trans ((Cert.Kernel2Ideal.Value.final7 m c).symm.trans (final m c)), (h c).2⟩)
    (Cert.Kernel2Ideal.Value.run m g), (θ_run _ _ _).mono (fun _ h c => ⟨(h c).1.trans ?_, (h c).2⟩)
    (Cert.Reference2Ideal.Value.run m' g')⟩
  obtain ⟨a0, a1, a2, a3, a4, a5, a6⟩ := hag c
  funext i
  obtain ⟨r, j, rfl⟩ : ∃ (r : Fin 16896) (j : Fin 1024), i = ix2 r j := ⟨i 0, i 1, funext fun a => by match a with | ⟨0, _⟩ => rfl | ⟨1, _⟩ => rfl⟩
  exact ref_entry ⟨a0, a1, a2, a3, a4, a5, a6⟩ r j

end Cert.Proof.Moe
-- ==== Proof.DensePay.lean ====
/- What the stores of the dense block's kernel hold, read at an index. -/
module

public import proofs.«01_k».proof.Proof.Ffn
public import proofs.«01_k».proof.Proof.Gen.Kernel3Ideal.Skeleton

@[expose] public section

set_option maxRecDepth 16384

noncomputable section

open Idealize.ShloMosaic Idealize.ShloMosaic.TcCoe
open Cert.Kernel3Ideal Cert.Kernel3Ideal.Gen

namespace Cert.Proof.Dense
open Cert.Proof.Ffn

theorem pay1_apply (a : FVec Ideal S512x1024 .f32) (r : Fin 512) (j : Fin 1024) :
    k0_pay1 (F := Ideal) a (ix2 r j) = a (ix2 r j) := by
  pointwise [k0_pay1]

theorem pay4_apply (r : Fin 512) (j : Fin 1024) : k0_pay4 (F := Ideal) (ix2 r j) = 0 := by
  pointwise [k0_pay4]

theorem pay3_apply (x : Vec Ideal S512x1024 .f32) (w : Vec Ideal S1x1024 .f32) (r : Fin 512) (j : Fin 1024) :
    k0_pay3 (F := Ideal) x w (ix2 r j) = rmsRow (fun k => x (ix2 r k)) (fun k => w (ix2 0 k)) j := by
  unfold rmsRow
  pointwise [k0_pay3]

theorem pay2_apply (x a : Vec Ideal S512x1024 .f32) (r : Fin 512) (j : Fin 1024) :
    k0_pay2 (F := Ideal) x a (ix2 r j) = x (ix2 r j) + a (ix2 r j) := by
  pointwise [k0_pay2]

theorem pay5_apply (h : Vec Ideal S512x1024 .bf16) (wg wu : Vec Ideal S1x1024x1408 .bf16) (a : Vec Ideal S512x1024 .f32)
    (g : Vec Ideal S1x512x1 .f32) (wd : Vec Ideal S1x1408x1024 .bf16) (r : Fin 512) (j : Fin 1024) :
    k0_pay5 (F := Ideal) h wg wu a g wd (ix2 r j)
      = a (ix2 r j) + g (ix3 0 r 0) * block (fun k => h (ix2 r k)) (fun k f => wg (ix3 0 k f)) (fun k f => wu (ix3 0 k f))
          (fun f k => wd (ix3 0 f k)) j := by
  unfold block Ffn.unit silu
  pointwise [k0_pay5]
  simp only [zero_sub]

end Cert.Proof.Dense
-- ==== Proof.DenseKernel.lean ====
/- What the dense block's kernel leaves after each grid point: the row block's norm, and the halves summed so far. -/
module

public import proofs.«01_k».proof.Proof.DensePay
public import proofs.«01_k».proof.Proof.Gen.Kernel3Ideal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Cert.Kernel3Ideal Cert.Kernel3Ideal.Gen

namespace Cert.Proof.Dense
open Cert.Proof.Ffn

variable (m : (ℓ : Loc nD τ sig) → Buf (Elt Ideal) ℓ) (c : Dev nD)

/-- What the point before left. -/
abbrev prev (t : Fin cfg0.N) := outsAt0 m c (t.val - 1) (Nat.lt_of_le_of_lt (Nat.sub_le _ _) t.isLt)

theorem read_h (x : Vec Ideal S512x1024 .bf16) :
    View.read (Elt Ideal) (View.whole cc0_scratch0) ((Memref.isWhole_whole cc0_scratch0).unread x) = x :=
  (Memref.isWhole_whole cc0_scratch0).read_unread x
theorem read_acc (x : Vec Ideal S512x1024 .f32) :
    View.read (Elt Ideal) (View.whole cc0_scratch1) ((Memref.isWhole_whole cc0_scratch1).unread x) = x :=
  (Memref.isWhole_whole cc0_scratch1).read_unread x

theorem h_A (t : Fin cfg0.N) (h0 : t.val % 2 = 0) :
    (outsAt0 m c t.val t.isLt).2.1 = k0_pay3 (iblk m c 0 t) (iblk m c 1 t) := by
  rw [outsAt0_A m c t h0 (by omega)]; frame_out

theorem acc_A (t : Fin cfg0.N) (h0 : t.val % 2 = 0) :
    (outsAt0 m c t.val t.isLt).2.2 = k0_pay1 (k0_pay5 (k0_pay3 (iblk m c 0 t) (iblk m c 1 t)) (iblk m c 3 t) (iblk m c 4 t)
      (k0_pay4 (F := Ideal)) (iblk m c 2 t) (iblk m c 5 t)) := by
  rw [outsAt0_A m c t h0 (by omega)]; frame_out

theorem out_B (t : Fin cfg0.N) (h1 : t.val % 2 = 1) :
    (outsAt0 m c t.val t.isLt).1 = k0_pay2 (iblk m c 0 t) (k0_pay1 (k0_pay5 (prev m c t).2.1 (iblk m c 3 t) (iblk m c 4 t)
      (prev m c t).2.2 (iblk m c 2 t) (iblk m c 5 t))) := by
  rw [outsAt0_B m c t (by omega) h1]; frame_out; rw [read_h, read_acc]

/-- The row block and the half of a grid point. -/
abbrev rowsOf (t : Fin cfg0.N) : Fin 33 := grid0.coords t 0
abbrev halfOf (t : Fin cfg0.N) : Fin 2 := grid0.coords t 1

theorem coords0 (t : Fin cfg0.N) : (grid0.coords t 0).val = (rowsOf t).val := rfl

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 1).val, (grid0.coords t 0).val, 0] :=
  (by decide +kernel : ∀ t : Fin grid0.N, _)
theorem idx3 : ∀ t : Fin cfg0.N, win0_3.index t = ![(grid0.coords t 1).val, 0, 0] := (by decide +kernel : ∀ t : Fin grid0.N, _)
theorem idx4 : ∀ t : Fin cfg0.N, win0_4.index t = ![(grid0.coords t 1).val, 0, 0] := (by decide +kernel : ∀ t : Fin grid0.N, _)
theorem idx5 : ∀ t : Fin cfg0.N, win0_5.index t = ![(grid0.coords t 1).val, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![(grid0.coords t 0).val, 0] := (by decide +kernel : ∀ t : Fin grid0.N, _)
theorem place : ∀ t : Fin cfg0.N, (grid0.coords t 0).val = t.val / 2 ∧ (grid0.coords t 1).val = t.val % 2 :=
  (by decide +kernel : ∀ t : Fin grid0.N, _)

theorem row_lt (i : Fin 33) (r : Fin 512) : 512 * i.val + r.val < 16896 := by omega

/-- Row `r` of row block `i`. -/
def rowAt (i : Fin 33) (r : Fin 512) : Fin 16896 := ⟨512 * i.val + r.val, row_lt i r⟩

theorem hid_lt (s : Fin 2) (f : Fin 1408) : s.val * 1408 + f.val < 2816 := by omega

/-- Hidden unit `f` of half `s`. -/
def hid (s : Fin 2) (f : Fin 1408) : Fin 2816 := ⟨s.val * 1408 + f.val, hid_lt s f⟩

theorem block0 (t : Fin cfg0.N) (r : Fin 512) (k : Fin 1024) :
    iblk m c 0 t (ix2 r k) = m (c.tc.loc main_arg0) (ix2 (rowAt (rowsOf t) r) k) := by
  rw [← V_main_arg0 m c]
  blk_simp [iblk]
  refine congrArg _ (funext fun a => Fin.ext ?_)
  match a with
  | ⟨0, _⟩ => blk_simp [idx0]; simp only [coords0, rowAt]; simp; omega
  | ⟨1, _⟩ => blk_simp [idx0]

theorem block1 (t : Fin cfg0.N) (k : Fin 1024) : iblk m c 1 t (ix2 0 k) = m (c.tc.loc main_arg1) (ix1 k) := by
  have e : ((cfg0.win 1).blk t).view.emb (ix2 0 k) = (ix2 0 k : S1x1024.Idx) := by
    refine funext fun a => Fin.ext ?_
    match a with
    | ⟨0, _⟩ => blk_simp [idx1]
    | ⟨1, _⟩ => blk_simp [idx1]
  have v : V m c main_v1 (ix2 0 k) = m (c.tc.loc main_arg1) (ix1 k) := by
    unfold V
    after_reads_at
  refine Eq.trans ?_ v
  blk_simp [iblk]
  rw [e]

theorem block2 (t : Fin cfg0.N) (r : Fin 512) : @Eq EReal (iblk m c 2 t (ix3 0 r 0)) 1 := by
  have v : ∀ i, @Eq EReal (V m c main_v0 i) 1 := by
    intro i
    unfold V
    after_reads_at
  exact v _

theorem block3 (t : Fin cfg0.N) (k : Fin 1024) (f : Fin 1408) :
    iblk m c 3 t (ix3 0 k f) = m (c.tc.loc main_arg2) (ix2 k (hid (halfOf t) f)) := by
  have e : ((cfg0.win 3).blk t).view.emb (ix3 0 k f) = (ix3 (halfOf t) k f : S2x1024x1408.Idx) := by
    refine funext fun a => Fin.ext ?_
    match a with
    | ⟨0, _⟩ => blk_simp [idx3]; rfl
    | ⟨1, _⟩ => blk_simp [idx3]
    | ⟨2, _⟩ => blk_simp [idx3]
  have v : V m c main_v4 (ix3 (halfOf t) k f) = m (c.tc.loc main_arg2) (ix2 k (hid (halfOf t) f)) := by
    unfold V
    after_reads_at
    rfl
  refine Eq.trans ?_ v
  blk_simp [iblk]
  rw [e]

theorem block4 (t : Fin cfg0.N) (k : Fin 1024) (f : Fin 1408) :
    iblk m c 4 t (ix3 0 k f) = m (c.tc.loc main_arg3) (ix2 k (hid (halfOf t) f)) := by
  have e : ((cfg0.win 4).blk t).view.emb (ix3 0 k f) = (ix3 (halfOf t) k f : S2x1024x1408.Idx) := by
    refine funext fun a => Fin.ext ?_
    match a with
    | ⟨0, _⟩ => blk_simp [idx4]; rfl
    | ⟨1, _⟩ => blk_simp [idx4]
    | ⟨2, _⟩ => blk_simp [idx4]
  have v : V m c main_v7 (ix3 (halfOf t) k f) = m (c.tc.loc main_arg3) (ix2 k (hid (halfOf t) f)) := by
    unfold V
    after_reads_at
    rfl
  refine Eq.trans ?_ v
  blk_simp [iblk]
  rw [e]

theorem block5 (t : Fin cfg0.N) (f : Fin 1408) (k : Fin 1024) :
    iblk m c 5 t (ix3 0 f k) = m (c.tc.loc main_arg4) (ix2 (hid (halfOf t) f) k) := by
  have e : ((cfg0.win 5).blk t).view.emb (ix3 0 f k) = (ix3 (halfOf t) f k : S2x1408x1024.Idx) := by
    refine funext fun a => Fin.ext ?_
    match a with
    | ⟨0, _⟩ => blk_simp [idx5]; rfl
    | ⟨1, _⟩ => blk_simp [idx5]
    | ⟨2, _⟩ => blk_simp [idx5]
  have v : V m c main_v9 (ix3 (halfOf t) f k) = m (c.tc.loc main_arg4) (ix2 (hid (halfOf t) f) k) := by
    unfold V
    after_reads_at
    rfl
  refine Eq.trans ?_ v
  blk_simp [iblk]
  rw [e]

/-- Row `r` of the residual stream, and its norm. -/
def xRow (r : Fin 16896) (k : Fin 1024) : EReal := m (c.tc.loc main_arg0) (ix2 r k)
def hRow (r : Fin 16896) : Fin 1024 → EReal := rmsRow (xRow m c r) fun k => m (c.tc.loc main_arg1) (ix1 k)

/-- The share of half `s` of the hidden units in entry `j` of row `r`. -/
def share (r : Fin 16896) (j : Fin 1024) (s : Fin 2) : EReal :=
  block (hRow m c r) (fun k f => m (c.tc.loc main_arg2) (ix2 k (hid s f))) (fun k f => m (c.tc.loc main_arg3) (ix2 k (hid s f)))
    (fun f k => m (c.tc.loc main_arg4) (ix2 (hid s f) k)) j

theorem norm_at (t : Fin cfg0.N) (r : Fin 512) (k : Fin 1024) :
    k0_pay3 (F := Ideal) (iblk m c 0 t) (iblk m c 1 t) (ix2 r k) = hRow m c (rowAt (rowsOf t) r) k := by
  refine (pay3_apply _ _ r k).trans ?_
  simp only [block0, block1]
  rfl

theorem acc_at (t : Fin cfg0.N) (h : Vec Ideal S512x1024 .bf16) (a : Vec Ideal S512x1024 .f32) (r : Fin 512) (j : Fin 1024)
    (hh : ∀ k, h (ix2 r k) = hRow m c (rowAt (rowsOf t) r) k) :
    k0_pay1 (F := Ideal) (k0_pay5 (F := Ideal) h (iblk m c 3 t) (iblk m c 4 t) a (iblk m c 2 t) (iblk m c 5 t)) (ix2 r j)
      = a (ix2 r j) + share m c (rowAt (rowsOf t) r) j (halfOf t) := by
  rw [pay1_apply]
  refine (pay5_apply h _ _ a _ _ r j).trans ?_
  simp only [block2, block3, block4, block5, hh, one_mul]
  rfl

/-- Entry `j` of row `r` of the call's result. -/
def entry (r : Fin 16896) (j : Fin 1024) : EReal := xRow m c r j + (share m c r j 0 + share m c r j 1)

/-- The call's result array. -/
def result : S16896x1024.Idx → EReal := fun i => entry m c (i 0) (i 1)

/-- A block's second point writes the rows with both halves added. -/
theorem out_at (n : ℕ) (hn : n + 1 < cfg0.N) (h : n % 2 = 0) (r : Fin 512) (j : Fin 1024) :
    (outsAt0 m c (n + 1) hn).1 (ix2 r j) = entry m c (rowAt (rowsOf ⟨n + 1, hn⟩) r) j := by
  have hn' := Nat.lt_of_succ_lt hn
  have p1 := place ⟨n, hn'⟩
  have p2 := place ⟨n + 1, hn⟩
  have hr : rowsOf ⟨n, hn'⟩ = rowsOf ⟨n + 1, hn⟩ := Fin.ext (by
    show (grid0.coords _ 0).val = (grid0.coords _ 0).val
    rw [p1.1, p2.1]
    show n / 2 = (n + 1) / 2
    omega)
  have s0 : halfOf ⟨n, hn'⟩ = 0 := Fin.ext (p1.2.trans h)
  have s1 : halfOf ⟨n + 1, hn⟩ = 1 := Fin.ext (p2.2.trans (show (n + 1) % 2 = 1 by omega))
  have i1 : ∀ k, (outsAt0 m c n hn').2.1 (ix2 r k) = hRow m c (rowAt (rowsOf ⟨n + 1, hn⟩) r) k := fun k => by
    rw [← hr]
    exact (congrFun (h_A m c ⟨n, hn'⟩ h) _).trans (norm_at m c _ r k)
  have i2 : (outsAt0 m c n hn').2.2 (ix2 r j) = share m c (rowAt (rowsOf ⟨n + 1, hn⟩) r) j 0 := by
    refine (congrFun (acc_A m c ⟨n, hn'⟩ h) _).trans ?_
    rw [acc_at m c _ _ _ r j (norm_at m c _ r), pay4_apply, hr, s0]
    exact zero_add (M := EReal) _
  refine (congrFun (out_B m c ⟨n + 1, hn⟩ (show (n + 1) % 2 = 1 by omega)) _).trans ?_
  refine (pay2_apply _ _ r j).trans ?_
  refine congrArg₂ (α := EReal) (β := EReal) (· + ·) (block0 m c _ r j) ?_
  refine (acc_at m c _ (outsAt0 m c n hn').2.1 (outsAt0 m c n hn').2.2 r j i1).trans ?_
  rw [s1]
  exact congrArg (fun z : EReal => z + _) i2

theorem final : (dats m 0 c).arrAt 7 cfg0.N = result m c := by
  refine (dats m 0 c).arrAt_eq_of_covers 7 _ (by decide +kernel) fun t hf y => ?_
  obtain ⟨l, j, rfl⟩ : ∃ (l : Fin 512) (j : Fin 1024), y = ix2 l j := ⟨y 0, y 1, funext fun a => by match a with | ⟨0, _⟩ => rfl | ⟨1, _⟩ => rfl⟩
  have e : ((cfg0.win 7).blk t).view.emb (ix2 l j) = (ix2 (rowAt (rowsOf t) l) j : S16896x1024.Idx) := by
    refine funext fun a => Fin.ext ?_
    match a with
    | ⟨0, _⟩ => blk_simp [idx7]; simp only [coords0, rowAt]; simp; omega
    | ⟨1, _⟩ => blk_simp [idx7]
  have h1 : t.val % 2 = 1 := (flush0_7 t).mp hf
  obtain ⟨n, hn⟩ : ∃ n, t.val = n + 1 := ⟨t.val - 1, by omega⟩
  obtain ⟨tv, ht⟩ := t
  obtain rfl : tv = n + 1 := hn
  rw [e]
  exact out_at m c n ht (by dsimp only at h1; omega) l j

end Cert.Proof.Dense
-- ==== Proof.DenseRef.lean ====
/- The dense block's reference, read at an index. -/
module

public import proofs.«01_k».proof.Proof.Ffn
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Cert.Reference3Ideal Cert.Reference3Ideal.Gen Cert.Reference3Ideal.Value

namespace Cert.Proof.DenseRef
open Cert.Proof.Ffn

section Stages
variable {F : FTy → Type} [FloatOps F]

/-- The mean square of each row. -/
def sumV (x : FVec F S16896x1024 .f32) : FVec F S16896 .f32 :=
  Host.reduceAdd (mulf x x) (constant S_ .f32 0x00000000#32) reducesTo_S16896x1024_S16896_d1 h_S_

/-- The rows scaled by the root of their mean square and the weight. -/
def scaleV (x : FVec F S16896x1024 .f32) (s : FVec F S16896 .f32) (w : FVec F S1024 .f32) : FVec F S16896x1024 .f32 :=
  mulf (mulf x (broadcastInDim S16896x1024 ![0, 1] bcast_S16896x1_S16896x1024_0_1 (Host.rsqrt (addf (Host.divf (broadcastInDim S16896x1 ![0] bcast_S16896_S16896x1_0 s) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 w))

/-- The hidden products. -/
def preV (h : FVec F S16896x1024 .f32) (w : FVec F S1024x2816 .f32) : FVec F S16896x2816 .f32 :=
  Host.dotGeneral dot_S16896x1024_S1024x2816_S16896x2816_1_0_0_1_n_n none h w

/-- The gated hidden units, from their two products. -/
def gatedV (a b : FVec F S16896x2816 .f32) : FVec F S16896x2816 .f32 :=
  mulf (mulf a (Host.divf (broadcastInDim S16896x2816 ![] bcast_S_S16896x2816 (constant S_ .f32 0x3F800000#32)) (addf (broadcastInDim S16896x2816 ![] bcast_S_S16896x2816 (constant S_ .f32 0x3F800000#32)) (Host.exp (Host.negf a))))) b

/-- The rows with the block's output added. -/
def sumOutV (x : FVec F S16896x1024 .f32) (u : FVec F S16896x2816 .f32) (w : FVec F S2816x1024 .f32) : FVec F S16896x1024 .f32 :=
  addf x (Host.dotGeneral dot_S16896x2816_S2816x1024_S16896x1024_1_0_0_1_n_n none u w)

/-- The reference, from its arguments. -/
def refV (x : FVec F S16896x1024 .f32) (n : FVec F S1024 .f32) (wg wu : FVec F S1024x2816 .f32) (wd : FVec F S2816x1024 .f32) :
    FVec F S16896x1024 .f32 :=
  sumOutV x (gatedV (preV (scaleV x (sumV x) n) wg) (preV (scaleV x (sumV x) n) wu)) wd

end Stages

theorem scaleV_apply (x : FVec Ideal S16896x1024 .f32) (s : FVec Ideal S16896 .f32) (w : FVec Ideal S1024 .f32)
    (r : Fin 16896) (j : Fin 1024) : scaleV (F := Ideal) x s w (ix2 r j)
      = x (ix2 r j) * Ideal.rsqrt (Ideal.div (s (ix1 r)) (Ideal.ofBits .f32 0x44800000#32) + Ideal.ofBits .f32 0x358637BD#32)
        * w (ix1 j) := by
  pointwise [scaleV]

theorem preV_apply (h : FVec Ideal S16896x1024 .f32) (w : FVec Ideal S1024x2816 .f32) (r : Fin 16896) (f : Fin 2816) :
    preV (F := Ideal) h w (ix2 r f) = ∑ k, h (ix2 r k) * w (ix2 k f) := by
  pointwise [preV]

theorem gatedV_apply (a b : FVec Ideal S16896x2816 .f32) (r : Fin 16896) (f : Fin 2816) :
    gatedV (F := Ideal) a b (ix2 r f) = silu (a (ix2 r f)) * b (ix2 r f) := by
  unfold silu
  pointwise [gatedV]

theorem sumOutV_apply (x : FVec Ideal S16896x1024 .f32) (u : FVec Ideal S16896x2816 .f32) (w : FVec Ideal S2816x1024 .f32)
    (r : Fin 16896) (j : Fin 1024) :
    sumOutV (F := Ideal) x u w (ix2 r j) = x (ix2 r j) + ∑ f, u (ix2 r f) * w (ix2 f j) := by
  pointwise [sumOutV]

theorem sumV_apply (x : FVec Ideal S16896x1024 .f32) (r : Fin 16896) :
    sumV (F := Ideal) x (ix1 r) = ∑ k : Fin 1024, (x (ix2 r k) * x (ix2 r k) : EReal) := by
  unfold sumV
  refine (reduce_add_last2 _ _ _ _ r).trans ?_
  have z : (constant (F := Ideal) S_ .f32 0x00000000#32 (Shape.Idx.first h_S_) : EReal) = 0 := by simp [constant, Ideal.ofBits, Ideal.ieee]
  rw [z, zero_add]
  rfl

theorem norm_apply (x : FVec Ideal S16896x1024 .f32) (w : FVec Ideal S1024 .f32) (r : Fin 16896) (j : Fin 1024) :
    scaleV (F := Ideal) x (sumV x) w (ix2 r j) = rmsRow (fun k => x (ix2 r k)) (fun k => w (ix1 k)) j := by
  rw [scaleV_apply, sumV_apply]
  rfl

theorem refV_apply (x : FVec Ideal S16896x1024 .f32) (n : FVec Ideal S1024 .f32) (wg wu : FVec Ideal S1024x2816 .f32)
    (wd : FVec Ideal S2816x1024 .f32) (r : Fin 16896) (j : Fin 1024) :
    refV (F := Ideal) x n wg wu wd (ix2 r j)
      = x (ix2 r j) + block (rmsRow (fun k => x (ix2 r k)) fun k => n (ix1 k)) (fun k f => wg (ix2 k f))
          (fun k f => wu (ix2 k f)) (fun f k => wd (ix2 f k)) j := by
  unfold refV
  rw [sumOutV_apply]
  simp only [gatedV_apply, preV_apply, norm_apply]
  rfl

end Cert.Proof.DenseRef
-- ==== Proof.Dense.lean ====
/- The dense block's call: its claims. -/
module

public import proofs.«01_k».proof.Proof.DenseKernel
public import proofs.«01_k».proof.Proof.DenseRef
public import proofs.«01_k».proof.Proof.Gen.Kernel3.Frame
public import proofs.«01_k».proof.Defs
public import Idealize.ShloMosaic.Lib.Quiescent

@[expose] public section

set_option maxRecDepth 16384

noncomputable section

open Idealize.ShloMosaic Idealize.ShloMosaic.TcCoe Idealize.SL.Sem

namespace Cert.Proof.Dense
open Cert.Proof.Ffn

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem preserves : Cert.preserves_Kernel3_Kernel3Ideal := trivial

/-- The block's output over all hidden units is the sum over the two halves. -/
theorem block_halves (h : Fin 1024 → EReal) (wg wu : Fin 1024 → Fin 2816 → EReal) (wd : Fin 2816 → Fin 1024 → EReal)
    (j : Fin 1024) : block h wg wu wd j
      = block h (fun k f => wg k (hid 0 f)) (fun k f => wu k (hid 0 f)) (fun f k => wd (hid 0 f) k) j
        + block h (fun k f => wg k (hid 1 f)) (fun k f => wu k (hid 1 f)) (fun f k => wd (hid 1 f) k) j := by
  unfold block
  refine (Fin.sum_univ_add (a := 1408) (b := 1408) fun f : Fin 2816 => unit h wg wu f * wd f j).trans ?_
  refine congrArg₂ (· + ·) (Finset.sum_congr rfl fun f _ => ?_) (Finset.sum_congr rfl fun f _ => ?_)
  · rw [show Fin.castAdd 1408 f = hid 0 f from Fin.ext (by simp [hid])]
    rfl
  · rw [show Fin.natAdd 1408 f = hid 1 f from Fin.ext (by simp [hid, Nat.add_comm])]
    rfl

/-- The call's result is the reference's. -/
theorem algebraic : Cert.algebraic_Kernel3Ideal_Reference3Ideal := by
  intro m g m' g' _ hag
  refine ⟨fun c => result m c, (θ_run _ _ _).mono (fun _ h c => ⟨(h c).1.trans ((Cert.Kernel3Ideal.Value.final7 m c).symm.trans (final m c)), (h c).2⟩)
    (Cert.Kernel3Ideal.Value.run m g), (θ_run _ _ _).mono (fun _ h c => ⟨(h c).1.trans ?_, (h c).2⟩)
    (Cert.Reference3Ideal.Value.run m' g')⟩
  obtain ⟨a0, a1, a2, a3, a4, -⟩ := hag c
  funext i
  obtain ⟨r, j, rfl⟩ : ∃ (r : Fin 16896) (j : Fin 1024), i = ix2 r j := ⟨i 0, i 1, funext fun a => by match a with | ⟨0, _⟩ => rfl | ⟨1, _⟩ => rfl⟩
  refine (DenseRef.refV_apply (m' (c.tc.loc Cert.Reference3Ideal.main_arg0)) (m' (c.tc.loc Cert.Reference3Ideal.main_arg1))
    (m' (c.tc.loc Cert.Reference3Ideal.main_arg2)) (m' (c.tc.loc Cert.Reference3Ideal.main_arg3))
    (m' (c.tc.loc Cert.Reference3Ideal.main_arg4)) r j).trans ?_
  rw [block_halves, a0, a1, a2, a3, a4]
  rfl

end Cert.Proof.Dense
-- ==== Proof.MergeKernel.lean ====
/- What the merge's kernel writes: the row with the gated branches' product with the output matrix added. -/
module

public import proofs.«01_k».proof.Proof.Ffn
public import proofs.«01_k».proof.Proof.Gen.Kernel4Ideal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Cert.Kernel4Ideal Cert.Kernel4Ideal.Gen

namespace Cert.Proof.Merge
open Cert.Proof.Ffn

/-- A branch's gate: the logistic of its biased entry. -/
def gate (s : EReal) : EReal := Ideal.div 1 (1 + Ideal.exp (-s))

theorem pay2_apply (o : Vec Ideal S512x512 .bf16) (w : Vec Ideal S1x512x1024 .bf16) (g : Vec Ideal S512x1024 .f32)
    (b : Vec Ideal S1x1024 .f32) (r : Fin 512) (d : Fin 1024) :
    k0_pay2 (F := Ideal) o w g b (ix2 r d)
      = gate (g (ix2 r d) + b (ix2 0 d)) * ∑ k, o (ix2 r k) * w (ix3 0 k d) := by
  unfold gate
  pointwise [k0_pay2]
  simp only [zero_sub, zero_add]

theorem pay3_apply (o : Vec Ideal S512x512 .bf16) (w : Vec Ideal S1x512x1024 .bf16) (r : Fin 512) (d : Fin 1024) :
    k0_pay3 (F := Ideal) o w (ix2 r d) = ∑ k, o (ix2 r k) * w (ix3 0 k d) := by
  pointwise [k0_pay3]

theorem gate_apply (g : Vec Ideal S512x1024 .f32) (b : Vec Ideal S1x1024 .f32) (r : Fin 512) (d : Fin 1024) :
    Ideal.div (k0_pay5 (F := Ideal) (ix2 r d)) (k0_pay4 (F := Ideal) g b (ix2 r d)) = gate (g (ix2 r d) + b (ix2 0 d)) := by
  unfold gate
  pointwise [k0_pay5, k0_pay4]
  simp only [zero_sub]

theorem pay1_apply (v17 v21 v30 v31 : FVec Ideal S512x1024 .f32) (o : Vec Ideal S512x512 .bf16) (w : Vec Ideal S1x512x1024 .bf16)
    (g : Vec Ideal S512x1024 .f32) (b : Vec Ideal S1x1024 .f32) (x : Vec Ideal S512x1024 .f32) (wo : Vec Ideal S1024x1024 .bf16)
    (r : Fin 512) (j : Fin 1024) :
    k0_pay1 (F := Ideal) v17 v21 v30 v31 o w g b x wo (ix2 r j)
      = x (ix2 r j) + ∑ d, (v17 (ix2 r d) + Ideal.div (v31 (ix2 r d)) (v30 (ix2 r d)) * v21 (ix2 r d)
          + gate (g (ix2 r d) + b (ix2 0 d)) * ∑ k, o (ix2 r k) * w (ix3 0 k d)) * wo (ix2 d j) := by
  unfold gate
  pointwise [k0_pay1]
  simp only [zero_sub]

/-- Branch `n` of row entry `d`, from the branch's rows. -/
def branch (o : Vec Ideal S512x512 .bf16) (g : Vec Ideal S512x3072 .f32) (b : Vec Ideal S3x1024 .f32)
    (w : Vec Ideal S3x512x1024 .bf16) (n : Fin 3) (r : Fin 512) (d : Fin 1024) : EReal :=
  gate (g (ix2 r ⟨n.val * 1024 + d.val, by omega⟩) + b (ix2 n d)) * ∑ k, o (ix2 r k) * w (ix3 n k d)

theorem ld_w (w : Vec Ideal S3x512x1024 .bf16) (k : Fin 512) (d : Fin 1024) :
    View.ld w r0_1 (ix3 0 k d) = w (ix3 0 k d) ∧ View.ld w r0_4 (ix3 0 k d) = w (ix3 1 k d)
      ∧ View.ld w r0_7 (ix3 0 k d) = w (ix3 2 k d) := by
  refine ⟨congrArg w (funext fun a => Fin.ext ?_), congrArg w (funext fun a => Fin.ext ?_), congrArg w (funext fun a => Fin.ext ?_)⟩
    <;> fin_cases a <;> simp [ix3]

theorem ld_g (g : Vec Ideal S512x3072 .f32) (r : Fin 512) (d : Fin 1024) :
    View.ld g r0_2 (ix2 r d) = g (ix2 r ⟨(0 : Fin 3).val * 1024 + d.val, by simp; omega⟩)
      ∧ View.ld g r0_5 (ix2 r d) = g (ix2 r ⟨(1 : Fin 3).val * 1024 + d.val, by simp; omega⟩)
      ∧ View.ld g r0_8 (ix2 r d) = g (ix2 r ⟨(2 : Fin 3).val * 1024 + d.val, by simp; omega⟩) := by
  refine ⟨congrArg g (funext fun a => Fin.ext ?_), congrArg g (funext fun a => Fin.ext ?_), congrArg g (funext fun a => Fin.ext ?_)⟩
    <;> fin_cases a <;> simp [ix2]

theorem ld_b (b : Vec Ideal S3x1024 .f32) (d : Fin 1024) :
    View.ld b r0_3 (ix2 0 d) = b (ix2 0 d) ∧ View.ld b r0_6 (ix2 0 d) = b (ix2 1 d)
      ∧ View.ld b r0_9 (ix2 0 d) = b (ix2 2 d) := by
  refine ⟨congrArg b (funext fun a => Fin.ext ?_), congrArg b (funext fun a => Fin.ext ?_), congrArg b (funext fun a => Fin.ext ?_)⟩
    <;> fin_cases a <;> simp [ix2]

/-- A branch from the parts of the arrays that a point reads for it. -/
theorem part (o : Vec Ideal S512x512 .bf16) (g : Vec Ideal S512x3072 .f32) (b : Vec Ideal S3x1024 .f32)
    (w : Vec Ideal S3x512x1024 .bf16) (n : Fin 3) (r : Fin 512) (d : Fin 1024) {s t : EReal} {u : Fin 512 → EReal}
    (hs : s = g (ix2 r ⟨n.val * 1024 + d.val, by omega⟩)) (ht : t = b (ix2 n d)) (hu : ∀ k, u k = w (ix3 n k d)) :
    gate (s + t) * ∑ k, o (ix2 r k) * u k = branch o g b w n r d := by
  obtain rfl : u = fun k => w (ix3 n k d) := funext hu
  rw [hs, ht]
  rfl

/-- What a point writes, at an index. -/
theorem out_apply (x : Vec Ideal S512x1024 .f32) (oa ob oc : Vec Ideal S512x512 .bf16) (g : Vec Ideal S512x3072 .f32)
    (b : Vec Ideal S3x1024 .f32) (w : Vec Ideal S3x512x1024 .bf16) (wo : Vec Ideal S1024x1024 .bf16) (r : Fin 512) (j : Fin 1024) :
    out0_8 (F := Ideal) x oa ob oc g b w wo (ix2 r j)
      = x (ix2 r j) + ∑ d, (branch oa g b w 0 r d + branch ob g b w 1 r d + branch oc g b w 2 r d) * wo (ix2 d j) := by
  frame_out
  refine (pay1_apply _ _ _ _ _ _ _ _ _ _ r j).trans ?_
  simp only [pay2_apply, pay3_apply, gate_apply]
  refine congrArg (x (ix2 r j) + ·) (Finset.sum_congr rfl fun d _ => congrArg (· * wo (ix2 d j)) ?_)
  refine congrArg₂ (α := EReal) (β := EReal) (· + ·) (congrArg₂ (α := EReal) (β := EReal) (· + ·) ?_ ?_) ?_
  · exact part oa g b w 0 r d (ld_g g r d).1 (ld_b b d).1 fun k => (ld_w w k d).1
  · exact part ob g b w 1 r d (ld_g g r d).2.1 (ld_b b d).2.1 fun k => (ld_w w k d).2.1
  · exact part oc g b w 2 r d (ld_g g r d).2.2 (ld_b b d).2.2 fun k => (ld_w w k d).2.2

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)

theorem row_lt (t : Fin cfg0.N) (r : Fin 512) : 512 * t.val + r.val < 16896 := by
  have h : t.val < 33 := lt_of_lt_of_eq t.isLt (show cfg0.N = 33 from N_0)
  omega

/-- Row `r` of block `t`. -/
def rowAt (t : Fin cfg0.N) (r : Fin 512) : Fin 16896 := ⟨512 * t.val + r.val, row_lt t r⟩

theorem block0 (t : Fin cfg0.N) (r : Fin 512) (k : Fin 1024) :
    iblk m c 0 t (ix2 r k) = m (c.tc.loc main_arg0) (ix2 (rowAt t r) k) := by
  rw [← V_main_arg0 m c]
  blk_simp [iblk]
  refine congrArg _ (funext fun a => Fin.ext ?_)
  match a with
  | ⟨0, _⟩ => blk_simp [idx0]; simp only [rowAt]; simp; omega
  | ⟨1, _⟩ => blk_simp [idx0]

theorem block1 (t : Fin cfg0.N) (r : Fin 512) (k : Fin 512) :
    iblk m c 1 t (ix2 r k) = m (c.tc.loc main_arg1) (ix2 (rowAt t r) k) := by
  rw [← V_main_arg1 m c]
  blk_simp [iblk]
  refine congrArg _ (funext fun a => Fin.ext ?_)
  match a with
  | ⟨0, _⟩ => blk_simp [idx1]; simp only [rowAt]; simp; omega
  | ⟨1, _⟩ => blk_simp [idx1]

theorem block2 (t : Fin cfg0.N) (r : Fin 512) (k : Fin 512) :
    iblk m c 2 t (ix2 r k) = m (c.tc.loc main_arg2) (ix2 (rowAt t r) k) := by
  rw [← V_main_arg2 m c]
  blk_simp [iblk]
  refine congrArg _ (funext fun a => Fin.ext ?_)
  match a with
  | ⟨0, _⟩ => blk_simp [idx2]; simp only [rowAt]; simp; omega
  | ⟨1, _⟩ => blk_simp [idx2]

theorem block3 (t : Fin cfg0.N) (r : Fin 512) (k : Fin 512) :
    iblk m c 3 t (ix2 r k) = m (c.tc.loc main_arg3) (ix2 (rowAt t r) k) := by
  rw [← V_main_arg3 m c]
  blk_simp [iblk]
  refine congrArg _ (funext fun a => Fin.ext ?_)
  match a with
  | ⟨0, _⟩ => blk_simp [idx3]; simp only [rowAt]; simp; omega
  | ⟨1, _⟩ => blk_simp [idx3]

theorem block4 (t : Fin cfg0.N) (r : Fin 512) (k : Fin 3072) :
    iblk m c 4 t (ix2 r k) = m (c.tc.loc main_arg4) (ix2 (rowAt t r) k) := by
  rw [← V_main_arg4 m c]
  blk_simp [iblk]
  refine congrArg _ (funext fun a => Fin.ext ?_)
  match a with
  | ⟨0, _⟩ => blk_simp [idx4]; simp only [rowAt]; simp; omega
  | ⟨1, _⟩ => blk_simp [idx4]

theorem block5 (t : Fin cfg0.N) (n : Fin 3) (k : Fin 1024) : iblk m c 5 t (ix2 n k) = m (c.tc.loc main_arg5) (ix2 n k) := by
  rw [← V_main_arg5 m c]
  blk_simp [iblk]
  refine congrArg _ (funext fun a => Fin.ext ?_)
  match a with
  | ⟨0, _⟩ => blk_simp [idx5]
  | ⟨1, _⟩ => blk_simp [idx5]

theorem block6 (t : Fin cfg0.N) (n : Fin 3) (k : Fin 512) (d : Fin 1024) :
    iblk m c 6 t (ix3 n k d) = m (c.tc.loc main_arg6) (ix3 n k d) := by
  have e : ((cfg0.win 6).blk t).view.emb (ix3 n k d) = (ix3 n k d : S3x512x1024.Idx) := by
    refine funext fun a => Fin.ext ?_
    match a with
    | ⟨0, _⟩ => blk_simp [idx6]
    | ⟨1, _⟩ => blk_simp [idx6]
    | ⟨2, _⟩ => blk_simp [idx6]
  have v : V m c main_v0 (ix3 n k d) = m (c.tc.loc main_arg6) (ix3 n k d) := by
    unfold V
    after_reads_at
  refine Eq.trans ?_ v
  blk_simp [iblk]
  rw [e]

theorem block7 (t : Fin cfg0.N) (d j : Fin 1024) : iblk m c 7 t (ix2 d j) = m (c.tc.loc main_arg7) (ix2 d j) := by
  have e : ((cfg0.win 7).blk t).view.emb (ix2 d j) = (ix2 d j : S1024x1024.Idx) := by
    refine funext fun a => Fin.ext ?_
    match a with
    | ⟨0, _⟩ => blk_simp [idx7]
    | ⟨1, _⟩ => blk_simp [idx7]
  have v : V m c main_v1 (ix2 d j) = m (c.tc.loc main_arg7) (ix2 d j) := by
    unfold V
    after_reads_at
  refine Eq.trans ?_ v
  blk_simp [iblk]
  rw [e]

/-- Branch `n` of entry `d` of row `r`, from the branch's rows. -/
def rowBranch (o : S16896x512.Idx → EReal) (g : S16896x3072.Idx → EReal) (b : S3x1024.Idx → EReal)
    (w : S3x512x1024.Idx → EReal) (n : Fin 3) (r : Fin 16896) (d : Fin 1024) : EReal :=
  gate (g (ix2 r ⟨n.val * 1024 + d.val, by omega⟩) + b (ix2 n d)) * ∑ k, o (ix2 r k) * w (ix3 n k d)

/-- The branches' rows. -/
def rowsIn : Fin 3 → S16896x512.Idx → EReal
  | 0 => m (c.tc.loc main_arg1)
  | 1 => m (c.tc.loc main_arg2)
  | 2 => m (c.tc.loc main_arg3)

/-- Entry `d` of row `r` of the merged branches. -/
def merged (r : Fin 16896) (d : Fin 1024) : EReal :=
  ∑ n, rowBranch (rowsIn m c n) (m (c.tc.loc main_arg4)) (m (c.tc.loc main_arg5)) (m (c.tc.loc main_arg6)) n r d

/-- Entry `j` of row `r` of the call's result. -/
def entry (r : Fin 16896) (j : Fin 1024) : EReal :=
  HAdd.hAdd (α := EReal) (m (c.tc.loc main_arg0) (ix2 r j)) (∑ d, HMul.hMul (α := EReal) (merged m c r d) (m (c.tc.loc main_arg7) (ix2 d j)))

/-- The call's result array. -/
def result : S16896x1024.Idx → EReal := fun i => entry m c (i 0) (i 1)

theorem final : (dats m 0 c).arrAt 8 cfg0.N = result m c := by
  refine (dats m 0 c).arrAt_eq_of_covers 8 _ (by decide +kernel) fun t hf y => ?_
  have F : (dats m 0 c).flushed 8 t y = _ := congrFun (Cert.Kernel4Ideal.Value.flushed8 m c t) y
  refine Eq.trans F ?_
  obtain ⟨l, j, rfl⟩ : ∃ (l : Fin 512) (j : Fin 1024), y = ix2 l j := ⟨y 0, y 1, funext fun a => by match a with | ⟨0, _⟩ => rfl | ⟨1, _⟩ => rfl⟩
  have e : ((cfg0.win 8).blk t).view.emb (ix2 l j) = (ix2 (rowAt t l) j : S16896x1024.Idx) := by
    refine funext fun a => Fin.ext ?_
    match a with
    | ⟨0, _⟩ => blk_simp [idx8]; simp only [rowAt]; simp; omega
    | ⟨1, _⟩ => blk_simp [idx8]
  rw [e]
  refine Eq.trans (out_apply _ _ _ _ _ _ _ _ l j) ?_
  show _ = entry m c (rowAt t l) j
  simp only [branch, block0, block1, block2, block3, block4, block5, block6, block7, entry, merged, Fin.sum_univ_three]
  rfl

end Cert.Proof.Merge
-- ==== Proof.MergeRef.lean ====
/- The merge's reference, read at an index. -/
module

public import proofs.«01_k».proof.Proof.Ffn
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Cert.Reference4Ideal Cert.Reference4Ideal.Gen Cert.Reference4Ideal.Value

namespace Cert.Proof.MergeRef

section Stages
variable {F : FTy → Type} [FloatOps F]

/-- The biased gate entries. -/
def biasedV (g : FVec F S16896x3072 .f32) (b : FVec F S3x1024 .f32) : FVec F S16896x3x1024 .f32 :=
  addf (shapeCast _ g shapeCasts_S16896x3072_S16896x3x1024) (broadcastInDim S16896x3x1024 ![0, 1, 2] bcast_S1x3x1024_S16896x3x1024_0_1_2 (broadcastInDim S1x3x1024 ![1, 2] bcast_S3x1024_S1x3x1024_1_2 b))

/-- The gates. -/
def gatesV (g : FVec F S16896x3x1024 .f32) : FVec F S16896x3x1024 .f32 :=
  Host.divf (broadcastInDim S16896x3x1024 ![] bcast_S_S16896x3x1024 (constant S_ .f32 0x3F800000#32)) (addf (broadcastInDim S16896x3x1024 ![] bcast_S_S16896x3x1024 (constant S_ .f32 0x3F800000#32)) (Host.exp (Host.negf g)))

/-- One branch's rows, as the stack takes them. -/
def widenV (o : FVec F S16896x512 .bf16) : FVec F S16896x1x512 .f32 :=
  broadcastInDim S16896x1x512 ![0, 2] bcast_S16896x512_S16896x1x512_0_2 (extf .f32 o bitsLt_bf16_f32)

/-- The branches stacked. -/
def stackV (a b c : FVec F S16896x1x512 .f32) : FVec F S16896x3x512 .f32 :=
  concatenate S16896x3x512 1 [⟨S16896x1x512, a⟩, ⟨S16896x1x512, b⟩, ⟨S16896x1x512, c⟩] concatenates_S16896x1x512_S16896x1x512_S16896x1x512_S16896x3x512_d1

/-- The branches' products with their matrices. -/
def upV (w : FVec F S3x512x1024 .f32) (o : FVec F S16896x3x512 .f32) : FVec F S16896x3x1024 .f32 :=
  transpose S16896x3x1024 [2, 0, 1] (Host.dotGeneral dot_S3x512x1024_S16896x3x512_S3x1024x16896_1_2_2_0_0_1 none w o) transposes_S3x1024x16896_S16896x3x1024_2_0_1

/-- The gated sum of the branches. -/
def mergedV (g u : FVec F S16896x3x1024 .f32) : FVec F S16896x1024 .f32 :=
  Host.dotGeneral dot_S16896x3x1024_S16896x3x1024_S16896x1024_1_1_n_n_02_02 none g u

/-- The rows with the merged branches' product added. -/
def addV (x : FVec F S16896x1024 .f32) (u : FVec F S16896x1024 .f32) (w : FVec F S1024x1024 .f32) : FVec F S16896x1024 .f32 :=
  addf x (Host.dotGeneral dot_S16896x1024_S1024x1024_S16896x1024_1_0_0_1_n_n none u w)

/-- The reference, from its arguments. -/
def refV (x : FVec F S16896x1024 .f32) (oa ob oc : FVec F S16896x512 .bf16) (g : FVec F S16896x3072 .f32)
    (b : FVec F S3x1024 .f32) (w : FVec F S3x512x1024 .f32) (wo : FVec F S1024x1024 .f32) : FVec F S16896x1024 .f32 :=
  addV x (mergedV (gatesV (biasedV g b)) (upV w (stackV (widenV oa) (widenV ob) (widenV oc)))) wo

end Stages

theorem biasedV_apply (g : FVec Ideal S16896x3072 .f32) (b : FVec Ideal S3x1024 .f32) (r : Fin 16896) (n : Fin 3) (d : Fin 1024) :
    biasedV (F := Ideal) g b (ix3 r n d) = g (ix2 r ⟨n.val * 1024 + d.val, by omega⟩) + b (ix2 n d) := by
  pointwise [biasedV]

theorem gatesV_apply (g : FVec Ideal S16896x3x1024 .f32) (r : Fin 16896) (n : Fin 3) (d : Fin 1024) :
    gatesV (F := Ideal) g (ix3 r n d) = Ideal.div 1 (1 + Ideal.exp (-g (ix3 r n d))) := by
  pointwise [gatesV]

theorem widenV_apply (o : FVec Ideal S16896x512 .bf16) (r : Fin 16896) (k : Fin 512) :
    widenV (F := Ideal) o (ix3 r 0 k) = o (ix2 r k) := by
  pointwise [widenV]

theorem stackV_apply (a b c : FVec Ideal S16896x1x512 .f32) (r : Fin 16896) (k : Fin 512) :
    stackV (F := Ideal) a b c (ix3 r 0 k) = a (ix3 r 0 k) ∧ stackV (F := Ideal) a b c (ix3 r 1 k) = b (ix3 r 0 k)
      ∧ stackV (F := Ideal) a b c (ix3 r 2 k) = c (ix3 r 0 k) := by
  refine ⟨?_, ?_, ?_⟩
  · pointwise [stackV]
  · pointwise [stackV]
  · pointwise [stackV]

theorem upV_apply (w : FVec Ideal S3x512x1024 .f32) (o : FVec Ideal S16896x3x512 .f32) (r : Fin 16896) (n : Fin 3) (d : Fin 1024) :
    upV (F := Ideal) w o (ix3 r n d) = ∑ k, w (ix3 n k d) * o (ix3 r n k) := by
  pointwise [upV]

theorem mergedV_apply (g u : FVec Ideal S16896x3x1024 .f32) (r : Fin 16896) (d : Fin 1024) :
    mergedV (F := Ideal) g u (ix2 r d) = ∑ n, g (ix3 r n d) * u (ix3 r n d) := by
  pointwise [mergedV]

theorem addV_apply (x u : FVec Ideal S16896x1024 .f32) (w : FVec Ideal S1024x1024 .f32) (r : Fin 16896) (j : Fin 1024) :
    addV (F := Ideal) x u w (ix2 r j) = x (ix2 r j) + ∑ d, u (ix2 r d) * w (ix2 d j) := by
  pointwise [addV]

/-- A branch's gated product at a row entry. -/
def term (o : S16896x512.Idx → EReal) (g : S16896x3072.Idx → EReal) (b : S3x1024.Idx → EReal) (w : S3x512x1024.Idx → EReal)
    (n : Fin 3) (r : Fin 16896) (d : Fin 1024) : EReal :=
  Ideal.div 1 (1 + Ideal.exp (-(g (ix2 r ⟨n.val * 1024 + d.val, by omega⟩) + b (ix2 n d)))) * ∑ k, o (ix2 r k) * w (ix3 n k d)

/-- A term of the merged sum, from the stacked branch's row. -/
theorem term_eq (g : FVec Ideal S16896x3072 .f32) (b : FVec Ideal S3x1024 .f32) (w : FVec Ideal S3x512x1024 .f32)
    (o : FVec Ideal S16896x3x512 .f32) (q : FVec Ideal S16896x512 .bf16) (n : Fin 3) (r : Fin 16896) (d : Fin 1024)
    (h : ∀ k, o (ix3 r n k) = q (ix2 r k)) :
    (gatesV (F := Ideal) (biasedV g b) (ix3 r n d) * upV (F := Ideal) w o (ix3 r n d) : EReal) = term q g b w n r d := by
  rw [gatesV_apply, biasedV_apply, upV_apply]
  refine congrArg (_ * · : EReal → EReal) (Finset.sum_congr rfl fun k _ => ?_)
  rw [h k]
  exact mul_comm (G := EReal) _ _

theorem merged_eq (oa ob oc : FVec Ideal S16896x512 .bf16) (g : FVec Ideal S16896x3072 .f32) (b : FVec Ideal S3x1024 .f32)
    (w : FVec Ideal S3x512x1024 .f32) (r : Fin 16896) (d : Fin 1024) :
    mergedV (F := Ideal) (gatesV (biasedV g b)) (upV w (stackV (widenV oa) (widenV ob) (widenV oc))) (ix2 r d)
      = term oa g b w 0 r d + term ob g b w 1 r d + term oc g b w 2 r d := by
  rw [mergedV_apply, Fin.sum_univ_three,
    term_eq g b w _ oa 0 r d fun k => (stackV_apply _ _ _ r k).1.trans (widenV_apply oa r k),
    term_eq g b w _ ob 1 r d fun k => (stackV_apply _ _ _ r k).2.1.trans (widenV_apply ob r k),
    term_eq g b w _ oc 2 r d fun k => (stackV_apply _ _ _ r k).2.2.trans (widenV_apply oc r k)]

end Cert.Proof.MergeRef
-- ==== Proof.Merge.lean ====
/- The merge's call: its claims. -/
module

public import proofs.«01_k».proof.Proof.MergeKernel
public import proofs.«01_k».proof.Proof.MergeRef
public import proofs.«01_k».proof.Proof.Gen.Kernel4.Frame
public import proofs.«01_k».proof.Defs
public import Idealize.ShloMosaic.Lib.Quiescent

@[expose] public section

set_option maxRecDepth 16384

noncomputable section

open Idealize.ShloMosaic Idealize.ShloMosaic.TcCoe Idealize.SL.Sem

namespace Cert.Proof.Merge
open Cert.Proof.Ffn

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem preserves : Cert.preserves_Kernel4_Kernel4Ideal := trivial

/-- The call's result is the reference's. -/
theorem algebraic : Cert.algebraic_Kernel4Ideal_Reference4Ideal := by
  intro m g m' g' _ hag
  refine ⟨fun c => result m c, (θ_run _ _ _).mono (fun _ h c => ⟨(h c).1.trans (final m c), (h c).2⟩)
    (Cert.Kernel4Ideal.Value.run_blocks m g), (θ_run _ _ _).mono (fun _ h c => ⟨(h c).1.trans ?_, (h c).2⟩)
    (Cert.Reference4Ideal.Value.run m' g')⟩
  obtain ⟨a0, a1, a2, a3, a4, a5, a6, a7⟩ := hag c
  funext i
  obtain ⟨r, j, rfl⟩ : ∃ (r : Fin 16896) (j : Fin 1024), i = ix2 r j := ⟨i 0, i 1, funext fun a => by match a with | ⟨0, _⟩ => rfl | ⟨1, _⟩ => rfl⟩
  refine (MergeRef.addV_apply (m' (c.tc.loc Cert.Reference4Ideal.main_arg0)) _ (m' (c.tc.loc Cert.Reference4Ideal.main_arg7)) r j).trans ?_
  rw [a0, a7]
  refine congrArg₂ (α := EReal) (β := EReal) (· + ·) rfl (Finset.sum_congr rfl fun d _ =>
    congrArg₂ (α := EReal) (β := EReal) (· * ·) ?_ rfl)
  refine (MergeRef.merged_eq (m' (c.tc.loc Cert.Reference4Ideal.main_arg1)) (m' (c.tc.loc Cert.Reference4Ideal.main_arg2))
    (m' (c.tc.loc Cert.Reference4Ideal.main_arg3)) (m' (c.tc.loc Cert.Reference4Ideal.main_arg4))
    (m' (c.tc.loc Cert.Reference4Ideal.main_arg5)) (m' (c.tc.loc Cert.Reference4Ideal.main_arg6)) r d).trans ?_
  rw [a1, a2, a3, a4, a5, a6]
  exact (Fin.sum_univ_three (M := EReal) fun n => rowBranch (rowsIn m c n) (m (c.tc.loc Cert.Kernel4Ideal.main_arg4))
    (m (c.tc.loc Cert.Kernel4Ideal.main_arg5)) (m (c.tc.loc Cert.Kernel4Ideal.main_arg6)) n r d).symm

end Cert.Proof.Merge
-- ==== Proof.InProjRow.lean ====
/- The fused input projection in plain terms: what each of its results holds in a row, from the row's products with the weights. -/
module

public import proofs.«01_k».proof.Proof.Ffn

@[expose] public section

set_option maxRecDepth 16384

noncomputable section

open Idealize.ShloMosaic

namespace Cert.Proof.InProj
open Cert.Proof.Ffn

/-- Entry `j` of the row `x` divided by the root of its mean square, times the weight `w`. -/
def rms {n : ℕ} (cnt : EReal) (x w : Fin n → EReal) (j : Fin n) : EReal :=
  x j * Ideal.rsqrt (Ideal.div (∑ k, x k * x k) cnt + Ideal.ofBits .f32 0x358637BD#32) * w j

/-- The row `h`'s product with column `c` of the weights. -/
def proj (h : Fin 1024 → EReal) (w : Fin 1024 → Fin 5868 → EReal) (c : Fin 5868) : EReal := ∑ k, h k * w k c

section Rows
variable (p : Fin 5868 → EReal)

/-- The decoder's queries: each head in its group's half. -/
def qdRow (j : Fin 1024) : EReal :=
  if j.val / 64 % 2 = j.val / 128 / 4 then p ⟨416 + (64 * (j.val / 128) + j.val % 64), by omega⟩ else 0

/-- The normed compressed queries. -/
def cqRow (n : Fin 256 → EReal) (j : Fin 256) : EReal :=
  rms (Ideal.ofBits .f32 0x43800000#32) (fun i => p ⟨0 + i.val, by omega⟩) n j

/-- The indexer's queries, each head padded. -/
def qiRow (j : Fin 512) : EReal :=
  if h : j.val % 128 < 64 then p ⟨1184 + (j.val / 128 * 64 + j.val % 128), by omega⟩ else 0

/-- The normed compressed keys and values. -/
def ckvRow (n : Fin 128 → EReal) (j : Fin 128) : EReal :=
  rms (Ideal.ofBits .f32 0x43000000#32) (fun i => p ⟨256 + i.val, by omega⟩) n j

/-- The rotated keys. -/
def krRow (cs sn : Fin 16 → EReal) (j : Fin 32) : EReal :=
  if h : j.val < 16 then p ⟨384 + j.val, by omega⟩ * cs ⟨j.val, h⟩ - p ⟨400 + j.val, by omega⟩ * sn ⟨j.val, h⟩
  else p ⟨384 + (j.val - 16), by omega⟩ * sn ⟨j.val - 16, by omega⟩ + p ⟨400 + (j.val - 16), by omega⟩ * cs ⟨j.val - 16, by omega⟩

/-- The normed keys and values, the rotated keys, and zeros. -/
def kvcRow (n : Fin 128 → EReal) (cs sn : Fin 16 → EReal) (j : Fin 256) : EReal :=
  if h : j.val < 128 then ckvRow p n ⟨j.val, h⟩
  else if h' : j.val < 160 then krRow p cs sn ⟨j.val - 128, by omega⟩ else 0

/-- The indexer's weights, halved. -/
def wiRow (j : Fin 4) : EReal := p ⟨1504 + j.val, by omega⟩ * Ideal.ofBits .f32 0x3F000000#32

end Rows

/-- A table's row: the sixteen entries, twice, then zeros. -/
def twice (a : Fin 16 → EReal) (j : Fin 128) : EReal :=
  if h : j.val < 16 then a ⟨j.val, h⟩ else if h' : j.val < 32 then a ⟨j.val - 16, by omega⟩ else 0

/-! ## Finite rows -/

/-- A number, neither of the two infinities. -/
def IsNum (x : EReal) : Prop := ∃ r : ℝ, x = r

theorem IsNum.mul {x y : EReal} : IsNum x → IsNum y → IsNum (x * y)
  | ⟨a, ha⟩, ⟨b, hb⟩ => ⟨a * b, by rw [ha, hb, EReal.coe_mul]⟩

theorem sum_coe {n : ℕ} (f : Fin n → ℝ) : (∑ k, (f k : EReal)) = ((∑ k, f k : ℝ) : EReal) :=
  (map_sum (⟨⟨fun r : ℝ => (r : EReal), rfl⟩, fun a b => EReal.coe_add a b⟩ : ℝ →+ EReal) f Finset.univ).symm

/-- Products with the negated weights sum to the negated sum, the terms being numbers. -/
theorem sum_neg {n : ℕ} (h w : Fin n → EReal) (hh : ∀ k, IsNum (h k)) (hw : ∀ k, IsNum (w k)) :
    ∑ k, h k * -(w k) = -∑ k, h k * w k := by
  choose a ha using hh
  choose b hb using hw
  have e1 : ∀ k, h k * -(w k) = ((-(a k * b k) : ℝ) : EReal) := fun k => by
    rw [ha, hb, ← EReal.coe_neg, ← EReal.coe_mul, mul_neg]
  have e2 : ∀ k, h k * w k = ((a k * b k : ℝ) : EReal) := fun k => by rw [ha, hb, ← EReal.coe_mul]
  simp only [e1, e2]
  rw [sum_coe, sum_coe, Finset.sum_neg_distrib, EReal.coe_neg]

theorem sq_nonneg' (x : EReal) : 0 ≤ x * x := by
  induction x with
  | bot => simp
  | top => simp
  | coe r => rw [← EReal.coe_mul]; exact EReal.coe_nonneg.2 (mul_self_nonneg r)

theorem sq_top {x : EReal} (h : x * x ≠ ⊤) : IsNum x := by
  induction x with
  | bot => exact absurd (by simp) h
  | top => exact absurd (by simp) h
  | coe r => exact ⟨r, rfl⟩

/-- A normed row holds numbers where the norm's weights do, whatever the row is. -/
theorem rmsRow_fin (x w : Fin 1024 → EReal) (hw : ∀ k, IsNum (w k)) (j : Fin 1024) : IsNum (rmsRow x w j) := by
  unfold rmsRow
  refine IsNum.mul ?_ (hw j)
  have c1 : Ideal.ofBits .f32 0x44800000#32 = ((1024 : ℝ) : EReal) := by
    simp [Ideal.ofBits, Ideal.ieee]; rw [← EReal.coe_mul]; norm_num
  have c2 : ∃ e : ℝ, 0 < e ∧ Ideal.ofBits .f32 0x358637BD#32 = (e : EReal) := by
    refine ⟨_, ?_, by simp only [Ideal.ofBits, Ideal.ieee]; simp; rfl⟩
    norm_num
  obtain ⟨e, he, c2⟩ := c2
  rw [c1, c2]
  by_cases hS : (∑ k, x k * x k) = ⊤
  · have : Ideal.rsqrt (Ideal.div (∑ k, x k * x k) ((1024 : ℝ) : EReal) + (e : EReal)) = 0 := by
      rw [hS]
      unfold Ideal.div
      rw [if_neg (by norm_num), ← EReal.coe_inv, EReal.top_mul_coe_of_pos (by norm_num), EReal.top_add_coe]
      rfl
    rw [this, mul_zero]
    exact ⟨0, rfl⟩
  · have hx : ∀ k, IsNum (x k) := fun k => sq_top fun h => hS (top_le_iff.1 (h ▸ Finset.single_le_sum (f := fun k => x k * x k)
      (fun i _ => sq_nonneg' (x i)) (Finset.mem_univ k)))
    refine IsNum.mul (hx j) ?_
    choose a ha using hx
    have hs : (∑ k, x k * x k) = ((∑ k, a k * a k : ℝ) : EReal) := by
      rw [← sum_coe]
      exact Finset.sum_congr rfl fun k _ => by rw [ha, EReal.coe_mul]
    have pos : 0 ≤ ∑ k, a k * a k := Finset.sum_nonneg fun k _ => mul_self_nonneg (a k)
    rw [hs]
    generalize (∑ k, a k * a k) = s at pos
    have : Ideal.div (s : EReal) ((1024 : ℝ) : EReal) + (e : EReal) = ((s * (1024 : ℝ)⁻¹ + e : ℝ) : EReal) := by
      unfold Ideal.div
      rw [if_neg (by norm_num), ← EReal.coe_inv, ← EReal.coe_mul, ← EReal.coe_add]
    rw [this]
    have q : 0 < s * (1024 : ℝ)⁻¹ + e := by positivity
    refine ⟨(Real.sqrt (s * (1024 : ℝ)⁻¹ + e))⁻¹, ?_⟩
    show (if _ then _ else if _ then _ else _) = _
    rw [if_neg (not_lt.2 q.le), if_neg q.ne']

end Cert.Proof.InProj
-- ==== Proof.InProjCat.lean ====
/- The projection's weight array as the kernel takes it: its columns, group by group, from the weights' columns. -/
module

public import proofs.«01_k».proof.Proof.InProjRow
public import proofs.«01_k».proof.Proof.Gen.Kernel5Ideal.Frame
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Cert.Kernel5Ideal Cert.Kernel5Ideal.Gen

namespace Cert.Proof.InProj
open Cert.Proof.Ffn

/-! ## A head's columns set into the array of heads -/

/-- How a head's columns are set into the array of heads. -/
abbrev D : ScatterDims S1024x8x2x64 S2 S1024x64 := scatter_S1024x8x2x64_S2_S1024x64_01_12_12_0

section Set
variable (idx : IVec S2 32) (j : S1024x64.Idx)

theorem start0 : ScatterDims.start D j idx 0 = 0 := by unfold ScatterDims.start; rw [dif_neg (by decide)]
theorem start1 : ScatterDims.start D j idx 1 = (idx (ix1 0)).toInt := by
  unfold ScatterDims.start
  rw [dif_pos (by decide)]
  refine congrArg (fun i => (idx i).toInt) (funext fun a => ?_)
  fin_cases a
  rfl
theorem start2 : ScatterDims.start D j idx 2 = (idx (ix1 1)).toInt := by
  unfold ScatterDims.start
  rw [dif_pos (by decide)]
  refine congrArg (fun i => (idx i).toInt) (funext fun a => ?_)
  fin_cases a
  rfl
theorem start3 : ScatterDims.start D j idx 3 = 0 := by unfold ScatterDims.start; rw [dif_neg (by decide)]
theorem window0 : ScatterDims.window D j 0 = (j 0).val := rfl
theorem window1 : ScatterDims.window D j 1 = 0 := rfl
theorem window2 : ScatterDims.window D j 2 = 0 := rfl
theorem window3 : ScatterDims.window D j 3 = (j 1).val := rfl

/-- Where an update lands. -/
theorem lands (k : Fin 1024) (h : Fin 8) (g : Fin 2) (d : Fin 64) :
    ScatterDims.resultIdx? D j idx = some (ix4 k h g d)
      ↔ (j 0).val = k.val ∧ (idx (ix1 0)).toInt = h.val ∧ (idx (ix1 1)).toInt = g.val ∧ (j 1).val = d.val := by
  have hk : (j 0).val < 1024 := (j 0).isLt
  have hd : (j 1).val < 64 := (j 1).isLt
  unfold ScatterDims.resultIdx?
  constructor
  · intro e
    split at e
    · next hin =>
      have e' := Option.some.inj e
      have e0 := congrArg Fin.val (congrFun e' 0)
      have e1 := congrArg Fin.val (congrFun e' 1)
      have e2 := congrArg Fin.val (congrFun e' 2)
      have e3 := congrArg Fin.val (congrFun e' 3)
      have i0 := hin 0
      have i1 := hin 1
      have i2 := hin 2
      have i3 := hin 3
      simp only [start0, start1, start2, start3, window0, window1, window2, window3] at e0 e1 e2 e3 i0 i1 i2 i3
      have f0 : (ix4 k h g d 0).val = k.val := rfl
      have f1 : (ix4 k h g d 1).val = h.val := rfl
      have f2 : (ix4 k h g d 2).val = g.val := rfl
      have f3 : (ix4 k h g d 3).val = d.val := rfl
      omega
    · exact absurd e (by simp)
  · rintro ⟨e0, e1, e2, e3⟩
    have hin : ∀ a, 0 ≤ ScatterDims.start D j idx a + ScatterDims.window D j a
        ∧ ScatterDims.start D j idx a + ScatterDims.window D j a < S1024x8x2x64.size a := by
      intro a
      have hh := h.isLt
      have hg := g.isLt
      fin_cases a
      · simp only [Fin.zero_eta, start0, window0]; exact ⟨by omega, by show _ < (1024 : Int); omega⟩
      · simp only [Fin.mk_one, start1, window1]; exact ⟨by omega, by show _ < (8 : Int); omega⟩
      · simp only [Fin.reduceFinMk, start2, window2]; exact ⟨by omega, by show _ < (2 : Int); omega⟩
      · simp only [Fin.reduceFinMk, start3, window3]; exact ⟨by omega, by show _ < (64 : Int); omega⟩
    rw [dif_pos hin]
    refine congrArg some (funext fun a => Fin.ext ?_)
    fin_cases a
    · simp only [Fin.zero_eta, start0, window0]; show _ = k.val; omega
    · simp only [Fin.mk_one, start1, window1]; show _ = h.val; omega
    · simp only [Fin.reduceFinMk, start2, window2]; show _ = g.val; omega
    · simp only [Fin.reduceFinMk, start3, window3]; show _ = d.val; omega

end Set

theorem set_apply {α : Type} (x : S1024x8x2x64.Idx → α) (idx : IVec S2 32) (u : S1024x64.Idx → α) (h0 g0 : ℕ)
    (hh : (idx (ix1 0)).toInt = h0) (hg : (idx (ix1 1)).toInt = g0) (k : Fin 1024) (h : Fin 8) (g : Fin 2) (d : Fin 64) :
    Host.scatter D (fun _ b => b) x idx u (ix4 k h g d)
      = if h.val = h0 ∧ g.val = g0 then u (ix2 k d) else x (ix4 k h g d) := by
  by_cases e : h.val = h0 ∧ g.val = g0
  · rw [if_pos e]
    refine Routing.scatter_set_hit _ _ _ _ _ _ (fun j hj => ?_) (ix2 k d) ((lands idx _ k h g d).2 ⟨rfl, by omega, by omega, rfl⟩)
    obtain ⟨a, -, -, b⟩ := (lands idx j k h g d).1 hj
    refine congrArg u (funext fun i => Fin.ext ?_)
    fin_cases i
    · exact a
    · exact b
  · rw [if_neg e]
    refine Routing.scatter_set_miss _ _ _ _ _ fun j hj => e ?_
    obtain ⟨-, a, b, -⟩ := (lands idx j k h g d).1 hj
    omega

/-! ## The stages of the weight array -/

section Stages
variable {F : FTy → Type} [FloatOps F]

/-- The place that a head is set to. -/
def pairV (a b : IVec S1 32) : IVec S2 32 := concatenate S2 0 [⟨S1, a⟩, ⟨S1, b⟩] concatenates_S1_S1_S2_d0

/-- The head `n` of `a`, set into place `n, g` of `x`. -/
def putV (n : ℕ) (hs : S1024x8x64.Slices ![0, n, 0] S1024x1x64) (i g : BitVec 32) (a : FVec F S1024x8x64 .f32)
    (x : FVec F S1024x8x2x64 .f32) : FVec F S1024x8x2x64 .f32 :=
  Host.scatter D (fun _ b => b) x (pairV (broadcastInDim S1 ![] bcast_S_S1 (constantI S_ 32 i)) (broadcastInDim S1 ![] bcast_S_S1 (constantI S_ 32 g)))
    (shapeCast S1024x64 (extractStridedSlice S1024x1x64 ![0, n, 0] a hs) shapeCasts_S1024x1x64_S1024x64)

/-- The decoder's query columns: each head in the half that its group takes, zeros in the other. -/
def qdV (a : FVec F S1024x512 .f32) : FVec F S1024x1024 .f32 :=
  have b : FVec F S1024x8x64 .f32 := shapeCast S1024x8x64 a shapeCasts_S1024x512_S1024x8x64
  shapeCast S1024x1024 (putV 7 slices_S1024x8x64_S1024x1x64_0_7_0 7#32 1#32 b (putV 6 slices_S1024x8x64_S1024x1x64_0_6_0 6#32 1#32 b
    (putV 5 slices_S1024x8x64_S1024x1x64_0_5_0 5#32 1#32 b (putV 4 slices_S1024x8x64_S1024x1x64_0_4_0 4#32 1#32 b
    (putV 3 slices_S1024x8x64_S1024x1x64_0_3_0 3#32 0#32 b (putV 2 slices_S1024x8x64_S1024x1x64_0_2_0 2#32 0#32 b
    (putV 1 slices_S1024x8x64_S1024x1x64_0_1_0 1#32 0#32 b (putV 0 slices_S1024x8x64_S1024x1x64_0_0_0 0#32 0#32 b
      (broadcastInDim S1024x8x2x64 ![] bcast_S_S1024x8x2x64 (constant S_ .f32 0x00000000#32)))))))))) shapeCasts_S1024x8x2x64_S1024x1024

/-- The indexer's query columns, each head padded to twice its width. -/
def qiV (a : FVec F S1024x256 .f32) : FVec F S1024x512 .f32 :=
  shapeCast S1024x512 (pad S1024x4x128 ![0, 0, 0] ![0, 0, 64] ![0, 0, 0] (shapeCast S1024x4x64 a shapeCasts_S1024x256_S1024x4x64) (sitofp .f32 (constantI S_ 32 0#32)) pads_S1024x4x64_S1024x4x128_000_000_0640 h_S_) shapeCasts_S1024x4x128_S1024x512

/-- The rotary columns padded. -/
def krV (a : FVec F S1024x32 .f32) : FVec F S1024x128 .f32 :=
  pad S1024x128 ![0, 0] ![0, 96] ![0, 0] a (sitofp .f32 (constantI S_ 32 0#32)) pads_S1024x32_S1024x128_000_0960 h_S_

/-- The compressed columns and the rotary ones. -/
def kvcV (a : FVec F S1024x128 .f32) (b : FVec F S1024x128 .f32) : FVec F S1024x256 .f32 :=
  concatenate S1024x256 1 [⟨S1024x128, a⟩, ⟨S1024x128, b⟩] concatenates_S1024x128_S1024x128_S1024x256_d1

/-- Two halves side by side. -/
def twoV (a b : FVec F S1024x16 .f32) : FVec F S1024x32 .f32 :=
  concatenate S1024x32 1 [⟨S1024x16, a⟩, ⟨S1024x16, b⟩] concatenates_S1024x16_S1024x16_S1024x32_d1

/-- The rotary columns turned by a right angle. -/
def turnV (a : FVec F S1024x32 .f32) : FVec F S1024x32 .f32 :=
  twoV (Host.negf (extractStridedSlice S1024x16 ![0, 16] a slices_S1024x32_S1024x16_0_16)) (extractStridedSlice S1024x16 ![0, 0] a slices_S1024x32_S1024x16_0_0)

/-- The indexer's key columns padded. -/
def kiV (a : FVec F S1024x64 .f32) : FVec F S1024x128 .f32 :=
  pad S1024x128 ![0, 0] ![0, 64] ![0, 0] a (sitofp .f32 (constantI S_ 32 0#32)) pads_S1024x64_S1024x128_000_0640 h_S_

/-- The indexer's weights' columns padded. -/
def wiV (a : FVec F S1024x4 .f32) : FVec F S1024x128 .f32 :=
  pad S1024x128 ![0, 0] ![0, 124] ![0, 0] a (sitofp .f32 (constantI S_ 32 0#32)) pads_S1024x4_S1024x128_000_01240 h_S_

/-- The step columns padded. -/
def dtV (a : FVec F S1024x8 .f32) : FVec F S1024x128 .f32 :=
  pad S1024x128 ![0, 0] ![0, 120] ![0, 0] a (sitofp .f32 (constantI S_ 32 0#32)) pads_S1024x8_S1024x128_000_01200 h_S_

/-- The groups side by side. -/
def catV (a0 : FVec F S1024x3072 .f32) (a1 : FVec F S1024x512 .f32) (a2 : FVec F S1024x768 .f32) (a3 : FVec F S1024x1024 .f32)
    (a4 : FVec F S1024x256 .f32) (a5 : FVec F S1024x512 .f32) (a6 : FVec F S1024x256 .f32) (a7 a8 a9 a10 a11 a12 : FVec F S1024x128 .f32) :
    FVec F S1024x7168 .f32 :=
  concatenate S1024x7168 1 [⟨S1024x3072, a0⟩, ⟨S1024x512, a1⟩, ⟨S1024x768, a2⟩, ⟨S1024x1024, a3⟩, ⟨S1024x256, a4⟩, ⟨S1024x512, a5⟩, ⟨S1024x256, a6⟩, ⟨S1024x128, a7⟩, ⟨S1024x128, a8⟩, ⟨S1024x128, a9⟩, ⟨S1024x128, a10⟩, ⟨S1024x128, a11⟩, ⟨S1024x128, a12⟩] concatenates_S1024x3072_S1024x512_S1024x768_S1024x1024_S1024x256_S1024x512_S1024x256_S1024x128_S1024x128_S1024x128_S1024x128_S1024x128_S1024x128_S1024x7168_d1

/-- The weight array, from the weights. -/
def wcatV (w : FVec F S1024x5868 .f32) : FVec F S1024x7168 .f32 :=
  catV (extractStridedSlice S1024x3072 ![0, 2796] w slices_S1024x5868_S1024x3072_0_2796)
    (extractStridedSlice S1024x512 ![0, 1508] w slices_S1024x5868_S1024x512_0_1508)
    (extractStridedSlice S1024x768 ![0, 2020] w slices_S1024x5868_S1024x768_0_2020)
    (qdV (extractStridedSlice S1024x512 ![0, 416] w slices_S1024x5868_S1024x512_0_416))
    (extractStridedSlice S1024x256 ![0, 0] w slices_S1024x5868_S1024x256_0_0)
    (qiV (extractStridedSlice S1024x256 ![0, 1184] w slices_S1024x5868_S1024x256_0_1184))
    (kvcV (extractStridedSlice S1024x128 ![0, 256] w slices_S1024x5868_S1024x128_0_256)
      (krV (extractStridedSlice S1024x32 ![0, 384] w slices_S1024x5868_S1024x32_0_384)))
    (krV (turnV (extractStridedSlice S1024x32 ![0, 384] w slices_S1024x5868_S1024x32_0_384)))
    (extractStridedSlice S1024x128 ![0, 928] w slices_S1024x5868_S1024x128_0_928)
    (extractStridedSlice S1024x128 ![0, 1056] w slices_S1024x5868_S1024x128_0_1056)
    (kiV (extractStridedSlice S1024x64 ![0, 1440] w slices_S1024x5868_S1024x64_0_1440))
    (wiV (extractStridedSlice S1024x4 ![0, 1504] w slices_S1024x5868_S1024x4_0_1504))
    (dtV (extractStridedSlice S1024x8 ![0, 2788] w slices_S1024x5868_S1024x8_0_2788))

end Stages

theorem putV_apply (n : ℕ) (hn : n < 8) (hs : S1024x8x64.Slices ![0, n, 0] S1024x1x64) (i g : BitVec 32) (g0 : ℕ) (hi : i.toInt = n)
    (hg : g.toInt = g0) (a : FVec Ideal S1024x8x64 .f32) (x : FVec Ideal S1024x8x2x64 .f32) (k : Fin 1024) (h : Fin 8) (q : Fin 2) (d : Fin 64) :
    putV (F := Ideal) n hs i g a x (ix4 k h q d)
      = if h.val = n ∧ q.val = g0 then a (ix3 k ⟨n, hn⟩ d) else x (ix4 k h q d) := by
  unfold putV
  rw [set_apply _ _ _ n g0 ?_ ?_]
  · refine if_congr Iff.rfl ?_ rfl
    pointwise
  · refine Eq.trans ?_ hi
    pointwise [pairV]
  · refine Eq.trans ?_ hg
    pointwise [pairV]

theorem of_zero : (FloatOps.sitofp (F := Ideal) .f32 0#32 : EReal) = 0 := by simp [FloatOps.sitofp]

theorem heads_apply (b : FVec Ideal S1024x8x2x64 .f32) (k : Fin 1024) (h : Fin 8) (q : Fin 2) (d : Fin 64) :
    shapeCast S1024x1024 b shapeCasts_S1024x8x2x64_S1024x1024 (ix2 k ⟨128 * h.val + 64 * q.val + d.val, by omega⟩) = b (ix4 k h q d) := by
  pointwise

theorem split_apply (a : FVec Ideal S1024x512 .f32) (k : Fin 1024) (h : Fin 8) (d : Fin 64) :
    shapeCast S1024x8x64 a shapeCasts_S1024x512_S1024x8x64 (ix3 k h d) = a (ix2 k ⟨64 * h.val + d.val, by omega⟩) := by
  pointwise
  refine congrArg a (funext fun i => Fin.ext ?_)
  fin_cases i <;> simp [ix2] <;> omega

/-- A decoder query column: the head's own where its half is the group's, zero elsewhere. -/
theorem qdV_at (a : FVec Ideal S1024x512 .f32) (k : Fin 1024) (h : Fin 8) (q : Fin 2) (d : Fin 64) :
    qdV (F := Ideal) a (ix2 k ⟨128 * h.val + 64 * q.val + d.val, by omega⟩)
      = if q.val = h.val / 4 then a (ix2 k ⟨64 * h.val + d.val, by omega⟩) else (0 : EReal) := by
  have z : (broadcastInDim S1024x8x2x64 ![] bcast_S_S1024x8x2x64 (constant (F := Ideal) S_ .f32 0x00000000#32) (ix4 k h q d) : EReal) = 0 := by
    pointwise
  unfold qdV
  rw [heads_apply, putV_apply 7 (by omega) _ _ _ 1 rfl rfl, putV_apply 6 (by omega) _ _ _ 1 rfl rfl, putV_apply 5 (by omega) _ _ _ 1 rfl rfl,
    putV_apply 4 (by omega) _ _ _ 1 rfl rfl, putV_apply 3 (by omega) _ _ _ 0 rfl rfl, putV_apply 2 (by omega) _ _ _ 0 rfl rfl,
    putV_apply 1 (by omega) _ _ _ 0 rfl rfl, putV_apply 0 (by omega) _ _ _ 0 rfl rfl, z]
  simp only [split_apply]
  fin_cases h <;> fin_cases q <;> rfl

theorem qiV_apply (a : FVec Ideal S1024x256 .f32) (k : Fin 1024) (j : Fin 512) :
    qiV (F := Ideal) a (ix2 k j)
      = if h : j.val % 128 < 64 then a (ix2 k ⟨j.val / 128 * 64 + j.val % 128, by omega⟩) else (0 : EReal) := by
  pointwise [qiV]
  rw [of_zero]
  have h : j.val / 128 < 4 := by omega
  simp only [h, true_and]

theorem krV_apply (a : FVec Ideal S1024x32 .f32) (k : Fin 1024) (j : Fin 128) :
    krV (F := Ideal) a (ix2 k j) = if h : j.val < 32 then a (ix2 k ⟨j.val, h⟩) else (0 : EReal) := by
  pointwise [krV]
  rw [of_zero]

theorem kiV_apply (a : FVec Ideal S1024x64 .f32) (k : Fin 1024) (j : Fin 64) :
    kiV (F := Ideal) a (ix2 k ⟨j.val, by omega⟩) = a (ix2 k j) := by
  pointwise [kiV]

theorem wiV_apply (a : FVec Ideal S1024x4 .f32) (k : Fin 1024) (j : Fin 4) :
    wiV (F := Ideal) a (ix2 k ⟨j.val, by omega⟩) = a (ix2 k j) := by
  pointwise [wiV]

theorem dtV_apply (a : FVec Ideal S1024x8 .f32) (k : Fin 1024) (j : Fin 8) :
    dtV (F := Ideal) a (ix2 k ⟨j.val, by omega⟩) = a (ix2 k j) := by
  pointwise [dtV]

theorem turnV_apply (a : FVec Ideal S1024x32 .f32) (k : Fin 1024) (j : Fin 32) :
    turnV (F := Ideal) a (ix2 k j) = if h : j.val < 16 then -(a (ix2 k ⟨16 + j.val, by omega⟩) : EReal) else a (ix2 k ⟨j.val - 16, by omega⟩) := by
  pointwise [turnV, twoV]

theorem kvcV_apply (a b : FVec Ideal S1024x128 .f32) (k : Fin 1024) (j : Fin 128) :
    kvcV (F := Ideal) a b (ix2 k ⟨j.val, by omega⟩) = a (ix2 k j) ∧ kvcV (F := Ideal) a b (ix2 k ⟨128 + j.val, by omega⟩) = b (ix2 k j) := by
  constructor <;> pointwise [kvcV]

section Groups
variable (a0 : FVec Ideal S1024x3072 .f32) (a1 : FVec Ideal S1024x512 .f32) (a2 : FVec Ideal S1024x768 .f32) (a3 : FVec Ideal S1024x1024 .f32)
  (a4 : FVec Ideal S1024x256 .f32) (a5 : FVec Ideal S1024x512 .f32) (a6 : FVec Ideal S1024x256 .f32) (a7 a8 a9 a10 a11 a12 : FVec Ideal S1024x128 .f32)
  (k : Fin 1024)

/-- A column of group `n`, which begins at column `o`. -/
theorem group {s : ℕ} (n : ℕ) (o : ℕ) (a : FVec Ideal ⟨2, ![1024, s]⟩ .f32) (j : Fin s) (ho : o + j.val < 7168)
    (hn : n < 13)
    (h : [(⟨S1024x3072, a0⟩ : (s : Shape) × (s.Idx → EReal)), ⟨S1024x512, a1⟩, ⟨S1024x768, a2⟩, ⟨S1024x1024, a3⟩, ⟨S1024x256, a4⟩, ⟨S1024x512, a5⟩, ⟨S1024x256, a6⟩, ⟨S1024x128, a7⟩, ⟨S1024x128, a8⟩, ⟨S1024x128, a9⟩, ⟨S1024x128, a10⟩, ⟨S1024x128, a11⟩, ⟨S1024x128, a12⟩][n]'hn = ⟨⟨2, ![1024, s]⟩, a⟩)
    (hp : ((([S1024x3072, S1024x512, S1024x768, S1024x1024, S1024x256, S1024x512, S1024x256, S1024x128, S1024x128, S1024x128, S1024x128, S1024x128, S1024x128].take n)).map fun s => if h : s.rank = S1024x7168.rank then s.size ((1 : Fin 2).cast h.symm) else 0).sum = o) :
    catV (F := Ideal) a0 a1 a2 a3 a4 a5 a6 a7 a8 a9 a10 a11 a12 (ix2 k ⟨o + j.val, ho⟩) = a (ix2 k j) := by
  unfold catV
  refine concatenate_apply_piece (t := S1024x7168) 1 _ _ _ n (by exact hn) _ a h rfl o ?_ (ix2 k j) ?_ rfl
  · rw [List.map_take]
    exact hp
  · intro b hb
    fin_cases b
    · rfl
    · exact absurd rfl hb

end Groups

/-! ## A row's products with the weight array's columns -/

section Products
variable (h : Fin 1024 → EReal) (w : FVec Ideal S1024x5868 .f32)

/-- The row's product with column `j` of the weight array. -/
def pc (j : Fin 7168) : EReal := ∑ k, h k * wcatV (F := Ideal) w (ix2 k j)

/-- The row's products with the weights. -/
abbrev pw : Fin 5868 → EReal := proj h fun k j => w (ix2 k j)

theorem sum_ite (b : Prop) [Decidable b] (f : b → Fin 1024 → EReal) (c : b → Fin 5868) (hf : ∀ hb k, f hb k = w (ix2 k (c hb))) :
    ∑ k, h k * (if hb : b then f hb k else 0) = if hb : b then pw h w (c hb) else 0 := by
  by_cases hb : b
  · simp only [dif_pos hb]
    exact Finset.sum_congr rfl fun k _ => congrArg (h k * ·) (hf hb k)
  · simp only [dif_neg hb, mul_zero, Finset.sum_const_zero]

theorem pc_gate (j : Fin 3072) : pc h w ⟨0 + j.val, by omega⟩ = pw h w ⟨2796 + j.val, by omega⟩ :=
  Finset.sum_congr rfl fun k _ => congrArg (h k * ·) ((group _ _ _ _ _ _ _ _ _ _ _ _ _ k 0 0 _ j (by omega) (by decide) rfl rfl).trans (by pointwise))

theorem pc_z (j : Fin 512) : pc h w ⟨3072 + j.val, by omega⟩ = pw h w ⟨1508 + j.val, by omega⟩ :=
  Finset.sum_congr rfl fun k _ => congrArg (h k * ·) ((group _ _ _ _ _ _ _ _ _ _ _ _ _ k 1 3072 _ j (by omega) (by decide) rfl rfl).trans (by pointwise))

theorem pc_xbc (j : Fin 768) : pc h w ⟨3584 + j.val, by omega⟩ = pw h w ⟨2020 + j.val, by omega⟩ :=
  Finset.sum_congr rfl fun k _ => congrArg (h k * ·) ((group _ _ _ _ _ _ _ _ _ _ _ _ _ k 2 3584 _ j (by omega) (by decide) rfl rfl).trans (by pointwise))

theorem pc_cq (j : Fin 256) : pc h w ⟨5376 + j.val, by omega⟩ = pw h w ⟨0 + j.val, by omega⟩ :=
  Finset.sum_congr rfl fun k _ => congrArg (h k * ·) ((group _ _ _ _ _ _ _ _ _ _ _ _ _ k 4 5376 _ j (by omega) (by decide) rfl rfl).trans (by pointwise))

theorem pc_kd (j : Fin 128) : pc h w ⟨6528 + j.val, by omega⟩ = pw h w ⟨928 + j.val, by omega⟩ :=
  Finset.sum_congr rfl fun k _ => congrArg (h k * ·) ((group _ _ _ _ _ _ _ _ _ _ _ _ _ k 8 6528 _ j (by omega) (by decide) rfl rfl).trans (by pointwise))

theorem pc_vd (j : Fin 128) : pc h w ⟨6656 + j.val, by omega⟩ = pw h w ⟨1056 + j.val, by omega⟩ :=
  Finset.sum_congr rfl fun k _ => congrArg (h k * ·) ((group _ _ _ _ _ _ _ _ _ _ _ _ _ k 9 6656 _ j (by omega) (by decide) rfl rfl).trans (by pointwise))

theorem pc_ki (j : Fin 64) : pc h w ⟨6784 + j.val, by omega⟩ = pw h w ⟨1440 + j.val, by omega⟩ :=
  Finset.sum_congr rfl fun k _ => congrArg (h k * ·) ((group _ _ _ _ _ _ _ _ _ _ _ _ _ k 10 6784 _ ⟨j.val, by omega⟩ (by dsimp only; omega) (by decide) rfl rfl).trans
    ((kiV_apply _ k j).trans (by pointwise)))

theorem pc_wi (j : Fin 4) : pc h w ⟨6912 + j.val, by omega⟩ = pw h w ⟨1504 + j.val, by omega⟩ :=
  Finset.sum_congr rfl fun k _ => congrArg (h k * ·) ((group _ _ _ _ _ _ _ _ _ _ _ _ _ k 11 6912 _ ⟨j.val, by omega⟩ (by dsimp only; omega) (by decide) rfl rfl).trans
    ((wiV_apply _ k j).trans (by pointwise)))

theorem pc_dt (j : Fin 8) : pc h w ⟨7040 + j.val, by omega⟩ = pw h w ⟨2788 + j.val, by omega⟩ :=
  Finset.sum_congr rfl fun k _ => congrArg (h k * ·) ((group _ _ _ _ _ _ _ _ _ _ _ _ _ k 12 7040 _ ⟨j.val, by omega⟩ (by dsimp only; omega) (by decide) rfl rfl).trans
    ((dtV_apply _ k j).trans (by pointwise)))

theorem pc_qd (j : Fin 1024) : pc h w ⟨4352 + j.val, by omega⟩ = qdRow (pw h w) j := by
  obtain ⟨a, q, d, rfl⟩ : ∃ (a : Fin 8) (q : Fin 2) (d : Fin 64), j = ⟨128 * a.val + 64 * q.val + d.val, by omega⟩ :=
    ⟨⟨j.val / 128, by omega⟩, ⟨j.val / 64 % 2, by omega⟩, ⟨j.val % 64, by omega⟩, Fin.ext (by dsimp only; omega)⟩
  have e : ∀ k, wcatV (F := Ideal) w (ix2 k ⟨4352 + (128 * a.val + 64 * q.val + d.val), by omega⟩)
      = if _ : q.val = a.val / 4 then w (ix2 k ⟨416 + (64 * a.val + d.val), by omega⟩) else (0 : EReal) := fun k => by
    refine (group _ _ _ _ _ _ _ _ _ _ _ _ _ k 3 4352 _ ⟨128 * a.val + 64 * q.val + d.val, by omega⟩ (by dsimp only; omega) (by decide) rfl rfl).trans ?_
    rw [qdV_at, ← dite_eq_ite]
    refine dite_congr rfl (fun _ => ?_) fun _ => rfl
    pointwise
  refine (Finset.sum_congr rfl fun k _ => congrArg (h k * ·) (e k)).trans ?_
  rw [sum_ite h w _ _ (fun _ => ⟨416 + (64 * a.val + d.val), by omega⟩) fun _ _ => rfl]
  unfold qdRow
  rw [← dite_eq_ite]
  have e1 : (128 * a.val + 64 * q.val + d.val) / 64 % 2 = q.val := by omega
  have e2 : (128 * a.val + 64 * q.val + d.val) / 128 = a.val := by omega
  have e3 : (128 * a.val + 64 * q.val + d.val) % 64 = d.val := by omega
  simp only [e1, e2, e3]

theorem pc_qi (j : Fin 512) : pc h w ⟨5632 + j.val, by omega⟩ = qiRow (pw h w) j := by
  have e : ∀ k, wcatV (F := Ideal) w (ix2 k ⟨5632 + j.val, by omega⟩)
      = if h : j.val % 128 < 64 then w (ix2 k ⟨1184 + (j.val / 128 * 64 + j.val % 128), by omega⟩) else (0 : EReal) := fun k => by
    refine (group _ _ _ _ _ _ _ _ _ _ _ _ _ k 5 5632 _ j (by omega) (by decide) rfl rfl).trans ?_
    rw [qiV_apply]
    refine dite_congr rfl (fun _ => ?_) fun _ => rfl
    pointwise
  refine (Finset.sum_congr rfl fun k _ => congrArg (h k * ·) (e k)).trans ?_
  exact sum_ite h w _ _ (fun hb => ⟨1184 + (j.val / 128 * 64 + j.val % 128), by omega⟩) fun _ _ => rfl

theorem pc_ckv (j : Fin 128) : pc h w ⟨6144 + j.val, by omega⟩ = pw h w ⟨256 + j.val, by omega⟩ :=
  Finset.sum_congr rfl fun k _ => congrArg (h k * ·) ((group _ _ _ _ _ _ _ _ _ _ _ _ _ k 6 6144 _ ⟨j.val, by omega⟩ (by dsimp only; omega) (by decide) rfl rfl).trans
    ((kvcV_apply _ _ k j).1.trans (by pointwise)))

theorem pc_kr (j : Fin 128) : pc h w ⟨6272 + j.val, by omega⟩ = if hj : j.val < 32 then pw h w ⟨384 + j.val, by omega⟩ else 0 := by
  have e : ∀ k, wcatV (F := Ideal) w (ix2 k ⟨6272 + j.val, by omega⟩)
      = if hj : j.val < 32 then w (ix2 k ⟨384 + j.val, by omega⟩) else (0 : EReal) := fun k => by
    have i : (⟨6272 + j.val, by omega⟩ : Fin 7168) = ⟨6144 + (128 + j.val), by omega⟩ := Fin.ext (by dsimp only; omega)
    rw [i]
    refine (group _ _ _ _ _ _ _ _ _ _ _ _ _ k 6 6144 _ ⟨128 + j.val, by omega⟩ (by dsimp only; omega) (by decide) rfl rfl).trans ?_
    rw [(kvcV_apply _ _ k j).2, krV_apply]
    refine dite_congr rfl (fun _ => ?_) fun _ => rfl
    pointwise
  refine (Finset.sum_congr rfl fun k _ => congrArg (h k * ·) (e k)).trans ?_
  exact sum_ite h w _ _ (fun hb => ⟨384 + j.val, by omega⟩) fun _ _ => rfl

/-- The product with a turned rotary column, the row and the rotary columns being numbers. -/
theorem pc_turn (hh : ∀ k, IsNum (h k)) (hw : ∀ k (j : Fin 32), IsNum (w (ix2 k ⟨384 + j.val, by omega⟩))) (j : Fin 128) :
    pc h w ⟨6400 + j.val, by omega⟩ = if hj : j.val < 16 then -pw h w ⟨400 + j.val, by omega⟩
      else if hj' : j.val < 32 then pw h w ⟨384 + (j.val - 16), by omega⟩ else 0 := by
  have e : ∀ k, wcatV (F := Ideal) w (ix2 k ⟨6400 + j.val, by omega⟩)
      = if hj : j.val < 16 then -(w (ix2 k ⟨400 + j.val, by omega⟩) : EReal)
        else if hj' : j.val < 32 then w (ix2 k ⟨384 + (j.val - 16), by omega⟩) else (0 : EReal) := fun k => by
    refine (group _ _ _ _ _ _ _ _ _ _ _ _ _ k 7 6400 _ j (by omega) (by decide) rfl rfl).trans ?_
    rw [krV_apply]
    by_cases h1 : j.val < 16
    · have h2 : j.val < 32 := by omega
      rw [dif_pos h2, dif_pos h1, turnV_apply, dif_pos h1]
      refine congrArg (fun x : EReal => -x) ?_
      pointwise
      refine congrArg w (congrArg (ix2 k) (Fin.ext ?_))
      dsimp only
      omega
    · rw [dif_neg h1]
      refine dite_congr rfl (fun h2 => ?_) fun _ => rfl
      rw [turnV_apply, dif_neg h1]
      pointwise
  refine (Finset.sum_congr rfl fun k _ => congrArg (h k * ·) (e k)).trans ?_
  by_cases h1 : j.val < 16
  · simp only [dif_pos h1]
    refine sum_neg h _ hh fun k => ?_
    have q := hw k ⟨16 + j.val, by omega⟩
    have i : (⟨384 + (16 + j.val), by omega⟩ : Fin 5868) = ⟨400 + j.val, by omega⟩ := Fin.ext (by dsimp only; omega)
    rw [i] at q
    exact q
  · simp only [dif_neg h1]
    exact sum_ite h w _ _ (fun hb => ⟨384 + (j.val - 16), by omega⟩) fun _ _ => rfl

end Products

end Cert.Proof.InProj
-- ==== Proof.InProjPay.lean ====
/- What a point of the input projection writes, at an index, from the blocks that it reads. -/
module

public import proofs.«01_k».proof.Proof.InProjCat

@[expose] public section

set_option maxRecDepth 16384

noncomputable section

open Idealize.ShloMosaic Idealize.ShloMosaic.TcCoe Idealize.SL.Sem
open Cert.Kernel5Ideal Cert.Kernel5Ideal.Gen

namespace Cert.Proof.InProj
open Cert.Proof.Ffn

/-! ## The payloads -/

theorem pay5_apply (x : Vec Ideal S256x1024 .f32) (n : Vec Ideal S1x1024 .f32) (r : Fin 256) (k : Fin 1024) :
    k0_pay5 (F := Ideal) x n (ix2 r k) = rmsRow (fun k => x (ix2 r k)) (fun k => n (ix2 0 k)) k := by
  unfold rmsRow
  pointwise [k0_pay5]

theorem pay6_apply (x : Vec Ideal S256x1024 .f32) (n : Vec Ideal S1x1024 .f32) (w : Vec Ideal S1024x3072 .bf16) (r : Fin 256) (j : Fin 3072) :
    k0_pay6 (F := Ideal) x n w (ix2 r j) = ∑ k, k0_pay5 (F := Ideal) x n (ix2 r k) * w (ix2 k j) := by
  pointwise [k0_pay6]

theorem pay7_apply (x : Vec Ideal S256x1024 .f32) (n : Vec Ideal S1x1024 .f32) (w : Vec Ideal S1024x512 .bf16) (r : Fin 256) (j : Fin 512) :
    k0_pay7 (F := Ideal) x n w (ix2 r j) = ∑ k, k0_pay5 (F := Ideal) x n (ix2 r k) * w (ix2 k j) := by
  pointwise [k0_pay7]

theorem pay8_apply (x : Vec Ideal S256x1024 .f32) (n : Vec Ideal S1x1024 .f32) (w : Vec Ideal S1024x768 .bf16) (r : Fin 256) (j : Fin 768) :
    k0_pay8 (F := Ideal) x n w (ix2 r j) = ∑ k, k0_pay5 (F := Ideal) x n (ix2 r k) * w (ix2 k j) := by
  pointwise [k0_pay8]

theorem pay10_apply (x : Vec Ideal S256x1024 .f32) (n : Vec Ideal S1x1024 .f32) (w : Vec Ideal S1024x1024 .bf16) (r : Fin 256) (j : Fin 1024) :
    k0_pay10 (F := Ideal) (k0_pay9 (F := Ideal) x n w) (ix2 r j) = ∑ k, k0_pay5 (F := Ideal) x n (ix2 r k) * w (ix2 k j) := by
  pointwise [k0_pay10, k0_pay9]

section
variable (h : FVec Ideal S256x1024 .bf16) (r : Fin 256)

theorem pay11_apply (w : Vec Ideal S1024x256 .bf16) (n : Vec Ideal S1x256 .f32) (j : Fin 256) :
    k0_pay11 (F := Ideal) h w n (ix2 r j)
      = rms (Ideal.ofBits .f32 0x43800000#32) (fun i => ∑ k, h (ix2 r k) * w (ix2 k i)) (fun i => n (ix2 0 i)) j := by
  unfold rms
  pointwise [k0_pay11]

theorem pay12_apply (w : Vec Ideal S1024x512 .bf16) (j : Fin 512) : k0_pay12 (F := Ideal) h w (ix2 r j) = ∑ k, h (ix2 r k) * w (ix2 k j) := by
  pointwise [k0_pay12]

theorem pay13_apply (w : Vec Ideal S1024x256 .bf16) (j : Fin 256) : k0_pay13 (F := Ideal) h w (ix2 r j) = ∑ k, h (ix2 r k) * w (ix2 k j) := by
  pointwise [k0_pay13]

theorem pay14_apply (w : Vec Ideal S1024x256 .bf16) (j : Fin 128) :
    k0_pay14 (F := Ideal) h w (ix2 r j) = k0_pay13 (F := Ideal) h w (ix2 r ⟨j.val, by omega⟩) := by
  pointwise [k0_pay14]

theorem pay16_apply (w : Vec Ideal S1024x256 .bf16) :
    k0_pay16 (F := Ideal) h w (ix1 r) = ∑ j, k0_pay14 (F := Ideal) h w (ix2 r j) * k0_pay14 (F := Ideal) h w (ix2 r j) := by
  pointwise [k0_pay16]

theorem pay17_apply (a : FVec Ideal S256x128 .f32) (n : FVec Ideal S1x128 .f32) (s : FVec Ideal S256 .f32) (j : Fin 128) :
    k0_pay17 (F := Ideal) a n s (ix2 r j)
      = a (ix2 r j) * Ideal.rsqrt (Ideal.div (s (ix1 r)) (Ideal.ofBits .f32 0x43000000#32) + Ideal.ofBits .f32 0x358637BD#32) * n (ix2 0 j) := by
  pointwise [k0_pay17]

theorem pay15_apply (n : Vec Ideal S1x128 .f32) (j : Fin 128) : k0_pay15 (F := Ideal) n (ix2 0 j) = n (ix2 0 j) := by
  pointwise [k0_pay15]

theorem pay18_apply (a : FVec Ideal S256x256 .f32) (cs : Vec Ideal S256x128 .f32) (w : Vec Ideal S1024x128 .bf16) (sn : Vec Ideal S256x128 .f32) (j : Fin 128) :
    k0_pay18 (F := Ideal) h a cs w sn (ix2 r j)
      = a (ix2 r ⟨128 + j.val, by omega⟩) * cs (ix2 r j) + (∑ k, h (ix2 r k) * w (ix2 k j)) * sn (ix2 r j) := by
  pointwise [k0_pay18]

theorem pay19_apply (a : FVec Ideal S256x256 .f32) (cs : Vec Ideal S256x128 .f32) (w : Vec Ideal S1024x128 .bf16) (sn : Vec Ideal S256x128 .f32) (j : Fin 32) :
    k0_pay19 (F := Ideal) h a cs w sn (ix2 r j) = k0_pay18 (F := Ideal) h a cs w sn (ix2 r ⟨j.val, by omega⟩) := by
  pointwise [k0_pay19]

theorem pay20_apply (a : FVec Ideal S256x256 .f32) (b : FVec Ideal S256x128 .f32) (n : FVec Ideal S1x128 .f32) (s : FVec Ideal S256 .f32)
    (cs : Vec Ideal S256x128 .f32) (w : Vec Ideal S1024x128 .bf16) (sn : Vec Ideal S256x128 .f32) (j : Fin 256) :
    k0_pay20 (F := Ideal) h a b n s cs w sn (ix2 r j)
      = if hj : j.val < 128 then k0_pay17 (F := Ideal) b n s (ix2 r ⟨j.val, hj⟩)
        else k0_pay18 (F := Ideal) h a cs w sn (ix2 r ⟨j.val - 128, by omega⟩) := by
  pointwise [k0_pay20]

theorem pay21_apply (w : Vec Ideal S1024x128 .bf16) (j : Fin 128) : k0_pay21 (F := Ideal) h w (ix2 r j) = ∑ k, h (ix2 r k) * w (ix2 k j) := by
  pointwise [k0_pay21]

theorem pay1_apply (w : Vec Ideal S1024x128 .bf16) (j : Fin 128) :
    k0_pay1 (F := Ideal) h (k0_pay22 (F := Ideal) w) (constant S256x128 .f32 0x00000000#32) (ix2 r j) = ∑ k, h (ix2 r k) * w (ix2 k j) := by
  pointwise [k0_pay1, k0_pay22]

theorem pay2_apply (w : Vec Ideal S1024x128 .bf16) (j : Fin 64) :
    k0_pay2 (F := Ideal) h w (ix2 r j) = ∑ k, h (ix2 r k) * w (ix2 k ⟨j.val, by omega⟩) := by
  pointwise [k0_pay2]

theorem pay3_apply (w : Vec Ideal S1024x128 .bf16) (j : Fin 4) :
    k0_pay3 (F := Ideal) h w (ix2 r j) = (∑ k, h (ix2 r k) * w (ix2 k ⟨j.val, by omega⟩)) * Ideal.ofBits .f32 0x3F000000#32 := by
  pointwise [k0_pay3]

theorem pay4_apply (w : Vec Ideal S1024x128 .bf16) (j : Fin 8) :
    k0_pay4 (F := Ideal) h w (ix2 r j) = ∑ k, h (ix2 r k) * w (ix2 k ⟨j.val, by omega⟩) := by
  pointwise [k0_pay4]

end

/-- Part of the weight array, `n` columns from column `o`. -/
theorem ld_cols (w : Vec Ideal S1024x7168 .bf16) {n o : ℕ}
    (inb : ∀ a, (![0, o] : Fin 2 → ℕ) a + (⟨2, ![1024, n]⟩ : Shape).size a ≤ S1024x7168.size a) (k : Fin 1024) (j : Fin n) (hj : o + j.val < 7168) :
    View.ld w (Rect.unit (s := S1024x7168) ![0, o] (⟨2, ![1024, n]⟩ : Shape).size inb) (ix2 k j) = w (ix2 k ⟨o + j.val, hj⟩) := by
  refine congrArg w (funext fun a => Fin.ext ?_)
  fin_cases a <;> simp [ix2]

end Cert.Proof.InProj
-- ==== Proof.InProjOut.lean ====
/- What a point of the input projection writes, result by result, from the row's products with the weight array. -/
module

public import proofs.«01_k».proof.Proof.InProjPay

@[expose] public section

set_option maxRecDepth 16384

noncomputable section

open Idealize.ShloMosaic Idealize.ShloMosaic.TcCoe Idealize.SL.Sem
open Cert.Kernel5Ideal Cert.Kernel5Ideal.Gen

namespace Cert.Proof.InProj
open Cert.Proof.Ffn

variable (x0 : Vec Ideal S256x1024 .f32) (x1 : Vec Ideal S1x1024 .f32) (x2 : Vec Ideal S1024x7168 .bf16) (x3 x4 : Vec Ideal S256x128 .f32)
  (x5 : Vec Ideal S1x256 .f32) (x6 : Vec Ideal S1x128 .f32) (r : Fin 256)

/-- The normed row's product with column `j` of the weight array. -/
def pk (j : Fin 7168) : EReal := ∑ k, rmsRow (fun k => x0 (ix2 r k)) (fun k => x1 (ix2 0 k)) k * x2 (ix2 k j)

theorem cols {n o : ℕ} (inb : ∀ a, (![0, o] : Fin 2 → ℕ) a + (⟨2, ![1024, n]⟩ : Shape).size a ≤ S1024x7168.size a) (j : Fin n)
    (hj : o + j.val < 7168) :
    ∑ k, k0_pay5 (F := Ideal) x0 x1 (ix2 r k) * View.ld x2 (Rect.unit (s := S1024x7168) ![0, o] (⟨2, ![1024, n]⟩ : Shape).size inb) (ix2 k j)
      = pk x0 x1 x2 r ⟨o + j.val, hj⟩ :=
  Finset.sum_congr rfl fun k _ => congrArg₂ (α := EReal) (β := EReal) (· * ·) (pay5_apply x0 x1 r k) (ld_cols x2 inb k j hj)

theorem pay23 : k0_pay23 (F := Ideal) x0 x1 x2 x3 x4 x5 x6 = k0_pay5 x0 x1 := by
  unfold k0_pay23
  frame_out

theorem cols' (n o : ℕ) (inb : ∀ a, (![0, o] : Fin 2 → ℕ) a + (⟨2, ![1024, n]⟩ : Shape).size a ≤ S1024x7168.size a) (j : Fin n)
    (hj : o + j.val < 7168) :
    ∑ k, k0_pay23 (F := Ideal) x0 x1 x2 x3 x4 x5 x6 (ix2 r k) * View.ld x2 (Rect.unit (s := S1024x7168) ![0, o] (⟨2, ![1024, n]⟩ : Shape).size inb) (ix2 k j)
      = pk x0 x1 x2 r ⟨o + j.val, hj⟩ := by
  rw [pay23]
  exact cols x0 x1 x2 r inb j hj

theorem out7 (j : Fin 3072) : out0_7 (F := Ideal) x0 x1 x2 x3 x4 x5 x6 (ix2 r j) = pk x0 x1 x2 r ⟨0 + j.val, by omega⟩ := by
  frame_out
  exact (pay6_apply _ _ _ r j).trans (cols x0 x1 x2 r _ j _)

theorem out8 (j : Fin 512) : out0_8 (F := Ideal) x0 x1 x2 x3 x4 x5 x6 (ix2 r j) = pk x0 x1 x2 r ⟨3072 + j.val, by omega⟩ := by
  frame_out
  exact (pay7_apply _ _ _ r j).trans (cols x0 x1 x2 r _ j _)

theorem out9 (j : Fin 768) : out0_9 (F := Ideal) x0 x1 x2 x3 x4 x5 x6 (ix2 r j) = pk x0 x1 x2 r ⟨3584 + j.val, by omega⟩ := by
  frame_out
  exact (pay8_apply _ _ _ r j).trans (cols x0 x1 x2 r _ j _)

theorem out10 (j : Fin 1024) : out0_10 (F := Ideal) x0 x1 x2 x3 x4 x5 x6 (ix2 r j) = pk x0 x1 x2 r ⟨4352 + j.val, by omega⟩ := by
  frame_out
  exact (pay10_apply _ _ _ r j).trans (cols x0 x1 x2 r _ j _)

theorem out11 (j : Fin 256) : out0_11 (F := Ideal) x0 x1 x2 x3 x4 x5 x6 (ix2 r j)
    = rms (Ideal.ofBits .f32 0x43800000#32) (fun i : Fin 256 => pk x0 x1 x2 r ⟨5376 + i.val, by omega⟩) (fun i => x5 (ix2 0 i)) j := by
  frame_out
  refine (pay11_apply _ r _ _ j).trans ?_
  exact congrArg (fun f => rms _ f _ j) (funext fun i => cols' x0 x1 x2 x3 x4 x5 x6 r 256 5376 _ i _)

theorem out12 (j : Fin 512) : out0_12 (F := Ideal) x0 x1 x2 x3 x4 x5 x6 (ix2 r j) = pk x0 x1 x2 r ⟨5632 + j.val, by omega⟩ := by
  frame_out
  exact (pay12_apply _ r _ j).trans (cols' x0 x1 x2 x3 x4 x5 x6 r 512 5632 _ j _)

theorem pay24 (j : Fin 256) : k0_pay24 (F := Ideal) x0 x1 x2 x3 x4 x5 x6 (ix2 r j) = pk x0 x1 x2 r ⟨6144 + j.val, by omega⟩ := by
  unfold k0_pay24 k0_pay23
  frame_out
  exact (pay13_apply _ r _ j).trans (cols x0 x1 x2 r _ j _)

theorem ckv (j : Fin 128) : k0_pay17 (F := Ideal) (k0_pay25 x0 x1 x2 x3 x4 x5 x6) (k0_pay26 x0 x1 x2 x3 x4 x5 x6) (k0_pay27 x0 x1 x2 x3 x4 x5 x6) (ix2 r j)
    = rms (Ideal.ofBits .f32 0x43000000#32) (fun i : Fin 128 => pk x0 x1 x2 r ⟨6144 + i.val, by omega⟩) (fun i => x6 (ix2 0 i)) j := by
  have e : ∀ i : Fin 128, k0_pay25 (F := Ideal) x0 x1 x2 x3 x4 x5 x6 (ix2 r i) = pk x0 x1 x2 r ⟨6144 + i.val, by omega⟩ := fun i =>
    (pay14_apply _ r _ i).trans (pay24 x0 x1 x2 x3 x4 x5 x6 r ⟨i.val, by omega⟩)
  have s : k0_pay27 (F := Ideal) x0 x1 x2 x3 x4 x5 x6 (ix1 r)
      = ∑ i, k0_pay25 (F := Ideal) x0 x1 x2 x3 x4 x5 x6 (ix2 r i) * k0_pay25 (F := Ideal) x0 x1 x2 x3 x4 x5 x6 (ix2 r i) := pay16_apply _ r _
  have n : k0_pay26 (F := Ideal) x0 x1 x2 x3 x4 x5 x6 (ix2 0 j) = x6 (ix2 0 j) := by
    unfold k0_pay26
    frame_out
    exact pay15_apply _ j
  rw [pay17_apply, s, n]
  simp only [e]
  rfl

theorem ld_tab (x : Vec Ideal S256x128 .f32) (j : Fin 128) : View.ld x r0_15 (ix2 r j) = x (ix2 r j) := by
  refine congrArg x (funext fun a => Fin.ext ?_)
  fin_cases a <;> simp [ix2, r0_15]

theorem kr (j : Fin 128) : k0_pay18 (F := Ideal) (k0_pay23 x0 x1 x2 x3 x4 x5 x6) (k0_pay24 x0 x1 x2 x3 x4 x5 x6) (View.ld x3 r0_15) (View.ld x2 r0_16) (View.ld x4 r0_15) (ix2 r j)
    = pk x0 x1 x2 r ⟨6272 + j.val, by omega⟩ * x3 (ix2 r j) + pk x0 x1 x2 r ⟨6400 + j.val, by omega⟩ * x4 (ix2 r j) := by
  have i : (⟨6272 + j.val, by omega⟩ : Fin 7168) = ⟨6144 + (128 + j.val), by omega⟩ := Fin.ext (by dsimp only; omega)
  rw [pay18_apply, pay24, i, ld_tab, ld_tab]
  exact congrArg (fun s : EReal => pk x0 x1 x2 r ⟨6144 + (128 + j.val), by omega⟩ * x3 (ix2 r j) + s * x4 (ix2 r j)) (cols' x0 x1 x2 x3 x4 x5 x6 r 128 6400 _ j _)

theorem out13 (j : Fin 256) : out0_13 (F := Ideal) x0 x1 x2 x3 x4 x5 x6 (ix2 r j)
    = if hj : j.val < 128 then rms (Ideal.ofBits .f32 0x43000000#32) (fun i : Fin 128 => pk x0 x1 x2 r ⟨6144 + i.val, by omega⟩) (fun i => x6 (ix2 0 i)) ⟨j.val, hj⟩
      else pk x0 x1 x2 r ⟨6272 + (j.val - 128), by omega⟩ * x3 (ix2 r ⟨j.val - 128, by omega⟩) + pk x0 x1 x2 r ⟨6400 + (j.val - 128), by omega⟩ * x4 (ix2 r ⟨j.val - 128, by omega⟩) := by
  have e : out0_13 (F := Ideal) x0 x1 x2 x3 x4 x5 x6 = k0_pay20 (k0_pay23 x0 x1 x2 x3 x4 x5 x6) (k0_pay24 x0 x1 x2 x3 x4 x5 x6) (k0_pay25 x0 x1 x2 x3 x4 x5 x6) (k0_pay26 x0 x1 x2 x3 x4 x5 x6) (k0_pay27 x0 x1 x2 x3 x4 x5 x6) (View.ld x3 r0_15) (View.ld x2 r0_16) (View.ld x4 r0_15) := by
    frame_out
  rw [e, pay20_apply]
  exact dite_congr rfl (fun h => ckv x0 x1 x2 x3 x4 x5 x6 r _) fun h => kr x0 x1 x2 x3 x4 x5 x6 r _

theorem out14 (j : Fin 128) : out0_14 (F := Ideal) x0 x1 x2 x3 x4 x5 x6 (ix2 r j)
    = rms (Ideal.ofBits .f32 0x43000000#32) (fun i : Fin 128 => pk x0 x1 x2 r ⟨6144 + i.val, by omega⟩) (fun i => x6 (ix2 0 i)) j := by
  have e : out0_14 (F := Ideal) x0 x1 x2 x3 x4 x5 x6 = k0_pay17 (k0_pay25 x0 x1 x2 x3 x4 x5 x6) (k0_pay26 x0 x1 x2 x3 x4 x5 x6) (k0_pay27 x0 x1 x2 x3 x4 x5 x6) := by
    frame_out
  rw [e, ckv]

theorem out15 (j : Fin 32) : out0_15 (F := Ideal) x0 x1 x2 x3 x4 x5 x6 (ix2 r j)
    = pk x0 x1 x2 r ⟨6272 + j.val, by omega⟩ * x3 (ix2 r ⟨j.val, by omega⟩) + pk x0 x1 x2 r ⟨6400 + j.val, by omega⟩ * x4 (ix2 r ⟨j.val, by omega⟩) := by
  have e : out0_15 (F := Ideal) x0 x1 x2 x3 x4 x5 x6 = k0_pay19 (k0_pay23 x0 x1 x2 x3 x4 x5 x6) (k0_pay24 x0 x1 x2 x3 x4 x5 x6) (View.ld x3 r0_15) (View.ld x2 r0_16) (View.ld x4 r0_15) := by
    frame_out
  rw [e, pay19_apply]
  exact kr x0 x1 x2 x3 x4 x5 x6 r ⟨j.val, by omega⟩

theorem out16 (j : Fin 128) : out0_16 (F := Ideal) x0 x1 x2 x3 x4 x5 x6 (ix2 r j) = pk x0 x1 x2 r ⟨6528 + j.val, by omega⟩ := by
  frame_out
  exact (pay21_apply _ r _ j).trans (cols' x0 x1 x2 x3 x4 x5 x6 r 128 6528 _ j _)

theorem out17 (j : Fin 128) : out0_17 (F := Ideal) x0 x1 x2 x3 x4 x5 x6 (ix2 r j) = pk x0 x1 x2 r ⟨6656 + j.val, by omega⟩ := by
  frame_out
  exact (pay1_apply _ r _ j).trans (cols' x0 x1 x2 x3 x4 x5 x6 r 128 6656 _ j _)

theorem out18 (j : Fin 64) : out0_18 (F := Ideal) x0 x1 x2 x3 x4 x5 x6 (ix2 r j) = pk x0 x1 x2 r ⟨6784 + j.val, by omega⟩ := by
  frame_out
  exact (pay2_apply _ r _ j).trans (cols' x0 x1 x2 x3 x4 x5 x6 r 128 6784 _ ⟨j.val, by omega⟩ _)

theorem out19 (j : Fin 4) : out0_19 (F := Ideal) x0 x1 x2 x3 x4 x5 x6 (ix2 r j)
    = pk x0 x1 x2 r ⟨6912 + j.val, by omega⟩ * Ideal.ofBits .f32 0x3F000000#32 := by
  frame_out
  exact (pay3_apply _ r _ j).trans (congrArg (· * Ideal.ofBits .f32 0x3F000000#32) (cols' x0 x1 x2 x3 x4 x5 x6 r 128 6912 _ ⟨j.val, by omega⟩ _))

theorem out20 (j : Fin 8) : out0_20 (F := Ideal) x0 x1 x2 x3 x4 x5 x6 (ix2 r j) = pk x0 x1 x2 r ⟨7040 + j.val, by omega⟩ := by
  frame_out
  exact (pay4_apply _ r _ j).trans (cols' x0 x1 x2 x3 x4 x5 x6 r 128 7040 _ ⟨j.val, by omega⟩ _)

end Cert.Proof.InProj
-- ==== Proof.InProjArr.lean ====
/- What the host hands the input projection's kernel: the weight array and the two rotary tables. -/
module

public import proofs.«01_k».proof.Proof.InProjCat
public import Idealize.ShloMosaic.Lib.StableHlo.ReadAt

@[expose] public section

set_option maxRecDepth 16384

noncomputable section

open Idealize.ShloMosaic Idealize.ShloMosaic.TcCoe Idealize.SL.Sem
open Cert.Kernel5Ideal Cert.Kernel5Ideal.Gen

namespace Cert.Proof.InProj

section Stages
variable {F : FTy → Type} [FloatOps F]

/-- A token's rotary angles: its position times each frequency. -/
def angV (p : IVec S16896 32) : FVec F S16896x16 .f32 :=
  mulf (broadcastInDim S16896x16 ![0, 1] bcast_S16896x1_S16896x16_0_1 (broadcastInDim S16896x1 ![0] bcast_S16896_S16896x1_0 (sitofp .f32 p)))
    (broadcastInDim S16896x16 ![0, 1] bcast_S1x16_S16896x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- The columns of zeros after a table's entries. -/
def zeroV : FVec F S16896x96 .f32 := broadcastInDim S16896x96 ![] bcast_S_S16896x96 (constant S_ .f32 0x00000000#32)

/-- A rotary table: two copies of its entries, then zeros. -/
def tabV (a b : FVec F S16896x16 .f32) (z : FVec F S16896x96 .f32) : FVec F S16896x128 .f32 :=
  concatenate S16896x128 1 [⟨S16896x16, a⟩, ⟨S16896x16, b⟩, ⟨S16896x96, z⟩] concatenates_S16896x16_S16896x16_S16896x96_S16896x128_d1

end Stages

theorem tabV_apply (a : FVec Ideal S16896x16 .f32) (r : Fin 16896) (j : Fin 128) :
    tabV (F := Ideal) a a zeroV (ix2 r j) = twice (fun i => a (ix2 r i)) j := by
  unfold twice
  have z : (Ideal.ofBits .f32 0x00000000#32 : EReal) = 0 := by simp [Ideal.ofBits, Ideal.ieee]
  pointwise [tabV, zeroV]
  refine dite_congr rfl (fun _ => rfl) fun h => ?_
  by_cases h' : j.val < 32
  · rw [dif_pos (by omega), dif_pos h']
  · rw [dif_neg (by omega), dif_neg h']

variable (m : (ℓ : Loc nD τ sig) → Buf (Elt Ideal) ℓ) (c : Dev nD)

/-- What the host has left in an array before statement `n`. -/
abbrev at_ (n : ℕ) (b : Ref sig .tc) : Buf (Elt Ideal) ((c : Thread nD τ).loc b) :=
  StableHlo.upto [hostOps0, hostOps0_1, hostOps0_2, hostOps0_3, hostOps0_4, hostOps0_5, hostOps0_6, hostOps0_7, hostOps0_8, hostOps0_9,
    hostOps0_10, hostOps0_11, hostOps0_12].flatten (fun b => m (c, b)) n (Proc.tc.devRef b)

theorem pair_eq (a b : IVec S1 32) : concatenate S2 0 [⟨S1, a⟩, ⟨S1, b⟩] concatenates_S1_S1_S2_d0 = pairV a b := rfl
theorem kvc_eq (a b : FVec Ideal S1024x128 .f32) :
    concatenate S1024x256 1 [⟨S1024x128, a⟩, ⟨S1024x128, b⟩] concatenates_S1024x128_S1024x128_S1024x256_d1 = kvcV (F := Ideal) a b := rfl
theorem two_eq (a b : FVec Ideal S1024x16 .f32) :
    concatenate S1024x32 1 [⟨S1024x16, a⟩, ⟨S1024x16, b⟩] concatenates_S1024x16_S1024x16_S1024x32_d1 = twoV (F := Ideal) a b := rfl

theorem at65 : at_ m c 106 main_v65 = qdV (F := Ideal) (extractStridedSlice S1024x512 ![0, 416] (m (c.tc.loc main_arg3)) slices_S1024x5868_S1024x512_0_416) := by
  unfold at_
  after_reads_simp
  simp only [pair_eq]
  after_reads_simp
  rfl
theorem at66 : at_ m c 106 main_v66 = qiV (F := Ideal) (extractStridedSlice S1024x256 ![0, 1184] (m (c.tc.loc main_arg3)) slices_S1024x5868_S1024x256_0_1184) := by
  unfold at_
  after_reads_simp
  rfl
theorem at68 : at_ m c 106 main_v68 = kvcV (F := Ideal) (extractStridedSlice S1024x128 ![0, 256] (m (c.tc.loc main_arg3)) slices_S1024x5868_S1024x128_0_256)
      (krV (extractStridedSlice S1024x32 ![0, 384] (m (c.tc.loc main_arg3)) slices_S1024x5868_S1024x32_0_384)) := by
  unfold at_
  after_reads_simp
  simp only [kvc_eq]
  after_reads_simp
  rfl
theorem at73 : at_ m c 106 main_v73 = krV (F := Ideal) (turnV (extractStridedSlice S1024x32 ![0, 384] (m (c.tc.loc main_arg3)) slices_S1024x5868_S1024x32_0_384)) := by
  unfold at_
  after_reads_simp
  simp only [two_eq]
  after_reads_simp
  rfl

theorem weights : V m c main_v78 = truncf .bf16 (wcatV (F := Ideal) (m (c.tc.loc main_arg3))) bitsLt_bf16_f32 := by
  unfold V
  after_reads_simp
  refine congrArg (truncf .bf16 · bitsLt_bf16_f32) ?_
  show catV (F := Ideal) (at_ m c 106 main_v12) (at_ m c 106 main_v9) (at_ m c 106 main_v10) (at_ m c 106 main_v65) (at_ m c 106 main_v0)
    (at_ m c 106 main_v66) (at_ m c 106 main_v68) (at_ m c 106 main_v73) (at_ m c 106 main_v4) (at_ m c 106 main_v5) (at_ m c 106 main_v74)
    (at_ m c 106 main_v75) (at_ m c 106 main_v76) = _
  rw [at65, at66, at68, at73]
  unfold at_
  after_reads_simp
  rfl
theorem cosines : V m c main_v94 = tabV (F := Ideal) (Host.cos (angV (m (c.tc.loc main_arg1)))) (Host.cos (angV (m (c.tc.loc main_arg1)))) zeroV := by
  unfold V
  after_reads_simp
  show tabV (F := Ideal) (at_ m c 126 main_v92) (at_ m c 126 main_v93) (at_ m c 126 main_v91) = _
  unfold at_
  after_reads_simp
  rfl

theorem sines : V m c main_v97 = tabV (F := Ideal) (Host.sin (angV (m (c.tc.loc main_arg1)))) (Host.sin (angV (m (c.tc.loc main_arg1)))) zeroV := by
  unfold V
  after_reads_simp
  show tabV (F := Ideal) (at_ m c 129 main_v95) (at_ m c 129 main_v96) (at_ m c 129 main_v91) = _
  unfold at_
  after_reads_simp
  rfl

end Cert.Proof.InProj
-- ==== Proof.InProjKernel.lean ====
/- What the input projection's kernel writes: every result from the normed rows' products with the weights. -/
module

public import proofs.«01_k».proof.Proof.InProjOut
public import proofs.«01_k».proof.Proof.InProjArr
public import proofs.«01_k».proof.Proof.Gen.Kernel5Ideal.Value

@[expose] public section

set_option maxRecDepth 16384

noncomputable section

open Idealize.ShloMosaic Idealize.ShloMosaic.TcCoe Idealize.SL.Sem
open Cert.Kernel5Ideal Cert.Kernel5Ideal.Gen Cert.Kernel5Ideal.Value

namespace Cert.Proof.InProj
open Cert.Proof.Ffn

section Args
variable (x : FVec Ideal S16896x1024 .f32) (n : FVec Ideal S1024 .f32) (w : FVec Ideal S1024x5868 .f32) (R : Fin 16896)

/-- A token's normed row. -/
def hAt : Fin 1024 → EReal := rmsRow (fun k => x (ix2 R k)) fun k => n (ix1 k)

/-- A token's products with the weights. -/
def pAt : Fin 5868 → EReal := pw (hAt x n R) w

end Args

/-- The cosines of a token's angles. -/
def csAt (p : IVec S16896 32) (R : Fin 16896) (i : Fin 16) : EReal := Host.cos (F := Ideal) (angV p) (ix2 R i)

/-- The sines of a token's angles. -/
def snAt (p : IVec S16896 32) (R : Fin 16896) (i : Fin 16) : EReal := Host.sin (F := Ideal) (angV p) (ix2 R i)

/-- The array with row `R` holding `f R`. -/
def rowsV {n : ℕ} (f : Fin 16896 → Fin n → EReal) : (⟨2, ![16896, n]⟩ : Shape).Idx → EReal := fun i => f (i 0) (i 1)

/-- The rotated keys, from the products with the weights and with the weights turned by a quarter. -/
theorem rotated (h : Fin 1024 → EReal) (w : FVec Ideal S1024x5868 .f32) (hh : ∀ k, IsNum (h k))
    (hw : ∀ k (j : Fin 32), IsNum (w (ix2 k ⟨384 + j.val, by omega⟩))) (cs sn : Fin 16 → EReal) (j : Fin 128) :
    pc h w ⟨6272 + j.val, by omega⟩ * twice cs j + pc h w ⟨6400 + j.val, by omega⟩ * twice sn j
      = if hj : j.val < 32 then krRow (pw h w) cs sn ⟨j.val, hj⟩ else 0 := by
  rw [pc_kr, pc_turn h w hh hw]
  unfold twice krRow
  by_cases h1 : j.val < 16
  · simp only [h1, show j.val < 32 by omega, dite_true]
    rw [EReal.neg_mul, sub_eq_add_neg]
  · by_cases h2 : j.val < 32
    · simp only [h1, h2, dite_true, dite_false]
      rw [add_comm]
      have e : (⟨384 + j.val, by omega⟩ : Fin 5868) = ⟨400 + (j.val - 16), by omega⟩ := Fin.ext (by dsimp only; omega)
      rw [e]
    · simp only [h1, h2, dite_false, mul_zero, add_zero]

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val, 0] := (by decide +kernel : ∀ t : Fin grid0.N, _)

theorem row_lt (t : Fin cfg0.N) (r : Fin 256) : 256 * t.val + r.val < 16896 := by
  have h : t.val < 66 := lt_of_lt_of_eq t.isLt (show cfg0.N = 66 from N_0)
  omega

/-- The token that row `r` of point `t`'s blocks holds. -/
def rowAt (t : Fin cfg0.N) (r : Fin 256) : Fin 16896 := ⟨256 * t.val + r.val, row_lt t r⟩

variable (m : (ℓ : Loc nD τ sig) → Buf (Elt Ideal) ℓ) (c : Dev nD)

theorem at_row {n : ℕ} {e : (⟨2, ![16896, n]⟩ : Shape).Idx} (t : Fin cfg0.N) (r : Fin 256) (j : Fin n)
    (h0 : (e 0).val = t.val * 256 + r.val) (h1 : (e 1).val = j.val) : e = ix2 (rowAt t r) j :=
  funext fun a => Fin.ext (by
    match a with
    | ⟨0, _⟩ => exact h0.trans (by show _ = 256 * t.val + r.val; omega)
    | ⟨1, _⟩ => exact h1)

theorem block0 (t : Fin cfg0.N) (r : Fin 256) (k : Fin 1024) :
    iblk m c 0 t (ix2 r k) = m (c.tc.loc main_arg0) (ix2 (rowAt t r) k) := by
  rw [← V_main_arg0 m c]
  blk_simp [iblk]
  exact congrArg _ (at_row t r k (by blk_simp [idx0]; try simp) (by blk_simp [idx0]))

theorem block1 (t : Fin cfg0.N) (k : Fin 1024) : iblk m c 1 t (ix2 0 k) = m (c.tc.loc main_arg2) (ix1 k) := by
  have e : ((cfg0.win 1).blk t).view.emb (ix2 0 k) = (ix2 0 k : S1x1024.Idx) := by
    refine funext fun a => Fin.ext ?_
    match a with
    | ⟨0, _⟩ => blk_simp [idx1]
    | ⟨1, _⟩ => blk_simp [idx1]
  have v : V m c main_v98 (ix2 0 k) = m (c.tc.loc main_arg2) (ix1 k) := by
    unfold V
    after_reads_at
  refine Eq.trans ?_ v
  blk_simp [iblk]
  rw [e]

theorem block2 (t : Fin cfg0.N) (k : Fin 1024) (j : Fin 7168) :
    iblk m c 2 t (ix2 k j) = wcatV (F := Ideal) (m (c.tc.loc main_arg3)) (ix2 k j) := by
  have e : ((cfg0.win 2).blk t).view.emb (ix2 k j) = (ix2 k j : S1024x7168.Idx) := by
    refine funext fun a => Fin.ext ?_
    match a with
    | ⟨0, _⟩ => blk_simp [idx2]
    | ⟨1, _⟩ => blk_simp [idx2]
  refine Eq.trans ?_ (congrFun (weights m c) (ix2 k j))
  blk_simp [iblk]
  rw [e]

theorem block3 (t : Fin cfg0.N) (r : Fin 256) (j : Fin 128) :
    iblk m c 3 t (ix2 r j) = twice (csAt (m (c.tc.loc main_arg1)) (rowAt t r)) j := by
  refine Eq.trans ?_ ((congrFun (cosines m c) (ix2 (rowAt t r) j)).trans (tabV_apply _ (rowAt t r) j))
  blk_simp [iblk]
  exact congrArg _ (at_row t r j (by blk_simp [idx3]; try simp) (by blk_simp [idx3]))

theorem block4 (t : Fin cfg0.N) (r : Fin 256) (j : Fin 128) :
    iblk m c 4 t (ix2 r j) = twice (snAt (m (c.tc.loc main_arg1)) (rowAt t r)) j := by
  refine Eq.trans ?_ ((congrFun (sines m c) (ix2 (rowAt t r) j)).trans (tabV_apply _ (rowAt t r) j))
  blk_simp [iblk]
  exact congrArg _ (at_row t r j (by blk_simp [idx4]; try simp) (by blk_simp [idx4]))

theorem block5 (t : Fin cfg0.N) (k : Fin 256) : iblk m c 5 t (ix2 0 k) = m (c.tc.loc main_arg4) (ix1 k) := by
  have e : ((cfg0.win 5).blk t).view.emb (ix2 0 k) = (ix2 0 k : S1x256.Idx) := by
    refine funext fun a => Fin.ext ?_
    match a with
    | ⟨0, _⟩ => blk_simp [idx5]
    | ⟨1, _⟩ => blk_simp [idx5]
  have v : V m c main_v99 (ix2 0 k) = m (c.tc.loc main_arg4) (ix1 k) := by
    unfold V
    after_reads_at
  refine Eq.trans ?_ v
  blk_simp [iblk]
  rw [e]

theorem block6 (t : Fin cfg0.N) (k : Fin 128) : iblk m c 6 t (ix2 0 k) = m (c.tc.loc main_arg5) (ix1 k) := by
  have e : ((cfg0.win 6).blk t).view.emb (ix2 0 k) = (ix2 0 k : S1x128.Idx) := by
    refine funext fun a => Fin.ext ?_
    match a with
    | ⟨0, _⟩ => blk_simp [idx6]
    | ⟨1, _⟩ => blk_simp [idx6]
  have v : V m c main_v100 (ix2 0 k) = m (c.tc.loc main_arg5) (ix1 k) := by
    unfold V
    after_reads_at
  refine Eq.trans ?_ v
  blk_simp [iblk]
  rw [e]

/-- The normed row of token `R`. -/
abbrev hM (R : Fin 16896) : Fin 1024 → EReal := hAt (m (c.tc.loc main_arg0)) (m (c.tc.loc main_arg2)) R

/-- The products of token `R` with the weights. -/
abbrev pM (R : Fin 16896) : Fin 5868 → EReal := pAt (m (c.tc.loc main_arg0)) (m (c.tc.loc main_arg2)) (m (c.tc.loc main_arg3)) R

theorem pk_eq (t : Fin cfg0.N) (r : Fin 256) (j : Fin 7168) :
    pk (iblk m c 0 t) (iblk m c 1 t) (iblk m c 2 t) r j = pc (hM m c (rowAt t r)) (m (c.tc.loc main_arg3)) j := by
  unfold pk pc
  simp only [block0, block1, block2]
  rfl

/-! ## The results -/

/-- What the kernel's claim needs of its arguments: the rows' norm weights and the rotary keys' weights are numbers. -/
structure Fine : Prop where
  norm : ∀ k : Fin 1024, IsNum (m (c.tc.loc main_arg2) (ix1 k))
  keys : ∀ (k : Fin 1024) (j : Fin 32), IsNum (m (c.tc.loc main_arg3) (ix2 k ⟨384 + j.val, by omega⟩))

theorem hM_num (hf : Fine m c) (R : Fin 16896) (k : Fin 1024) : IsNum (hM m c R k) := rmsRow_fin _ _ hf.norm k

theorem ckv_eq (t : Fin cfg0.N) (r : Fin 256) (j : Fin 128) :
    rms (Ideal.ofBits .f32 0x43000000#32) (fun i : Fin 128 => pk (iblk m c 0 t) (iblk m c 1 t) (iblk m c 2 t) r ⟨6144 + i.val, by omega⟩)
        (fun i => iblk m c 6 t (ix2 0 i)) j
      = ckvRow (pM m c (rowAt t r)) (fun i => m (c.tc.loc main_arg5) (ix1 i)) j := by
  simp only [pk_eq, block6, pc_ckv]
  rfl

theorem kr_eq (hf : Fine m c) (t : Fin cfg0.N) (r : Fin 256) (j : Fin 128) :
    pk (iblk m c 0 t) (iblk m c 1 t) (iblk m c 2 t) r ⟨6272 + j.val, by omega⟩ * (iblk m c 3 t (ix2 r j) : EReal)
        + pk (iblk m c 0 t) (iblk m c 1 t) (iblk m c 2 t) r ⟨6400 + j.val, by omega⟩ * (iblk m c 4 t (ix2 r j) : EReal)
      = if hj : j.val < 32 then krRow (pM m c (rowAt t r)) (csAt (m (c.tc.loc main_arg1)) (rowAt t r)) (snAt (m (c.tc.loc main_arg1)) (rowAt t r)) ⟨j.val, hj⟩ else 0 := by
  rw [pk_eq, pk_eq, block3, block4]
  exact rotated _ _ (hM_num m c hf _) hf.keys _ _ j

theorem kvc_row (hf : Fine m c) (t : Fin cfg0.N) (r : Fin 256) (j : Fin 256) :
    (if hj : j.val < 128 then
        rms (Ideal.ofBits .f32 0x43000000#32) (fun i : Fin 128 => pk (iblk m c 0 t) (iblk m c 1 t) (iblk m c 2 t) r ⟨6144 + i.val, by omega⟩)
          (fun i => iblk m c 6 t (ix2 0 i)) ⟨j.val, hj⟩
      else pk (iblk m c 0 t) (iblk m c 1 t) (iblk m c 2 t) r ⟨6272 + (j.val - 128), by omega⟩ * (iblk m c 3 t (ix2 r ⟨j.val - 128, by omega⟩) : EReal)
        + pk (iblk m c 0 t) (iblk m c 1 t) (iblk m c 2 t) r ⟨6400 + (j.val - 128), by omega⟩ * (iblk m c 4 t (ix2 r ⟨j.val - 128, by omega⟩) : EReal))
      = kvcRow (pM m c (rowAt t r)) (fun i => m (c.tc.loc main_arg5) (ix1 i)) (csAt (m (c.tc.loc main_arg1)) (rowAt t r))
          (snAt (m (c.tc.loc main_arg1)) (rowAt t r)) j := by
  unfold kvcRow
  by_cases h : j.val < 128
  · rw [dif_pos h, dif_pos h]
    exact ckv_eq m c t r _
  · rw [dif_neg h, dif_neg h]
    refine (kr_eq m c hf t r ⟨j.val - 128, by omega⟩).trans ?_
    by_cases h' : j.val < 160
    · rw [dif_pos (by dsimp only; omega), dif_pos h']
    · rw [dif_neg (by dsimp only; omega), dif_neg h']

theorem split {n : ℕ} (y : (⟨2, ![256, n]⟩ : Shape).Idx) : ∃ (l : Fin 256) (j : Fin n), y = ix2 l j :=
  ⟨y 0, y 1, funext fun a => by
    match a with
    | ⟨0, _⟩ => rfl
    | ⟨1, _⟩ => rfl⟩

/-- The branches' gates. -/
def gateA : S16896x3072.Idx → EReal := rowsV fun R j => pM m c R ⟨2796 + j.val, by omega⟩

theorem final7 : (dats m 0 c).arrAt 7 cfg0.N = gateA m c := by
  refine (dats m 0 c).arrAt_eq_of_covers 7 _ (by decide +kernel) fun t hf y => ?_
  have F : (dats m 0 c).flushed 7 t y = _ := congrFun (flushed7 m c t) y
  refine Eq.trans F ?_
  obtain ⟨l, j, rfl⟩ := split y
  rw [show ((cfg0.win 7).blk t).view.emb (ix2 l j) = (ix2 (rowAt t l) j : S16896x3072.Idx) from
    at_row t l j (by blk_simp [idx7]; try simp) (by blk_simp [idx7])]
  refine Eq.trans (out7 _ _ _ _ _ _ _ l j) ?_
  exact (pk_eq m c t l _).trans (pc_gate _ _ j)

/-- The state branch's gate. -/
def zA : S16896x512.Idx → EReal := rowsV fun R j => pM m c R ⟨1508 + j.val, by omega⟩

theorem final8 : (dats m 0 c).arrAt 8 cfg0.N = zA m c := by
  refine (dats m 0 c).arrAt_eq_of_covers 8 _ (by decide +kernel) fun t hf y => ?_
  have F : (dats m 0 c).flushed 8 t y = _ := congrFun (flushed8 m c t) y
  refine Eq.trans F ?_
  obtain ⟨l, j, rfl⟩ := split y
  rw [show ((cfg0.win 8).blk t).view.emb (ix2 l j) = (ix2 (rowAt t l) j : S16896x512.Idx) from
    at_row t l j (by blk_simp [idx8]; try simp) (by blk_simp [idx8])]
  refine Eq.trans (out8 _ _ _ _ _ _ _ l j) ?_
  exact (pk_eq m c t l _).trans (pc_z _ _ j)

/-- The state branch's input. -/
def xbcA : S16896x768.Idx → EReal := rowsV fun R j => pM m c R ⟨2020 + j.val, by omega⟩

theorem final9 : (dats m 0 c).arrAt 9 cfg0.N = xbcA m c := by
  refine (dats m 0 c).arrAt_eq_of_covers 9 _ (by decide +kernel) fun t hf y => ?_
  have F : (dats m 0 c).flushed 9 t y = _ := congrFun (flushed9 m c t) y
  refine Eq.trans F ?_
  obtain ⟨l, j, rfl⟩ := split y
  rw [show ((cfg0.win 9).blk t).view.emb (ix2 l j) = (ix2 (rowAt t l) j : S16896x768.Idx) from
    at_row t l j (by blk_simp [idx9]; try simp) (by blk_simp [idx9])]
  refine Eq.trans (out9 _ _ _ _ _ _ _ l j) ?_
  exact (pk_eq m c t l _).trans (pc_xbc _ _ j)

/-- The decoder's queries. -/
def qdA : S16896x1024.Idx → EReal := rowsV fun R j => qdRow (pM m c R) j

theorem final10 : (dats m 0 c).arrAt 10 cfg0.N = qdA m c := by
  refine (dats m 0 c).arrAt_eq_of_covers 10 _ (by decide +kernel) fun t hf y => ?_
  have F : (dats m 0 c).flushed 10 t y = _ := congrFun (flushed10 m c t) y
  refine Eq.trans F ?_
  obtain ⟨l, j, rfl⟩ := split y
  rw [show ((cfg0.win 10).blk t).view.emb (ix2 l j) = (ix2 (rowAt t l) j : S16896x1024.Idx) from
    at_row t l j (by blk_simp [idx10]; try simp) (by blk_simp [idx10])]
  refine Eq.trans (out10 _ _ _ _ _ _ _ l j) ?_
  exact (pk_eq m c t l _).trans (pc_qd _ _ j)

/-- The compressed queries. -/
def cqA : S16896x256.Idx → EReal := rowsV fun R j => cqRow (pM m c R) (fun i => m (c.tc.loc main_arg4) (ix1 i)) j

theorem final11 : (dats m 0 c).arrAt 11 cfg0.N = cqA m c := by
  refine (dats m 0 c).arrAt_eq_of_covers 11 _ (by decide +kernel) fun t hf y => ?_
  have F : (dats m 0 c).flushed 11 t y = _ := congrFun (flushed11 m c t) y
  refine Eq.trans F ?_
  obtain ⟨l, j, rfl⟩ := split y
  rw [show ((cfg0.win 11).blk t).view.emb (ix2 l j) = (ix2 (rowAt t l) j : S16896x256.Idx) from
    at_row t l j (by blk_simp [idx11]; try simp) (by blk_simp [idx11])]
  refine Eq.trans (out11 _ _ _ _ _ _ _ l j) ?_
  simp only [pk_eq, block5, pc_cq]
  rfl

/-- The indexer's queries. -/
def qiA : S16896x512.Idx → EReal := rowsV fun R j => qiRow (pM m c R) j

theorem final12 : (dats m 0 c).arrAt 12 cfg0.N = qiA m c := by
  refine (dats m 0 c).arrAt_eq_of_covers 12 _ (by decide +kernel) fun t hf y => ?_
  have F : (dats m 0 c).flushed 12 t y = _ := congrFun (flushed12 m c t) y
  refine Eq.trans F ?_
  obtain ⟨l, j, rfl⟩ := split y
  rw [show ((cfg0.win 12).blk t).view.emb (ix2 l j) = (ix2 (rowAt t l) j : S16896x512.Idx) from
    at_row t l j (by blk_simp [idx12]; try simp) (by blk_simp [idx12])]
  refine Eq.trans (out12 _ _ _ _ _ _ _ l j) ?_
  exact (pk_eq m c t l _).trans (pc_qi _ _ j)

/-- The keys and values with the rotated keys. -/
def kvcA : S16896x256.Idx → EReal := rowsV fun R j => kvcRow (pM m c R) (fun i => m (c.tc.loc main_arg5) (ix1 i)) (csAt (m (c.tc.loc main_arg1)) R) (snAt (m (c.tc.loc main_arg1)) R) j

theorem final13 (hg : Fine m c) : (dats m 0 c).arrAt 13 cfg0.N = kvcA m c := by
  refine (dats m 0 c).arrAt_eq_of_covers 13 _ (by decide +kernel) fun t hf y => ?_
  have F : (dats m 0 c).flushed 13 t y = _ := congrFun (flushed13 m c t) y
  refine Eq.trans F ?_
  obtain ⟨l, j, rfl⟩ := split y
  rw [show ((cfg0.win 13).blk t).view.emb (ix2 l j) = (ix2 (rowAt t l) j : S16896x256.Idx) from
    at_row t l j (by blk_simp [idx13]; try simp) (by blk_simp [idx13])]
  refine Eq.trans (out13 _ _ _ _ _ _ _ l j) ?_
  exact kvc_row m c hg t l j

/-- The compressed keys and values. -/
def ckvA : S16896x128.Idx → EReal := rowsV fun R j => ckvRow (pM m c R) (fun i => m (c.tc.loc main_arg5) (ix1 i)) j

theorem final14 : (dats m 0 c).arrAt 14 cfg0.N = ckvA m c := by
  refine (dats m 0 c).arrAt_eq_of_covers 14 _ (by decide +kernel) fun t hf y => ?_
  have F : (dats m 0 c).flushed 14 t y = _ := congrFun (flushed14 m c t) y
  refine Eq.trans F ?_
  obtain ⟨l, j, rfl⟩ := split y
  rw [show ((cfg0.win 14).blk t).view.emb (ix2 l j) = (ix2 (rowAt t l) j : S16896x128.Idx) from
    at_row t l j (by blk_simp [idx14]; try simp) (by blk_simp [idx14])]
  refine Eq.trans (out14 _ _ _ _ _ _ _ l j) ?_
  exact ckv_eq m c t l j

/-- The rotated keys. -/
def krA : S16896x32.Idx → EReal := rowsV fun R j => krRow (pM m c R) (csAt (m (c.tc.loc main_arg1)) R) (snAt (m (c.tc.loc main_arg1)) R) j

theorem final15 (hg : Fine m c) : (dats m 0 c).arrAt 15 cfg0.N = krA m c := by
  refine (dats m 0 c).arrAt_eq_of_covers 15 _ (by decide +kernel) fun t hf y => ?_
  have F : (dats m 0 c).flushed 15 t y = _ := congrFun (flushed15 m c t) y
  refine Eq.trans F ?_
  obtain ⟨l, j, rfl⟩ := split y
  rw [show ((cfg0.win 15).blk t).view.emb (ix2 l j) = (ix2 (rowAt t l) j : S16896x32.Idx) from
    at_row t l j (by blk_simp [idx15]; try simp) (by blk_simp [idx15])]
  refine Eq.trans (out15 _ _ _ _ _ _ _ l j) ?_
  refine (kr_eq m c hg t l ⟨j.val, by omega⟩).trans ?_
  rw [dif_pos (by exact j.isLt)]
  rfl

/-- The decoder's keys. -/
def kdA : S16896x128.Idx → EReal := rowsV fun R j => pM m c R ⟨928 + j.val, by omega⟩

theorem final16 : (dats m 0 c).arrAt 16 cfg0.N = kdA m c := by
  refine (dats m 0 c).arrAt_eq_of_covers 16 _ (by decide +kernel) fun t hf y => ?_
  have F : (dats m 0 c).flushed 16 t y = _ := congrFun (flushed16 m c t) y
  refine Eq.trans F ?_
  obtain ⟨l, j, rfl⟩ := split y
  rw [show ((cfg0.win 16).blk t).view.emb (ix2 l j) = (ix2 (rowAt t l) j : S16896x128.Idx) from
    at_row t l j (by blk_simp [idx16]; try simp) (by blk_simp [idx16])]
  refine Eq.trans (out16 _ _ _ _ _ _ _ l j) ?_
  exact (pk_eq m c t l _).trans (pc_kd _ _ j)

/-- The decoder's values. -/
def vdA : S16896x128.Idx → EReal := rowsV fun R j => pM m c R ⟨1056 + j.val, by omega⟩

theorem final17 : (dats m 0 c).arrAt 17 cfg0.N = vdA m c := by
  refine (dats m 0 c).arrAt_eq_of_covers 17 _ (by decide +kernel) fun t hf y => ?_
  have F : (dats m 0 c).flushed 17 t y = _ := congrFun (flushed17 m c t) y
  refine Eq.trans F ?_
  obtain ⟨l, j, rfl⟩ := split y
  rw [show ((cfg0.win 17).blk t).view.emb (ix2 l j) = (ix2 (rowAt t l) j : S16896x128.Idx) from
    at_row t l j (by blk_simp [idx17]; try simp) (by blk_simp [idx17])]
  refine Eq.trans (out17 _ _ _ _ _ _ _ l j) ?_
  exact (pk_eq m c t l _).trans (pc_vd _ _ j)

/-- The indexer's keys. -/
def kiA : S16896x64.Idx → EReal := rowsV fun R j => pM m c R ⟨1440 + j.val, by omega⟩

theorem final18 : (dats m 0 c).arrAt 18 cfg0.N = kiA m c := by
  refine (dats m 0 c).arrAt_eq_of_covers 18 _ (by decide +kernel) fun t hf y => ?_
  have F : (dats m 0 c).flushed 18 t y = _ := congrFun (flushed18 m c t) y
  refine Eq.trans F ?_
  obtain ⟨l, j, rfl⟩ := split y
  rw [show ((cfg0.win 18).blk t).view.emb (ix2 l j) = (ix2 (rowAt t l) j : S16896x64.Idx) from
    at_row t l j (by blk_simp [idx18]; try simp) (by blk_simp [idx18])]
  refine Eq.trans (out18 _ _ _ _ _ _ _ l j) ?_
  exact (pk_eq m c t l _).trans (pc_ki _ _ j)

/-- The indexer's weights. -/
def wiA : S16896x4.Idx → EReal := rowsV fun R j => wiRow (pM m c R) j

theorem final19 : (dats m 0 c).arrAt 19 cfg0.N = wiA m c := by
  refine (dats m 0 c).arrAt_eq_of_covers 19 _ (by decide +kernel) fun t hf y => ?_
  have F : (dats m 0 c).flushed 19 t y = _ := congrFun (flushed19 m c t) y
  refine Eq.trans F ?_
  obtain ⟨l, j, rfl⟩ := split y
  rw [show ((cfg0.win 19).blk t).view.emb (ix2 l j) = (ix2 (rowAt t l) j : S16896x4.Idx) from
    at_row t l j (by blk_simp [idx19]; try simp) (by blk_simp [idx19])]
  refine Eq.trans (out19 _ _ _ _ _ _ _ l j) ?_
  exact congrArg (· * Ideal.ofBits .f32 0x3F000000#32) ((pk_eq m c t l _).trans (pc_wi _ _ j))

/-- The state branch's step sizes. -/
def dtA : S16896x8.Idx → EReal := rowsV fun R j => pM m c R ⟨2788 + j.val, by omega⟩

theorem final20 : (dats m 0 c).arrAt 20 cfg0.N = dtA m c := by
  refine (dats m 0 c).arrAt_eq_of_covers 20 _ (by decide +kernel) fun t hf y => ?_
  have F : (dats m 0 c).flushed 20 t y = _ := congrFun (flushed20 m c t) y
  refine Eq.trans F ?_
  obtain ⟨l, j, rfl⟩ := split y
  rw [show ((cfg0.win 20).blk t).view.emb (ix2 l j) = (ix2 (rowAt t l) j : S16896x8.Idx) from
    at_row t l j (by blk_simp [idx20]; try simp) (by blk_simp [idx20])]
  refine Eq.trans (out20 _ _ _ _ _ _ _ l j) ?_
  exact (pk_eq m c t l _).trans (pc_dt _ _ j)

end Cert.Proof.InProj
-- ==== Proof.InProjRef.lean ====
/- The input projection's reference, read at an index. -/
module

public import proofs.«01_k».proof.Proof.InProjKernel
public import proofs.«01_k».proof.Proof.Gen.Reference5Ideal.Run

@[expose] public section

set_option maxRecDepth 16384

noncomputable section

open Idealize.ShloMosaic Idealize.ShloMosaic.TcCoe Idealize.SL.Sem
open Cert.Reference5Ideal Cert.Reference5Ideal.Gen Cert.Reference5Ideal.Value

namespace Cert.Proof.InProjRef
open Cert.Proof.Ffn Cert.Proof.InProj

section Stages
variable {F : FTy → Type} [FloatOps F]

/-- The sum of the squares of each row. -/
def sumV (x : FVec F S16896x1024 .f32) : FVec F S16896 .f32 :=
  Host.reduceAdd (mulf x x) (constant S_ .f32 0x00000000#32) reducesTo_S16896x1024_S16896_d1 h_S_

/-- The rows scaled by the root of their mean square and the weight. -/
def scaleV (x : FVec F S16896x1024 .f32) (s : FVec F S16896 .f32) (w : FVec F S1024 .f32) : FVec F S16896x1024 .f32 :=
  mulf (mulf x (broadcastInDim S16896x1024 ![0, 1] bcast_S16896x1_S16896x1024_0_1 (Host.rsqrt (addf (Host.divf (broadcastInDim S16896x1 ![0] bcast_S16896_S16896x1_0 s) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 w))

/-- The products with the weights. -/
def dotV (h : FVec F S16896x1024 .f32) (w : FVec F S1024x5868 .f32) : FVec F S16896x5868 .f32 :=
  Host.dotGeneral dot_S16896x1024_S1024x5868_S16896x5868_1_0_0_1_n_n none h w

/-- The sum of the squares of each compressed query. -/
def sum256V (x : FVec F S16896x256 .f32) : FVec F S16896 .f32 :=
  Host.reduceAdd (mulf x x) (constant S_ .f32 0x00000000#32) reducesTo_S16896x256_S16896_d1 h_S_

/-- The compressed queries, scaled. -/
def scale256V (x : FVec F S16896x256 .f32) (s : FVec F S16896 .f32) (w : FVec F S256 .f32) : FVec F S16896x256 .f32 :=
  mulf (mulf x (broadcastInDim S16896x256 ![0, 1] bcast_S16896x1_S16896x256_0_1 (Host.rsqrt (addf (Host.divf (broadcastInDim S16896x1 ![0] bcast_S16896_S16896x1_0 s) (broadcastInDim S16896x1 ![] bcast_S_S16896x1 (constant S_ .f32 0x43800000#32))) (broadcastInDim S16896x1 ![] bcast_S_S16896x1 (constant S_ .f32 0x358637BD#32)))))) (broadcastInDim S16896x256 ![0, 1] bcast_S1x256_S16896x256_0_1 (broadcastInDim S1x256 ![1] bcast_S256_S1x256_1 w))

/-- The sum of the squares of each compressed key. -/
def sum128V (x : FVec F S16896x128 .f32) : FVec F S16896 .f32 :=
  Host.reduceAdd (mulf x x) (constant S_ .f32 0x00000000#32) reducesTo_S16896x128_S16896_d1 h_S_

/-- The compressed keys and values, scaled. -/
def scale128V (x : FVec F S16896x128 .f32) (s : FVec F S16896 .f32) (w : FVec F S128 .f32) : FVec F S16896x128 .f32 :=
  mulf (mulf x (broadcastInDim S16896x128 ![0, 1] bcast_S16896x1_S16896x128_0_1 (Host.rsqrt (addf (Host.divf (broadcastInDim S16896x1 ![0] bcast_S16896_S16896x1_0 s) (broadcastInDim S16896x1 ![] bcast_S_S16896x1 (constant S_ .f32 0x43000000#32))) (broadcastInDim S16896x1 ![] bcast_S_S16896x1 (constant S_ .f32 0x358637BD#32)))))) (broadcastInDim S16896x128 ![0, 1] bcast_S1x128_S16896x128_0_1 (broadcastInDim S1x128 ![1] bcast_S128_S1x128_1 w))

/-- The rotary keys turned by their angles' cosines and sines. -/
def turnedV (k : FVec F S16896x32 .f32) (cs sn : FVec F S16896x16 .f32) : FVec F S16896x32 .f32 :=
  concatenate S16896x32 1
    [⟨S16896x16, subf (mulf (extractStridedSlice S16896x16 ![0, 0] k slices_S16896x32_S16896x16_0_0) cs) (mulf (extractStridedSlice S16896x16 ![0, 16] k slices_S16896x32_S16896x16_0_16) sn)⟩,
     ⟨S16896x16, addf (mulf (extractStridedSlice S16896x16 ![0, 0] k slices_S16896x32_S16896x16_0_0) sn) (mulf (extractStridedSlice S16896x16 ![0, 16] k slices_S16896x32_S16896x16_0_16) cs)⟩]
    concatenates_S16896x16_S16896x16_S16896x32_d1

/-- The keys and values with the rotated keys, padded. -/
def joinV (a : FVec F S16896x128 .f32) (b : FVec F S16896x32 .f32) : FVec F S16896x256 .bf16 :=
  truncf .bf16 (pad S16896x256 ![0, 0] ![0, 96] ![0, 0] (concatenate S16896x160 1 [⟨S16896x128, a⟩, ⟨S16896x32, b⟩] concatenates_S16896x128_S16896x32_S16896x160_d1) (sitofp .f32 (constantI S_ 32 0#32)) pads_S16896x160_S16896x256_000_0960 h_S_) bitsLt_bf16_f32

/-- The heads in their groups' halves. -/
def halvesV (q : FVec F S16896x8x1x64 .f32) : FVec F S16896x8x2x64 .f32 :=
  concatenate S16896x8x2x64 1
    [⟨S16896x4x2x64, pad S16896x4x2x64 ![0, 0, 0, 0] ![0, 0, 1, 0] ![0, 0, 0, 0] (extractStridedSlice S16896x4x1x64 ![0, 0, 0, 0] q slices_S16896x8x1x64_S16896x4x1x64_0_0_0_0) (sitofp .f32 (constantI S_ 32 0#32)) pads_S16896x4x1x64_S16896x4x2x64_000_000_010_000 h_S_⟩,
     ⟨S16896x4x2x64, pad S16896x4x2x64 ![0, 0, 1, 0] ![0, 0, 0, 0] ![0, 0, 0, 0] (extractStridedSlice S16896x4x1x64 ![0, 4, 0, 0] q slices_S16896x8x1x64_S16896x4x1x64_0_4_0_0) (sitofp .f32 (constantI S_ 32 0#32)) pads_S16896x4x1x64_S16896x4x2x64_000_000_100_000 h_S_⟩]
    concatenates_S16896x4x2x64_S16896x4x2x64_S16896x8x2x64_d1

/-- The heads of the decoder's queries. -/
def headsV (q : FVec F S16896x512 .f32) : FVec F S16896x8x1x64 .f32 := shapeCast _ q shapeCasts_S16896x512_S16896x8x1x64

/-- The decoder's queries, from their heads. -/
def flatV (q : FVec F S16896x8x2x64 .f32) : FVec F S16896x1024 .bf16 :=
  truncf .bf16 (shapeCast _ q shapeCasts_S16896x8x2x64_S16896x1024) bitsLt_bf16_f32

/-- The indexer's queries, each head padded. -/
def padV (q : FVec F S16896x256 .f32) : FVec F S16896x4x128 .f32 :=
  pad S16896x4x128 ![0, 0, 0] ![0, 0, 64] ![0, 0, 0] (shapeCast _ q shapeCasts_S16896x256_S16896x4x64) (sitofp .f32 (constantI S_ 32 0#32)) pads_S16896x4x64_S16896x4x128_000_000_0640 h_S_

/-- The indexer's queries, from their heads. -/
def flatIdxV (q : FVec F S16896x4x128 .f32) : FVec F S16896x512 .bf16 :=
  truncf .bf16 (shapeCast _ q shapeCasts_S16896x4x128_S16896x512) bitsLt_bf16_f32

/-- The indexer's weights, halved. -/
def halveV (a : FVec F S16896x4 .f32) : FVec F S16896x4 .f32 := mulf a (broadcastInDim S16896x4 ![] bcast_S_S16896x4 (constant S_ .f32 0x3F000000#32))

end Stages

theorem zero_first : (constant (F := Ideal) S_ .f32 0x00000000#32 (Shape.Idx.first h_S_) : EReal) = 0 := by
  simp [constant, Ideal.ofBits, Ideal.ieee]

theorem sumV_apply (x : FVec Ideal S16896x1024 .f32) (r : Fin 16896) :
    sumV (F := Ideal) x (ix1 r) = ∑ k : Fin 1024, (x (ix2 r k) * x (ix2 r k) : EReal) := by
  unfold sumV
  refine (reduce_add_last2 _ _ _ _ r).trans ?_
  rw [zero_first, zero_add]
  rfl

theorem sum256V_apply (x : FVec Ideal S16896x256 .f32) (r : Fin 16896) :
    sum256V (F := Ideal) x (ix1 r) = ∑ k : Fin 256, (x (ix2 r k) * x (ix2 r k) : EReal) := by
  unfold sum256V
  refine (reduce_add_last2 _ _ _ _ r).trans ?_
  rw [zero_first, zero_add]
  rfl

theorem sum128V_apply (x : FVec Ideal S16896x128 .f32) (r : Fin 16896) :
    sum128V (F := Ideal) x (ix1 r) = ∑ k : Fin 128, (x (ix2 r k) * x (ix2 r k) : EReal) := by
  unfold sum128V
  refine (reduce_add_last2 _ _ _ _ r).trans ?_
  rw [zero_first, zero_add]
  rfl

theorem scaleV_apply (x : FVec Ideal S16896x1024 .f32) (s : FVec Ideal S16896 .f32) (w : FVec Ideal S1024 .f32)
    (r : Fin 16896) (j : Fin 1024) : scaleV (F := Ideal) x s w (ix2 r j)
      = x (ix2 r j) * Ideal.rsqrt (Ideal.div (s (ix1 r)) (Ideal.ofBits .f32 0x44800000#32) + Ideal.ofBits .f32 0x358637BD#32)
        * w (ix1 j) := by
  pointwise [scaleV]

theorem scale256V_apply (x : FVec Ideal S16896x256 .f32) (s : FVec Ideal S16896 .f32) (w : FVec Ideal S256 .f32)
    (r : Fin 16896) (j : Fin 256) : scale256V (F := Ideal) x s w (ix2 r j)
      = x (ix2 r j) * Ideal.rsqrt (Ideal.div (s (ix1 r)) (Ideal.ofBits .f32 0x43800000#32) + Ideal.ofBits .f32 0x358637BD#32)
        * w (ix1 j) := by
  pointwise [scale256V]

theorem scale128V_apply (x : FVec Ideal S16896x128 .f32) (s : FVec Ideal S16896 .f32) (w : FVec Ideal S128 .f32)
    (r : Fin 16896) (j : Fin 128) : scale128V (F := Ideal) x s w (ix2 r j)
      = x (ix2 r j) * Ideal.rsqrt (Ideal.div (s (ix1 r)) (Ideal.ofBits .f32 0x43000000#32) + Ideal.ofBits .f32 0x358637BD#32)
        * w (ix1 j) := by
  pointwise [scale128V]

theorem dotV_apply (h : FVec Ideal S16896x1024 .f32) (w : FVec Ideal S1024x5868 .f32) (r : Fin 16896) (j : Fin 5868) :
    dotV (F := Ideal) h w (ix2 r j) = ∑ k, h (ix2 r k) * w (ix2 k j) := by
  pointwise [dotV]

theorem turnedV_apply (k : FVec Ideal S16896x32 .f32) (cs sn : FVec Ideal S16896x16 .f32) (r : Fin 16896) (j : Fin 32) :
    turnedV (F := Ideal) k cs sn (ix2 r j)
      = if h : j.val < 16 then k (ix2 r ⟨j.val, by omega⟩) * cs (ix2 r ⟨j.val, h⟩) - k (ix2 r ⟨16 + j.val, by omega⟩) * sn (ix2 r ⟨j.val, h⟩)
        else k (ix2 r ⟨j.val - 16, by omega⟩) * sn (ix2 r ⟨j.val - 16, by omega⟩) + k (ix2 r ⟨16 + (j.val - 16), by omega⟩) * cs (ix2 r ⟨j.val - 16, by omega⟩) := by
  pointwise [turnedV]

theorem joinV_apply (a : FVec Ideal S16896x128 .f32) (b : FVec Ideal S16896x32 .f32) (r : Fin 16896) (j : Fin 256) :
    joinV (F := Ideal) a b (ix2 r j)
      = if h : j.val < 128 then a (ix2 r ⟨j.val, h⟩) else if h' : j.val < 160 then b (ix2 r ⟨j.val - 128, by omega⟩) else 0 := by
  pointwise [joinV]
  rw [of_zero]
  by_cases h : j.val < 128
  · rw [dif_pos (by omega), dif_pos h, dif_pos h]
  · rw [dif_neg h]
    exact dite_congr rfl (fun _ => dif_neg h) fun _ => rfl

theorem halvesV_apply (q : FVec Ideal S16896x8x1x64 .f32) (r : Fin 16896) (a : Fin 8) (g : Fin 2) (d : Fin 64) :
    halvesV (F := Ideal) q (ix4 r a g d) = if g.val = a.val / 4 then q (ix4 r a 0 d) else 0 := by
  pointwise [halvesV]
  rw [of_zero]
  by_cases h : a.val < 4
  · rw [dif_pos h]
    by_cases hg : g.val = 0
    · rw [dif_pos ⟨h, by omega⟩, if_pos (by omega)]
      exact congrArg (fun i => q (ix4 r a i d)) (Fin.ext hg)
    · rw [dif_neg (by omega), if_neg (by omega)]
  · rw [dif_neg h]
    by_cases hg : g.val = 0
    · rw [dif_neg (by omega), if_neg (by omega)]
    · rw [dif_pos (by omega)]
      exact (congrArg₂ (fun b i => q (ix4 r b i d)) (Fin.ext (by dsimp only; omega)) (Fin.ext (by dsimp only; omega))).trans (if_pos (by omega)).symm

theorem headsV_apply (q : FVec Ideal S16896x512 .f32) (r : Fin 16896) (a : Fin 8) (d : Fin 64) :
    headsV (F := Ideal) q (ix4 r a 0 d) = q (ix2 r ⟨64 * a.val + d.val, by omega⟩) := by
  pointwise [headsV]
  exact congrArg (fun i => q (ix2 r i)) (Fin.ext (by dsimp only; omega))

theorem flatV_apply (q : FVec Ideal S16896x8x2x64 .f32) (r : Fin 16896) (j : Fin 1024) :
    flatV (F := Ideal) q (ix2 r j) = q (ix4 r ⟨j.val / 128, by omega⟩ ⟨j.val / 64 % 2, by omega⟩ ⟨j.val % 64, by omega⟩) := by
  pointwise [flatV]

theorem padV_apply (q : FVec Ideal S16896x256 .f32) (r : Fin 16896) (a : Fin 4) (d : Fin 128) :
    padV (F := Ideal) q (ix3 r a d) = if h : d.val < 64 then q (ix2 r ⟨a.val * 64 + d.val, by omega⟩) else 0 := by
  pointwise [padV]
  rw [of_zero]

theorem flatIdxV_apply (q : FVec Ideal S16896x4x128 .f32) (r : Fin 16896) (j : Fin 512) :
    flatIdxV (F := Ideal) q (ix2 r j) = q (ix3 r ⟨j.val / 128, by omega⟩ ⟨j.val % 128, by omega⟩) := by
  pointwise [flatIdxV]

theorem halveV_apply (a : FVec Ideal S16896x4 .f32) (r : Fin 16896) (j : Fin 4) :
    halveV (F := Ideal) a (ix2 r j) = a (ix2 r j) * Ideal.ofBits .f32 0x3F000000#32 := by
  pointwise [halveV]

/-! ## The results -/

section Results
variable (x : FVec Ideal S16896x1024 .f32) (n : FVec Ideal S1024 .f32) (w : FVec Ideal S1024x5868 .f32)

/-- The normed rows' products with the weights. -/
def projV : FVec Ideal S16896x5868 .f32 := dotV (F := Ideal) (scaleV x (sumV x) n) w

theorem projV_apply (R : Fin 16896) (j : Fin 5868) : projV x n w (ix2 R j) = pAt x n w R j := by
  unfold projV
  rw [dotV_apply]
  refine Finset.sum_congr rfl fun k _ => congrArg (· * w (ix2 k j)) ?_
  rw [scaleV_apply, sumV_apply]
  rfl

theorem slice_apply {n' o : ℕ} (h : S16896x5868.Slices ![0, o] ⟨2, ![16896, n']⟩) (R : Fin 16896) (j : Fin n') (hj : o + j.val < 5868) :
    extractStridedSlice ⟨2, ![16896, n']⟩ ![0, o] (projV x n w) h (ix2 R j) = pAt x n w R ⟨o + j.val, hj⟩ := by
  refine Eq.trans (congrArg (projV x n w) (funext fun a => Fin.ext ?_)) (projV_apply x n w R _)
  fin_cases a <;> simp [ix2]

/-- An array that holds `f R` in row `R`. -/
theorem rows_of {n' : ℕ} {a : (⟨2, ![16896, n']⟩ : Shape).Idx → EReal} {f : Fin 16896 → Fin n' → EReal} (h : ∀ R j, a (ix2 R j) = f R j) :
    a = rowsV f := by
  refine funext fun i => ?_
  have e : i = ix2 (i 0) (i 1) := funext fun a => by
    match a with
    | ⟨0, _⟩ => rfl
    | ⟨1, _⟩ => rfl
  rw [e]
  exact h _ _

theorem sliced {n' o : ℕ} (h : S16896x5868.Slices ![0, o] ⟨2, ![16896, n']⟩) (ho : o + n' ≤ 5868) :
    extractStridedSlice ⟨2, ![16896, n']⟩ ![0, o] (projV x n w) h = rowsV fun R j => pAt x n w R ⟨o + j.val, by omega⟩ :=
  rows_of fun R j => slice_apply x n w h R j _

theorem queries : flatV (F := Ideal) (halvesV (headsV (extractStridedSlice S16896x512 ![0, 416] (projV x n w) slices_S16896x5868_S16896x512_0_416)))
    = rowsV fun R j => qdRow (pAt x n w R) j := by
  refine rows_of fun R j => ?_
  rw [flatV_apply, halvesV_apply, headsV_apply]
  unfold qdRow
  refine ite_congr rfl (fun _ => ?_) fun _ => rfl
  exact slice_apply x n w _ R _ _

theorem compressed (v : FVec Ideal S256 .f32) :
    truncf .bf16 (scale256V (F := Ideal) (extractStridedSlice S16896x256 ![0, 0] (projV x n w) slices_S16896x5868_S16896x256_0_0)
      (sum256V (extractStridedSlice S16896x256 ![0, 0] (projV x n w) slices_S16896x5868_S16896x256_0_0)) v) bitsLt_bf16_f32
    = rowsV fun R j => cqRow (pAt x n w R) (fun i => v (ix1 i)) j := by
  refine rows_of fun R j => ?_
  have e : ∀ i : Fin 256, extractStridedSlice S16896x256 ![0, 0] (projV x n w) slices_S16896x5868_S16896x256_0_0 (ix2 R i)
      = pAt x n w R ⟨0 + i.val, by omega⟩ := fun i => slice_apply x n w _ R i _
  refine (scale256V_apply _ _ v R j).trans ?_
  rw [sum256V_apply]
  simp only [e]
  rfl

theorem indexer : flatIdxV (F := Ideal) (padV (extractStridedSlice S16896x256 ![0, 1184] (projV x n w) slices_S16896x5868_S16896x256_0_1184))
    = rowsV fun R j => qiRow (pAt x n w R) j := by
  refine rows_of fun R j => ?_
  rw [flatIdxV_apply, padV_apply]
  unfold qiRow
  exact dite_congr rfl (fun _ => slice_apply x n w _ R _ _) fun _ => rfl

/-- The normed compressed keys and values. -/
def ckvV (v : FVec Ideal S128 .f32) : FVec Ideal S16896x128 .f32 :=
  scale128V (F := Ideal) (extractStridedSlice S16896x128 ![0, 256] (projV x n w) slices_S16896x5868_S16896x128_0_256)
    (sum128V (extractStridedSlice S16896x128 ![0, 256] (projV x n w) slices_S16896x5868_S16896x128_0_256)) v

theorem ckvV_apply (v : FVec Ideal S128 .f32) (R : Fin 16896) (j : Fin 128) :
    ckvV x n w v (ix2 R j) = ckvRow (pAt x n w R) (fun i => v (ix1 i)) j := by
  have e : ∀ i : Fin 128, extractStridedSlice S16896x128 ![0, 256] (projV x n w) slices_S16896x5868_S16896x128_0_256 (ix2 R i)
      = pAt x n w R ⟨256 + i.val, by omega⟩ := fun i => slice_apply x n w _ R i _
  refine (scale128V_apply _ _ v R j).trans ?_
  rw [sum128V_apply]
  simp only [e]
  rfl

/-- The rotated keys. -/
def krV' (p : IVec S16896 32) : FVec Ideal S16896x32 .f32 :=
  turnedV (F := Ideal) (extractStridedSlice S16896x32 ![0, 384] (projV x n w) slices_S16896x5868_S16896x32_0_384) (Host.cos (angV p)) (Host.sin (angV p))

theorem krV'_apply (p : IVec S16896 32) (R : Fin 16896) (j : Fin 32) :
    krV' x n w p (ix2 R j) = krRow (pAt x n w R) (csAt p R) (snAt p R) j := by
  have e : ∀ i : Fin 32, extractStridedSlice S16896x32 ![0, 384] (projV x n w) slices_S16896x5868_S16896x32_0_384 (ix2 R i)
      = pAt x n w R ⟨384 + i.val, by omega⟩ := fun i => slice_apply x n w _ R i _
  have s : ∀ i (h : 384 + (16 + i) < 5868), (⟨384 + (16 + i), h⟩ : Fin 5868) = ⟨400 + i, by omega⟩ := fun i h => Fin.ext (by dsimp only; omega)
  unfold krV' krRow
  rw [turnedV_apply]
  simp only [e, s]
  rfl

theorem joined (p : IVec S16896 32) (v : FVec Ideal S128 .f32) :
    joinV (F := Ideal) (ckvV x n w v) (krV' x n w p) = rowsV fun R j => kvcRow (pAt x n w R) (fun i => v (ix1 i)) (csAt p R) (snAt p R) j := by
  refine rows_of fun R j => ?_
  rw [joinV_apply]
  unfold kvcRow
  exact dite_congr rfl (fun _ => ckvV_apply x n w v R _) fun _ => dite_congr rfl (fun _ => krV'_apply x n w p R _) fun _ => rfl

theorem halved : halveV (F := Ideal) (extractStridedSlice S16896x4 ![0, 1504] (projV x n w) slices_S16896x5868_S16896x4_0_1504)
    = rowsV fun R j => wiRow (pAt x n w R) j := by
  refine rows_of fun R j => ?_
  rw [halveV_apply]
  exact congrArg (· * Ideal.ofBits .f32 0x3F000000#32) (slice_apply x n w _ R j _)

end Results

end Cert.Proof.InProjRef
-- ==== Proof.InProj.lean ====
/- The input projection's call: its claims. -/
module

public import proofs.«01_k».proof.Proof.InProjRef
public import proofs.«01_k».proof.Proof.Gen.Kernel5.Frame
public import proofs.«01_k».proof.Proof.Gen.Pre_finite_weights
public import proofs.«01_k».proof.Defs
public import Idealize.ShloMosaic.Lib.Quiescent

@[expose] public section

set_option maxRecDepth 16384
set_option maxHeartbeats 2000000

noncomputable section

open Idealize.ShloMosaic Idealize.ShloMosaic.TcCoe Idealize.SL.Sem

namespace Cert.Proof.InProj
open Cert.Proof.Ffn Cert.Proof.InProjRef

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2.2.2.2.2.2.2.2.2.2.2.2.2,
      Idealize.ShloMosaic.sem_eq_zero_of_no_sems (by decide) r.2⟩)
    (Cert.Reference5Ideal.Value.run (F := Ideal) m ρ)
theorem preserves : Cert.preserves_Kernel5_Kernel5Ideal := trivial

/-- A finite magnitude is a number. -/
theorem num_of_abs {x : EReal} (h : max x (-x) < ⊤) : IsNum x := by
  induction x using EReal.rec with
  | bot => simp at h
  | coe r => exact ⟨r, rfl⟩
  | top => simp at h

theorem fine_of_pre (m : (ℓ : Loc Cert.Kernel5Ideal.nD Cert.Kernel5Ideal.τ Cert.Kernel5Ideal.sig) → Buf (Elt Ideal) ℓ)
    (hpre : Cert.Pre_Kernel5Ideal_finite_weights m) (c : Dev Cert.Kernel5Ideal.nD) : Fine m c := by
  obtain ⟨h1, h2⟩ := hpre c
  have hi : Ideal.ofBits .f32 2139095040#32 = ⊤ := by simp [Ideal.ofBits, Ideal.ieee]
  refine ⟨fun k => ?_, fun k j => ?_⟩
  · have := congrFun h1 (ix1 k)
    pointwise [Cert.Pre_finite_weights.fn] at this
    rw [WordCmp.ofBool_decide_eq_one_iff, hi] at this
    exact num_of_abs this
  · have := congrFun h2 (ix2 k j)
    pointwise [Cert.Pre_finite_weights.fn] at this
    rw [WordCmp.ofBool_decide_eq_one_iff, hi] at this
    exact num_of_abs this

variable (m' : (ℓ : Loc Cert.Reference5Ideal.nD Cert.Reference5Ideal.τ Cert.Reference5Ideal.sig) → Buf (Elt Ideal) ℓ) (c : Dev Cert.Reference5Ideal.nD)

theorem joined_eq : Cert.Reference5Ideal.Value.res_main_v93 m' c
    = joinV (F := Ideal) (ckvV (m' (c.tc.loc Cert.Reference5Ideal.main_arg0)) (m' (c.tc.loc Cert.Reference5Ideal.main_arg2)) (m' (c.tc.loc Cert.Reference5Ideal.main_arg3)) (m' (c.tc.loc Cert.Reference5Ideal.main_arg5)))
        (krV' (m' (c.tc.loc Cert.Reference5Ideal.main_arg0)) (m' (c.tc.loc Cert.Reference5Ideal.main_arg2)) (m' (c.tc.loc Cert.Reference5Ideal.main_arg3)) (m' (c.tc.loc Cert.Reference5Ideal.main_arg1))) := by
  unfold Cert.Reference5Ideal.Value.res_main_v93
  rfl

theorem turned_eq : Cert.Reference5Ideal.Value.res_main_v75 m' c
    = krV' (m' (c.tc.loc Cert.Reference5Ideal.main_arg0)) (m' (c.tc.loc Cert.Reference5Ideal.main_arg2)) (m' (c.tc.loc Cert.Reference5Ideal.main_arg3)) (m' (c.tc.loc Cert.Reference5Ideal.main_arg1)) := by
  unfold Cert.Reference5Ideal.Value.res_main_v75
  rfl

/-- Every result of the call is the reference's. -/
theorem algebraic : Cert.algebraic_Kernel5Ideal_Reference5Ideal_pre_finite_weights := by
  intro m g m' g' hpre hag
  refine ⟨fun c => gateA m c, fun c => zA m c, fun c => xbcA m c, fun c => qdA m c, fun c => cqA m c, fun c => qiA m c, fun c => kvcA m c, fun c => ckvA m c, fun c => krA m c, fun c => kdA m c, fun c => vdA m c, fun c => kiA m c, fun c => wiA m c, fun c => dtA m c, (θ_run _ _ _).mono (fun _ h c => ?_)
    (Cert.Kernel5Ideal.Value.run_blocks m g), (θ_run _ _ _).mono (fun _ h c => ?_)
    (Cert.Reference5Ideal.Value.run m' g')⟩
  · have hf := fine_of_pre m hpre c
    obtain ⟨h0, h1, h2, h3, h4, h5, h6, h7, h8, h9, h10, h11, h12, h13, ha⟩ := h c
    exact ⟨h0.trans (final7 m c), h1.trans (final8 m c), h2.trans (final9 m c), h3.trans (final10 m c), h4.trans (final11 m c), h5.trans (final12 m c), h6.trans (final13 m c hf), h7.trans (final14 m c), h8.trans (final15 m c hf), h9.trans (final16 m c), h10.trans (final17 m c), h11.trans (final18 m c), h12.trans (final19 m c), h13.trans (final20 m c), ha⟩
  · obtain ⟨a0, a1, a2, a3, a4, a5⟩ := hag c
    obtain ⟨h0, h1, h2, h3, h4, h5, h6, h7, h8, h9, h10, h11, h12, h13, ha⟩ := h c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, ha⟩
    · refine Eq.trans (sliced (m' (c.tc.loc Cert.Reference5Ideal.main_arg0)) (m' (c.tc.loc Cert.Reference5Ideal.main_arg2)) (m' (c.tc.loc Cert.Reference5Ideal.main_arg3)) _ (by decide)) ?_
      rw [a0, a2, a3]
      rfl
    · refine Eq.trans (sliced (m' (c.tc.loc Cert.Reference5Ideal.main_arg0)) (m' (c.tc.loc Cert.Reference5Ideal.main_arg2)) (m' (c.tc.loc Cert.Reference5Ideal.main_arg3)) _ (by decide)) ?_
      rw [a0, a2, a3]
      rfl
    · refine Eq.trans (sliced (m' (c.tc.loc Cert.Reference5Ideal.main_arg0)) (m' (c.tc.loc Cert.Reference5Ideal.main_arg2)) (m' (c.tc.loc Cert.Reference5Ideal.main_arg3)) _ (by decide)) ?_
      rw [a0, a2, a3]
      rfl
    · refine Eq.trans (queries (m' (c.tc.loc Cert.Reference5Ideal.main_arg0)) (m' (c.tc.loc Cert.Reference5Ideal.main_arg2)) (m' (c.tc.loc Cert.Reference5Ideal.main_arg3))) ?_
      rw [a0, a2, a3]
      rfl
    · refine Eq.trans (compressed (m' (c.tc.loc Cert.Reference5Ideal.main_arg0)) (m' (c.tc.loc Cert.Reference5Ideal.main_arg2)) (m' (c.tc.loc Cert.Reference5Ideal.main_arg3)) (m' (c.tc.loc Cert.Reference5Ideal.main_arg4))) ?_
      rw [a0, a2, a3, a4]
      rfl
    · refine Eq.trans (indexer (m' (c.tc.loc Cert.Reference5Ideal.main_arg0)) (m' (c.tc.loc Cert.Reference5Ideal.main_arg2)) (m' (c.tc.loc Cert.Reference5Ideal.main_arg3))) ?_
      rw [a0, a2, a3]
      rfl
    · refine Eq.trans ((joined_eq m' c).trans (joined (m' (c.tc.loc Cert.Reference5Ideal.main_arg0)) (m' (c.tc.loc Cert.Reference5Ideal.main_arg2)) (m' (c.tc.loc Cert.Reference5Ideal.main_arg3)) (m' (c.tc.loc Cert.Reference5Ideal.main_arg1)) (m' (c.tc.loc Cert.Reference5Ideal.main_arg5)))) ?_
      rw [a0, a2, a3, a1, a5]
      rfl
    · refine Eq.trans (rows_of (ckvV_apply (m' (c.tc.loc Cert.Reference5Ideal.main_arg0)) (m' (c.tc.loc Cert.Reference5Ideal.main_arg2)) (m' (c.tc.loc Cert.Reference5Ideal.main_arg3)) (m' (c.tc.loc Cert.Reference5Ideal.main_arg5)))) ?_
      rw [a0, a2, a3, a5]
      rfl
    · refine Eq.trans ((turned_eq m' c).trans (rows_of (krV'_apply (m' (c.tc.loc Cert.Reference5Ideal.main_arg0)) (m' (c.tc.loc Cert.Reference5Ideal.main_arg2)) (m' (c.tc.loc Cert.Reference5Ideal.main_arg3)) (m' (c.tc.loc Cert.Reference5Ideal.main_arg1))))) ?_
      rw [a0, a2, a3, a1]
      rfl
    · refine Eq.trans (sliced (m' (c.tc.loc Cert.Reference5Ideal.main_arg0)) (m' (c.tc.loc Cert.Reference5Ideal.main_arg2)) (m' (c.tc.loc Cert.Reference5Ideal.main_arg3)) _ (by decide)) ?_
      rw [a0, a2, a3]
      rfl
    · refine Eq.trans (sliced (m' (c.tc.loc Cert.Reference5Ideal.main_arg0)) (m' (c.tc.loc Cert.Reference5Ideal.main_arg2)) (m' (c.tc.loc Cert.Reference5Ideal.main_arg3)) _ (by decide)) ?_
      rw [a0, a2, a3]
      rfl
    · refine Eq.trans (sliced (m' (c.tc.loc Cert.Reference5Ideal.main_arg0)) (m' (c.tc.loc Cert.Reference5Ideal.main_arg2)) (m' (c.tc.loc Cert.Reference5Ideal.main_arg3)) _ (by decide)) ?_
      rw [a0, a2, a3]
      rfl
    · refine Eq.trans (halved (m' (c.tc.loc Cert.Reference5Ideal.main_arg0)) (m' (c.tc.loc Cert.Reference5Ideal.main_arg2)) (m' (c.tc.loc Cert.Reference5Ideal.main_arg3))) ?_
      rw [a0, a2, a3]
      rfl
    · refine Eq.trans (sliced (m' (c.tc.loc Cert.Reference5Ideal.main_arg0)) (m' (c.tc.loc Cert.Reference5Ideal.main_arg2)) (m' (c.tc.loc Cert.Reference5Ideal.main_arg3)) _ (by decide)) ?_
      rw [a0, a2, a3]
      rfl

end Cert.Proof.InProj
-- ==== Proof.SsdKernel.lean ====
/- What the state-space kernel leaves: the last rows before the convolution, and each head's state. -/
module

public import proofs.«01_k».proof.Proof.Ffn
public import proofs.«01_k».proof.Proof.Gen.Kernel6Ideal.Value
public import Idealize.ShloMosaic.Lib.Pipeline.ValueKit
public import Idealize.ShloMosaic.Lib.StableHlo.ReadAt
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Cert.Kernel6Ideal Cert.Kernel6Ideal.Gen

namespace Cert.Proof.Ssd
open Cert.Proof.Ffn

variable (m : (ℓ : Loc nD τ sig) → Buf (Elt Ideal) ℓ) (c : Dev nD)

/-! ## The stores read back -/

theorem headInb (h : Fin 8) : ∀ a, (![h.val, 0, 0] : Fin 3 → ℕ) a + S1x64x64.size a ≤ S8x64x64.size a := by
  revert h; decide

/-- Head `h`'s square of the state. -/
abbrev headR (h : Fin 8) : Rect S8x64x64 := Rect.unit ![h.val, 0, 0] S1x64x64.size (headInb h)

section Lists
variable {Val : EltTy → Type} [∀ e, Nonempty (Val e)] {e : EltTy} {κ' : Kind} {sp : Space} {sg : RefSig}

abbrev heads8 (W : Fin 8 → S1x64x64.Idx → Val e) (L : List (View.Piece Val S8x64x64 e)) : List (View.Piece Val S8x64x64 e) :=
  ⟨headR 7, W 7⟩ :: ⟨headR 6, W 6⟩ :: ⟨headR 5, W 5⟩ :: ⟨headR 4, W 4⟩ :: ⟨headR 3, W 3⟩ :: ⟨headR 2, W 2⟩ :: ⟨headR 1, W 1⟩ :: ⟨headR 0, W 0⟩ :: L

variable (v : View sg κ' sp S8x64x64 e) (f : v.ty.Contents Val)

theorem read_head_cons (h h' : Fin 8) (w : S1x64x64.Idx → Val e) (L : List (View.Piece Val S8x64x64 e)) (p n : Fin 64) :
    v.read Val (v.writes Val f (⟨headR h', w⟩ :: L)) (ix3 h p n)
      = if h = h' then w (ix3 0 p n) else v.read Val (v.writes Val f L) (ix3 h p n) := by
  split_ifs with hh
  · subst hh
    exact View.read_writes_cons_unit_of_mem v f (headInb h) w L (ix3 h p n) (ix3 0 p n) rfl
      (by intro a; fin_cases a <;> simp [ix3])
  · exact View.read_writes_cons_unit_of_not_mem v f (headInb h') w L (ix3 h p n) rfl 0
      (by
        have := Fin.val_ne_of_ne hh
        show h.val < h'.val ∨ h'.val + 1 ≤ h.val
        omega)

/-- The whole state after the eight heads' stores. -/
theorem read_heads8 (W : Fin 8 → S1x64x64.Idx → Val e) (L : List (View.Piece Val S8x64x64 e)) (inb) (h : Fin 8) (p n : Fin 64) :
    v.readCov (heads8 W L) (Rect.unit (s := S8x64x64) ![0, 0, 0] ![8, 64, 64] inb).toLoadRect (ix3 h p n) = W h (ix3 0 p n) := by
  have e : (Rect.unit (s := S8x64x64) ![0, 0, 0] ![8, 64, 64] inb).toLoadRect.idx (ix3 h p n) = ix3 h p n :=
    funext fun a => Fin.ext (by fin_cases a <;> simp [ix3, LoadRect.idx, Rect.toLoadRect])
  show v.read Val (v.writes Val v.junk (heads8 W L)) _ = _
  rw [e]
  simp only [heads8, read_head_cons]
  fin_cases h <;> rfl

variable (u : View sg κ' sp S16x768 e)

/-- The rows entering the convolution: three rows of before, then the new ones. -/
theorem read_rows (A : S8x768.Idx → Val e) (B : S3x768.Idx → Val e) (inbA inbB) (o : ℕ) (sz : Fin 2 → ℕ) (inb)
    (x : (Rect.unit (s := S16x768) ![o, 0] sz inb).shape.Idx) (k : ℕ) (hk : o + (x 0).val = 5 + k) (hk' : k < 11) (j : Fin 768)
    (hj : (x 1).val = j.val) :
    u.readCov [⟨Rect.unit (s := S16x768) ![8, 0] ![8, 768] inbA, A⟩, ⟨Rect.unit (s := S16x768) ![5, 0] ![3, 768] inbB, B⟩]
        (Rect.unit (s := S16x768) ![o, 0] sz inb).toLoadRect x
      = if hlt : k < 3 then B (ix2 ⟨k, hlt⟩ j) else A (ix2 ⟨k - 3, by omega⟩ j) := by
  have e : (Rect.unit (s := S16x768) ![o, 0] sz inb).toLoadRect.idx x = (ix2 ⟨5 + k, by omega⟩ j : S16x768.Idx) :=
    funext fun a => Fin.ext (by fin_cases a <;> simp [ix2, LoadRect.idx, Rect.toLoadRect, hk, hj])
  show u.read Val (u.writes Val u.junk _) _ = _
  rw [e]
  split_ifs with hlt
  · rw [View.read_writes_cons_unit_of_not_mem u _ inbA A _ _ rfl 0 (by left; show 5 + k < 8; omega)]
    exact View.read_writes_cons_unit_of_mem u _ inbB B [] _ (ix2 ⟨k, hlt⟩ j) rfl (by intro a; fin_cases a <;> simp [ix2])
  · exact View.read_writes_cons_unit_of_mem u _ inbA A _ _ (ix2 ⟨k - 3, by omega⟩ j) rfl
      (by intro a; fin_cases a <;> simp [ix2]; omega)

end Lists

/-! ## A head's new state -/

theorem slX (h : Fin 8) : S8x512.Slices ![0, 64 * h.val] S8x64 := by revert h; decide
theorem slC (h : Fin 8) : S8x8.Slices ![0, h.val] S8x1 := by revert h; decide
theorem slL (h : Fin 8) : S1x8.Slices ![0, h.val] S1x1 := by revert h; decide
theorem slB (h : Fin 8) : S8x128.Slices ![0, 64 * (h.val / 4)] S8x64 := by revert h; decide

section Generic
variable {F : FTy → Type} [FloatOps F] [Named F]

/-- Column `h` of a table of a value per token and head. -/
def headCol (h : Fin 8) (x : FVec F S8x8 .f32) : FVec F S8x1 .f32 := extractStridedSlice S8x1 ![0, h.val] x (slC h)
/-- Entry `h` of a row of a value per head. -/
def headAt (h : Fin 8) (x : FVec F S1x8 .f32) : FVec F S1x1 .f32 := extractStridedSlice S1x1 ![0, h.val] x (slL h)
/-- A head's values. -/
def headX (h : Fin 8) (xs : FVec F S8x512 .f32) : FVec F S8x64 .f32 := extractStridedSlice S8x64 ![0, 64 * h.val] xs (slX h)
/-- The keys of a head's group. -/
def headB (h : Fin 8) (b : FVec F S8x128 .bf16) : FVec F S8x64 .bf16 := extractStridedSlice S8x64 ![0, 64 * (h.val / 4)] b (slB h)

/-- The new state of one head, from the last sum, the sums, the keys, the values, the steps and the old state. -/
def newOf (al : FVec F S1x1 .f32) (cu : FVec F S8x1 .f32) (b : FVec F S8x64 .bf16) (xs : FVec F S8x64 .f32) (dt : FVec F S8x1 .f32)
    (st : Vec F S1x64x64 .f32) : FVec F S1x64x64 .f32 :=
  shapeCast S1x64x64 (addf (mulf (broadcastTo S64x64 (exp al) broadcasts_S1x1_S64x64) (shapeCast S64x64 st shapeCasts_S1x64x64_S64x64))
    (matmul dot_S8x64_S8x64_S64x64_0_0_1_1_n_n none
      (truncf .bf16 (mulf (mulf xs (broadcastTo S8x64 dt broadcasts_S8x1_S8x64))
        (broadcastTo S8x64 (exp (subf (broadcastTo S8x1 al broadcasts_S1x1_S8x1) cu)) broadcasts_S8x1_S8x64)) bitsLt_bf16_f32)
      b (constant S64x64 .f32 0x00000000#32))) shapeCasts_S64x64_S1x64x64

/-- Head `h`'s new state from the convolved rows `cv`, the steps `dt`, the decay rates and the old state. -/
def headNew (cv : FVec F S8x768 .f32) (dt : FVec F S8x8 .f32) (al : Vec F S1x8 .f32) (st : Vec F S1x8x64x64 .f32) (h : Fin 8) :
    FVec F S1x64x64 .f32 :=
  newOf (headAt h (k0_pay18 dt al)) (headCol h (k0_pay16 dt al)) (headB h (k0_pay11 cv)) (headX h (k0_pay10 cv)) (headCol h dt)
    (View.ld (k0_pay3 st) (headR h))

section Stores
variable (cv : FVec F S8x768 .f32) (dt : FVec F S8x8 .f32) (al : Vec F S1x8 .f32) (st : Vec F S1x8x64x64 .f32)

/-- What the kernel stores for each head, in its own words. -/
def stored : Fin 8 → FVec F S1x64x64 .f32
  | 0 => k0_pay28 (k0_pay18 dt al) (k0_pay19 (k0_pay11 cv)) (k0_pay22 dt al) (k0_pay24 (k0_pay10 cv) dt) (k0_pay25 (View.ld (k0_pay3 st) (headR 0)))
  | 1 => k0_pay36 (k0_pay18 dt al) (k0_pay19 (k0_pay11 cv)) (k0_pay29 (k0_pay16 dt al)) (k0_pay31 (k0_pay10 cv) dt) (k0_pay32 (View.ld (k0_pay3 st) (headR 1)))
  | 2 => k0_pay43 (k0_pay18 dt al) (k0_pay19 (k0_pay11 cv)) (k0_pay37 (k0_pay16 dt al)) (k0_pay40 (k0_pay10 cv) dt) (k0_pay41 (View.ld (k0_pay3 st) (headR 2)))
  | 3 => k0_pay51 (k0_pay18 dt al) (k0_pay19 (k0_pay11 cv)) (k0_pay44 (k0_pay16 dt al)) (k0_pay46 (k0_pay10 cv)) (k0_pay47 dt) (View.ld (k0_pay3 st) (headR 3))
  | 4 => k0_pay63 (k0_pay62 (k0_pay10 cv) dt (k0_pay18 dt al) (k0_pay52 (k0_pay11 cv)) (k0_pay55 (k0_pay16 dt al)) (View.ld (k0_pay3 st) (headR 4)))
  | 5 => k0_pay71 (k0_pay52 (k0_pay11 cv)) (k0_pay69 (k0_pay18 dt al) (View.ld (k0_pay3 st) (headR 5))) (k0_pay70 (k0_pay10 cv) dt (k0_pay16 dt al) (k0_pay18 dt al))
  | 6 => k0_pay78 (k0_pay18 dt al) (k0_pay52 (k0_pay11 cv)) (k0_pay74 (k0_pay10 cv) dt) (k0_pay75 (View.ld (k0_pay3 st) (headR 6))) (k0_pay77 (k0_pay16 dt al) (k0_pay18 dt al))
  | 7 => k0_pay85 (k0_pay18 dt al) (k0_pay52 (k0_pay11 cv)) (k0_pay79 (k0_pay16 dt al)) (k0_pay81 (k0_pay10 cv) dt) (k0_pay82 (View.ld (k0_pay3 st) (headR 7)))

theorem stored_eq (h : Fin 8) : stored cv dt al st h = headNew cv dt al st h := by
  fin_cases h <;> rfl

/-- The whole state after the kernel's stores. -/
theorem read_stored {κ' : Kind} {sp : Space} {sg : RefSig} (v : View sg κ' sp S8x64x64 .f32) (L : List (View.Piece (Elt F) S8x64x64 .f32)) (inb)
    (h : Fin 8) (p n : Fin 64) :
    v.readCov (⟨Rect.unit (s := S8x64x64) ![7, 0, 0] ![1, 64, 64] inb_S8x64x64_S1x64x64_7_0_0, k0_pay85 (k0_pay18 dt al) (k0_pay52 (k0_pay11 cv)) (k0_pay79 (k0_pay16 dt al)) (k0_pay81 (k0_pay10 cv) dt) (k0_pay82 (View.ld (Val := Elt F) (e' := .f32) (k0_pay3 st) (Rect.unit (s := S8x64x64) ![7, 0, 0] ![1, 64, 64] inb_S8x64x64_S1x64x64_7_0_0)))⟩ ::
      ⟨Rect.unit (s := S8x64x64) ![6, 0, 0] ![1, 64, 64] inb_S8x64x64_S1x64x64_6_0_0, k0_pay78 (k0_pay18 dt al) (k0_pay52 (k0_pay11 cv)) (k0_pay74 (k0_pay10 cv) dt) (k0_pay75 (View.ld (Val := Elt F) (e' := .f32) (k0_pay3 st) (Rect.unit (s := S8x64x64) ![6, 0, 0] ![1, 64, 64] inb_S8x64x64_S1x64x64_6_0_0))) (k0_pay77 (k0_pay16 dt al) (k0_pay18 dt al))⟩ ::
      ⟨Rect.unit (s := S8x64x64) ![5, 0, 0] ![1, 64, 64] inb_S8x64x64_S1x64x64_5_0_0, k0_pay71 (k0_pay52 (k0_pay11 cv)) (k0_pay69 (k0_pay18 dt al) (View.ld (Val := Elt F) (e' := .f32) (k0_pay3 st) (Rect.unit (s := S8x64x64) ![5, 0, 0] ![1, 64, 64] inb_S8x64x64_S1x64x64_5_0_0))) (k0_pay70 (k0_pay10 cv) dt (k0_pay16 dt al) (k0_pay18 dt al))⟩ ::
      ⟨Rect.unit (s := S8x64x64) ![4, 0, 0] ![1, 64, 64] inb_S8x64x64_S1x64x64_4_0_0, k0_pay63 (k0_pay62 (k0_pay10 cv) dt (k0_pay18 dt al) (k0_pay52 (k0_pay11 cv)) (k0_pay55 (k0_pay16 dt al)) (View.ld (Val := Elt F) (e' := .f32) (k0_pay3 st) (Rect.unit (s := S8x64x64) ![4, 0, 0] ![1, 64, 64] inb_S8x64x64_S1x64x64_4_0_0)))⟩ ::
      ⟨Rect.unit (s := S8x64x64) ![3, 0, 0] ![1, 64, 64] inb_S8x64x64_S1x64x64_3_0_0, k0_pay51 (k0_pay18 dt al) (k0_pay19 (k0_pay11 cv)) (k0_pay44 (k0_pay16 dt al)) (k0_pay46 (k0_pay10 cv)) (k0_pay47 dt) (View.ld (Val := Elt F) (e' := .f32) (k0_pay3 st) (Rect.unit (s := S8x64x64) ![3, 0, 0] ![1, 64, 64] inb_S8x64x64_S1x64x64_3_0_0))⟩ ::
      ⟨Rect.unit (s := S8x64x64) ![2, 0, 0] ![1, 64, 64] inb_S8x64x64_S1x64x64_2_0_0, k0_pay43 (k0_pay18 dt al) (k0_pay19 (k0_pay11 cv)) (k0_pay37 (k0_pay16 dt al)) (k0_pay40 (k0_pay10 cv) dt) (k0_pay41 (View.ld (Val := Elt F) (e' := .f32) (k0_pay3 st) (Rect.unit (s := S8x64x64) ![2, 0, 0] ![1, 64, 64] inb_S8x64x64_S1x64x64_2_0_0)))⟩ ::
      ⟨Rect.unit (s := S8x64x64) ![1, 0, 0] ![1, 64, 64] inb_S8x64x64_S1x64x64_1_0_0, k0_pay36 (k0_pay18 dt al) (k0_pay19 (k0_pay11 cv)) (k0_pay29 (k0_pay16 dt al)) (k0_pay31 (k0_pay10 cv) dt) (k0_pay32 (View.ld (Val := Elt F) (e' := .f32) (k0_pay3 st) (Rect.unit (s := S8x64x64) ![1, 0, 0] ![1, 64, 64] inb_S8x64x64_S1x64x64_1_0_0)))⟩ ::
      ⟨Rect.unit (s := S8x64x64) ![0, 0, 0] ![1, 64, 64] inb_S8x64x64_S1x64x64_0_0_0, k0_pay28 (k0_pay18 dt al) (k0_pay19 (k0_pay11 cv)) (k0_pay22 dt al) (k0_pay24 (k0_pay10 cv) dt) (k0_pay25 (View.ld (Val := Elt F) (e' := .f32) (k0_pay3 st) (Rect.unit (s := S8x64x64) ![0, 0, 0] ![1, 64, 64] inb_S8x64x64_S1x64x64_0_0_0)))⟩ :: L)
      (Rect.unit (s := S8x64x64) ![0, 0, 0] ![8, 64, 64] inb).toLoadRect (ix3 h p n) = headNew cv dt al st h (ix3 0 p n) := by
  have e := read_heads8 v (fun h => headNew cv dt al st h) L inb h p n
  refine Eq.trans (congrArg (fun l => v.readCov l _ _) ?_) e
  simp only [heads8, ← stored_eq]
  rfl

end Stores

end Generic

/-- The convolved rows, from the rows of before, the new rows, the taps and the bias. -/
def cvOf (t : Fin cfg0.N) : FVec Ideal S8x768 .f32 :=
  k0_pay6 (iblk m c 6 t)
    ((View.whole cc0_scratch0).readCov [⟨Rect.unit ![8, 0] ![8, 768] inb_S16x768_S8x768_8_0, k0_pay5 (iblk m c 1 t)⟩, ⟨Rect.unit ![5, 0] ![3, 768] inb_S16x768_S3x768_5_0, k0_pay4 (iblk m c 3 t)⟩] (Rect.unit ![5, 0] ![8, 768] inb_S16x768_S8x768_5_0).toLoadRect)
    (View.ld (iblk m c 5 t) (Rect.unit ![0, 0] ![1, 768] inb_S4x768_S1x768_0_0))
    ((View.whole cc0_scratch0).readCov [⟨Rect.unit ![8, 0] ![8, 768] inb_S16x768_S8x768_8_0, k0_pay5 (iblk m c 1 t)⟩, ⟨Rect.unit ![5, 0] ![3, 768] inb_S16x768_S3x768_5_0, k0_pay4 (iblk m c 3 t)⟩] (Rect.unit ![6, 0] ![8, 768] inb_S16x768_S8x768_6_0).toLoadRect)
    (View.ld (iblk m c 5 t) (Rect.unit ![1, 0] ![1, 768] inb_S4x768_S1x768_1_0))
    ((View.whole cc0_scratch0).readCov [⟨Rect.unit ![8, 0] ![8, 768] inb_S16x768_S8x768_8_0, k0_pay5 (iblk m c 1 t)⟩, ⟨Rect.unit ![5, 0] ![3, 768] inb_S16x768_S3x768_5_0, k0_pay4 (iblk m c 3 t)⟩] (Rect.unit ![7, 0] ![8, 768] inb_S16x768_S8x768_7_0).toLoadRect)
    (View.ld (iblk m c 5 t) (Rect.unit ![2, 0] ![1, 768] inb_S4x768_S1x768_2_0))
    ((View.whole cc0_scratch0).readCov [⟨Rect.unit ![8, 0] ![8, 768] inb_S16x768_S8x768_8_0, k0_pay5 (iblk m c 1 t)⟩, ⟨Rect.unit ![5, 0] ![3, 768] inb_S16x768_S3x768_5_0, k0_pay4 (iblk m c 3 t)⟩] (Rect.unit ![8, 0] ![8, 768] inb_S16x768_S8x768_8_0).toLoadRect)
    (View.ld (iblk m c 5 t) (Rect.unit ![3, 0] ![1, 768] inb_S4x768_S1x768_3_0))

theorem pay2_apply (x : FVec Ideal S8x64x64 .f32) (h : Fin 8) (p n : Fin 64) : k0_pay2 x (ix4 0 h p n) = x (ix3 h p n) := by
  pointwise [k0_pay2]

theorem state_apply (t : Fin cfg0.N) (h : Fin 8) (p n : Fin 64) : (outsAt0 m c t).2.2 (ix4 0 h p n)
    = headNew (cvOf m c t) (k0_pay13 (iblk m c 2 t) (iblk m c 7 t)) (iblk m c 8 t) (iblk m c 4 t) h (ix3 0 p n) := by
  unfold outsAt0
  dsimp only
  frame_out
  simp (disch := decide) only [↓View.readCov_skip, ↓View.readCov_fill]
  refine (pay2_apply _ h p n).trans ?_
  unfold cvOf
  generalize k0_pay6 (F := Ideal) _ _ _ _ _ _ _ _ _ = cv
  generalize k0_pay13 (F := Ideal) _ _ = dt
  generalize iblk m c 8 t = al
  generalize iblk m c 4 t = st
  exact read_stored cv dt al st _ _ _ h p n

theorem tail_apply (t : Fin cfg0.N) (i : Fin 3) (j : Fin 768) : (outsAt0 m c t).2.1 (ix3 0 i j) = iblk m c 1 t (ix2 ⟨1 + i.val, by omega⟩ j) := by
  unfold outsAt0
  dsimp only
  frame_out
  pointwise [k0_pay8]
  refine (read_rows _ _ _ _ _ 9 _ _ (ix2 i j) (4 + i.val) (by simp [ix2]; omega) (by omega) j rfl).trans ?_
  rw [dif_neg (by omega)]
  pointwise [k0_pay5]
  congr 1
  congr 1
  exact Fin.ext (by dsimp only; omega)

end Cert.Proof.Ssd
-- ==== Proof.SsdPays.lean ====
/- What the state-space kernel computes, entry by entry. -/
module

public import proofs.«01_k».proof.Proof.SsdKernel
public import proofs.«01_k».proof.Proof.Gen.Kernel6Ideal.Value
public import Idealize.ShloMosaic.Lib.Pipeline.ValueKit
public import Idealize.ShloMosaic.Lib.StableHlo.ReadAt
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Cert.Kernel6Ideal Cert.Kernel6Ideal.Gen

namespace Cert.Proof.Ssd
open Cert.Proof.Ffn

variable (m : (ℓ : Loc nD τ sig) → Buf (Elt Ideal) ℓ) (c : Dev nD)

/-! ## The recurrence, entry by entry -/

/-- A number weighed by its own logistic. -/
def siluS (x : EReal) : EReal := x * Ideal.div 1 (1 + Ideal.exp (-x))

/-- The logarithm of one plus an exponential. -/
def spS (x : EReal) : EReal := max x 0 + Ideal.log1p (Ideal.exp (-(@FloatOps.absf Ideal _ .f32 x : EReal)))

section Spec
variable (xin : Fin 7 → Fin 768 → EReal) (w : Fin 4 → Fin 768 → EReal) (b : Fin 768 → EReal)

/-- The rows after the convolution and its activation. -/
def uS (r : Fin 4) (j : Fin 768) : EReal :=
  siluS (b j + xin ⟨r.val, by omega⟩ j * w 0 j + xin ⟨r.val + 1, by omega⟩ j * w 1 j + xin ⟨r.val + 2, by omega⟩ j * w 2 j
    + xin ⟨r.val + 3, by omega⟩ j * w 3 j)

variable (u : Fin 4 → Fin 768 → EReal) (dt : Fin 4 → Fin 8 → EReal) (rate : Fin 8 → EReal) (st : Fin 8 → Fin 64 → Fin 64 → EReal)

/-- The sum of the decays up to token `r`. -/
def cumS (r : Fin 4) (h : Fin 8) : EReal := ∑ k : Fin 4, if k ≤ r then dt k h * rate h else 0

/-- The state after the four tokens. -/
def stS (h : Fin 8) (p n : Fin 64) : EReal :=
  Ideal.exp (cumS dt rate 3 h) * st h p n
    + ∑ r : Fin 4, u r ⟨64 * h.val + p.val, by omega⟩ * dt r h * Ideal.exp (cumS dt rate 3 h - cumS dt rate r h)
        * u r ⟨512 + 64 * (h.val / 4) + n.val, by omega⟩

end Spec

/-! ## The steps and the convolved rows -/

theorem pay6_apply (b x0 : FVec Ideal S1x768 .f32) (x1 x2 x3 : FVec Ideal S1x768 .f32) (r0 r1 r2 r3 : FVec Ideal S8x768 .f32) (r : Fin 8) (j : Fin 768) :
    k0_pay6 b r0 x0 r1 x1 r2 x2 r3 x3 (ix2 r j)
      = b (ix2 0 j) + r0 (ix2 r j) * x0 (ix2 0 j) + r1 (ix2 r j) * x1 (ix2 0 j) + r2 (ix2 r j) * x2 (ix2 0 j)
        + r3 (ix2 r j) * x3 (ix2 0 j) := by
  pointwise [k0_pay6]

theorem pay9_apply (cv : FVec Ideal S8x768 .f32) (r : Fin 8) (j : Fin 768) : k0_pay9 cv (ix2 r j) = siluS (cv (ix2 r j)) := by
  pointwise [k0_pay9]
  rw [siluS, zero_sub]

theorem pay10_apply (cv : FVec Ideal S8x768 .f32) (r : Fin 8) (j : Fin 512) : k0_pay10 cv (ix2 r j) = siluS (cv (ix2 r ⟨j.val, by omega⟩)) := by
  rw [← pay9_apply]
  pointwise [k0_pay10]

theorem pay11_apply (cv : FVec Ideal S8x768 .f32) (r : Fin 8) (j : Fin 128) : k0_pay11 cv (ix2 r j) = siluS (cv (ix2 r ⟨512 + j.val, by omega⟩)) := by
  rw [← pay9_apply]
  pointwise [k0_pay11]

theorem early (r : Fin 8) : IntOp.cmpi CmpIPredicate.slt (BitVec.ofNat 32 r.val) 4#32 = if r.val < 4 then 1#1 else 0#1 := by
  revert r; decide

theorem pay13_apply (d : Vec Ideal S8x8 .f32) (b : Vec Ideal S1x8 .f32) (r h : Fin 8) : k0_pay13 d b (ix2 r h) = if r.val < 4 then spS (d (ix2 r h) + b (ix2 0 h)) else 0 := by
  pointwise [k0_pay13]
  rw [early, zero_sub]
  split_ifs <;> rfl

theorem pay14_apply (d : FVec Ideal S8x8 .f32) (b : Vec Ideal S1x8 .f32) (r h : Fin 8) : k0_pay14 d b (ix2 r h) = d (ix2 r h) * -(Ideal.exp (b (ix2 0 h))) := by
  pointwise [k0_pay14]
  rw [zero_sub]

theorem below (r k : Fin 8) : BitVec.setWidth 32 (IntOp.cmpi CmpIPredicate.sge (BitVec.ofNat 32 r.val) (BitVec.ofNat 32 k.val)) = if k ≤ r then 1#32 else 0#32 := by
  revert r k; decide

theorem pay16_apply (d : FVec Ideal S8x8 .f32) (b : Vec Ideal S1x8 .f32) (r h : Fin 8) :
    k0_pay16 d b (ix2 r h) = ∑ k : Fin 8, if k ≤ r then d (ix2 k h) * -(Ideal.exp (b (ix2 0 h))) else 0 := by
  pointwise [k0_pay16, k0_pay15]
  refine Finset.sum_congr rfl fun k _ => ?_
  rw [below, pay14_apply]
  split_ifs
  · rw [show FloatOps.sitofp (F := Ideal) FTy.f32 1#32 = (1 : EReal) from by simp [FloatOps.sitofp]]
    exact one_mul _
  · rw [show FloatOps.sitofp (F := Ideal) FTy.f32 0#32 = (0 : EReal) from by simp [FloatOps.sitofp]]
    exact zero_mul _

theorem pay18_apply (d : FVec Ideal S8x8 .f32) (b : Vec Ideal S1x8 .f32) (h : Fin 8) : k0_pay18 d b (ix2 0 h) = k0_pay16 d b (ix2 7 h) := by
  pointwise [k0_pay18]

theorem newOf_apply (al : FVec Ideal S1x1 .f32) (cu : FVec Ideal S8x1 .f32) (b : FVec Ideal S8x64 .bf16) (xs : FVec Ideal S8x64 .f32) (dt : FVec Ideal S8x1 .f32)
    (st : Vec Ideal S1x64x64 .f32) (p n : Fin 64) : newOf al cu b xs dt st (ix3 0 p n)
      = Ideal.exp (al (ix2 0 0)) * st (ix3 0 p n)
        + ∑ r : Fin 8, xs (ix2 r p) * dt (ix2 r 0) * Ideal.exp (al (ix2 0 0) - cu (ix2 r 0)) * b (ix2 r n) := by
  pointwise [newOf]

theorem headCol_apply (h : Fin 8) (x : FVec Ideal S8x8 .f32) (r : Fin 8) : headCol h x (ix2 r 0) = x (ix2 r h) :=
  extractStridedSlice_apply _ x (slC h) _ _ (by intro a; fin_cases a <;> simp [ix2])
theorem headAt_apply (h : Fin 8) (x : FVec Ideal S1x8 .f32) : headAt h x (ix2 0 0) = x (ix2 0 h) :=
  extractStridedSlice_apply _ x (slL h) _ _ (by intro a; fin_cases a <;> simp [ix2])
theorem headX_apply (h : Fin 8) (x : FVec Ideal S8x512 .f32) (r : Fin 8) (p : Fin 64) : headX h x (ix2 r p) = x (ix2 r ⟨64 * h.val + p.val, by omega⟩) :=
  extractStridedSlice_apply _ x (slX h) _ _ (by intro a; fin_cases a <;> simp [ix2])
theorem headB_apply (h : Fin 8) (x : FVec Ideal S8x128 .bf16) (r : Fin 8) (p : Fin 64) : headB h x (ix2 r p) = x (ix2 r ⟨64 * (h.val / 4) + p.val, by omega⟩) :=
  extractStridedSlice_apply _ x (slB h) _ _ (by intro a; fin_cases a <;> simp [ix2])

theorem pay3_apply (st : Vec Ideal S1x8x64x64 .f32) (h : Fin 8) (p n : Fin 64) : k0_pay3 st (ix3 h p n) = st (ix4 0 h p n) := by
  pointwise [k0_pay3]

/-- Tokens past the fourth add nothing to a sum up to one of the first four. -/
theorem sum_first (f : Fin 8 → EReal) (hf : ∀ k : Fin 8, 4 ≤ k.val → f k = 0) : ∑ k : Fin 8, f k = ∑ k : Fin 4, f ⟨k.val, by omega⟩ := by
  rw [Fin.sum_univ_add (a := 4) (b := 4) f, Finset.sum_eq_zero (fun k _ => hf (Fin.natAdd 4 k) (by simp)) (s := Finset.univ) (f := fun k : Fin 4 => f (Fin.natAdd 4 k)), add_zero]
  rfl

/-- A head's new state by its entries. -/
theorem headNew_apply (cv : FVec Ideal S8x768 .f32) (dt : FVec Ideal S8x8 .f32) (al : Vec Ideal S1x8 .f32) (st : Vec Ideal S1x8x64x64 .f32)
    (hdt : ∀ (k h : Fin 8), 4 ≤ k.val → dt (ix2 k h) = 0) (h : Fin 8) (p n : Fin 64) :
    headNew cv dt al st h (ix3 0 p n)
      = stS (fun r j => siluS (cv (ix2 ⟨r.val, by omega⟩ j))) (fun r h => dt (ix2 ⟨r.val, by omega⟩ h)) (fun h => -(Ideal.exp (al (ix2 0 h))))
          (fun h p n => st (ix4 0 h p n)) h p n := by
  have hc : ∀ r : Fin 4, k0_pay16 dt al (ix2 ⟨r.val, by omega⟩ h) = cumS (fun r h => dt (ix2 ⟨r.val, by omega⟩ h)) (fun h => -(Ideal.exp (al (ix2 0 h)))) r h := by
    intro r
    rw [pay16_apply, sum_first _ (fun k hk => if_neg (by show ¬ k.val ≤ r.val; omega))]
    rfl
  have hl : k0_pay16 dt al (ix2 7 h) = cumS (fun r h => dt (ix2 ⟨r.val, by omega⟩ h)) (fun h => -(Ideal.exp (al (ix2 0 h)))) 3 h := by
    rw [pay16_apply, sum_first _ (fun k hk => by rw [hdt k h hk, zero_mul, ite_self])]
    refine Finset.sum_congr rfl fun k _ => ?_
    rw [if_pos (by show k.val ≤ 7; omega), if_pos (by show k.val ≤ 3; omega)]
  rw [headNew, newOf_apply, sum_first]
  · simp only [headAt_apply, headCol_apply, headX_apply, headB_apply, pay18_apply, pay10_apply, pay11_apply, hc, hl, stS]
    congr 1
    · congr 1
      exact (congrArg (k0_pay3 st) (funext fun a => Fin.ext (by fin_cases a <;> simp [ix3, LoadRect.idx, Rect.toLoadRect]) : _ = ix3 h p n)).trans (pay3_apply st h p n)
    · refine Finset.sum_congr rfl fun r _ => ?_
      congr 3
      exact congrArg (ix2 _) (Fin.ext (Nat.add_assoc 512 _ _).symm)
  · intro k hk
    rw [headCol_apply, hdt k h hk, mul_zero, zero_mul, zero_mul]

end Cert.Proof.Ssd
-- ==== Proof.SsdArr.lean ====
/- What the state-space kernel leaves in the result arrays. -/
module

public import proofs.«01_k».proof.Proof.SsdPays
public import proofs.«01_k».proof.Proof.Gen.Kernel6Ideal.Value
public import Idealize.ShloMosaic.Lib.Pipeline.ValueKit
public import Idealize.ShloMosaic.Lib.StableHlo.ReadAt
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Cert.Kernel6Ideal Cert.Kernel6Ideal.Gen

namespace Cert.Proof.Ssd
open Cert.Proof.Ffn

variable (m : (ℓ : Loc nD τ sig) → Buf (Elt Ideal) ℓ) (c : Dev nD)

/-! ## The padded rows -/

theorem xbc_at (t : Fin 128) (r : Fin 4) (j : Fin 768) :
    V m c main_v5 (ix2 ⟨8 * t.val + r.val, by omega⟩ j) = m (c.tc.loc main_arg1) (ix2 ⟨4 * t.val + r.val, by omega⟩ j) := by
  unfold V
  after_reads_at
  have hr : (8 * t.val + r.val) % 8 = r.val := by omega
  refine (dif_pos (by omega)).trans ?_
  exact congrArg (m (c.tc.loc main_arg1)) (congrArg (ix2 · j) (Fin.ext (by show t.val * 4 + (8 * t.val + r.val) % 8 = _; simp only; omega)))

theorem dt_at (t : Fin 128) (r : Fin 4) (j : Fin 8) :
    V m c main_v8 (ix2 ⟨8 * t.val + r.val, by omega⟩ j) = m (c.tc.loc main_arg2) (ix2 ⟨4 * t.val + r.val, by omega⟩ j) := by
  unfold V
  after_reads_at
  have hr : (8 * t.val + r.val) % 8 = r.val := by omega
  refine (dif_pos (by omega)).trans ?_
  exact congrArg (m (c.tc.loc main_arg2)) (congrArg (ix2 · j) (Fin.ext (by show t.val * 4 + (8 * t.val + r.val) % 8 = _; simp only; omega)))

theorem bias_at (j : Fin 768) : V m c main_v9 (ix2 0 j) = m (c.tc.loc main_arg6) (ix1 j) := by
  unfold V
  after_reads_at
theorem dtb_at (j : Fin 8) : V m c main_v10 (ix2 0 j) = m (c.tc.loc main_arg7) (ix1 j) := by
  unfold V
  after_reads_at
theorem alog_at (j : Fin 8) : V m c main_v11 (ix2 0 j) = m (c.tc.loc main_arg8) (ix1 j) := by
  unfold V
  after_reads_at

theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx12 : ∀ t : Fin cfg0.N, win0_12.index t = ![t.val, 0, 0] := (by decide +kernel : ∀ t : Fin grid0.N, _)
theorem idx13 : ∀ t : Fin cfg0.N, win0_13.index t = ![t.val, 0, 0, 0] := (by decide +kernel : ∀ t : Fin grid0.N, _)

/-- A grid point's sequence. -/
def seqOf (t : Fin cfg0.N) : Fin 128 := ⟨t.val, lt_of_lt_of_eq t.isLt (show cfg0.N = 128 from N_0)⟩

theorem block1 (t : Fin cfg0.N) (r : Fin 4) (j : Fin 768) :
    iblk m c 1 t (ix2 ⟨r.val, by omega⟩ j) = m (c.tc.loc main_arg1) (ix2 ⟨4 * (seqOf t).val + r.val, by omega⟩ j) := by
  have e : ((cfg0.win 1).blk t).view.emb (ix2 ⟨r.val, by omega⟩ j) = (ix2 ⟨8 * (seqOf t).val + r.val, by omega⟩ j : S1024x768.Idx) := by
    refine funext fun a => Fin.ext ?_
    match a with
    | ⟨0, _⟩ => blk_simp [idx1]; simp only [seqOf]; simp; omega
    | ⟨1, _⟩ => blk_simp [idx1]
  refine Eq.trans ?_ (xbc_at m c (seqOf t) r j)
  blk_simp [iblk]
  rw [e]

theorem block2 (t : Fin cfg0.N) (r : Fin 4) (j : Fin 8) :
    iblk m c 2 t (ix2 ⟨r.val, by omega⟩ j) = m (c.tc.loc main_arg2) (ix2 ⟨4 * (seqOf t).val + r.val, by omega⟩ j) := by
  have e : ((cfg0.win 2).blk t).view.emb (ix2 ⟨r.val, by omega⟩ j) = (ix2 ⟨8 * (seqOf t).val + r.val, by omega⟩ j : S1024x8.Idx) := by
    refine funext fun a => Fin.ext ?_
    match a with
    | ⟨0, _⟩ => blk_simp [idx2]; simp only [seqOf]; simp; omega
    | ⟨1, _⟩ => blk_simp [idx2]
  refine Eq.trans ?_ (dt_at m c (seqOf t) r j)
  blk_simp [iblk]
  rw [e]

theorem block3 (t : Fin cfg0.N) (i : Fin 3) (j : Fin 768) : iblk m c 3 t (ix3 0 i j) = m (c.tc.loc main_arg3) (ix3 (seqOf t) i j) := by
  rw [← V_main_arg3 m c]
  blk_simp [iblk]
  refine congrArg _ (funext fun a => Fin.ext ?_)
  match a with
  | ⟨0, _⟩ => blk_simp [idx3]; rfl
  | ⟨1, _⟩ => blk_simp [idx3]
  | ⟨2, _⟩ => blk_simp [idx3]

theorem block4 (t : Fin cfg0.N) (h : Fin 8) (p n : Fin 64) : iblk m c 4 t (ix4 0 h p n) = m (c.tc.loc main_arg4) (ix4 (seqOf t) h p n) := by
  rw [← V_main_arg4 m c]
  blk_simp [iblk]
  refine congrArg _ (funext fun a => Fin.ext ?_)
  match a with
  | ⟨0, _⟩ => blk_simp [idx4]; rfl
  | ⟨1, _⟩ => blk_simp [idx4]
  | ⟨2, _⟩ => blk_simp [idx4]
  | ⟨3, _⟩ => blk_simp [idx4]

theorem block5 (t : Fin cfg0.N) (k : Fin 4) (j : Fin 768) : iblk m c 5 t (ix2 k j) = m (c.tc.loc main_arg5) (ix2 k j) := by
  rw [← V_main_arg5 m c]
  blk_simp [iblk]
  refine congrArg _ (funext fun a => Fin.ext ?_)
  match a with
  | ⟨0, _⟩ => blk_simp [idx5]
  | ⟨1, _⟩ => blk_simp [idx5]

theorem block6 (t : Fin cfg0.N) (j : Fin 768) : iblk m c 6 t (ix2 0 j) = m (c.tc.loc main_arg6) (ix1 j) := by
  have e : ((cfg0.win 6).blk t).view.emb (ix2 0 j) = (ix2 0 j : S1x768.Idx) := by
    refine funext fun a => Fin.ext ?_
    match a with
    | ⟨0, _⟩ => blk_simp [idx6]
    | ⟨1, _⟩ => blk_simp [idx6]
  refine Eq.trans ?_ (bias_at m c j)
  blk_simp [iblk]
  rw [e]

theorem block7 (t : Fin cfg0.N) (j : Fin 8) : iblk m c 7 t (ix2 0 j) = m (c.tc.loc main_arg7) (ix1 j) := by
  have e : ((cfg0.win 7).blk t).view.emb (ix2 0 j) = (ix2 0 j : S1x8.Idx) := by
    refine funext fun a => Fin.ext ?_
    match a with
    | ⟨0, _⟩ => blk_simp [idx7]
    | ⟨1, _⟩ => blk_simp [idx7]
  refine Eq.trans ?_ (dtb_at m c j)
  blk_simp [iblk]
  rw [e]

theorem block8 (t : Fin cfg0.N) (j : Fin 8) : iblk m c 8 t (ix2 0 j) = m (c.tc.loc main_arg8) (ix1 j) := by
  have e : ((cfg0.win 8).blk t).view.emb (ix2 0 j) = (ix2 0 j : S1x8.Idx) := by
    refine funext fun a => Fin.ext ?_
    match a with
    | ⟨0, _⟩ => blk_simp [idx8]
    | ⟨1, _⟩ => blk_simp [idx8]
  refine Eq.trans ?_ (alog_at m c j)
  blk_simp [iblk]
  rw [e]

/-! ## The recurrence of a sequence -/

section Args
variable (a1 : S512x768.Idx → EReal) (a2 : S512x8.Idx → EReal) (a3 : S128x3x768.Idx → EReal) (a4 : S128x8x64x64.Idx → EReal)
  (a5 : S4x768.Idx → EReal) (a6 : S768.Idx → EReal) (a7 a8 : S8.Idx → EReal) (s : Fin 128)

/-- A sequence's rows entering the convolution. -/
def xinA (k : Fin 7) (j : Fin 768) : EReal :=
  if hk : k.val < 3 then a3 (ix3 s ⟨k.val, hk⟩ j) else a1 (ix2 ⟨4 * s.val + (k.val - 3), by omega⟩ j)

/-- A sequence's rows after the convolution. -/
def uA (r : Fin 4) (j : Fin 768) : EReal := uS (xinA a1 a3 s) (fun k j => a5 (ix2 k j)) (fun j => a6 (ix1 j)) r j

/-- A sequence's steps. -/
def dtA (r : Fin 4) (h : Fin 8) : EReal := spS (a2 (ix2 ⟨4 * s.val + r.val, by omega⟩ h) + a7 (ix1 h))

/-- A sequence's new state. -/
def stA (h : Fin 8) (p n : Fin 64) : EReal :=
  stS (uA a1 a3 a5 a6 s) (dtA a2 a7 s) (fun h => -(Ideal.exp (a8 (ix1 h)))) (fun h p n => a4 (ix4 s h p n)) h p n

/-- The rows kept for the next tokens, and the new states. -/
def tailV : S128x3x768.Idx → EReal := fun i => xinA a1 a3 (i 0) ⟨4 + (i 1).val, by have := (i 1).isLt; simp at this; omega⟩ (i 2)
def stateV : S128x8x64x64.Idx → EReal := fun i => stA a1 a2 a3 a4 a5 a6 a7 a8 (i 0) (i 1) (i 2) (i 3)

end Args

theorem xin_at (t : Fin cfg0.N) (o : ℕ) (sz : Fin 2 → ℕ) (inb) (x : (Rect.unit (s := S16x768) ![o, 0] sz inb).shape.Idx) (k : Fin 7)
    (hk : o + (x 0).val = 5 + k.val) (j : Fin 768) (hj : (x 1).val = j.val) (inbA inbB) :
    View.readCov (Val := Elt Ideal) (View.whole cc0_scratch0) [⟨Rect.unit (s := S16x768) ![8, 0] ![8, 768] inbA, k0_pay5 (iblk m c 1 t)⟩, ⟨Rect.unit (s := S16x768) ![5, 0] ![3, 768] inbB, k0_pay4 (iblk m c 3 t)⟩]
        (Rect.unit (s := S16x768) ![o, 0] sz inb).toLoadRect x
      = xinA (m (c.tc.loc main_arg1)) (m (c.tc.loc main_arg3)) (seqOf t) k j := by
  refine (read_rows _ _ _ _ _ o sz inb x k.val hk (by omega) j hj).trans ?_
  unfold xinA
  split_ifs with h
  · refine Eq.trans ?_ (block3 m c t ⟨k.val, h⟩ j)
    pointwise [k0_pay4]
  · refine Eq.trans ?_ (block1 m c t ⟨k.val - 3, by omega⟩ j)
    pointwise [k0_pay5]

theorem ld_tap (t : Fin cfg0.N) (k : Fin 4) (inb) (j : Fin 768) :
    View.ld (iblk m c 5 t) (Rect.unit (s := S4x768) ![k.val, 0] ![1, 768] inb) (ix2 0 j) = m (c.tc.loc main_arg5) (ix2 k j) := by
  refine Eq.trans ?_ (block5 m c t k j)
  exact congrArg (iblk m c 5 t) (funext fun a => Fin.ext (by fin_cases a <;> simp [ix2, LoadRect.idx, Rect.toLoadRect]))

theorem conv_at (t : Fin cfg0.N) (r : Fin 4) (j : Fin 768) :
    siluS (cvOf m c t (ix2 ⟨r.val, by omega⟩ j)) = uA (m (c.tc.loc main_arg1)) (m (c.tc.loc main_arg3)) (m (c.tc.loc main_arg5)) (m (c.tc.loc main_arg6)) (seqOf t) r j := by
  unfold cvOf uA uS
  refine congrArg siluS ((pay6_apply _ _ _ _ _ _ _ _ _ _ _).trans ?_)
  refine congrArg₂ (α := EReal) (β := EReal) (· + ·) (congrArg₂ (α := EReal) (β := EReal) (· + ·) (congrArg₂ (α := EReal) (β := EReal) (· + ·)
    (congrArg₂ (α := EReal) (β := EReal) (· + ·) (block6 m c t j) ?_) ?_) ?_) ?_
  · exact congrArg₂ (α := EReal) (β := EReal) (· * ·) (xin_at m c t 5 _ _ (ix2 ⟨r.val, by omega⟩ j) _ (by simp [ix2]) j rfl _ _) (ld_tap m c t 0 _ j)
  · exact congrArg₂ (α := EReal) (β := EReal) (· * ·) (xin_at m c t 6 _ _ (ix2 ⟨r.val, by omega⟩ j) _ (by simp [ix2]; omega) j rfl _ _) (ld_tap m c t 1 _ j)
  · exact congrArg₂ (α := EReal) (β := EReal) (· * ·) (xin_at m c t 7 _ _ (ix2 ⟨r.val, by omega⟩ j) _ (by simp [ix2]; omega) j rfl _ _) (ld_tap m c t 2 _ j)
  · exact congrArg₂ (α := EReal) (β := EReal) (· * ·) (xin_at m c t 8 _ _ (ix2 ⟨r.val, by omega⟩ j) _ (by simp [ix2]; omega) j rfl _ _) (ld_tap m c t 3 _ j)

theorem step_at (t : Fin cfg0.N) (r : Fin 4) (h : Fin 8) :
    k0_pay13 (iblk m c 2 t) (iblk m c 7 t) (ix2 ⟨r.val, by omega⟩ h) = dtA (m (c.tc.loc main_arg2)) (m (c.tc.loc main_arg7)) (seqOf t) r h := by
  refine (pay13_apply _ _ _ _).trans ?_
  rw [if_pos (show r.val < 4 from r.isLt)]
  exact congrArg spS (congrArg₂ (α := EReal) (β := EReal) (· + ·) (block2 m c t r h) (block7 m c t h))

theorem state_at (t : Fin cfg0.N) (h : Fin 8) (p n : Fin 64) : (outsAt0 m c t).2.2 (ix4 0 h p n)
    = stA (m (c.tc.loc main_arg1)) (m (c.tc.loc main_arg2)) (m (c.tc.loc main_arg3)) (m (c.tc.loc main_arg4)) (m (c.tc.loc main_arg5)) (m (c.tc.loc main_arg6))
        (m (c.tc.loc main_arg7)) (m (c.tc.loc main_arg8)) (seqOf t) h p n := by
  refine (state_apply m c t h p n).trans ?_
  refine (headNew_apply _ _ _ _ (fun k h hk => (pay13_apply _ _ _ _).trans (if_neg (by omega))) h p n).trans ?_
  simp only [conv_at, step_at, block8, block4]
  rfl

theorem tail_at (t : Fin cfg0.N) (i : Fin 3) (j : Fin 768) : (outsAt0 m c t).2.1 (ix3 0 i j)
    = xinA (m (c.tc.loc main_arg1)) (m (c.tc.loc main_arg3)) (seqOf t) ⟨4 + i.val, by omega⟩ j := by
  refine (tail_apply m c t i j).trans ?_
  unfold xinA
  rw [dif_neg (by show ¬ 4 + i.val < 3; omega)]
  refine (block1 m c t ⟨1 + i.val, by omega⟩ j).trans ?_
  refine congrArg (m (c.tc.loc main_arg1)) (congrArg (ix2 · j) (Fin.ext ?_))
  show 4 * (seqOf t).val + (1 + i.val) = 4 * (seqOf t).val + (4 + i.val - 3)
  omega

theorem final12 : (dats m 0 c).arrAt 12 cfg0.N = tailV (m (c.tc.loc main_arg1)) (m (c.tc.loc main_arg3)) := by
  refine (dats m 0 c).arrAt_eq_of_covers 12 _ (by decide +kernel) fun t hf y => ?_
  have F : (dats m 0 c).flushed 12 t y = _ := congrFun (Cert.Kernel6Ideal.Value.flushed12 m c t) y
  refine Eq.trans F ?_
  obtain ⟨i, j, rfl⟩ : ∃ (i : Fin 3) (j : Fin 768), y = ix3 0 i j := ⟨y 1, y 2, funext fun a => by match a with | ⟨0, _⟩ => exact Subsingleton.elim (α := Fin 1) _ _ | ⟨1, _⟩ => rfl | ⟨2, _⟩ => rfl⟩
  have e : ((cfg0.win 12).blk t).view.emb (ix3 0 i j) = (ix3 (seqOf t) i j : S128x3x768.Idx) := by
    refine funext fun a => Fin.ext ?_
    match a with
    | ⟨0, _⟩ => blk_simp [idx12]; rfl
    | ⟨1, _⟩ => blk_simp [idx12]
    | ⟨2, _⟩ => blk_simp [idx12]
  rw [e]
  exact tail_at m c t i j

theorem final13 : (dats m 0 c).arrAt 13 cfg0.N = stateV (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) := by
  refine (dats m 0 c).arrAt_eq_of_covers 13 _ (by decide +kernel) fun t hf y => ?_
  have F : (dats m 0 c).flushed 13 t y = _ := congrFun (Cert.Kernel6Ideal.Value.flushed13 m c t) y
  refine Eq.trans F ?_
  obtain ⟨h, p, n, rfl⟩ : ∃ (h : Fin 8) (p n : Fin 64), y = ix4 0 h p n := ⟨y 1, y 2, y 3, funext fun a => by match a with | ⟨0, _⟩ => exact Subsingleton.elim (α := Fin 1) _ _ | ⟨1, _⟩ => rfl | ⟨2, _⟩ => rfl | ⟨3, _⟩ => rfl⟩
  have e : ((cfg0.win 13).blk t).view.emb (ix4 0 h p n) = (ix4 (seqOf t) h p n : S128x8x64x64.Idx) := by
    refine funext fun a => Fin.ext ?_
    match a with
    | ⟨0, _⟩ => blk_simp [idx13]; rfl
    | ⟨1, _⟩ => blk_simp [idx13]
    | ⟨2, _⟩ => blk_simp [idx13]
    | ⟨3, _⟩ => blk_simp [idx13]
  rw [e]
  exact state_at m c t h p n

end Cert.Proof.Ssd
-- ==== Proof.SsdRef.lean ====
/- The state-space scan's reference, read at an index. -/
module

public import proofs.«01_k».proof.Proof.SsdArr
public import proofs.«01_k».proof.Proof.Gen.Reference6Ideal.Run
public import proofs.«01_k».proof.Proof.Gen.Kernel6Ideal.Value
public import Idealize.ShloMosaic.Lib.Pipeline.ValueKit
public import Idealize.ShloMosaic.Lib.StableHlo.ReadAt
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Cert.Reference6Ideal Cert.Reference6Ideal.Gen Cert.Reference6Ideal.Value

namespace Cert.Proof.SsdRef
open Cert.Proof.Ffn Cert.Proof.Ssd

section Stages
variable {F : FTy → Type} [FloatOps F]

/-- The rows kept from earlier tokens, then the new ones. -/
def joinV (a3 : FVec F S128x3x768 .f32) (a1 : FVec F S512x768 .f32) : FVec F S128x7x768 .f32 :=
  concatenate S128x7x768 1 [⟨S128x3x768, a3⟩, ⟨S128x4x768, (shapeCast _ a1 shapeCasts_S512x768_S128x4x768)⟩] concatenates_S128x3x768_S128x4x768_S128x7x768_d1

/-- The rows kept for later tokens. -/
def keptV (x : FVec F S128x7x768 .f32) : FVec F S128x3x768 .f32 :=
  extractStridedSlice S128x3x768 ![0, 4, 0] x slices_S128x7x768_S128x3x768_0_4_0

/-- A tap's weights over the rows. -/
def tapV (w : FVec F S1x768 .f32) : FVec F S128x4x768 .f32 :=
  broadcastInDim S128x4x768 ![0, 1, 2] bcast_S1x1x768_S128x4x768_0_1_2 (broadcastInDim S1x1x768 ![2] bcast_S768_S1x1x768_2 (shapeCast _ w shapeCasts_S1x768_S768))

/-- The rows after the convolution. -/
def convV (x : FVec F S128x7x768 .f32) (w : FVec F S4x768 .f32) (b : FVec F S768 .f32) : FVec F S128x4x768 .f32 :=
  addf (addf (addf (addf (broadcastInDim S128x4x768 ![0, 1, 2] bcast_S1x1x768_S128x4x768_0_1_2 (broadcastInDim S1x1x768 ![2] bcast_S768_S1x1x768_2 b))
    (mulf (extractStridedSlice S128x4x768 ![0, 0, 0] x slices_S128x7x768_S128x4x768_0_0_0) (tapV (extractStridedSlice S1x768 ![0, 0] w slices_S4x768_S1x768_0_0))))
    (mulf (extractStridedSlice S128x4x768 ![0, 1, 0] x slices_S128x7x768_S128x4x768_0_1_0) (tapV (extractStridedSlice S1x768 ![1, 0] w slices_S4x768_S1x768_1_0))))
    (mulf (extractStridedSlice S128x4x768 ![0, 2, 0] x slices_S128x7x768_S128x4x768_0_2_0) (tapV (extractStridedSlice S1x768 ![2, 0] w slices_S4x768_S1x768_2_0))))
    (mulf (extractStridedSlice S128x4x768 ![0, 3, 0] x slices_S128x7x768_S128x4x768_0_3_0) (tapV (extractStridedSlice S1x768 ![3, 0] w slices_S4x768_S1x768_3_0)))

/-- The activation of the rows. -/
def actV (x : FVec F S128x4x768 .f32) : FVec F S128x4x768 .f32 :=
  mulf x (Host.divf (broadcastInDim S128x4x768 ![] bcast_S_S128x4x768 (constant S_ .f32 0x3F800000#32)) (addf (broadcastInDim S128x4x768 ![] bcast_S_S128x4x768 (constant S_ .f32 0x3F800000#32)) (Host.exp (Host.negf x))))

/-- The heads' inputs. -/
def headV (u : FVec F S128x4x768 .f32) : FVec F S128x4x8x64 .f32 :=
  shapeCast _ (extractStridedSlice S128x4x512 ![0, 0, 0] u slices_S128x4x768_S128x4x512_0_0_0) shapeCasts_S128x4x512_S128x4x8x64

/-- The heads' input directions, one for each group of four heads. -/
def dirV (u : FVec F S128x4x768 .f32) : FVec F S128x4x8x64 .f32 :=
  concatenate S128x4x8x64 2 [⟨S128x4x4x64, (broadcastInDim S128x4x4x64 ![0, 1, 2, 3] bcast_S128x4x1x64_S128x4x4x64_0_1_2_3 (broadcastInDim S128x4x1x64 ![0, 1, 3] bcast_S128x4x64_S128x4x1x64_0_1_3 (extractStridedSlice S128x4x64 ![0, 0, 512] u slices_S128x4x768_S128x4x64_0_0_512)))⟩,
    ⟨S128x4x4x64, (broadcastInDim S128x4x4x64 ![0, 1, 2, 3] bcast_S128x4x1x64_S128x4x4x64_0_1_2_3 (broadcastInDim S128x4x1x64 ![0, 1, 3] bcast_S128x4x64_S128x4x1x64_0_1_3 (extractStridedSlice S128x4x64 ![0, 0, 576] u slices_S128x4x768_S128x4x64_0_0_576)))⟩] concatenates_S128x4x4x64_S128x4x4x64_S128x4x8x64_d2

/-- The steps before their softplus. -/
def rawV (d : FVec F S512x8 .f32) (b : FVec F S8 .f32) : FVec F S128x4x8 .f32 :=
  addf (shapeCast _ d shapeCasts_S512x8_S128x4x8) (broadcastInDim S128x4x8 ![0, 1, 2] bcast_S1x1x8_S128x4x8_0_1_2 (broadcastInDim S1x1x8 ![2] bcast_S8_S1x1x8_2 b))

/-- The softplus of the steps. -/
def stepV (x : FVec F S128x4x8 .f32) : FVec F S128x4x8 .f32 :=
  select (cmpf .une (subf x (broadcastInDim S128x4x8 ![] bcast_S_S128x4x8 (constant S_ .f32 0x00000000#32))) (subf x (broadcastInDim S128x4x8 ![] bcast_S_S128x4x8 (constant S_ .f32 0x00000000#32))))
    (addf x (broadcastInDim S128x4x8 ![] bcast_S_S128x4x8 (constant S_ .f32 0x00000000#32)))
    (addf (maximumf x (broadcastInDim S128x4x8 ![] bcast_S_S128x4x8 (constant S_ .f32 0x00000000#32))) (Host.log1p (Host.exp (Host.negf (Host.absf (subf x (broadcastInDim S128x4x8 ![] bcast_S_S128x4x8 (constant S_ .f32 0x00000000#32))))))))

/-- The steps times the rates. -/
def rateV (d : FVec F S128x4x8 .f32) (al : FVec F S8 .f32) : FVec F S128x4x8 .f32 :=
  mulf d (broadcastInDim S128x4x8 ![0, 1, 2] bcast_S1x1x8_S128x4x8_0_1_2 (broadcastInDim S1x1x8 ![2] bcast_S8_S1x1x8_2 (Host.negf (Host.exp al))))

/-- Which tokens come no later. -/
def uptoV : IVec S4x4 1 :=
  select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))

/-- The terms of each token's sum. -/
def termsV (a : FVec F S128x4x8 .f32) : FVec F S128x4x4x8 .f32 :=
  select (broadcastInDim S128x4x4x8 ![0, 1, 2, 3] bcast_S1x4x4x1_S128x4x4x8_0_1_2_3 (broadcastInDim S1x4x4x1 ![1, 2] bcast_S4x4_S1x4x4x1_1_2 uptoV))
    (broadcastInDim S128x4x4x8 ![0, 1, 2, 3] bcast_S128x1x4x8_S128x4x4x8_0_1_2_3 (broadcastInDim S128x1x4x8 ![0, 2, 3] bcast_S128x4x8_S128x1x4x8_0_2_3 a))
    (broadcastInDim S128x4x4x8 ![] bcast_S_S128x4x4x8 (id (constant S_ .f32 0x00000000#32)))

/-- The sums up to each token. -/
def sumsV (t : FVec F S128x4x4x8 .f32) : FVec F S128x4x8 .f32 :=
  Host.reduceAdd t (constant S_ .f32 0x00000000#32) reducesTo_S128x4x4x8_S128x4x8_d2 h_S_

/-- The sum over all four tokens. -/
def lastV (s : FVec F S128x4x8 .f32) : FVec F S128x8 .f32 :=
  shapeCast _ (extractStridedSlice S128x1x8 ![0, 3, 0] s slices_S128x4x8_S128x1x8_0_3_0) shapeCasts_S128x1x8_S128x8

/-- What remains of each token at the last. -/
def decayV (s : FVec F S128x4x8 .f32) : FVec F S128x4x8 .f32 :=
  Host.exp (subf (broadcastInDim S128x4x8 ![0, 1, 2] bcast_S128x1x8_S128x4x8_0_1_2 (broadcastInDim S128x1x8 ![0, 2] bcast_S128x8_S128x1x8_0_2 (lastV s))) s)

/-- A number for each token and head, over the head's entries. -/
def wideV (d : FVec F S128x4x8 .f32) : FVec F S128x4x8x64 .f32 :=
  broadcastInDim S128x4x8x64 ![0, 1, 2, 3] bcast_S128x4x8x1_S128x4x8x64_0_1_2_3 (broadcastInDim S128x4x8x1 ![0, 1, 2] bcast_S128x4x8_S128x4x8x1_0_1_2 d)

/-- What the four tokens add to the states. -/
def addedV (x b : FVec F S128x4x8x64 .f32) (d e : FVec F S128x4x8 .f32) : FVec F S128x8x64x64 .f32 :=
  Host.dotGeneral dot_S128x4x8x64_S128x4x8x64_S128x8x64x64_1_1_3_3_02_02 none (mulf (mulf x (wideV d)) (wideV e)) b

/-- The earlier states, decayed, and what the tokens add. -/
def newV (l : FVec F S128x8 .f32) (st n : FVec F S128x8x64x64 .f32) : FVec F S128x8x64x64 .f32 :=
  addf (mulf (broadcastInDim S128x8x64x64 ![0, 1, 2, 3] bcast_S128x8x1x1_S128x8x64x64_0_1_2_3 (broadcastInDim S128x8x1x1 ![0, 1] bcast_S128x8_S128x8x1x1_0_1 (Host.exp l))) st) n

/-- The rows after convolution and activation, from the arguments. -/
def rowsV (a1 : FVec F S512x768 .f32) (a3 : FVec F S128x3x768 .f32) (a5 : FVec F S4x768 .f32) (a6 : FVec F S768 .f32) : FVec F S128x4x768 .f32 :=
  actV (convV (joinV a3 a1) a5 a6)

/-- The sums, from the steps. -/
def cumV (d : FVec F S128x4x8 .f32) (a8 : FVec F S8 .f32) : FVec F S128x4x8 .f32 := sumsV (termsV (rateV d a8))

/-- The states, from the rows and the steps. -/
def scanV (u : FVec F S128x4x768 .f32) (d : FVec F S128x4x8 .f32) (a4 : FVec F S128x8x64x64 .f32) (a8 : FVec F S8 .f32) : FVec F S128x8x64x64 .f32 :=
  newV (lastV (cumV d a8)) a4 (addedV (headV u) (dirV u) d (decayV (cumV d a8)))

/-- The states, from the arguments. -/
def refV (a1 : FVec F S512x768 .f32) (a2 : FVec F S512x8 .f32) (a3 : FVec F S128x3x768 .f32) (a4 : FVec F S128x8x64x64 .f32) (a5 : FVec F S4x768 .f32)
    (a6 : FVec F S768 .f32) (a7 a8 : FVec F S8 .f32) : FVec F S128x8x64x64 .f32 :=
  scanV (rowsV a1 a3 a5 a6) (stepV (rawV a2 a7)) a4 a8

variable (m : (ℓ : Loc nD τ sig) → Buf (Elt F) ℓ) (c : Dev nD)

theorem run_eq : res_main_v76 m c = refV (F := F) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) := by
  unfold res_main_v76
  rfl

end Stages

/-! ## The stages at an index -/

theorem joinV_apply (a3 : FVec Ideal S128x3x768 .f32) (a1 : FVec Ideal S512x768 .f32) (s : Fin 128) (k : Fin 7) (j : Fin 768) :
    joinV (F := Ideal) a3 a1 (ix3 s k j) = xinA a1 a3 s k j := by
  unfold xinA
  pointwise [joinV]
  exact dite_congr rfl (fun _ => rfl) fun hk => congrArg a1 (congrArg (ix2 · j) (Fin.ext (by show s.val * 4 + (k.val - 3) = _; simp only; omega)))

theorem keptV_apply (x : FVec Ideal S128x7x768 .f32) (s : Fin 128) (k : Fin 3) (j : Fin 768) :
    keptV (F := Ideal) x (ix3 s k j) = x (ix3 s ⟨4 + k.val, by omega⟩ j) := by
  pointwise [keptV]

theorem tapV_apply (w : FVec Ideal S1x768 .f32) (s : Fin 128) (r : Fin 4) (j : Fin 768) : tapV (F := Ideal) w (ix3 s r j) = w (ix2 0 j) := by
  pointwise [tapV]

theorem convV_apply (x : FVec Ideal S128x7x768 .f32) (w : FVec Ideal S4x768 .f32) (b : FVec Ideal S768 .f32) (s : Fin 128) (r : Fin 4) (j : Fin 768) :
    convV (F := Ideal) x w b (ix3 s r j)
      = b (ix1 j) + x (ix3 s ⟨r.val, by omega⟩ j) * w (ix2 0 j) + x (ix3 s ⟨r.val + 1, by omega⟩ j) * w (ix2 1 j)
        + x (ix3 s ⟨r.val + 2, by omega⟩ j) * w (ix2 2 j) + x (ix3 s ⟨r.val + 3, by omega⟩ j) * w (ix2 3 j) := by
  pointwise [convV, tapV]
  have e (o : ℕ) (ho : o + r.val < 7) (ho' : r.val + o < 7) : x (ix3 s ⟨o + r.val, ho⟩ j) = x (ix3 s ⟨r.val + o, ho'⟩ j) := by simp only [Nat.add_comm]
  rw [e 1, e 2, e 3]

theorem actV_apply (x : FVec Ideal S128x4x768 .f32) (s : Fin 128) (r : Fin 4) (j : Fin 768) : actV (F := Ideal) x (ix3 s r j) = siluS (x (ix3 s r j)) := by
  unfold siluS
  pointwise [actV]

theorem headV_apply (u : FVec Ideal S128x4x768 .f32) (s : Fin 128) (r : Fin 4) (h : Fin 8) (p : Fin 64) :
    headV (F := Ideal) u (ix4 s r h p) = u (ix3 s r ⟨64 * h.val + p.val, by omega⟩) := by
  pointwise [headV]
  simp only [Nat.mul_comm]

theorem dirV_apply (u : FVec Ideal S128x4x768 .f32) (s : Fin 128) (r : Fin 4) (h : Fin 8) (n : Fin 64) :
    dirV (F := Ideal) u (ix4 s r h n) = u (ix3 s r ⟨512 + 64 * (h.val / 4) + n.val, by omega⟩) := by
  pointwise [dirV]
  split_ifs with hh
  · exact congrArg u (congrArg (ix3 s r) (Fin.ext (by simp only; omega)))
  · exact congrArg u (congrArg (ix3 s r) (Fin.ext (by simp only; omega)))

theorem rawV_apply (d : FVec Ideal S512x8 .f32) (b : FVec Ideal S8 .f32) (s : Fin 128) (r : Fin 4) (h : Fin 8) :
    rawV (F := Ideal) d b (ix3 s r h) = d (ix2 ⟨4 * s.val + r.val, by omega⟩ h) + b (ix1 h) := by
  pointwise [rawV]
  simp only [Nat.mul_comm]

theorem stepV_apply (x : FVec Ideal S128x4x8 .f32) (s : Fin 128) (r : Fin 4) (h : Fin 8) : stepV (F := Ideal) x (ix3 s r h) = spS (x (ix3 s r h)) := by
  unfold spS
  pointwise [stepV]
  rw [if_neg (fun h => h rfl)]

theorem rateV_apply (d : FVec Ideal S128x4x8 .f32) (al : FVec Ideal S8 .f32) (s : Fin 128) (r : Fin 4) (h : Fin 8) :
    rateV (F := Ideal) d al (ix3 s r h) = d (ix3 s r h) * -(Ideal.exp (al (ix1 h))) := by
  pointwise [rateV]

theorem uptoV_apply (r k : Fin 4) : uptoV (ix2 r k) = if k ≤ r then 1#1 else 0#1 := by
  revert r k; decide

theorem termsV_apply (a : FVec Ideal S128x4x8 .f32) (s : Fin 128) (r k : Fin 4) (h : Fin 8) :
    termsV (F := Ideal) a (ix4 s r k h) = if k ≤ r then (a (ix3 s k h) : EReal) else 0 := by
  pointwise [termsV]
  have z : (id (constant (F := Ideal) S_ .f32 0x00000000#32) ix0 : EReal) = 0 := by simp [constant, Ideal.ofBits, Ideal.ieee]
  rw [uptoV_apply, z]
  split_ifs <;> rfl

theorem sumsV_apply (t : FVec Ideal S128x4x4x8 .f32) (s : Fin 128) (r : Fin 4) (h : Fin 8) :
    sumsV (F := Ideal) t (ix3 s r h) = ∑ k : Fin 4, (t (ix4 s r k h) : EReal) := by
  pointwise [sumsV]

theorem lastV_apply (x : FVec Ideal S128x4x8 .f32) (s : Fin 128) (h : Fin 8) : lastV (F := Ideal) x (ix2 s h) = x (ix3 s 3 h) := by
  pointwise [lastV]

theorem decayV_apply (x : FVec Ideal S128x4x8 .f32) (s : Fin 128) (r : Fin 4) (h : Fin 8) :
    decayV (F := Ideal) x (ix3 s r h) = Ideal.exp (x (ix3 s 3 h) - x (ix3 s r h)) := by
  rw [← lastV_apply x s h]
  pointwise [decayV]

theorem wideV_apply (d : FVec Ideal S128x4x8 .f32) (s : Fin 128) (r : Fin 4) (h : Fin 8) (p : Fin 64) : wideV (F := Ideal) d (ix4 s r h p) = d (ix3 s r h) := by
  pointwise [wideV]

theorem addedV_apply (x b : FVec Ideal S128x4x8x64 .f32) (d e : FVec Ideal S128x4x8 .f32) (s : Fin 128) (h : Fin 8) (p n : Fin 64) :
    addedV (F := Ideal) x b d e (ix4 s h p n) = ∑ r : Fin 4, x (ix4 s r h p) * d (ix3 s r h) * e (ix3 s r h) * b (ix4 s r h n) := by
  pointwise [addedV]
  simp only [wideV_apply]

theorem newV_apply (l : FVec Ideal S128x8 .f32) (st n : FVec Ideal S128x8x64x64 .f32) (s : Fin 128) (h : Fin 8) (p q : Fin 64) :
    newV (F := Ideal) l st n (ix4 s h p q) = Ideal.exp (l (ix2 s h)) * st (ix4 s h p q) + n (ix4 s h p q) := by
  pointwise [newV]

/-! ## The reference at an index -/

theorem rowsV_apply (a1 : FVec Ideal S512x768 .f32) (a3 : FVec Ideal S128x3x768 .f32) (a5 : FVec Ideal S4x768 .f32) (a6 : FVec Ideal S768 .f32) (s : Fin 128) (r : Fin 4) (j : Fin 768) :
    rowsV (F := Ideal) a1 a3 a5 a6 (ix3 s r j) = uA a1 a3 a5 a6 s r j := by
  unfold rowsV
  rw [actV_apply, convV_apply]
  simp only [joinV_apply]
  rfl

theorem cumV_apply (d : FVec Ideal S128x4x8 .f32) (a8 : FVec Ideal S8 .f32) (s : Fin 128) (r : Fin 4) (h : Fin 8) :
    cumV (F := Ideal) d a8 (ix3 s r h) = cumS (fun r h => d (ix3 s r h)) (fun h => -(Ideal.exp (a8 (ix1 h)))) r h := by
  unfold cumV
  rw [sumsV_apply]
  simp only [termsV_apply, rateV_apply]
  rfl

theorem refV_apply (a1 : FVec Ideal S512x768 .f32) (a2 : FVec Ideal S512x8 .f32) (a3 : FVec Ideal S128x3x768 .f32) (a4 : FVec Ideal S128x8x64x64 .f32)
    (a5 : FVec Ideal S4x768 .f32) (a6 : FVec Ideal S768 .f32) (a7 a8 : FVec Ideal S8 .f32) : refV (F := Ideal) a1 a2 a3 a4 a5 a6 a7 a8 = stateV a1 a2 a3 a4 a5 a6 a7 a8 := by
  funext i
  obtain ⟨s, h, p, n, rfl⟩ : ∃ (s : Fin 128) (h : Fin 8) (p n : Fin 64), i = ix4 s h p n := ⟨i 0, i 1, i 2, i 3, funext fun a => by match a with | ⟨0, _⟩ => rfl | ⟨1, _⟩ => rfl | ⟨2, _⟩ => rfl | ⟨3, _⟩ => rfl⟩
  unfold refV scanV
  rw [newV_apply, addedV_apply, lastV_apply]
  simp only [headV_apply, dirV_apply, decayV_apply, cumV_apply, rowsV_apply, stepV_apply, rawV_apply]
  rfl

theorem kept_apply (a1 : FVec Ideal S512x768 .f32) (a3 : FVec Ideal S128x3x768 .f32) : keptV (F := Ideal) (joinV a3 a1) = tailV a1 a3 := by
  funext i
  obtain ⟨s, k, j, rfl⟩ : ∃ (s : Fin 128) (k : Fin 3) (j : Fin 768), i = ix3 s k j := ⟨i 0, i 1, i 2, funext fun a => by match a with | ⟨0, _⟩ => rfl | ⟨1, _⟩ => rfl | ⟨2, _⟩ => rfl⟩
  rw [keptV_apply, joinV_apply]
  rfl

end Cert.Proof.SsdRef
-- ==== Proof.Ssd.lean ====
/- The state-space call on the sample: its claims. -/
module

public import proofs.«01_k».proof.Proof.SsdRef
public import proofs.«01_k».proof.Proof.Gen.Kernel6.Frame
public import proofs.«01_k».proof.Proof.Gen.Kernel6Ideal.Value
public import proofs.«01_k».proof.Proof.Gen.Reference6Ideal.Run
public import proofs.«01_k».proof.Defs
public import Idealize.ShloMosaic.Lib.Quiescent
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Proof.Ssd

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)
theorem preserves : Cert.preserves_Kernel6_Kernel6Ideal := trivial

/-- The kept rows and the new states are the reference's. -/
theorem algebraic : Cert.algebraic_Kernel6Ideal_Reference6Ideal := by
  intro m g m' g' _ hag
  refine ⟨fun c => tailV (m (c.tc.loc Cert.Kernel6Ideal.main_arg1)) (m (c.tc.loc Cert.Kernel6Ideal.main_arg3)),
    fun c => stateV (m (c.tc.loc Cert.Kernel6Ideal.main_arg1)) (m (c.tc.loc Cert.Kernel6Ideal.main_arg2)) (m (c.tc.loc Cert.Kernel6Ideal.main_arg3))
      (m (c.tc.loc Cert.Kernel6Ideal.main_arg4)) (m (c.tc.loc Cert.Kernel6Ideal.main_arg5)) (m (c.tc.loc Cert.Kernel6Ideal.main_arg6))
      (m (c.tc.loc Cert.Kernel6Ideal.main_arg7)) (m (c.tc.loc Cert.Kernel6Ideal.main_arg8)),
    (θ_run _ _ _).mono (fun _ h c => ?_) (Cert.Kernel6Ideal.Value.run_blocks m g),
    (θ_run _ _ _).mono (fun _ h c => ?_) (Cert.Reference6Ideal.Value.run m' g')⟩
  · obtain ⟨_, h0, h1, ha⟩ := h c
    exact ⟨h0.trans (final12 m c), h1.trans (final13 m c), ha⟩
  · obtain ⟨a0, a1, a2, a3, a4, a5, a6, a7, a8, a9, a10⟩ := hag c
    obtain ⟨h0, h1, ha⟩ := h c
    refine ⟨h0.trans ?_, h1.trans ?_, ha⟩
    · refine Eq.trans (SsdRef.kept_apply (m' (c.tc.loc Cert.Reference6Ideal.main_arg1)) (m' (c.tc.loc Cert.Reference6Ideal.main_arg3))) ?_
      rw [a1, a3]
    · refine Eq.trans ((SsdRef.run_eq m' c).trans (SsdRef.refV_apply _ _ _ _ _ _ _ _)) ?_
      rw [a1, a2, a3, a4, a5, a6, a7, a8]

end Cert.Proof.Ssd
-- ==== Proof.QueryKernel.lean ====
/- What the query projection's kernel writes: per head the queries against the latents, then the rotated queries, then zeros. -/
module

public import proofs.«01_k».proof.Proof.InProjKernel
public import proofs.«01_k».proof.Proof.Gen.Kernel7Ideal.Value

@[expose] public section

set_option maxRecDepth 16384
set_option maxHeartbeats 1000000

noncomputable section

open Idealize.ShloMosaic Idealize.ShloMosaic.TcCoe Idealize.SL.Sem
open Cert.Kernel7Ideal Cert.Kernel7Ideal.Gen Cert.Kernel7Ideal.Value

namespace Cert.Proof.Query
open Cert.Proof.InProj (IsNum sum_neg twice angV tabV tabV_apply zeroV csAt snAt rowsV)

/-! ## The row in plain terms -/

/-- Thirty-two entries rotated in pairs, an entry with the one sixteen after it. -/
def turn (p : Fin 32 → EReal) (cs sn : Fin 16 → EReal) (i : Fin 32) : EReal :=
  if h : i.val < 16 then p ⟨i.val, by omega⟩ * cs ⟨i.val, h⟩ - p ⟨16 + i.val, by omega⟩ * sn ⟨i.val, h⟩
  else p ⟨i.val - 16, by omega⟩ * sn ⟨i.val - 16, by omega⟩ + p ⟨16 + (i.val - 16), by omega⟩ * cs ⟨i.val - 16, by omega⟩

/-- Column `j` of a token's queries: in each head's 256 columns the products with the latent weights, the rotated
    products with the rotary weights, and zeros. -/
def qRow (x : Fin 256 → EReal) (a : Fin 256 → Fin 8 → Fin 128 → EReal) (w : Fin 256 → Fin 768 → EReal)
    (cs sn : Fin 16 → EReal) (j : Fin 2048) : EReal :=
  if h : j.val % 256 < 128 then ∑ k, x k * a k ⟨j.val / 256, by omega⟩ ⟨j.val % 256, h⟩
  else if h' : j.val % 256 < 160 then
    turn (fun i => ∑ k, x k * w k ⟨96 * (j.val / 256) + (64 + i.val), by omega⟩) cs sn ⟨j.val % 256 - 128, by omega⟩
  else 0

/-! ## The stores read back -/

theorem colInb (g : Fin 16) : ∀ a, (![0, 128 * g.val] : Fin 2 → ℕ) a + S512x128.size a ≤ S512x2048.size a := by
  revert g; decide

/-- The `g`-th 128 columns of the result. -/
abbrev colR (g : Fin 16) : Rect S512x2048 := Rect.unit ![0, 128 * g.val] S512x128.size (colInb g)

/-- Column `d` of the `g`-th 128. -/
def col (g : Fin 16) (d : Fin 128) : Fin 2048 := ⟨128 * g.val + d.val, by omega⟩

section Lists
variable {Val : EltTy → Type} [∀ e, Nonempty (Val e)] {e : EltTy}

abbrev cols16 (W : Fin 16 → S512x128.Idx → Val e) : List (View.Piece Val S512x2048 e) :=
  [⟨colR 15, W 15⟩, ⟨colR 14, W 14⟩, ⟨colR 13, W 13⟩, ⟨colR 12, W 12⟩, ⟨colR 11, W 11⟩, ⟨colR 10, W 10⟩, ⟨colR 9, W 9⟩, ⟨colR 8, W 8⟩,
    ⟨colR 7, W 7⟩, ⟨colR 6, W 6⟩, ⟨colR 5, W 5⟩, ⟨colR 4, W 4⟩, ⟨colR 3, W 3⟩, ⟨colR 2, W 2⟩, ⟨colR 1, W 1⟩, ⟨colR 0, W 0⟩]

theorem canon_col_cons (g g' : Fin 16) (w : S512x128.Idx → Val e) (L : List (View.Piece Val S512x2048 e)) (r : Fin 512) (d : Fin 128) :
    View.canon (⟨colR g', w⟩ :: L) (ix2 r (col g d)) = if g = g' then w (ix2 r d) else View.canon L (ix2 r (col g d)) := by
  split_ifs with hh
  · subst hh
    have e' : (ix2 r (col g d) : S512x2048.Idx) = (colR g).emb (ix2 r d) := funext fun a => Fin.ext (by
      fin_cases a <;> simp [ix2, col])
    rw [e']
    exact View.canon_cons_emb (colR g) w L (ix2 r d)
  · refine View.canon_cons_of_not_mem _ L fun hm => hh ?_
    obtain ⟨x, hx⟩ := (colR g').exists_idx_of_mem hm
    have h1 := congrArg Fin.val (congrFun hx 1)
    have h2 : 128 * g'.val + (x 1).val = 128 * g.val + d.val := by
      simpa [ix2, col] using h1
    have h3 : (x 1).val < 128 := (x 1).isLt
    exact Fin.ext (by omega)

theorem canon_cols16 (W : Fin 16 → S512x128.Idx → Val e) (g : Fin 16) (r : Fin 512) (d : Fin 128) :
    View.canon (cols16 W) (ix2 r (col g d)) = W g (ix2 r d) := by
  simp only [cols16, canon_col_cons]
  fin_cases g <;> rfl

end Lists

theorem slQ (g : Fin 16) : S512x2048.Slices ![0, 128 * g.val] S512x128 := by revert g; decide
theorem slT (g : Fin 16) : S512x1024.Slices ![0, 128 * (g.val / 2)] S512x128 := by revert g; decide

section Generic
variable {F : FTy → Type} [FloatOps F] [Named F]

/-- A head's queries against the latents. -/
def latP (g : Fin 16) (q : FVec F S512x2048 .f32) : FVec F S512x128 .bf16 :=
  truncf .bf16 (extractStridedSlice S512x128 ![0, 128 * g.val] q (slQ g)) bitsLt_bf16_f32

/-- A head's rotated queries. -/
def ropeP (g : Fin 16) (q : FVec F S512x2048 .f32) (t : FVec F S512x1024 .f32) (cs sn : FVec F S512x128 .f32) : FVec F S512x128 .bf16 :=
  truncf .bf16 (addf (mulf (extractStridedSlice S512x128 ![0, 128 * g.val] q (slQ g)) cs)
    (mulf (extractStridedSlice S512x128 ![0, 128 * (g.val / 2)] t (slT g)) sn)) bitsLt_bf16_f32

/-- What the `g`-th store leaves. -/
def piece (q : FVec F S512x2048 .f32) (t : FVec F S512x1024 .f32) (cs sn : FVec F S512x128 .f32) (g : Fin 16) : FVec F S512x128 .bf16 :=
  if g.val % 2 = 0 then latP g q else ropeP g q t cs sn

theorem out_eq (x0 : Vec F S512x256 .bf16) (x1 : Vec F S256x2048 .bf16) (x2 : Vec F S256x1024 .bf16) (x3 x4 : Vec F S512x128 .f32) :
    out0_5 x0 x1 x2 x3 x4
      = View.canon (cols16 (piece (k0_pay5 (View.ld x0 r0_0) (View.ld x1 r0_1)) (k0_pay6 (View.ld x0 r0_0) (View.ld x2 r0_2))
          (k0_pay7 (View.ld x3 r0_3)) (k0_pay8 (View.ld x4 r0_3)))) := by
  unfold_out out0_5
  rfl

end Generic

theorem latP_apply (g : Fin 16) (q : FVec Ideal S512x2048 .f32) (r : Fin 512) (d : Fin 128) : latP g q (ix2 r d) = q (ix2 r (col g d)) :=
  extractStridedSlice_apply _ q (slQ g) _ _ (by intro a; fin_cases a <;> simp [ix2, col])

theorem ropeP_apply (g : Fin 16) (q : FVec Ideal S512x2048 .f32) (t : FVec Ideal S512x1024 .f32) (cs sn : FVec Ideal S512x128 .f32)
    (r : Fin 512) (d : Fin 128) : ropeP g q t cs sn (ix2 r d)
      = q (ix2 r (col g d)) * cs (ix2 r d) + t (ix2 r ⟨128 * (g.val / 2) + d.val, by omega⟩) * sn (ix2 r d) := by
  have e : extractStridedSlice S512x128 ![0, 128 * (g.val / 2)] t (slT g) (ix2 r d) = t (ix2 r ⟨128 * (g.val / 2) + d.val, by omega⟩) :=
    extractStridedSlice_apply _ t (slT g) _ _ (by intro a; fin_cases a <;> simp [ix2])
  rw [← latP_apply g q r d, ← e]
  rfl

theorem pay5_apply (x : Vec Ideal S512x256 .bf16) (w : Vec Ideal S256x2048 .bf16) (r : Fin 512) (j : Fin 2048) :
    k0_pay5 x w (ix2 r j) = ∑ k : Fin 256, (x (ix2 r k) * w (ix2 k j) : EReal) := by
  pointwise [k0_pay5]
theorem pay6_apply (x : Vec Ideal S512x256 .bf16) (w : Vec Ideal S256x1024 .bf16) (r : Fin 512) (j : Fin 1024) :
    k0_pay6 x w (ix2 r j) = ∑ k : Fin 256, (x (ix2 r k) * w (ix2 k j) : EReal) := by
  pointwise [k0_pay6]
theorem pay7_apply (x : Vec Ideal S512x128 .f32) (r : Fin 512) (d : Fin 128) : k0_pay7 x (ix2 r d) = x (ix2 r d) := by
  pointwise [k0_pay7]
theorem pay8_apply (x : Vec Ideal S512x128 .f32) (r : Fin 512) (d : Fin 128) : k0_pay8 x (ix2 r d) = x (ix2 r d) := by
  pointwise [k0_pay8]

theorem ld0 (x : Vec Ideal S512x256 .bf16) : View.ld x r0_0 = x := View.ld_unit_lit _ x (by decide)
theorem ld1 (x : Vec Ideal S256x2048 .bf16) : View.ld x r0_1 = x := View.ld_unit_lit _ x (by decide)
theorem ld2 (x : Vec Ideal S256x1024 .bf16) : View.ld x r0_2 = x := View.ld_unit_lit _ x (by decide)
theorem ld3 (x : Vec Ideal S512x128 .f32) : View.ld x r0_3 = x := View.ld_unit_lit _ x (by decide)

/-- What a point leaves in its block, at an index. -/
theorem out_apply (x0 : Vec Ideal S512x256 .bf16) (x1 : Vec Ideal S256x2048 .bf16) (x2 : Vec Ideal S256x1024 .bf16) (x3 x4 : Vec Ideal S512x128 .f32)
    (r : Fin 512) (g : Fin 16) (d : Fin 128) : out0_5 x0 x1 x2 x3 x4 (ix2 r (col g d))
      = if g.val % 2 = 0 then ∑ k : Fin 256, (x0 (ix2 r k) * x1 (ix2 k (col g d)) : EReal)
        else (∑ k : Fin 256, (x0 (ix2 r k) * x1 (ix2 k (col g d)) : EReal)) * x3 (ix2 r d)
          + (∑ k : Fin 256, (x0 (ix2 r k) * x2 (ix2 k ⟨128 * (g.val / 2) + d.val, by omega⟩) : EReal)) * x4 (ix2 r d) := by
  rw [out_eq, canon_cols16, ld0, ld1, ld2, ld3, ld3]
  unfold piece
  split_ifs
  · rw [latP_apply, pay5_apply]
  · rw [ropeP_apply, pay5_apply, pay6_apply, pay7_apply, pay8_apply]

/-! ## The arrays the host lays out -/

section Stages
variable {F : FTy → Type} [FloatOps F]

/-- The heads' rotary weights. -/
def wrV (w : FVec F S256x768 .f32) : FVec F S256x8x32 .f32 :=
  extractStridedSlice S256x8x32 ![0, 0, 64] (shapeCast S256x8x96 w shapeCasts_S256x768_S256x8x96) slices_S256x8x96_S256x8x32_0_0_64

/-- A head's latent weights, its rotary weights and zeros. -/
def catV (a : FVec F S256x8x128 .f32) (b : FVec F S256x8x32 .f32) (z : FVec F S256x8x96 .f32) : FVec F S256x8x256 .f32 :=
  concatenate S256x8x256 2 [⟨S256x8x128, a⟩, ⟨S256x8x32, b⟩, ⟨S256x8x96, z⟩] concatenates_S256x8x128_S256x8x32_S256x8x96_S256x8x256_d2

/-- The zeros after a head's weights. -/
def zV : FVec F S256x8x96 .f32 := broadcastInDim S256x8x96 ![] bcast_S_S256x8x96 (constant S_ .f32 0x00000000#32)

/-- The weights with their heads' columns one after another. -/
def w2V (a : FVec F S256x8x128 .f32) (w : FVec F S256x768 .f32) : FVec F S256x2048 .f32 :=
  shapeCast S256x2048 (catV a (wrV w) zV) shapeCasts_S256x8x256_S256x2048

/-- The rotary weights turned by a quarter: the second half negated, then the first. -/
def quarterV (b : FVec F S256x8x32 .f32) : FVec F S256x8x32 .f32 :=
  concatenate S256x8x32 2 [⟨S256x8x16, Host.negf (extractStridedSlice S256x8x16 ![0, 0, 16] b slices_S256x8x32_S256x8x16_0_0_16)⟩,
    ⟨S256x8x16, extractStridedSlice S256x8x16 ![0, 0, 0] b slices_S256x8x32_S256x8x16_0_0_0⟩] concatenates_S256x8x16_S256x8x16_S256x8x32_d2

/-- The turned weights, each head padded with zeros. -/
def w2pV (w : FVec F S256x768 .f32) : FVec F S256x1024 .f32 :=
  shapeCast S256x1024 (pad S256x8x128 ![0, 0, 0] ![0, 0, 96] ![0, 0, 0] (quarterV (wrV w)) (sitofp .f32 (constantI S_ 32 0#32))
    pads_S256x8x32_S256x8x128_000_000_0960 h_S_) shapeCasts_S256x8x128_S256x1024

end Stages

theorem wrV_apply (w : FVec Ideal S256x768 .f32) (k : Fin 256) (h : Fin 8) (i : Fin 32) :
    wrV (F := Ideal) w (ix3 k h i) = w (ix2 k ⟨96 * h.val + (64 + i.val), by omega⟩) := by
  pointwise [wrV]
  try exact congrArg (fun j => w (ix2 k j)) (Fin.ext (by dsimp only; omega))

theorem of_zero : (Ideal.ofBits .f32 0x00000000#32 : EReal) = 0 := by simp [Ideal.ofBits, Ideal.ieee]

theorem catV_apply (a : FVec Ideal S256x8x128 .f32) (b : FVec Ideal S256x8x32 .f32) (k : Fin 256) (h : Fin 8) (d : Fin 256) :
    catV (F := Ideal) a b zV (ix3 k h d)
      = if hd : d.val < 128 then a (ix3 k h ⟨d.val, hd⟩) else if hd' : d.val < 160 then b (ix3 k h ⟨d.val - 128, by omega⟩) else 0 := by
  have z := of_zero
  pointwise [catV, zV]
  refine dite_congr rfl (fun _ => rfl) fun h1 => ?_
  by_cases h' : d.val < 160
  · rw [dif_pos (by omega), dif_pos h']
  · rw [dif_neg (by omega), dif_neg h']

theorem w2V_apply (a : FVec Ideal S256x8x128 .f32) (w : FVec Ideal S256x768 .f32) (k : Fin 256) (j : Fin 2048) :
    w2V (F := Ideal) a w (ix2 k j) = catV (F := Ideal) a (wrV w) zV (ix3 k ⟨j.val / 256, by omega⟩ ⟨j.val % 256, by omega⟩) := by
  pointwise [w2V]

theorem quarterV_apply (b : FVec Ideal S256x8x32 .f32) (k : Fin 256) (h : Fin 8) (i : Fin 32) :
    quarterV (F := Ideal) b (ix3 k h i)
      = if hi : i.val < 16 then -(b (ix3 k h ⟨16 + i.val, by omega⟩)) else b (ix3 k h ⟨i.val - 16, by omega⟩) := by
  pointwise [quarterV]

theorem w2pV_apply (w : FVec Ideal S256x768 .f32) (k : Fin 256) (j : Fin 1024) :
    w2pV (F := Ideal) w (ix2 k j)
      = if hd : j.val % 128 < 32 then quarterV (F := Ideal) (wrV w) (ix3 k ⟨j.val / 128, by omega⟩ ⟨j.val % 128, hd⟩) else 0 := by
  have z : (FloatOps.sitofp (F := Ideal) .f32 0#32 : EReal) = 0 := by simp [FloatOps.sitofp]
  pointwise [w2pV]
  by_cases h : j.val % 128 < 32
  · rw [dif_pos ⟨by omega, h⟩, dif_pos h]
  · rw [dif_neg (fun h' => h h'.2), dif_neg h]
    exact z

/-! ## The row from the laid-out weights -/

section Row
variable (x : Fin 256 → EReal) (a : FVec Ideal S256x8x128 .f32) (w : FVec Ideal S256x768 .f32) (cs sn : Fin 16 → EReal)

/-- A head's products with its rotary weights. -/
def rp (h : Fin 8) (i : Fin 32) : EReal := ∑ k, x k * w (ix2 k ⟨96 * h.val + (64 + i.val), by omega⟩)

theorem sum_lat (g : Fin 16) (d : Fin 128) (hg : g.val % 2 = 0) :
    ∑ k, x k * w2V (F := Ideal) a w (ix2 k (col g d)) = ∑ k, x k * a (ix3 k ⟨g.val / 2, by omega⟩ d) := by
  have m1 : (col g d).val % 256 = d.val := by show (128 * g.val + d.val) % 256 = _; omega
  have m2 : (col g d).val / 256 = g.val / 2 := by show (128 * g.val + d.val) / 256 = _; omega
  refine Finset.sum_congr rfl fun k _ => congrArg (x k * ·) ?_
  rw [w2V_apply, catV_apply, dif_pos (by dsimp only; omega)]
  exact congrArg₂ (fun i j => a (ix3 k i j)) (Fin.ext m2) (Fin.ext m1)

theorem sum_rope (g : Fin 16) (d : Fin 128) (hg : g.val % 2 = 1) (hd : d.val < 32) :
    ∑ k, x k * w2V (F := Ideal) a w (ix2 k (col g d)) = rp x w ⟨g.val / 2, by omega⟩ ⟨d.val, hd⟩ := by
  have m1 : (col g d).val % 256 = 128 + d.val := by show (128 * g.val + d.val) % 256 = _; omega
  have m2 : (col g d).val / 256 = g.val / 2 := by show (128 * g.val + d.val) / 256 = _; omega
  refine Finset.sum_congr rfl fun k _ => congrArg (x k * ·) ?_
  rw [w2V_apply, catV_apply, dif_neg (by dsimp only; omega), dif_pos (by dsimp only; omega), wrV_apply]
  exact congrArg (fun j => w (ix2 k j)) (Fin.ext (by dsimp only; omega))

theorem sum_turned (hx : ∀ k, IsNum (x k)) (hw : ∀ k (h : Fin 8) (i : Fin 32), IsNum (w (ix2 k ⟨96 * h.val + (64 + i.val), by omega⟩)))
    (g : Fin 16) (d : Fin 128) (hd : d.val < 32) :
    ∑ k, x k * w2pV (F := Ideal) w (ix2 k ⟨128 * (g.val / 2) + d.val, by omega⟩)
      = if h : d.val < 16 then -(rp x w ⟨g.val / 2, by omega⟩ ⟨16 + d.val, by omega⟩) else rp x w ⟨g.val / 2, by omega⟩ ⟨d.val - 16, by omega⟩ := by
  have e : ∀ k, w2pV (F := Ideal) w (ix2 k ⟨128 * (g.val / 2) + d.val, by omega⟩)
      = quarterV (F := Ideal) (wrV w) (ix3 k ⟨g.val / 2, by omega⟩ ⟨d.val, hd⟩) := fun k => by
    rw [w2pV_apply, dif_pos (by dsimp only; omega)]
    exact congrArg₂ (fun i j => quarterV (F := Ideal) (wrV w) (ix3 k i j)) (Fin.ext (by dsimp only; omega)) (Fin.ext (by dsimp only; omega))
  simp only [e, quarterV_apply, wrV_apply]
  split_ifs with h
  · exact sum_neg _ _ hx fun k => hw k ⟨g.val / 2, by omega⟩ ⟨16 + d.val, by omega⟩
  · rfl

/-- A token's queries, from what the kernel computes of them. -/
theorem row_eq (hx : ∀ k, IsNum (x k)) (hw : ∀ k (h : Fin 8) (i : Fin 32), IsNum (w (ix2 k ⟨96 * h.val + (64 + i.val), by omega⟩)))
    (g : Fin 16) (d : Fin 128) :
    (if g.val % 2 = 0 then ∑ k, x k * w2V (F := Ideal) a w (ix2 k (col g d))
      else (∑ k, x k * w2V (F := Ideal) a w (ix2 k (col g d))) * twice cs d
        + (∑ k, x k * w2pV (F := Ideal) w (ix2 k ⟨128 * (g.val / 2) + d.val, by omega⟩)) * twice sn d)
      = qRow x (fun k h i => a (ix3 k h i)) (fun k j => w (ix2 k j)) cs sn (col g d) := by
  have m1 : (col g d).val % 256 = 128 * (g.val % 2) + d.val := by show (128 * g.val + d.val) % 256 = _; omega
  have m2 : (col g d).val / 256 = g.val / 2 := by show (128 * g.val + d.val) / 256 = _; omega
  unfold qRow
  by_cases hg : g.val % 2 = 0
  · rw [if_pos hg, dif_pos (by omega), sum_lat x a w g d hg]
    refine Finset.sum_congr rfl fun k _ => congrArg (x k * ·) ?_
    exact congrArg₂ (fun i j => a (ix3 k i j)) (Fin.ext m2.symm) (Fin.ext (by dsimp only; omega))
  · rw [if_neg hg, dif_neg (by omega)]
    by_cases hd : d.val < 32
    · rw [dif_pos (by omega), sum_rope x a w g d (by omega) hd, sum_turned x w hx hw g d hd]
      have e1 : (⟨(col g d).val % 256 - 128, by omega⟩ : Fin 32) = ⟨d.val, hd⟩ := Fin.ext (by dsimp only; omega)
      have e2 : (fun i : Fin 32 => ∑ k, x k * w (ix2 k ⟨96 * ((col g d).val / 256) + (64 + i.val), by omega⟩)) = rp x w ⟨g.val / 2, by omega⟩ :=
        funext fun i => Finset.sum_congr rfl fun k _ => congrArg (fun j => x k * w (ix2 k j)) (Fin.ext (by dsimp only; omega))
      rw [e1, e2]
      unfold turn twice
      by_cases h1 : d.val < 16
      · simp only [h1, dite_true]
        rw [EReal.neg_mul, sub_eq_add_neg]
      · simp only [h1, hd, dite_true, dite_false]
        rw [add_comm]
        have e3 : (⟨16 + (d.val - 16), by omega⟩ : Fin 32) = ⟨d.val, hd⟩ := Fin.ext (by dsimp only; omega)
        rw [e3]
    · rw [dif_neg (by omega)]
      have z : ∀ s : Fin 16 → EReal, twice s d = 0 := fun s => by
        unfold twice
        rw [dif_neg (by omega), dif_neg hd]
      rw [z, z, mul_zero, mul_zero, add_zero]

end Row

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem row_lt (t : Fin cfg0.N) (r : Fin 512) : 512 * t.val + r.val < 16896 := by
  have h : t.val < 33 := lt_of_lt_of_eq t.isLt (show cfg0.N = 33 from N_0)
  omega

/-- The token that row `r` of point `t`'s blocks holds. -/
def rowAt (t : Fin cfg0.N) (r : Fin 512) : Fin 16896 := ⟨512 * t.val + r.val, row_lt t r⟩

theorem at_row {n : ℕ} {e : (⟨2, ![16896, n]⟩ : Shape).Idx} (t : Fin cfg0.N) (r : Fin 512) (j : Fin n)
    (h0 : (e 0).val = t.val * 512 + r.val) (h1 : (e 1).val = j.val) : e = ix2 (rowAt t r) j :=
  funext fun a => Fin.ext (by
    match a with
    | ⟨0, _⟩ => exact h0.trans (by show _ = 512 * t.val + r.val; omega)
    | ⟨1, _⟩ => exact h1)

variable (m : (ℓ : Loc nD τ sig) → Buf (Elt Ideal) ℓ) (c : Dev nD)

/-- What the host has left in an array before statement `n`. -/
abbrev at_ (n : ℕ) (b : Ref sig .tc) : Buf (Elt Ideal) ((c : Thread nD τ).loc b) :=
  StableHlo.upto [hostOps0, hostOps0_1, hostOps0_2].flatten (fun b => m (c, b)) n (Proc.tc.devRef b)

theorem weights : V m c main_v30 = truncf .bf16 (w2V (F := Ideal) (m (c.tc.loc main_arg2)) (m (c.tc.loc main_arg3))) bitsLt_bf16_f32 := by
  unfold V
  after_reads_simp
  refine congrArg (fun v => truncf .bf16 (shapeCast S256x2048 v shapeCasts_S256x8x256_S256x2048) bitsLt_bf16_f32) ?_
  show catV (F := Ideal) (at_ m c 4 main_arg2) (at_ m c 4 main_v1) (at_ m c 4 main_v2) = _
  unfold at_
  after_reads_simp
  rfl

theorem turned : V m c main_v31 = truncf .bf16 (w2pV (F := Ideal) (m (c.tc.loc main_arg3))) bitsLt_bf16_f32 := by
  unfold V
  after_reads_simp
  rfl

theorem cosines : V m c main_v26 = tabV (F := Ideal) (Host.cos (angV (m (c.tc.loc main_arg1)))) (Host.cos (angV (m (c.tc.loc main_arg1)))) zeroV := by
  unfold V
  after_reads_simp
  show tabV (F := Ideal) (at_ m c 32 main_v24) (at_ m c 32 main_v25) (at_ m c 32 main_v23) = _
  unfold at_
  after_reads_simp
  rfl

theorem sines : V m c main_v29 = tabV (F := Ideal) (Host.sin (angV (m (c.tc.loc main_arg1)))) (Host.sin (angV (m (c.tc.loc main_arg1)))) zeroV := by
  unfold V
  after_reads_simp
  show tabV (F := Ideal) (at_ m c 35 main_v27) (at_ m c 35 main_v28) (at_ m c 35 main_v23) = _
  unfold at_
  after_reads_simp
  rfl

theorem block0 (t : Fin cfg0.N) (r : Fin 512) (k : Fin 256) :
    iblk m c 0 t (ix2 r k) = m (c.tc.loc main_arg0) (ix2 (rowAt t r) k) := by
  rw [← V_main_arg0 m c]
  blk_simp [iblk]
  exact congrArg _ (at_row t r k (by blk_simp [idx0]; try simp) (by blk_simp [idx0]))

theorem block1 (t : Fin cfg0.N) (k : Fin 256) (j : Fin 2048) :
    iblk m c 1 t (ix2 k j) = w2V (F := Ideal) (m (c.tc.loc main_arg2)) (m (c.tc.loc main_arg3)) (ix2 k j) := by
  have e : ((cfg0.win 1).blk t).view.emb (ix2 k j) = (ix2 k j : S256x2048.Idx) := by
    refine funext fun a => Fin.ext ?_
    match a with
    | ⟨0, _⟩ => blk_simp [idx1]
    | ⟨1, _⟩ => blk_simp [idx1]
  refine Eq.trans ?_ (congrFun (weights m c) (ix2 k j))
  blk_simp [iblk]
  rw [e]

theorem block2 (t : Fin cfg0.N) (k : Fin 256) (j : Fin 1024) :
    iblk m c 2 t (ix2 k j) = w2pV (F := Ideal) (m (c.tc.loc main_arg3)) (ix2 k j) := by
  have e : ((cfg0.win 2).blk t).view.emb (ix2 k j) = (ix2 k j : S256x1024.Idx) := by
    refine funext fun a => Fin.ext ?_
    match a with
    | ⟨0, _⟩ => blk_simp [idx2]
    | ⟨1, _⟩ => blk_simp [idx2]
  refine Eq.trans ?_ (congrFun (turned m c) (ix2 k j))
  blk_simp [iblk]
  rw [e]

theorem block3 (t : Fin cfg0.N) (r : Fin 512) (j : Fin 128) :
    iblk m c 3 t (ix2 r j) = twice (csAt (m (c.tc.loc main_arg1)) (rowAt t r)) j := by
  refine Eq.trans ?_ ((congrFun (cosines m c) (ix2 (rowAt t r) j)).trans (tabV_apply _ (rowAt t r) j))
  blk_simp [iblk]
  exact congrArg _ (at_row t r j (by blk_simp [idx3]; try simp) (by blk_simp [idx3]))

theorem block4 (t : Fin cfg0.N) (r : Fin 512) (j : Fin 128) :
    iblk m c 4 t (ix2 r j) = twice (snAt (m (c.tc.loc main_arg1)) (rowAt t r)) j := by
  refine Eq.trans ?_ ((congrFun (sines m c) (ix2 (rowAt t r) j)).trans (tabV_apply _ (rowAt t r) j))
  blk_simp [iblk]
  exact congrArg _ (at_row t r j (by blk_simp [idx4]; try simp) (by blk_simp [idx4]))

/-- What the claim needs of the arguments: the compressed queries and the rotary weights are numbers. -/
structure Fine : Prop where
  rows : ∀ (R : Fin 16896) (k : Fin 256), IsNum (m (c.tc.loc main_arg0) (ix2 R k))
  rope : ∀ (k : Fin 256) (h : Fin 8) (i : Fin 32), IsNum (m (c.tc.loc main_arg3) (ix2 k ⟨96 * h.val + (64 + i.val), by omega⟩))

/-- The queries from the arguments. -/
def qOf (x : FVec Ideal S16896x256 .bf16) (p : IVec S16896 32) (a : FVec Ideal S256x8x128 .f32) (w : FVec Ideal S256x768 .f32) :
    S16896x2048.Idx → EReal :=
  rowsV fun R => qRow (fun k => x (ix2 R k)) (fun k h i => a (ix3 k h i)) (fun k j => w (ix2 k j)) (csAt p R) (snAt p R)

theorem split (y : S512x2048.Idx) : ∃ (r : Fin 512) (g : Fin 16) (d : Fin 128), y = ix2 r (col g d) := by
  have h : (y 1).val < 2048 := (y 1).isLt
  refine ⟨y 0, ⟨(y 1).val / 128, by omega⟩, ⟨(y 1).val % 128, by omega⟩, funext fun a => ?_⟩
  match a with
  | ⟨0, _⟩ => rfl
  | ⟨1, _⟩ => exact Fin.ext (by show (y 1).val = 128 * ((y 1).val / 128) + (y 1).val % 128; omega)

/-- The kernel's result. -/
theorem final5 (hf : Fine m c) : (dats m 0 c).arrAt 5 cfg0.N
    = qOf (m (c.tc.loc main_arg0)) (m (c.tc.loc main_arg1)) (m (c.tc.loc main_arg2)) (m (c.tc.loc main_arg3)) := by
  refine (dats m 0 c).arrAt_eq_of_covers 5 _ (by decide +kernel) fun t hf' y => ?_
  have F : (dats m 0 c).flushed 5 t y = _ := congrFun (flushed5 m c t) y
  refine Eq.trans F ?_
  obtain ⟨r, g, d, rfl⟩ := split y
  rw [show ((cfg0.win 5).blk t).view.emb (ix2 r (col g d)) = (ix2 (rowAt t r) (col g d) : S16896x2048.Idx) from
    at_row t r (col g d) (by blk_simp [idx5]; try simp) (by blk_simp [idx5])]
  refine Eq.trans (out_apply _ _ _ _ _ r g d) ?_
  simp only [block0, block1, block2, block3, block4]
  exact row_eq _ _ _ _ _ (hf.rows _) hf.rope g d

end Cert.Proof.Query
-- ==== Proof.QueryRef.lean ====
/- The query projection's reference in plain terms. -/
module

public import proofs.«01_k».proof.Proof.QueryKernel
public import proofs.«01_k».proof.Proof.InProjRef
public import proofs.«01_k».proof.Proof.Gen.Reference7Ideal.Run

@[expose] public section

set_option maxRecDepth 16384
set_option maxHeartbeats 1000000

noncomputable section

open Idealize.ShloMosaic Idealize.ShloMosaic.TcCoe Idealize.SL.Sem
open Cert.Reference7Ideal Cert.Reference7Ideal.Gen

namespace Cert.Proof.QueryRef
open Cert.Proof.Query
open Cert.Proof.InProj (angV csAt snAt rowsV)
open Cert.Proof.InProjRef (rows_of)

section Stages
variable {F : FTy → Type} [FloatOps F]

/-- The queries against the latents. -/
def latV (x : FVec F S16896x256 .bf16) (a : FVec F S256x8x128 .f32) : FVec F S16896x8x128 .f32 :=
  Host.dotGeneral dot_S16896x256_S256x8x128_S16896x8x128_1_0_0_12_n_n none (extf .f32 x bitsLt_bf16_f32) a

/-- The products with the weights. -/
def upV (x : FVec F S16896x256 .bf16) (w : FVec F S256x768 .f32) : FVec F S16896x768 .f32 :=
  Host.dotGeneral dot_S16896x256_S256x768_S16896x768_1_0_0_1_n_n none (extf .f32 x bitsLt_bf16_f32) w

/-- The part of them that is rotated. -/
def ropeV (q : FVec F S16896x768 .f32) : FVec F S16896x8x32 .f32 :=
  extractStridedSlice S16896x8x32 ![0, 0, 64] (shapeCast S16896x8x96 q shapeCasts_S16896x768_S16896x8x96) slices_S16896x8x96_S16896x8x32_0_0_64

/-- A token's table for each of its heads. -/
def wideV (t : FVec F S16896x16 .f32) : FVec F S16896x8x16 .f32 :=
  broadcastInDim S16896x8x16 ![0, 1, 2] bcast_S16896x1x16_S16896x8x16_0_1_2 (broadcastInDim S16896x1x16 ![0, 2] bcast_S16896x16_S16896x1x16_0_2 t)

/-- The rotated queries. -/
def turnV (q : FVec F S16896x8x32 .f32) (cs sn : FVec F S16896x16 .f32) : FVec F S16896x8x32 .f32 :=
  concatenate S16896x8x32 2
    [⟨S16896x8x16, subf (mulf (extractStridedSlice S16896x8x16 ![0, 0, 0] q slices_S16896x8x32_S16896x8x16_0_0_0) (wideV cs)) (mulf (extractStridedSlice S16896x8x16 ![0, 0, 16] q slices_S16896x8x32_S16896x8x16_0_0_16) (wideV sn))⟩,
     ⟨S16896x8x16, addf (mulf (extractStridedSlice S16896x8x16 ![0, 0, 0] q slices_S16896x8x32_S16896x8x16_0_0_0) (wideV sn)) (mulf (extractStridedSlice S16896x8x16 ![0, 0, 16] q slices_S16896x8x32_S16896x8x16_0_0_16) (wideV cs))⟩]
    concatenates_S16896x8x16_S16896x8x16_S16896x8x32_d2

/-- Both parts side by side, padded. -/
def allV (a : FVec F S16896x8x128 .f32) (b : FVec F S16896x8x32 .f32) : FVec F S16896x8x256 .f32 :=
  pad S16896x8x256 ![0, 0, 0] ![0, 0, 96] ![0, 0, 0] (concatenate S16896x8x160 2 [⟨S16896x8x128, a⟩, ⟨S16896x8x32, b⟩] concatenates_S16896x8x128_S16896x8x32_S16896x8x160_d2)
    (sitofp .f32 (constantI S_ 32 0#32)) pads_S16896x8x160_S16896x8x256_000_000_0960 h_S_

/-- The heads one after another. -/
def flatV (q : FVec F S16896x8x256 .f32) : FVec F S16896x2048 .bf16 :=
  truncf .bf16 (shapeCast S16896x2048 q shapeCasts_S16896x8x256_S16896x2048) bitsLt_bf16_f32

end Stages

theorem latV_apply (x : FVec Ideal S16896x256 .bf16) (a : FVec Ideal S256x8x128 .f32) (R : Fin 16896) (h : Fin 8) (d : Fin 128) :
    latV (F := Ideal) x a (ix3 R h d) = ∑ k : Fin 256, (x (ix2 R k) * a (ix3 k h d) : EReal) := by
  pointwise [latV]

theorem upV_apply (x : FVec Ideal S16896x256 .bf16) (w : FVec Ideal S256x768 .f32) (R : Fin 16896) (j : Fin 768) :
    upV (F := Ideal) x w (ix2 R j) = ∑ k : Fin 256, (x (ix2 R k) * w (ix2 k j) : EReal) := by
  pointwise [upV]

theorem ropeV_apply (q : FVec Ideal S16896x768 .f32) (R : Fin 16896) (h : Fin 8) (i : Fin 32) :
    ropeV (F := Ideal) q (ix3 R h i) = q (ix2 R ⟨96 * h.val + (64 + i.val), by omega⟩) := by
  pointwise [ropeV]
  try exact congrArg (fun j => q (ix2 R j)) (Fin.ext (by dsimp only; omega))

theorem wideV_apply (t : FVec Ideal S16896x16 .f32) (R : Fin 16896) (h : Fin 8) (i : Fin 16) :
    wideV (F := Ideal) t (ix3 R h i) = t (ix2 R i) := by
  pointwise [wideV]

theorem turnV_apply (q : FVec Ideal S16896x8x32 .f32) (cs sn : FVec Ideal S16896x16 .f32) (R : Fin 16896) (h : Fin 8) (i : Fin 32) :
    turnV (F := Ideal) q cs sn (ix3 R h i) = turn (fun i => q (ix3 R h i)) (fun i => cs (ix2 R i)) (fun i => sn (ix2 R i)) i := by
  unfold turn
  pointwise [turnV]
  simp only [wideV_apply]

theorem allV_apply (a : FVec Ideal S16896x8x128 .f32) (b : FVec Ideal S16896x8x32 .f32) (R : Fin 16896) (h : Fin 8) (d : Fin 256) :
    allV (F := Ideal) a b (ix3 R h d)
      = if hd : d.val < 128 then a (ix3 R h ⟨d.val, hd⟩) else if hd' : d.val < 160 then b (ix3 R h ⟨d.val - 128, by omega⟩) else 0 := by
  have z : (FloatOps.sitofp (F := Ideal) .f32 0#32 : EReal) = 0 := by simp [FloatOps.sitofp]
  pointwise [allV]
  by_cases h1 : d.val < 128
  · rw [dif_pos (by omega), dif_pos h1, dif_pos h1]
  · rw [dif_neg h1]
    by_cases h2 : d.val < 160
    · rw [dif_pos (by omega), dif_neg h1, dif_pos h2]
    · rw [dif_neg (by omega), dif_neg h2]
      exact z

theorem flatV_apply (q : FVec Ideal S16896x8x256 .f32) (R : Fin 16896) (j : Fin 2048) :
    flatV (F := Ideal) q (ix2 R j) = q (ix3 R ⟨j.val / 256, by omega⟩ ⟨j.val % 256, by omega⟩) := by
  pointwise [flatV]

/-- The reference's queries. -/
theorem queries (x : FVec Ideal S16896x256 .bf16) (p : IVec S16896 32) (a : FVec Ideal S256x8x128 .f32) (w : FVec Ideal S256x768 .f32) :
    flatV (F := Ideal) (allV (latV x a) (turnV (ropeV (upV x w)) (Host.cos (angV p)) (Host.sin (angV p)))) = qOf x p a w := by
  refine rows_of fun R j => ?_
  rw [flatV_apply, allV_apply]
  unfold qRow
  refine dite_congr rfl (fun _ => latV_apply x a R _ _) fun _ => dite_congr rfl (fun _ => ?_) fun _ => rfl
  rw [turnV_apply]
  simp only [ropeV_apply, upV_apply]
  rfl

end Cert.Proof.QueryRef
-- ==== Proof.Query.lean ====
/- The query projection's call: its claims. -/
module

public import proofs.«01_k».proof.Proof.QueryRef
public import proofs.«01_k».proof.Proof.InProj
public import proofs.«01_k».proof.Proof.Gen.Kernel7.Frame
public import proofs.«01_k».proof.Proof.Gen.Pre_finite_factors
public import proofs.«01_k».proof.Defs
public import Idealize.ShloMosaic.Lib.Quiescent

@[expose] public section

set_option maxRecDepth 16384
set_option maxHeartbeats 2000000

noncomputable section

open Idealize.ShloMosaic Idealize.ShloMosaic.TcCoe Idealize.SL.Sem

namespace Cert.Proof.Query
open Cert.Proof.QueryRef
open Cert.Proof.InProj (IsNum num_of_abs angV)

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem preserves : Cert.preserves_Kernel7_Kernel7Ideal := trivial

theorem fine_of_pre (m : (ℓ : Loc Cert.Kernel7Ideal.nD Cert.Kernel7Ideal.τ Cert.Kernel7Ideal.sig) → Buf (Elt Ideal) ℓ)
    (hpre : Cert.Pre_Kernel7Ideal_finite_factors m) (c : Dev Cert.Kernel7Ideal.nD) : Fine m c := by
  obtain ⟨h1, h2⟩ := hpre c
  have hi : Ideal.ofBits .f32 2139095040#32 = ⊤ := by simp [Ideal.ofBits, Ideal.ieee]
  refine ⟨fun R k => ?_, fun k h i => ?_⟩
  · have := congrFun h1 (ix2 R k)
    pointwise [Cert.Pre_finite_factors.fn] at this
    rw [WordCmp.ofBool_decide_eq_one_iff, hi] at this
    exact num_of_abs this
  · have := congrFun h2 (ix3 k h i)
    pointwise [Cert.Pre_finite_factors.fn] at this
    rw [WordCmp.ofBool_decide_eq_one_iff, hi] at this
    have e : (⟨96 * h.val + (64 + i.val), by omega⟩ : Fin 768) = ⟨h.val * 96 + (64 + i.val), by omega⟩ := Fin.ext (by dsimp only; omega)
    rw [e]
    exact num_of_abs this

theorem result_eq (m' : (ℓ : Loc Cert.Reference7Ideal.nD Cert.Reference7Ideal.τ Cert.Reference7Ideal.sig) → Buf (Elt Ideal) ℓ)
    (c : Dev Cert.Reference7Ideal.nD) : Cert.Reference7Ideal.Value.res_main_v37 m' c
    = flatV (F := Ideal) (allV (latV (m' (c.tc.loc Cert.Reference7Ideal.main_arg0)) (m' (c.tc.loc Cert.Reference7Ideal.main_arg2)))
        (turnV (ropeV (upV (m' (c.tc.loc Cert.Reference7Ideal.main_arg0)) (m' (c.tc.loc Cert.Reference7Ideal.main_arg3))))
          (Host.cos (angV (m' (c.tc.loc Cert.Reference7Ideal.main_arg1)))) (Host.sin (angV (m' (c.tc.loc Cert.Reference7Ideal.main_arg1)))))) := by
  unfold Cert.Reference7Ideal.Value.res_main_v37
  rfl

/-- The call's result is the reference's. -/
theorem algebraic : Cert.algebraic_Kernel7Ideal_Reference7Ideal_pre_finite_factors := by
  intro m g m' g' hpre hag
  refine ⟨fun c => qOf (m (c.tc.loc Cert.Kernel7Ideal.main_arg0)) (m (c.tc.loc Cert.Kernel7Ideal.main_arg1))
      (m (c.tc.loc Cert.Kernel7Ideal.main_arg2)) (m (c.tc.loc Cert.Kernel7Ideal.main_arg3)),
    (θ_run _ _ _).mono (fun _ h c => ?_) (Cert.Kernel7Ideal.Value.run_blocks m g),
    (θ_run _ _ _).mono (fun _ h c => ?_) (Cert.Reference7Ideal.Value.run m' g')⟩
  · obtain ⟨h0, ha⟩ := h c
    exact ⟨h0.trans (final5 m c (fine_of_pre m hpre c)), ha⟩
  · obtain ⟨a0, a1, a2, a3⟩ := hag c
    obtain ⟨h0, ha⟩ := h c
    refine ⟨h0.trans ((result_eq m' c).trans ((queries _ _ _ _).trans ?_)), ha⟩
    rw [a0, a1, a2, a3]

end Cert.Proof.Query
-- ==== Proof.lean ====
/- It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_weights
public import proofs.«01_k».proof.Proof.Frames
public import proofs.«01_k».proof.Proof.Mla
public import proofs.«01_k».proof.Proof.Moe
public import proofs.«01_k».proof.Proof.Dense
public import proofs.«01_k».proof.Proof.Merge
public import proofs.«01_k».proof.Proof.InProj
public import proofs.«01_k».proof.Proof.Ssd
public import proofs.«01_k».proof.Proof.Query
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite_inputs.Gen.facts, Cert.Pre_finite_weights.Gen.facts, Cert.Pre_finite_factors.Gen.facts,
    Mla.frame_p, Mla.frame_pi, fun m ρ _ => Mla.frame_pi m ρ trivial, Mla.frame_ri, fun m ρ _ => Mla.frame_ri m ρ trivial,
    Moe.frame_p, Moe.frame_pi, Moe.frame_ri,
    Dense.frame_p, Dense.frame_pi, Dense.frame_ri,
    Merge.frame_p, Merge.frame_pi, Merge.frame_ri,
    InProj.frame_p, InProj.frame_pi, fun m ρ _ => InProj.frame_pi m ρ trivial, InProj.frame_ri, fun m ρ _ => InProj.frame_ri m ρ trivial,
    Ssd.frame_p, Ssd.frame_pi, Ssd.frame_ri,
    Query.frame_p, Query.frame_pi, fun m ρ _ => Query.frame_pi m ρ trivial, Query.frame_ri, fun m ρ _ => Query.frame_ri m ρ trivial,
    Mla.preserves, Mla.algebraic, Moe.preserves, Moe.algebraic, Dense.preserves, Dense.algebraic, Merge.preserves, Merge.algebraic,
    InProj.preserves, InProj.algebraic, Ssd.preserves, Ssd.algebraic, Query.preserves, Query.algebraic⟩

end Cert.Proof

end
